-- ==== Defs.lean ====
def Pre_HgrnKernel (m : (ℓ : Loc Cert.HgrnKernel.nD Cert.HgrnKernel.τ Cert.HgrnKernel.sig) → Buf (Elt Bits) ℓ) : Prop :=
  True

def Pre_HgrnKernelIdeal (m : (ℓ : Loc Cert.HgrnKernelIdeal.nD Cert.HgrnKernelIdeal.τ Cert.HgrnKernelIdeal.sig) → Buf (Elt Ideal) ℓ) : Prop :=
  True

def Pre_HgrnKernelIdeal_hgrn_finite [hPre_hgrn_finite : Cert.Pre_hgrn_finite.Facts] (m : (ℓ : Loc Cert.HgrnKernelIdeal.nD Cert.HgrnKernelIdeal.τ Cert.HgrnKernelIdeal.sig) → Buf (Elt Ideal) ℓ) : Prop :=
  ∀ c : Dev Cert.HgrnKernelIdeal.nD,
    (Cert.Pre_hgrn_finite.fn (F := Ideal) (m ((c.tc : Thread Cert.HgrnKernelIdeal.nD Cert.HgrnKernelIdeal.τ).loc Cert.HgrnKernelIdeal.main_arg0)) (m ((c.tc : Thread Cert.HgrnKernelIdeal.nD Cert.HgrnKernelIdeal.τ).loc Cert.HgrnKernelIdeal.main_arg1)) (m ((c.tc : Thread Cert.HgrnKernelIdeal.nD Cert.HgrnKernelIdeal.τ).loc Cert.HgrnKernelIdeal.main_arg2)) (m ((c.tc : Thread Cert.HgrnKernelIdeal.nD Cert.HgrnKernelIdeal.τ).loc Cert.HgrnKernelIdeal.main_arg3)) (m ((c.tc : Thread Cert.HgrnKernelIdeal.nD Cert.HgrnKernelIdeal.τ).loc Cert.HgrnKernelIdeal.main_arg4)) (m ((c.tc : Thread Cert.HgrnKernelIdeal.nD Cert.HgrnKernelIdeal.τ).loc Cert.HgrnKernelIdeal.main_arg5)) (m ((c.tc : Thread Cert.HgrnKernelIdeal.nD Cert.HgrnKernelIdeal.τ).loc Cert.HgrnKernelIdeal.main_arg6))).1 = (fun _ => 1#1)
    ∧ (Cert.Pre_hgrn_finite.fn (F := Ideal) (m ((c.tc : Thread Cert.HgrnKernelIdeal.nD Cert.HgrnKernelIdeal.τ).loc Cert.HgrnKernelIdeal.main_arg0)) (m ((c.tc : Thread Cert.HgrnKernelIdeal.nD Cert.HgrnKernelIdeal.τ).loc Cert.HgrnKernelIdeal.main_arg1)) (m ((c.tc : Thread Cert.HgrnKernelIdeal.nD Cert.HgrnKernelIdeal.τ).loc Cert.HgrnKernelIdeal.main_arg2)) (m ((c.tc : Thread Cert.HgrnKernelIdeal.nD Cert.HgrnKernelIdeal.τ).loc Cert.HgrnKernelIdeal.main_arg3)) (m ((c.tc : Thread Cert.HgrnKernelIdeal.nD Cert.HgrnKernelIdeal.τ).loc Cert.HgrnKernelIdeal.main_arg4)) (m ((c.tc : Thread Cert.HgrnKernelIdeal.nD Cert.HgrnKernelIdeal.τ).loc Cert.HgrnKernelIdeal.main_arg5)) (m ((c.tc : Thread Cert.HgrnKernelIdeal.nD Cert.HgrnKernelIdeal.τ).loc Cert.HgrnKernelIdeal.main_arg6))).2.1 = (fun _ => 1#1)
    ∧ (Cert.Pre_hgrn_finite.fn (F := Ideal) (m ((c.tc : Thread Cert.HgrnKernelIdeal.nD Cert.HgrnKernelIdeal.τ).loc Cert.HgrnKernelIdeal.main_arg0)) (m ((c.tc : Thread Cert.HgrnKernelIdeal.nD Cert.HgrnKernelIdeal.τ).loc Cert.HgrnKernelIdeal.main_arg1)) (m ((c.tc : Thread Cert.HgrnKernelIdeal.nD Cert.HgrnKernelIdeal.τ).loc Cert.HgrnKernelIdeal.main_arg2)) (m ((c.tc : Thread Cert.HgrnKernelIdeal.nD Cert.HgrnKernelIdeal.τ).loc Cert.HgrnKernelIdeal.main_arg3)) (m ((c.tc : Thread Cert.HgrnKernelIdeal.nD Cert.HgrnKernelIdeal.τ).loc Cert.HgrnKernelIdeal.main_arg4)) (m ((c.tc : Thread Cert.HgrnKernelIdeal.nD Cert.HgrnKernelIdeal.τ).loc Cert.HgrnKernelIdeal.main_arg5)) (m ((c.tc : Thread Cert.HgrnKernelIdeal.nD Cert.HgrnKernelIdeal.τ).loc Cert.HgrnKernelIdeal.main_arg6))).2.2.1 = (fun _ => 1#1)
    ∧ (Cert.Pre_hgrn_finite.fn (F := Ideal) (m ((c.tc : Thread Cert.HgrnKernelIdeal.nD Cert.HgrnKernelIdeal.τ).loc Cert.HgrnKernelIdeal.main_arg0)) (m ((c.tc : Thread Cert.HgrnKernelIdeal.nD Cert.HgrnKernelIdeal.τ).loc Cert.HgrnKernelIdeal.main_arg1)) (m ((c.tc : Thread Cert.HgrnKernelIdeal.nD Cert.HgrnKernelIdeal.τ).loc Cert.HgrnKernelIdeal.main_arg2)) (m ((c.tc : Thread Cert.HgrnKernelIdeal.nD Cert.HgrnKernelIdeal.τ).loc Cert.HgrnKernelIdeal.main_arg3)) (m ((c.tc : Thread Cert.HgrnKernelIdeal.nD Cert.HgrnKernelIdeal.τ).loc Cert.HgrnKernelIdeal.main_arg4)) (m ((c.tc : Thread Cert.HgrnKernelIdeal.nD Cert.HgrnKernelIdeal.τ).loc Cert.HgrnKernelIdeal.main_arg5)) (m ((c.tc : Thread Cert.HgrnKernelIdeal.nD Cert.HgrnKernelIdeal.τ).loc Cert.HgrnKernelIdeal.main_arg6))).2.2.2.1 = (fun _ => 1#1)
    ∧ (Cert.Pre_hgrn_finite.fn (F := Ideal) (m ((c.tc : Thread Cert.HgrnKernelIdeal.nD Cert.HgrnKernelIdeal.τ).loc Cert.HgrnKernelIdeal.main_arg0)) (m ((c.tc : Thread Cert.HgrnKernelIdeal.nD Cert.HgrnKernelIdeal.τ).loc Cert.HgrnKernelIdeal.main_arg1)) (m ((c.tc : Thread Cert.HgrnKernelIdeal.nD Cert.HgrnKernelIdeal.τ).loc Cert.HgrnKernelIdeal.main_arg2)) (m ((c.tc : Thread Cert.HgrnKernelIdeal.nD Cert.HgrnKernelIdeal.τ).loc Cert.HgrnKernelIdeal.main_arg3)) (m ((c.tc : Thread Cert.HgrnKernelIdeal.nD Cert.HgrnKernelIdeal.τ).loc Cert.HgrnKernelIdeal.main_arg4)) (m ((c.tc : Thread Cert.HgrnKernelIdeal.nD Cert.HgrnKernelIdeal.τ).loc Cert.HgrnKernelIdeal.main_arg5)) (m ((c.tc : Thread Cert.HgrnKernelIdeal.nD Cert.HgrnKernelIdeal.τ).loc Cert.HgrnKernelIdeal.main_arg6))).2.2.2.2 = (fun _ => 1#1)

def Pre_HgrnReferenceIdeal (m : (ℓ : Loc Cert.HgrnReferenceIdeal.nD Cert.HgrnReferenceIdeal.τ Cert.HgrnReferenceIdeal.sig) → Buf (Elt Ideal) ℓ) : Prop :=
  True

def Pre_HgrnReferenceIdeal_hgrn_finite [hPre_hgrn_finite : Cert.Pre_hgrn_finite.Facts] (m : (ℓ : Loc Cert.HgrnReferenceIdeal.nD Cert.HgrnReferenceIdeal.τ Cert.HgrnReferenceIdeal.sig) → Buf (Elt Ideal) ℓ) : Prop :=
  ∀ c : Dev Cert.HgrnReferenceIdeal.nD,
    (Cert.Pre_hgrn_finite.fn (F := Ideal) (m ((c.tc : Thread Cert.HgrnReferenceIdeal.nD Cert.HgrnReferenceIdeal.τ).loc Cert.HgrnReferenceIdeal.main_arg0)) (m ((c.tc : Thread Cert.HgrnReferenceIdeal.nD Cert.HgrnReferenceIdeal.τ).loc Cert.HgrnReferenceIdeal.main_arg1)) (m ((c.tc : Thread Cert.HgrnReferenceIdeal.nD Cert.HgrnReferenceIdeal.τ).loc Cert.HgrnReferenceIdeal.main_arg2)) (m ((c.tc : Thread Cert.HgrnReferenceIdeal.nD Cert.HgrnReferenceIdeal.τ).loc Cert.HgrnReferenceIdeal.main_arg3)) (m ((c.tc : Thread Cert.HgrnReferenceIdeal.nD Cert.HgrnReferenceIdeal.τ).loc Cert.HgrnReferenceIdeal.main_arg4)) (m ((c.tc : Thread Cert.HgrnReferenceIdeal.nD Cert.HgrnReferenceIdeal.τ).loc Cert.HgrnReferenceIdeal.main_arg5)) (m ((c.tc : Thread Cert.HgrnReferenceIdeal.nD Cert.HgrnReferenceIdeal.τ).loc Cert.HgrnReferenceIdeal.main_arg6))).1 = (fun _ => 1#1)
    ∧ (Cert.Pre_hgrn_finite.fn (F := Ideal) (m ((c.tc : Thread Cert.HgrnReferenceIdeal.nD Cert.HgrnReferenceIdeal.τ).loc Cert.HgrnReferenceIdeal.main_arg0)) (m ((c.tc : Thread Cert.HgrnReferenceIdeal.nD Cert.HgrnReferenceIdeal.τ).loc Cert.HgrnReferenceIdeal.main_arg1)) (m ((c.tc : Thread Cert.HgrnReferenceIdeal.nD Cert.HgrnReferenceIdeal.τ).loc Cert.HgrnReferenceIdeal.main_arg2)) (m ((c.tc : Thread Cert.HgrnReferenceIdeal.nD Cert.HgrnReferenceIdeal.τ).loc Cert.HgrnReferenceIdeal.main_arg3)) (m ((c.tc : Thread Cert.HgrnReferenceIdeal.nD Cert.HgrnReferenceIdeal.τ).loc Cert.HgrnReferenceIdeal.main_arg4)) (m ((c.tc : Thread Cert.HgrnReferenceIdeal.nD Cert.HgrnReferenceIdeal.τ).loc Cert.HgrnReferenceIdeal.main_arg5)) (m ((c.tc : Thread Cert.HgrnReferenceIdeal.nD Cert.HgrnReferenceIdeal.τ).loc Cert.HgrnReferenceIdeal.main_arg6))).2.1 = (fun _ => 1#1)
    ∧ (Cert.Pre_hgrn_finite.fn (F := Ideal) (m ((c.tc : Thread Cert.HgrnReferenceIdeal.nD Cert.HgrnReferenceIdeal.τ).loc Cert.HgrnReferenceIdeal.main_arg0)) (m ((c.tc : Thread Cert.HgrnReferenceIdeal.nD Cert.HgrnReferenceIdeal.τ).loc Cert.HgrnReferenceIdeal.main_arg1)) (m ((c.tc : Thread Cert.HgrnReferenceIdeal.nD Cert.HgrnReferenceIdeal.τ).loc Cert.HgrnReferenceIdeal.main_arg2)) (m ((c.tc : Thread Cert.HgrnReferenceIdeal.nD Cert.HgrnReferenceIdeal.τ).loc Cert.HgrnReferenceIdeal.main_arg3)) (m ((c.tc : Thread Cert.HgrnReferenceIdeal.nD Cert.HgrnReferenceIdeal.τ).loc Cert.HgrnReferenceIdeal.main_arg4)) (m ((c.tc : Thread Cert.HgrnReferenceIdeal.nD Cert.HgrnReferenceIdeal.τ).loc Cert.HgrnReferenceIdeal.main_arg5)) (m ((c.tc : Thread Cert.HgrnReferenceIdeal.nD Cert.HgrnReferenceIdeal.τ).loc Cert.HgrnReferenceIdeal.main_arg6))).2.2.1 = (fun _ => 1#1)
    ∧ (Cert.Pre_hgrn_finite.fn (F := Ideal) (m ((c.tc : Thread Cert.HgrnReferenceIdeal.nD Cert.HgrnReferenceIdeal.τ).loc Cert.HgrnReferenceIdeal.main_arg0)) (m ((c.tc : Thread Cert.HgrnReferenceIdeal.nD Cert.HgrnReferenceIdeal.τ).loc Cert.HgrnReferenceIdeal.main_arg1)) (m ((c.tc : Thread Cert.HgrnReferenceIdeal.nD Cert.HgrnReferenceIdeal.τ).loc Cert.HgrnReferenceIdeal.main_arg2)) (m ((c.tc : Thread Cert.HgrnReferenceIdeal.nD Cert.HgrnReferenceIdeal.τ).loc Cert.HgrnReferenceIdeal.main_arg3)) (m ((c.tc : Thread Cert.HgrnReferenceIdeal.nD Cert.HgrnReferenceIdeal.τ).loc Cert.HgrnReferenceIdeal.main_arg4)) (m ((c.tc : Thread Cert.HgrnReferenceIdeal.nD Cert.HgrnReferenceIdeal.τ).loc Cert.HgrnReferenceIdeal.main_arg5)) (m ((c.tc : Thread Cert.HgrnReferenceIdeal.nD Cert.HgrnReferenceIdeal.τ).loc Cert.HgrnReferenceIdeal.main_arg6))).2.2.2.1 = (fun _ => 1#1)
    ∧ (Cert.Pre_hgrn_finite.fn (F := Ideal) (m ((c.tc : Thread Cert.HgrnReferenceIdeal.nD Cert.HgrnReferenceIdeal.τ).loc Cert.HgrnReferenceIdeal.main_arg0)) (m ((c.tc : Thread Cert.HgrnReferenceIdeal.nD Cert.HgrnReferenceIdeal.τ).loc Cert.HgrnReferenceIdeal.main_arg1)) (m ((c.tc : Thread Cert.HgrnReferenceIdeal.nD Cert.HgrnReferenceIdeal.τ).loc Cert.HgrnReferenceIdeal.main_arg2)) (m ((c.tc : Thread Cert.HgrnReferenceIdeal.nD Cert.HgrnReferenceIdeal.τ).loc Cert.HgrnReferenceIdeal.main_arg3)) (m ((c.tc : Thread Cert.HgrnReferenceIdeal.nD Cert.HgrnReferenceIdeal.τ).loc Cert.HgrnReferenceIdeal.main_arg4)) (m ((c.tc : Thread Cert.HgrnReferenceIdeal.nD Cert.HgrnReferenceIdeal.τ).loc Cert.HgrnReferenceIdeal.main_arg5)) (m ((c.tc : Thread Cert.HgrnReferenceIdeal.nD Cert.HgrnReferenceIdeal.τ).loc Cert.HgrnReferenceIdeal.main_arg6))).2.2.2.2 = (fun _ => 1#1)

def Pre_ScoresKernel [hPre_pages_in_pool : Cert.Pre_pages_in_pool.Facts] (m : (ℓ : Loc Cert.ScoresKernel.nD Cert.ScoresKernel.τ Cert.ScoresKernel.sig) → Buf (Elt Bits) ℓ) : Prop :=
  ∀ c : Dev Cert.ScoresKernel.nD,
    (Cert.Pre_pages_in_pool.fn (F := Bits) (m ((c.tc : Thread Cert.ScoresKernel.nD Cert.ScoresKernel.τ).loc Cert.ScoresKernel.main_arg0)) (m ((c.tc : Thread Cert.ScoresKernel.nD Cert.ScoresKernel.τ).loc Cert.ScoresKernel.main_arg1)) (m ((c.tc : Thread Cert.ScoresKernel.nD Cert.ScoresKernel.τ).loc Cert.ScoresKernel.main_arg2)) (m ((c.tc : Thread Cert.ScoresKernel.nD Cert.ScoresKernel.τ).loc Cert.ScoresKernel.main_arg3))) = (fun _ => 1#1)

def Pre_ScoresKernelIdeal [hPre_pages_in_pool : Cert.Pre_pages_in_pool.Facts] (m : (ℓ : Loc Cert.ScoresKernelIdeal.nD Cert.ScoresKernelIdeal.τ Cert.ScoresKernelIdeal.sig) → Buf (Elt Ideal) ℓ) : Prop :=
  ∀ c : Dev Cert.ScoresKernelIdeal.nD,
    (Cert.Pre_pages_in_pool.fn (F := Ideal) (m ((c.tc : Thread Cert.ScoresKernelIdeal.nD Cert.ScoresKernelIdeal.τ).loc Cert.ScoresKernelIdeal.main_arg0)) (m ((c.tc : Thread Cert.ScoresKernelIdeal.nD Cert.ScoresKernelIdeal.τ).loc Cert.ScoresKernelIdeal.main_arg1)) (m ((c.tc : Thread Cert.ScoresKernelIdeal.nD Cert.ScoresKernelIdeal.τ).loc Cert.ScoresKernelIdeal.main_arg2)) (m ((c.tc : Thread Cert.ScoresKernelIdeal.nD Cert.ScoresKernelIdeal.τ).loc Cert.ScoresKernelIdeal.main_arg3))) = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_pages_in_pool [hPre_pages_in_pool : Cert.Pre_pages_in_pool.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_pages_in_pool.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3))) = (fun _ => 1#1)

def Pre_PhgrnKernel (m : (ℓ : Loc Cert.PhgrnKernel.nD Cert.PhgrnKernel.τ Cert.PhgrnKernel.sig) → Buf (Elt Bits) ℓ) : Prop :=
  True

def Pre_PhgrnKernelIdeal (m : (ℓ : Loc Cert.PhgrnKernelIdeal.nD Cert.PhgrnKernelIdeal.τ Cert.PhgrnKernelIdeal.sig) → Buf (Elt Ideal) ℓ) : Prop :=
  True

def Pre_PhgrnKernelIdeal_phgrn_finite [hPre_phgrn_finite : Cert.Pre_phgrn_finite.Facts] (m : (ℓ : Loc Cert.PhgrnKernelIdeal.nD Cert.PhgrnKernelIdeal.τ Cert.PhgrnKernelIdeal.sig) → Buf (Elt Ideal) ℓ) : Prop :=
  ∀ c : Dev Cert.PhgrnKernelIdeal.nD,
    (Cert.Pre_phgrn_finite.fn (F := Ideal) (m ((c.tc : Thread Cert.PhgrnKernelIdeal.nD Cert.PhgrnKernelIdeal.τ).loc Cert.PhgrnKernelIdeal.main_arg0)) (m ((c.tc : Thread Cert.PhgrnKernelIdeal.nD Cert.PhgrnKernelIdeal.τ).loc Cert.PhgrnKernelIdeal.main_arg1)) (m ((c.tc : Thread Cert.PhgrnKernelIdeal.nD Cert.PhgrnKernelIdeal.τ).loc Cert.PhgrnKernelIdeal.main_arg2))).1 = (fun _ => 1#1)
    ∧ (Cert.Pre_phgrn_finite.fn (F := Ideal) (m ((c.tc : Thread Cert.PhgrnKernelIdeal.nD Cert.PhgrnKernelIdeal.τ).loc Cert.PhgrnKernelIdeal.main_arg0)) (m ((c.tc : Thread Cert.PhgrnKernelIdeal.nD Cert.PhgrnKernelIdeal.τ).loc Cert.PhgrnKernelIdeal.main_arg1)) (m ((c.tc : Thread Cert.PhgrnKernelIdeal.nD Cert.PhgrnKernelIdeal.τ).loc Cert.PhgrnKernelIdeal.main_arg2))).2 = (fun _ => 1#1)

def Pre_PhgrnReferenceIdeal (m : (ℓ : Loc Cert.PhgrnReferenceIdeal.nD Cert.PhgrnReferenceIdeal.τ Cert.PhgrnReferenceIdeal.sig) → Buf (Elt Ideal) ℓ) : Prop :=
  True

def Pre_PhgrnReferenceIdeal_phgrn_finite [hPre_phgrn_finite : Cert.Pre_phgrn_finite.Facts] (m : (ℓ : Loc Cert.PhgrnReferenceIdeal.nD Cert.PhgrnReferenceIdeal.τ Cert.PhgrnReferenceIdeal.sig) → Buf (Elt Ideal) ℓ) : Prop :=
  ∀ c : Dev Cert.PhgrnReferenceIdeal.nD,
    (Cert.Pre_phgrn_finite.fn (F := Ideal) (m ((c.tc : Thread Cert.PhgrnReferenceIdeal.nD Cert.PhgrnReferenceIdeal.τ).loc Cert.PhgrnReferenceIdeal.main_arg0)) (m ((c.tc : Thread Cert.PhgrnReferenceIdeal.nD Cert.PhgrnReferenceIdeal.τ).loc Cert.PhgrnReferenceIdeal.main_arg1)) (m ((c.tc : Thread Cert.PhgrnReferenceIdeal.nD Cert.PhgrnReferenceIdeal.τ).loc Cert.PhgrnReferenceIdeal.main_arg2))).1 = (fun _ => 1#1)
    ∧ (Cert.Pre_phgrn_finite.fn (F := Ideal) (m ((c.tc : Thread Cert.PhgrnReferenceIdeal.nD Cert.PhgrnReferenceIdeal.τ).loc Cert.PhgrnReferenceIdeal.main_arg0)) (m ((c.tc : Thread Cert.PhgrnReferenceIdeal.nD Cert.PhgrnReferenceIdeal.τ).loc Cert.PhgrnReferenceIdeal.main_arg1)) (m ((c.tc : Thread Cert.PhgrnReferenceIdeal.nD Cert.PhgrnReferenceIdeal.τ).loc Cert.PhgrnReferenceIdeal.main_arg2))).2 = (fun _ => 1#1)

def Pre_IdxprojKernel (m : (ℓ : Loc Cert.IdxprojKernel.nD Cert.IdxprojKernel.τ Cert.IdxprojKernel.sig) → Buf (Elt Bits) ℓ) : Prop :=
  True

def Pre_IdxprojKernelIdeal (m : (ℓ : Loc Cert.IdxprojKernelIdeal.nD Cert.IdxprojKernelIdeal.τ Cert.IdxprojKernelIdeal.sig) → Buf (Elt Ideal) ℓ) : Prop :=
  True

def Pre_IdxprojReferenceIdeal (m : (ℓ : Loc Cert.IdxprojReferenceIdeal.nD Cert.IdxprojReferenceIdeal.τ Cert.IdxprojReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutprojKernel (m : (ℓ : Loc Cert.OutprojKernel.nD Cert.OutprojKernel.τ Cert.OutprojKernel.sig) → Buf (Elt Bits) ℓ) : Prop :=
  True

def Pre_OutprojKernelIdeal (m : (ℓ : Loc Cert.OutprojKernelIdeal.nD Cert.OutprojKernelIdeal.τ Cert.OutprojKernelIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def quiescent_HgrnKernel [hHgrnKernel : Cert.HgrnKernel.Facts] : Prop :=
  ∀ (m : (ℓ : Loc Cert.HgrnKernel.nD Cert.HgrnKernel.τ Cert.HgrnKernel.sig) → Buf (Elt Bits) ℓ) (g : Dev Cert.HgrnKernel.nD → PrngReg), Pre_HgrnKernel m →
    θ_run (Cert.HgrnKernel.defs (F := Bits)) (onTc (τ := Cert.HgrnKernel.τ) (Cert.HgrnKernel.main (F := Bits))) ⟨m, fun _ => 0, g⟩ (fun r => (∀ c : Dev Cert.HgrnKernel.nD,
      r.2.mem ((c.tc : Thread Cert.HgrnKernel.nD Cert.HgrnKernel.τ).loc Cert.HgrnKernel.main_arg0) = m ((c.tc : Thread Cert.HgrnKernel.nD Cert.HgrnKernel.τ).loc Cert.HgrnKernel.main_arg0)
      ∧ r.2.mem ((c.tc : Thread Cert.HgrnKernel.nD Cert.HgrnKernel.τ).loc Cert.HgrnKernel.main_arg1) = m ((c.tc : Thread Cert.HgrnKernel.nD Cert.HgrnKernel.τ).loc Cert.HgrnKernel.main_arg1)
      ∧ r.2.mem ((c.tc : Thread Cert.HgrnKernel.nD Cert.HgrnKernel.τ).loc Cert.HgrnKernel.main_arg2) = m ((c.tc : Thread Cert.HgrnKernel.nD Cert.HgrnKernel.τ).loc Cert.HgrnKernel.main_arg2)
      ∧ r.2.mem ((c.tc : Thread Cert.HgrnKernel.nD Cert.HgrnKernel.τ).loc Cert.HgrnKernel.main_arg3) = m ((c.tc : Thread Cert.HgrnKernel.nD Cert.HgrnKernel.τ).loc Cert.HgrnKernel.main_arg3)
      ∧ r.2.mem ((c.tc : Thread Cert.HgrnKernel.nD Cert.HgrnKernel.τ).loc Cert.HgrnKernel.main_arg4) = m ((c.tc : Thread Cert.HgrnKernel.nD Cert.HgrnKernel.τ).loc Cert.HgrnKernel.main_arg4)
      ∧ r.2.mem ((c.tc : Thread Cert.HgrnKernel.nD Cert.HgrnKernel.τ).loc Cert.HgrnKernel.main_arg5) = m ((c.tc : Thread Cert.HgrnKernel.nD Cert.HgrnKernel.τ).loc Cert.HgrnKernel.main_arg5)
      ∧ r.2.mem ((c.tc : Thread Cert.HgrnKernel.nD Cert.HgrnKernel.τ).loc Cert.HgrnKernel.main_arg6) = m ((c.tc : Thread Cert.HgrnKernel.nD Cert.HgrnKernel.τ).loc Cert.HgrnKernel.main_arg6))
      ∧ r.2.sem = fun _ => 0)

def quiescent_HgrnKernelIdeal [hHgrnKernelIdeal : Cert.HgrnKernelIdeal.Facts] : Prop :=
  ∀ (m : (ℓ : Loc Cert.HgrnKernelIdeal.nD Cert.HgrnKernelIdeal.τ Cert.HgrnKernelIdeal.sig) → Buf (Elt Ideal) ℓ) (g : Dev Cert.HgrnKernelIdeal.nD → PrngReg), Pre_HgrnKernelIdeal m →
    θ_run (Cert.HgrnKernelIdeal.defs (F := Ideal)) (onTc (τ := Cert.HgrnKernelIdeal.τ) (Cert.HgrnKernelIdeal.main (F := Ideal))) ⟨m, fun _ => 0, g⟩ (fun r => (∀ c : Dev Cert.HgrnKernelIdeal.nD,
      r.2.mem ((c.tc : Thread Cert.HgrnKernelIdeal.nD Cert.HgrnKernelIdeal.τ).loc Cert.HgrnKernelIdeal.main_arg0) = m ((c.tc : Thread Cert.HgrnKernelIdeal.nD Cert.HgrnKernelIdeal.τ).loc Cert.HgrnKernelIdeal.main_arg0)
      ∧ r.2.mem ((c.tc : Thread Cert.HgrnKernelIdeal.nD Cert.HgrnKernelIdeal.τ).loc Cert.HgrnKernelIdeal.main_arg1) = m ((c.tc : Thread Cert.HgrnKernelIdeal.nD Cert.HgrnKernelIdeal.τ).loc Cert.HgrnKernelIdeal.main_arg1)
      ∧ r.2.mem ((c.tc : Thread Cert.HgrnKernelIdeal.nD Cert.HgrnKernelIdeal.τ).loc Cert.HgrnKernelIdeal.main_arg2) = m ((c.tc : Thread Cert.HgrnKernelIdeal.nD Cert.HgrnKernelIdeal.τ).loc Cert.HgrnKernelIdeal.main_arg2)
      ∧ r.2.mem ((c.tc : Thread Cert.HgrnKernelIdeal.nD Cert.HgrnKernelIdeal.τ).loc Cert.HgrnKernelIdeal.main_arg3) = m ((c.tc : Thread Cert.HgrnKernelIdeal.nD Cert.HgrnKernelIdeal.τ).loc Cert.HgrnKernelIdeal.main_arg3)
      ∧ r.2.mem ((c.tc : Thread Cert.HgrnKernelIdeal.nD Cert.HgrnKernelIdeal.τ).loc Cert.HgrnKernelIdeal.main_arg4) = m ((c.tc : Thread Cert.HgrnKernelIdeal.nD Cert.HgrnKernelIdeal.τ).loc Cert.HgrnKernelIdeal.main_arg4)
      ∧ r.2.mem ((c.tc : Thread Cert.HgrnKernelIdeal.nD Cert.HgrnKernelIdeal.τ).loc Cert.HgrnKernelIdeal.main_arg5) = m ((c.tc : Thread Cert.HgrnKernelIdeal.nD Cert.HgrnKernelIdeal.τ).loc Cert.HgrnKernelIdeal.main_arg5)
      ∧ r.2.mem ((c.tc : Thread Cert.HgrnKernelIdeal.nD Cert.HgrnKernelIdeal.τ).loc Cert.HgrnKernelIdeal.main_arg6) = m ((c.tc : Thread Cert.HgrnKernelIdeal.nD Cert.HgrnKernelIdeal.τ).loc Cert.HgrnKernelIdeal.main_arg6))
      ∧ r.2.sem = fun _ => 0)

def quiescent_HgrnKernelIdeal_pre_hgrn_finite [hHgrnKernelIdeal : Cert.HgrnKernelIdeal.Facts] [hPre_hgrn_finite : Cert.Pre_hgrn_finite.Facts] : Prop :=
  ∀ (m : (ℓ : Loc Cert.HgrnKernelIdeal.nD Cert.HgrnKernelIdeal.τ Cert.HgrnKernelIdeal.sig) → Buf (Elt Ideal) ℓ) (g : Dev Cert.HgrnKernelIdeal.nD → PrngReg), Pre_HgrnKernelIdeal_hgrn_finite m →
    θ_run (Cert.HgrnKernelIdeal.defs (F := Ideal)) (onTc (τ := Cert.HgrnKernelIdeal.τ) (Cert.HgrnKernelIdeal.main (F := Ideal))) ⟨m, fun _ => 0, g⟩ (fun r => (∀ c : Dev Cert.HgrnKernelIdeal.nD,
      r.2.mem ((c.tc : Thread Cert.HgrnKernelIdeal.nD Cert.HgrnKernelIdeal.τ).loc Cert.HgrnKernelIdeal.main_arg0) = m ((c.tc : Thread Cert.HgrnKernelIdeal.nD Cert.HgrnKernelIdeal.τ).loc Cert.HgrnKernelIdeal.main_arg0)
      ∧ r.2.mem ((c.tc : Thread Cert.HgrnKernelIdeal.nD Cert.HgrnKernelIdeal.τ).loc Cert.HgrnKernelIdeal.main_arg1) = m ((c.tc : Thread Cert.HgrnKernelIdeal.nD Cert.HgrnKernelIdeal.τ).loc Cert.HgrnKernelIdeal.main_arg1)
      ∧ r.2.mem ((c.tc : Thread Cert.HgrnKernelIdeal.nD Cert.HgrnKernelIdeal.τ).loc Cert.HgrnKernelIdeal.main_arg2) = m ((c.tc : Thread Cert.HgrnKernelIdeal.nD Cert.HgrnKernelIdeal.τ).loc Cert.HgrnKernelIdeal.main_arg2)
      ∧ r.2.mem ((c.tc : Thread Cert.HgrnKernelIdeal.nD Cert.HgrnKernelIdeal.τ).loc Cert.HgrnKernelIdeal.main_arg3) = m ((c.tc : Thread Cert.HgrnKernelIdeal.nD Cert.HgrnKernelIdeal.τ).loc Cert.HgrnKernelIdeal.main_arg3)
      ∧ r.2.mem ((c.tc : Thread Cert.HgrnKernelIdeal.nD Cert.HgrnKernelIdeal.τ).loc Cert.HgrnKernelIdeal.main_arg4) = m ((c.tc : Thread Cert.HgrnKernelIdeal.nD Cert.HgrnKernelIdeal.τ).loc Cert.HgrnKernelIdeal.main_arg4)
      ∧ r.2.mem ((c.tc : Thread Cert.HgrnKernelIdeal.nD Cert.HgrnKernelIdeal.τ).loc Cert.HgrnKernelIdeal.main_arg5) = m ((c.tc : Thread Cert.HgrnKernelIdeal.nD Cert.HgrnKernelIdeal.τ).loc Cert.HgrnKernelIdeal.main_arg5)
      ∧ r.2.mem ((c.tc : Thread Cert.HgrnKernelIdeal.nD Cert.HgrnKernelIdeal.τ).loc Cert.HgrnKernelIdeal.main_arg6) = m ((c.tc : Thread Cert.HgrnKernelIdeal.nD Cert.HgrnKernelIdeal.τ).loc Cert.HgrnKernelIdeal.main_arg6))
      ∧ r.2.sem = fun _ => 0)

def quiescent_HgrnReferenceIdeal [hHgrnReferenceIdeal : Cert.HgrnReferenceIdeal.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0)
      ∧ r.2.mem ((c.tc : Thread Cert.HgrnReferenceIdeal.nD Cert.HgrnReferenceIdeal.τ).loc Cert.HgrnReferenceIdeal.main_arg1) = m ((c.tc : Thread Cert.HgrnReferenceIdeal.nD Cert.HgrnReferenceIdeal.τ).loc Cert.HgrnReferenceIdeal.main_arg1)
      ∧ r.2.mem ((c.tc : Thread Cert.HgrnReferenceIdeal.nD Cert.HgrnReferenceIdeal.τ).loc Cert.HgrnReferenceIdeal.main_arg2) = m ((c.tc : Thread Cert.HgrnReferenceIdeal.nD Cert.HgrnReferenceIdeal.τ).loc Cert.HgrnReferenceIdeal.main_arg2)
      ∧ r.2.mem ((c.tc : Thread Cert.HgrnReferenceIdeal.nD Cert.HgrnReferenceIdeal.τ).loc Cert.HgrnReferenceIdeal.main_arg3) = m ((c.tc : Thread Cert.HgrnReferenceIdeal.nD Cert.HgrnReferenceIdeal.τ).loc Cert.HgrnReferenceIdeal.main_arg3)
      ∧ r.2.mem ((c.tc : Thread Cert.HgrnReferenceIdeal.nD Cert.HgrnReferenceIdeal.τ).loc Cert.HgrnReferenceIdeal.main_arg4) = m ((c.tc : Thread Cert.HgrnReferenceIdeal.nD Cert.HgrnReferenceIdeal.τ).loc Cert.HgrnReferenceIdeal.main_arg4)
      ∧ r.2.mem ((c.tc : Thread Cert.HgrnReferenceIdeal.nD Cert.HgrnReferenceIdeal.τ).loc Cert.HgrnReferenceIdeal.main_arg5) = m ((c.tc : Thread Cert.HgrnReferenceIdeal.nD Cert.HgrnReferenceIdeal.τ).loc Cert.HgrnReferenceIdeal.main_arg5)
      ∧ r.2.mem ((c.tc : Thread Cert.HgrnReferenceIdeal.nD Cert.HgrnReferenceIdeal.τ).loc Cert.HgrnReferenceIdeal.main_arg6) = m ((c.tc : Thread Cert.HgrnReferenceIdeal.nD Cert.HgrnReferenceIdeal.τ).loc Cert.HgrnReferenceIdeal.main_arg6))
      ∧ r.2.sem = fun _ => 0)

def quiescent_HgrnReferenceIdeal_pre_hgrn_finite [hHgrnReferenceIdeal : Cert.HgrnReferenceIdeal.Facts] [hPre_hgrn_finite : Cert.Pre_hgrn_finite.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal_hgrn_finite m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0)
      ∧ r.2.mem ((c.tc : Thread Cert.HgrnReferenceIdeal.nD Cert.HgrnReferenceIdeal.τ).loc Cert.HgrnReferenceIdeal.main_arg1) = m ((c.tc : Thread Cert.HgrnReferenceIdeal.nD Cert.HgrnReferenceIdeal.τ).loc Cert.HgrnReferenceIdeal.main_arg1)
      ∧ r.2.mem ((c.tc : Thread Cert.HgrnReferenceIdeal.nD Cert.HgrnReferenceIdeal.τ).loc Cert.HgrnReferenceIdeal.main_arg2) = m ((c.tc : Thread Cert.HgrnReferenceIdeal.nD Cert.HgrnReferenceIdeal.τ).loc Cert.HgrnReferenceIdeal.main_arg2)
      ∧ r.2.mem ((c.tc : Thread Cert.HgrnReferenceIdeal.nD Cert.HgrnReferenceIdeal.τ).loc Cert.HgrnReferenceIdeal.main_arg3) = m ((c.tc : Thread Cert.HgrnReferenceIdeal.nD Cert.HgrnReferenceIdeal.τ).loc Cert.HgrnReferenceIdeal.main_arg3)
      ∧ r.2.mem ((c.tc : Thread Cert.HgrnReferenceIdeal.nD Cert.HgrnReferenceIdeal.τ).loc Cert.HgrnReferenceIdeal.main_arg4) = m ((c.tc : Thread Cert.HgrnReferenceIdeal.nD Cert.HgrnReferenceIdeal.τ).loc Cert.HgrnReferenceIdeal.main_arg4)
      ∧ r.2.mem ((c.tc : Thread Cert.HgrnReferenceIdeal.nD Cert.HgrnReferenceIdeal.τ).loc Cert.HgrnReferenceIdeal.main_arg5) = m ((c.tc : Thread Cert.HgrnReferenceIdeal.nD Cert.HgrnReferenceIdeal.τ).loc Cert.HgrnReferenceIdeal.main_arg5)
      ∧ r.2.mem ((c.tc : Thread Cert.HgrnReferenceIdeal.nD Cert.HgrnReferenceIdeal.τ).loc Cert.HgrnReferenceIdeal.main_arg6) = m ((c.tc : Thread Cert.HgrnReferenceIdeal.nD Cert.HgrnReferenceIdeal.τ).loc Cert.HgrnReferenceIdeal.main_arg6))
      ∧ r.2.sem = fun _ => 0)

def quiescent_ScoresKernel [hScoresKernel : Cert.ScoresKernel.Facts] [hPre_pages_in_pool : Cert.Pre_pages_in_pool.Facts] : Prop :=
  ∀ (m : (ℓ : Loc Cert.ScoresKernel.nD Cert.ScoresKernel.τ Cert.ScoresKernel.sig) → Buf (Elt Bits) ℓ) (g : Dev Cert.ScoresKernel.nD → PrngReg), Pre_ScoresKernel m →
    θ_run (Cert.ScoresKernel.defs (F := Bits)) (onTc (τ := Cert.ScoresKernel.τ) (Cert.ScoresKernel.main (F := Bits))) ⟨m, fun _ => 0, g⟩ (fun r => (∀ c : Dev Cert.ScoresKernel.nD,
      r.2.mem ((c.tc : Thread Cert.ScoresKernel.nD Cert.ScoresKernel.τ).loc Cert.ScoresKernel.main_arg0) = m ((c.tc : Thread Cert.ScoresKernel.nD Cert.ScoresKernel.τ).loc Cert.ScoresKernel.main_arg0)
      ∧ r.2.mem ((c.tc : Thread Cert.ScoresKernel.nD Cert.ScoresKernel.τ).loc Cert.ScoresKernel.main_arg1) = m ((c.tc : Thread Cert.ScoresKernel.nD Cert.ScoresKernel.τ).loc Cert.ScoresKernel.main_arg1)
      ∧ r.2.mem ((c.tc : Thread Cert.ScoresKernel.nD Cert.ScoresKernel.τ).loc Cert.ScoresKernel.main_arg2) = m ((c.tc : Thread Cert.ScoresKernel.nD Cert.ScoresKernel.τ).loc Cert.ScoresKernel.main_arg2)
      ∧ r.2.mem ((c.tc : Thread Cert.ScoresKernel.nD Cert.ScoresKernel.τ).loc Cert.ScoresKernel.main_arg3) = m ((c.tc : Thread Cert.ScoresKernel.nD Cert.ScoresKernel.τ).loc Cert.ScoresKernel.main_arg3))
      ∧ r.2.sem = fun _ => 0)

def quiescent_ScoresKernelIdeal [hScoresKernelIdeal : Cert.ScoresKernelIdeal.Facts] [hPre_pages_in_pool : Cert.Pre_pages_in_pool.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg), Pre_ScoresKernelIdeal m →
    θ_run (Cert.ScoresKernelIdeal.defs (F := Ideal)) (onTc (τ := Cert.ScoresKernelIdeal.τ) (Cert.ScoresKernelIdeal.main (F := Ideal))) ⟨m, fun _ => 0, g⟩ (fun r => (∀ c : Dev Cert.ScoresKernelIdeal.nD,
      r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0)
      ∧ r.2.mem ((c.tc : Thread Cert.ScoresKernelIdeal.nD Cert.ScoresKernelIdeal.τ).loc Cert.ScoresKernelIdeal.main_arg1) = m ((c.tc : Thread Cert.ScoresKernelIdeal.nD Cert.ScoresKernelIdeal.τ).loc Cert.ScoresKernelIdeal.main_arg1)
      ∧ r.2.mem ((c.tc : Thread Cert.ScoresKernelIdeal.nD Cert.ScoresKernelIdeal.τ).loc Cert.ScoresKernelIdeal.main_arg2) = m ((c.tc : Thread Cert.ScoresKernelIdeal.nD Cert.ScoresKernelIdeal.τ).loc Cert.ScoresKernelIdeal.main_arg2)
      ∧ r.2.mem ((c.tc : Thread Cert.ScoresKernelIdeal.nD Cert.ScoresKernelIdeal.τ).loc Cert.ScoresKernelIdeal.main_arg3) = m ((c.tc : Thread Cert.ScoresKernelIdeal.nD Cert.ScoresKernelIdeal.τ).loc Cert.ScoresKernelIdeal.main_arg3))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3))
      ∧ r.2.sem = fun _ => 0)

def quiescent_ScoresReferenceIdeal_pre_pages_in_pool [hScoresReferenceIdeal : Cert.ScoresReferenceIdeal.Facts] [hPre_pages_in_pool : Cert.Pre_pages_in_pool.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_pages_in_pool m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3))
      ∧ r.2.sem = fun _ => 0)

def quiescent_PhgrnKernel [hPhgrnKernel : Cert.PhgrnKernel.Facts] : Prop :=
  ∀ (m : (ℓ : Loc Cert.PhgrnKernel.nD Cert.PhgrnKernel.τ Cert.PhgrnKernel.sig) → Buf (Elt Bits) ℓ) (g : Dev Cert.PhgrnKernel.nD → PrngReg), Pre_PhgrnKernel m →
    θ_run (Cert.PhgrnKernel.defs (F := Bits)) (onTc (τ := Cert.PhgrnKernel.τ) (Cert.PhgrnKernel.main (F := Bits))) ⟨m, fun _ => 0, g⟩ (fun r => (∀ c : Dev Cert.PhgrnKernel.nD,
      r.2.mem ((c.tc : Thread Cert.PhgrnKernel.nD Cert.PhgrnKernel.τ).loc Cert.PhgrnKernel.main_arg0) = m ((c.tc : Thread Cert.PhgrnKernel.nD Cert.PhgrnKernel.τ).loc Cert.PhgrnKernel.main_arg0)
      ∧ r.2.mem ((c.tc : Thread Cert.PhgrnKernel.nD Cert.PhgrnKernel.τ).loc Cert.PhgrnKernel.main_arg1) = m ((c.tc : Thread Cert.PhgrnKernel.nD Cert.PhgrnKernel.τ).loc Cert.PhgrnKernel.main_arg1)
      ∧ r.2.mem ((c.tc : Thread Cert.PhgrnKernel.nD Cert.PhgrnKernel.τ).loc Cert.PhgrnKernel.main_arg2) = m ((c.tc : Thread Cert.PhgrnKernel.nD Cert.PhgrnKernel.τ).loc Cert.PhgrnKernel.main_arg2))
      ∧ r.2.sem = fun _ => 0)

def quiescent_PhgrnKernelIdeal [hPhgrnKernelIdeal : Cert.PhgrnKernelIdeal.Facts] : Prop :=
  ∀ (m : (ℓ : Loc Cert.PhgrnKernelIdeal.nD Cert.PhgrnKernelIdeal.τ Cert.PhgrnKernelIdeal.sig) → Buf (Elt Ideal) ℓ) (g : Dev Cert.PhgrnKernelIdeal.nD → PrngReg), Pre_PhgrnKernelIdeal m →
    θ_run (Cert.PhgrnKernelIdeal.defs (F := Ideal)) (onTc (τ := Cert.PhgrnKernelIdeal.τ) (Cert.PhgrnKernelIdeal.main (F := Ideal))) ⟨m, fun _ => 0, g⟩ (fun r => (∀ c : Dev Cert.PhgrnKernelIdeal.nD,
      r.2.mem ((c.tc : Thread Cert.PhgrnKernelIdeal.nD Cert.PhgrnKernelIdeal.τ).loc Cert.PhgrnKernelIdeal.main_arg0) = m ((c.tc : Thread Cert.PhgrnKernelIdeal.nD Cert.PhgrnKernelIdeal.τ).loc Cert.PhgrnKernelIdeal.main_arg0)
      ∧ r.2.mem ((c.tc : Thread Cert.PhgrnKernelIdeal.nD Cert.PhgrnKernelIdeal.τ).loc Cert.PhgrnKernelIdeal.main_arg1) = m ((c.tc : Thread Cert.PhgrnKernelIdeal.nD Cert.PhgrnKernelIdeal.τ).loc Cert.PhgrnKernelIdeal.main_arg1)
      ∧ r.2.mem ((c.tc : Thread Cert.PhgrnKernelIdeal.nD Cert.PhgrnKernelIdeal.τ).loc Cert.PhgrnKernelIdeal.main_arg2) = m ((c.tc : Thread Cert.PhgrnKernelIdeal.nD Cert.PhgrnKernelIdeal.τ).loc Cert.PhgrnKernelIdeal.main_arg2))
      ∧ r.2.sem = fun _ => 0)

def quiescent_PhgrnKernelIdeal_pre_phgrn_finite [hPhgrnKernelIdeal : Cert.PhgrnKernelIdeal.Facts] [hPre_phgrn_finite : Cert.Pre_phgrn_finite.Facts] : Prop :=
  ∀ (m : (ℓ : Loc Cert.PhgrnKernelIdeal.nD Cert.PhgrnKernelIdeal.τ Cert.PhgrnKernelIdeal.sig) → Buf (Elt Ideal) ℓ) (g : Dev Cert.PhgrnKernelIdeal.nD → PrngReg), Pre_PhgrnKernelIdeal_phgrn_finite m →
    θ_run (Cert.PhgrnKernelIdeal.defs (F := Ideal)) (onTc (τ := Cert.PhgrnKernelIdeal.τ) (Cert.PhgrnKernelIdeal.main (F := Ideal))) ⟨m, fun _ => 0, g⟩ (fun r => (∀ c : Dev Cert.PhgrnKernelIdeal.nD,
      r.2.mem ((c.tc : Thread Cert.PhgrnKernelIdeal.nD Cert.PhgrnKernelIdeal.τ).loc Cert.PhgrnKernelIdeal.main_arg0) = m ((c.tc : Thread Cert.PhgrnKernelIdeal.nD Cert.PhgrnKernelIdeal.τ).loc Cert.PhgrnKernelIdeal.main_arg0)
      ∧ r.2.mem ((c.tc : Thread Cert.PhgrnKernelIdeal.nD Cert.PhgrnKernelIdeal.τ).loc Cert.PhgrnKernelIdeal.main_arg1) = m ((c.tc : Thread Cert.PhgrnKernelIdeal.nD Cert.PhgrnKernelIdeal.τ).loc Cert.PhgrnKernelIdeal.main_arg1)
      ∧ r.2.mem ((c.tc : Thread Cert.PhgrnKernelIdeal.nD Cert.PhgrnKernelIdeal.τ).loc Cert.PhgrnKernelIdeal.main_arg2) = m ((c.tc : Thread Cert.PhgrnKernelIdeal.nD Cert.PhgrnKernelIdeal.τ).loc Cert.PhgrnKernelIdeal.main_arg2))
      ∧ r.2.sem = fun _ => 0)

def quiescent_PhgrnReferenceIdeal [hPhgrnReferenceIdeal : Cert.PhgrnReferenceIdeal.Facts] : Prop :=
  ∀ (m : (ℓ : Loc Cert.PhgrnReferenceIdeal.nD Cert.PhgrnReferenceIdeal.τ Cert.PhgrnReferenceIdeal.sig) → Buf (Elt Ideal) ℓ) (g : Dev Cert.PhgrnReferenceIdeal.nD → PrngReg), Pre_PhgrnReferenceIdeal m →
    θ_run (Cert.PhgrnReferenceIdeal.defs (F := Ideal)) (onTc (τ := Cert.PhgrnReferenceIdeal.τ) (Cert.PhgrnReferenceIdeal.main (F := Ideal))) ⟨m, fun _ => 0, g⟩ (fun r => (∀ c : Dev Cert.PhgrnReferenceIdeal.nD,
      r.2.mem ((c.tc : Thread Cert.PhgrnReferenceIdeal.nD Cert.PhgrnReferenceIdeal.τ).loc Cert.PhgrnReferenceIdeal.main_arg0) = m ((c.tc : Thread Cert.PhgrnReferenceIdeal.nD Cert.PhgrnReferenceIdeal.τ).loc Cert.PhgrnReferenceIdeal.main_arg0)
      ∧ r.2.mem ((c.tc : Thread Cert.PhgrnReferenceIdeal.nD Cert.PhgrnReferenceIdeal.τ).loc Cert.PhgrnReferenceIdeal.main_arg1) = m ((c.tc : Thread Cert.PhgrnReferenceIdeal.nD Cert.PhgrnReferenceIdeal.τ).loc Cert.PhgrnReferenceIdeal.main_arg1)
      ∧ r.2.mem ((c.tc : Thread Cert.PhgrnReferenceIdeal.nD Cert.PhgrnReferenceIdeal.τ).loc Cert.PhgrnReferenceIdeal.main_arg2) = m ((c.tc : Thread Cert.PhgrnReferenceIdeal.nD Cert.PhgrnReferenceIdeal.τ).loc Cert.PhgrnReferenceIdeal.main_arg2))
      ∧ r.2.sem = fun _ => 0)

def quiescent_PhgrnReferenceIdeal_pre_phgrn_finite [hPhgrnReferenceIdeal : Cert.PhgrnReferenceIdeal.Facts] [hPre_phgrn_finite : Cert.Pre_phgrn_finite.Facts] : Prop :=
  ∀ (m : (ℓ : Loc Cert.PhgrnReferenceIdeal.nD Cert.PhgrnReferenceIdeal.τ Cert.PhgrnReferenceIdeal.sig) → Buf (Elt Ideal) ℓ) (g : Dev Cert.PhgrnReferenceIdeal.nD → PrngReg), Pre_PhgrnReferenceIdeal_phgrn_finite m →
    θ_run (Cert.PhgrnReferenceIdeal.defs (F := Ideal)) (onTc (τ := Cert.PhgrnReferenceIdeal.τ) (Cert.PhgrnReferenceIdeal.main (F := Ideal))) ⟨m, fun _ => 0, g⟩ (fun r => (∀ c : Dev Cert.PhgrnReferenceIdeal.nD,
      r.2.mem ((c.tc : Thread Cert.PhgrnReferenceIdeal.nD Cert.PhgrnReferenceIdeal.τ).loc Cert.PhgrnReferenceIdeal.main_arg0) = m ((c.tc : Thread Cert.PhgrnReferenceIdeal.nD Cert.PhgrnReferenceIdeal.τ).loc Cert.PhgrnReferenceIdeal.main_arg0)
      ∧ r.2.mem ((c.tc : Thread Cert.PhgrnReferenceIdeal.nD Cert.PhgrnReferenceIdeal.τ).loc Cert.PhgrnReferenceIdeal.main_arg1) = m ((c.tc : Thread Cert.PhgrnReferenceIdeal.nD Cert.PhgrnReferenceIdeal.τ).loc Cert.PhgrnReferenceIdeal.main_arg1)
      ∧ r.2.mem ((c.tc : Thread Cert.PhgrnReferenceIdeal.nD Cert.PhgrnReferenceIdeal.τ).loc Cert.PhgrnReferenceIdeal.main_arg2) = m ((c.tc : Thread Cert.PhgrnReferenceIdeal.nD Cert.PhgrnReferenceIdeal.τ).loc Cert.PhgrnReferenceIdeal.main_arg2))
      ∧ r.2.sem = fun _ => 0)

def quiescent_IdxprojKernel [hIdxprojKernel : Cert.IdxprojKernel.Facts] : Prop :=
  ∀ (m : (ℓ : Loc Cert.IdxprojKernel.nD Cert.IdxprojKernel.τ Cert.IdxprojKernel.sig) → Buf (Elt Bits) ℓ) (g : Dev Cert.IdxprojKernel.nD → PrngReg), Pre_IdxprojKernel m →
    θ_run (Cert.IdxprojKernel.defs (F := Bits)) (onTc (τ := Cert.IdxprojKernel.τ) (Cert.IdxprojKernel.main (F := Bits))) ⟨m, fun _ => 0, g⟩ (fun r => (∀ c : Dev Cert.IdxprojKernel.nD,
      r.2.mem ((c.tc : Thread Cert.IdxprojKernel.nD Cert.IdxprojKernel.τ).loc Cert.IdxprojKernel.main_arg0) = m ((c.tc : Thread Cert.IdxprojKernel.nD Cert.IdxprojKernel.τ).loc Cert.IdxprojKernel.main_arg0)
      ∧ r.2.mem ((c.tc : Thread Cert.IdxprojKernel.nD Cert.IdxprojKernel.τ).loc Cert.IdxprojKernel.main_arg1) = m ((c.tc : Thread Cert.IdxprojKernel.nD Cert.IdxprojKernel.τ).loc Cert.IdxprojKernel.main_arg1)
      ∧ r.2.mem ((c.tc : Thread Cert.IdxprojKernel.nD Cert.IdxprojKernel.τ).loc Cert.IdxprojKernel.main_arg2) = m ((c.tc : Thread Cert.IdxprojKernel.nD Cert.IdxprojKernel.τ).loc Cert.IdxprojKernel.main_arg2)
      ∧ r.2.mem ((c.tc : Thread Cert.IdxprojKernel.nD Cert.IdxprojKernel.τ).loc Cert.IdxprojKernel.main_arg3) = m ((c.tc : Thread Cert.IdxprojKernel.nD Cert.IdxprojKernel.τ).loc Cert.IdxprojKernel.main_arg3))
      ∧ r.2.sem = fun _ => 0)

def quiescent_IdxprojKernelIdeal [hIdxprojKernelIdeal : Cert.IdxprojKernelIdeal.Facts] : Prop :=
  ∀ (m : (ℓ : Loc Cert.IdxprojKernelIdeal.nD Cert.IdxprojKernelIdeal.τ Cert.IdxprojKernelIdeal.sig) → Buf (Elt Ideal) ℓ) (g : Dev Cert.IdxprojKernelIdeal.nD → PrngReg), Pre_IdxprojKernelIdeal m →
    θ_run (Cert.IdxprojKernelIdeal.defs (F := Ideal)) (onTc (τ := Cert.IdxprojKernelIdeal.τ) (Cert.IdxprojKernelIdeal.main (F := Ideal))) ⟨m, fun _ => 0, g⟩ (fun r => (∀ c : Dev Cert.IdxprojKernelIdeal.nD,
      r.2.mem ((c.tc : Thread Cert.IdxprojKernelIdeal.nD Cert.IdxprojKernelIdeal.τ).loc Cert.IdxprojKernelIdeal.main_arg0) = m ((c.tc : Thread Cert.IdxprojKernelIdeal.nD Cert.IdxprojKernelIdeal.τ).loc Cert.IdxprojKernelIdeal.main_arg0)
      ∧ r.2.mem ((c.tc : Thread Cert.IdxprojKernelIdeal.nD Cert.IdxprojKernelIdeal.τ).loc Cert.IdxprojKernelIdeal.main_arg1) = m ((c.tc : Thread Cert.IdxprojKernelIdeal.nD Cert.IdxprojKernelIdeal.τ).loc Cert.IdxprojKernelIdeal.main_arg1)
      ∧ r.2.mem ((c.tc : Thread Cert.IdxprojKernelIdeal.nD Cert.IdxprojKernelIdeal.τ).loc Cert.IdxprojKernelIdeal.main_arg2) = m ((c.tc : Thread Cert.IdxprojKernelIdeal.nD Cert.IdxprojKernelIdeal.τ).loc Cert.IdxprojKernelIdeal.main_arg2)
      ∧ r.2.mem ((c.tc : Thread Cert.IdxprojKernelIdeal.nD Cert.IdxprojKernelIdeal.τ).loc Cert.IdxprojKernelIdeal.main_arg3) = m ((c.tc : Thread Cert.IdxprojKernelIdeal.nD Cert.IdxprojKernelIdeal.τ).loc Cert.IdxprojKernelIdeal.main_arg3))
      ∧ r.2.sem = fun _ => 0)

def quiescent_IdxprojReferenceIdeal [hIdxprojReferenceIdeal : Cert.IdxprojReferenceIdeal.Facts] : Prop :=
  ∀ (m : (ℓ : Loc Cert.IdxprojReferenceIdeal.nD Cert.IdxprojReferenceIdeal.τ Cert.IdxprojReferenceIdeal.sig) → Buf (Elt Ideal) ℓ) (g : Dev Cert.IdxprojReferenceIdeal.nD → PrngReg), Pre_IdxprojReferenceIdeal m →
    θ_run (Cert.IdxprojReferenceIdeal.defs (F := Ideal)) (onTc (τ := Cert.IdxprojReferenceIdeal.τ) (Cert.IdxprojReferenceIdeal.main (F := Ideal))) ⟨m, fun _ => 0, g⟩ (fun r => (∀ c : Dev Cert.IdxprojReferenceIdeal.nD,
      r.2.mem ((c.tc : Thread Cert.IdxprojReferenceIdeal.nD Cert.IdxprojReferenceIdeal.τ).loc Cert.IdxprojReferenceIdeal.main_arg0) = m ((c.tc : Thread Cert.IdxprojReferenceIdeal.nD Cert.IdxprojReferenceIdeal.τ).loc Cert.IdxprojReferenceIdeal.main_arg0)
      ∧ r.2.mem ((c.tc : Thread Cert.IdxprojReferenceIdeal.nD Cert.IdxprojReferenceIdeal.τ).loc Cert.IdxprojReferenceIdeal.main_arg1) = m ((c.tc : Thread Cert.IdxprojReferenceIdeal.nD Cert.IdxprojReferenceIdeal.τ).loc Cert.IdxprojReferenceIdeal.main_arg1)
      ∧ r.2.mem ((c.tc : Thread Cert.IdxprojReferenceIdeal.nD Cert.IdxprojReferenceIdeal.τ).loc Cert.IdxprojReferenceIdeal.main_arg2) = m ((c.tc : Thread Cert.IdxprojReferenceIdeal.nD Cert.IdxprojReferenceIdeal.τ).loc Cert.IdxprojReferenceIdeal.main_arg2)
      ∧ r.2.mem ((c.tc : Thread Cert.IdxprojReferenceIdeal.nD Cert.IdxprojReferenceIdeal.τ).loc Cert.IdxprojReferenceIdeal.main_arg3) = m ((c.tc : Thread Cert.IdxprojReferenceIdeal.nD Cert.IdxprojReferenceIdeal.τ).loc Cert.IdxprojReferenceIdeal.main_arg3))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_OutprojKernel [hOutprojKernel : Cert.OutprojKernel.Facts] : Prop :=
  ∀ (m : (ℓ : Loc Cert.OutprojKernel.nD Cert.OutprojKernel.τ Cert.OutprojKernel.sig) → Buf (Elt Bits) ℓ) (g : Dev Cert.OutprojKernel.nD → PrngReg), Pre_OutprojKernel m →
    θ_run (Cert.OutprojKernel.defs (F := Bits)) (onTc (τ := Cert.OutprojKernel.τ) (Cert.OutprojKernel.main (F := Bits))) ⟨m, fun _ => 0, g⟩ (fun r => (∀ c : Dev Cert.OutprojKernel.nD,
      r.2.mem ((c.tc : Thread Cert.OutprojKernel.nD Cert.OutprojKernel.τ).loc Cert.OutprojKernel.main_arg0) = m ((c.tc : Thread Cert.OutprojKernel.nD Cert.OutprojKernel.τ).loc Cert.OutprojKernel.main_arg0)
      ∧ r.2.mem ((c.tc : Thread Cert.OutprojKernel.nD Cert.OutprojKernel.τ).loc Cert.OutprojKernel.main_arg1) = m ((c.tc : Thread Cert.OutprojKernel.nD Cert.OutprojKernel.τ).loc Cert.OutprojKernel.main_arg1)
      ∧ r.2.mem ((c.tc : Thread Cert.OutprojKernel.nD Cert.OutprojKernel.τ).loc Cert.OutprojKernel.main_arg2) = m ((c.tc : Thread Cert.OutprojKernel.nD Cert.OutprojKernel.τ).loc Cert.OutprojKernel.main_arg2)
      ∧ r.2.mem ((c.tc : Thread Cert.OutprojKernel.nD Cert.OutprojKernel.τ).loc Cert.OutprojKernel.main_arg3) = m ((c.tc : Thread Cert.OutprojKernel.nD Cert.OutprojKernel.τ).loc Cert.OutprojKernel.main_arg3)
      ∧ r.2.mem ((c.tc : Thread Cert.OutprojKernel.nD Cert.OutprojKernel.τ).loc Cert.OutprojKernel.main_arg4) = m ((c.tc : Thread Cert.OutprojKernel.nD Cert.OutprojKernel.τ).loc Cert.OutprojKernel.main_arg4)
      ∧ r.2.mem ((c.tc : Thread Cert.OutprojKernel.nD Cert.OutprojKernel.τ).loc Cert.OutprojKernel.main_arg5) = m ((c.tc : Thread Cert.OutprojKernel.nD Cert.OutprojKernel.τ).loc Cert.OutprojKernel.main_arg5)
      ∧ r.2.mem ((c.tc : Thread Cert.OutprojKernel.nD Cert.OutprojKernel.τ).loc Cert.OutprojKernel.main_arg6) = m ((c.tc : Thread Cert.OutprojKernel.nD Cert.OutprojKernel.τ).loc Cert.OutprojKernel.main_arg6)
      ∧ r.2.mem ((c.tc : Thread Cert.OutprojKernel.nD Cert.OutprojKernel.τ).loc Cert.OutprojKernel.main_arg7) = m ((c.tc : Thread Cert.OutprojKernel.nD Cert.OutprojKernel.τ).loc Cert.OutprojKernel.main_arg7))
      ∧ r.2.sem = fun _ => 0)

def quiescent_OutprojKernelIdeal [hOutprojKernelIdeal : Cert.OutprojKernelIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
      ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
      ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
      ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
      ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7))
      ∧ r.2.sem = fun _ => 0)

def preserves_HgrnKernel_HgrnKernelIdeal : Prop :=
  True

def algebraic_HgrnKernelIdeal_HgrnReferenceIdeal_pre_hgrn_finite [hHgrnKernelIdeal : Cert.HgrnKernelIdeal.Facts] [hHgrnReferenceIdeal : Cert.HgrnReferenceIdeal.Facts] [hPre_hgrn_finite : Cert.Pre_hgrn_finite.Facts] : Prop :=
  ∀ (m : (ℓ : Loc Cert.HgrnKernelIdeal.nD Cert.HgrnKernelIdeal.τ Cert.HgrnKernelIdeal.sig) → Buf (Elt Ideal) ℓ) (g : Dev Cert.HgrnKernelIdeal.nD → PrngReg)
    (m' : (ℓ : Loc Cert.HgrnReferenceIdeal.nD Cert.HgrnReferenceIdeal.τ Cert.HgrnReferenceIdeal.sig) → Buf (Elt Ideal) ℓ) (g' : Dev Cert.HgrnReferenceIdeal.nD → PrngReg), Pre_HgrnKernelIdeal_hgrn_finite m →
    (∀ c : Dev Cert.HgrnKernelIdeal.nD,
      m' ((c.tc : Thread Cert.HgrnReferenceIdeal.nD Cert.HgrnReferenceIdeal.τ).loc Cert.HgrnReferenceIdeal.main_arg0) = m ((c.tc : Thread Cert.HgrnKernelIdeal.nD Cert.HgrnKernelIdeal.τ).loc Cert.HgrnKernelIdeal.main_arg0)
      ∧ m' ((c.tc : Thread Cert.HgrnReferenceIdeal.nD Cert.HgrnReferenceIdeal.τ).loc Cert.HgrnReferenceIdeal.main_arg1) = m ((c.tc : Thread Cert.HgrnKernelIdeal.nD Cert.HgrnKernelIdeal.τ).loc Cert.HgrnKernelIdeal.main_arg1)
      ∧ m' ((c.tc : Thread Cert.HgrnReferenceIdeal.nD Cert.HgrnReferenceIdeal.τ).loc Cert.HgrnReferenceIdeal.main_arg2) = m ((c.tc : Thread Cert.HgrnKernelIdeal.nD Cert.HgrnKernelIdeal.τ).loc Cert.HgrnKernelIdeal.main_arg2)
      ∧ m' ((c.tc : Thread Cert.HgrnReferenceIdeal.nD Cert.HgrnReferenceIdeal.τ).loc Cert.HgrnReferenceIdeal.main_arg3) = m ((c.tc : Thread Cert.HgrnKernelIdeal.nD Cert.HgrnKernelIdeal.τ).loc Cert.HgrnKernelIdeal.main_arg3)
      ∧ m' ((c.tc : Thread Cert.HgrnReferenceIdeal.nD Cert.HgrnReferenceIdeal.τ).loc Cert.HgrnReferenceIdeal.main_arg4) = m ((c.tc : Thread Cert.HgrnKernelIdeal.nD Cert.HgrnKernelIdeal.τ).loc Cert.HgrnKernelIdeal.main_arg4)
      ∧ m' ((c.tc : Thread Cert.HgrnReferenceIdeal.nD Cert.HgrnReferenceIdeal.τ).loc Cert.HgrnReferenceIdeal.main_arg5) = m ((c.tc : Thread Cert.HgrnKernelIdeal.nD Cert.HgrnKernelIdeal.τ).loc Cert.HgrnKernelIdeal.main_arg5)
      ∧ m' ((c.tc : Thread Cert.HgrnReferenceIdeal.nD Cert.HgrnReferenceIdeal.τ).loc Cert.HgrnReferenceIdeal.main_arg6) = m ((c.tc : Thread Cert.HgrnKernelIdeal.nD Cert.HgrnKernelIdeal.τ).loc Cert.HgrnKernelIdeal.main_arg6)) →
    ∃ (v0 : (c : Dev Cert.HgrnKernelIdeal.nD) → Buf (Elt Ideal) ((c.tc : Thread Cert.HgrnKernelIdeal.nD Cert.HgrnKernelIdeal.τ).loc Cert.HgrnKernelIdeal.main_v7_0)) (v1 : (c : Dev Cert.HgrnKernelIdeal.nD) → Buf (Elt Ideal) ((c.tc : Thread Cert.HgrnKernelIdeal.nD Cert.HgrnKernelIdeal.τ).loc Cert.HgrnKernelIdeal.main_v7_1)),
      θ_run (Cert.HgrnKernelIdeal.defs (F := Ideal)) (onTc (τ := Cert.HgrnKernelIdeal.τ) (Cert.HgrnKernelIdeal.main (F := Ideal))) ⟨m, fun _ => 0, g⟩ (fun r => ∀ c : Dev Cert.HgrnKernelIdeal.nD,
          r.2.mem ((c.tc : Thread Cert.HgrnKernelIdeal.nD Cert.HgrnKernelIdeal.τ).loc Cert.HgrnKernelIdeal.main_v7_0) = v0 c
          ∧ r.2.mem ((c.tc : Thread Cert.HgrnKernelIdeal.nD Cert.HgrnKernelIdeal.τ).loc Cert.HgrnKernelIdeal.main_v7_1) = v1 c
          ∧ r.2.mem ((c.tc : Thread Cert.HgrnKernelIdeal.nD Cert.HgrnKernelIdeal.τ).loc Cert.HgrnKernelIdeal.main_arg0) = m ((c.tc : Thread Cert.HgrnKernelIdeal.nD Cert.HgrnKernelIdeal.τ).loc Cert.HgrnKernelIdeal.main_arg0)
          ∧ r.2.mem ((c.tc : Thread Cert.HgrnKernelIdeal.nD Cert.HgrnKernelIdeal.τ).loc Cert.HgrnKernelIdeal.main_arg1) = m ((c.tc : Thread Cert.HgrnKernelIdeal.nD Cert.HgrnKernelIdeal.τ).loc Cert.HgrnKernelIdeal.main_arg1)
          ∧ r.2.mem ((c.tc : Thread Cert.HgrnKernelIdeal.nD Cert.HgrnKernelIdeal.τ).loc Cert.HgrnKernelIdeal.main_arg2) = m ((c.tc : Thread Cert.HgrnKernelIdeal.nD Cert.HgrnKernelIdeal.τ).loc Cert.HgrnKernelIdeal.main_arg2)
          ∧ r.2.mem ((c.tc : Thread Cert.HgrnKernelIdeal.nD Cert.HgrnKernelIdeal.τ).loc Cert.HgrnKernelIdeal.main_arg3) = m ((c.tc : Thread Cert.HgrnKernelIdeal.nD Cert.HgrnKernelIdeal.τ).loc Cert.HgrnKernelIdeal.main_arg3)
          ∧ r.2.mem ((c.tc : Thread Cert.HgrnKernelIdeal.nD Cert.HgrnKernelIdeal.τ).loc Cert.HgrnKernelIdeal.main_arg4) = m ((c.tc : Thread Cert.HgrnKernelIdeal.nD Cert.HgrnKernelIdeal.τ).loc Cert.HgrnKernelIdeal.main_arg4)
          ∧ r.2.mem ((c.tc : Thread Cert.HgrnKernelIdeal.nD Cert.HgrnKernelIdeal.τ).loc Cert.HgrnKernelIdeal.main_arg5) = m ((c.tc : Thread Cert.HgrnKernelIdeal.nD Cert.HgrnKernelIdeal.τ).loc Cert.HgrnKernelIdeal.main_arg5)
          ∧ r.2.mem ((c.tc : Thread Cert.HgrnKernelIdeal.nD Cert.HgrnKernelIdeal.τ).loc Cert.HgrnKernelIdeal.main_arg6) = m ((c.tc : Thread Cert.HgrnKernelIdeal.nD Cert.HgrnKernelIdeal.τ).loc Cert.HgrnKernelIdeal.main_arg6))
      ∧ θ_run (Cert.HgrnReferenceIdeal.defs (F := Ideal)) (onTc (τ := Cert.HgrnReferenceIdeal.τ) (Cert.HgrnReferenceIdeal.main (F := Ideal))) ⟨m', fun _ => 0, g'⟩ (fun r => ∀ c : Dev Cert.HgrnReferenceIdeal.nD,
          r.2.mem ((c.tc : Thread Cert.HgrnReferenceIdeal.nD Cert.HgrnReferenceIdeal.τ).loc Cert.HgrnReferenceIdeal.main_v69) = v0 c
          ∧ r.2.mem ((c.tc : Thread Cert.HgrnReferenceIdeal.nD Cert.HgrnReferenceIdeal.τ).loc Cert.HgrnReferenceIdeal.main_v89) = v1 c
          ∧ r.2.mem ((c.tc : Thread Cert.HgrnReferenceIdeal.nD Cert.HgrnReferenceIdeal.τ).loc Cert.HgrnReferenceIdeal.main_arg0) = m' ((c.tc : Thread Cert.HgrnReferenceIdeal.nD Cert.HgrnReferenceIdeal.τ).loc Cert.HgrnReferenceIdeal.main_arg0)
          ∧ r.2.mem ((c.tc : Thread Cert.HgrnReferenceIdeal.nD Cert.HgrnReferenceIdeal.τ).loc Cert.HgrnReferenceIdeal.main_arg1) = m' ((c.tc : Thread Cert.HgrnReferenceIdeal.nD Cert.HgrnReferenceIdeal.τ).loc Cert.HgrnReferenceIdeal.main_arg1)
          ∧ r.2.mem ((c.tc : Thread Cert.HgrnReferenceIdeal.nD Cert.HgrnReferenceIdeal.τ).loc Cert.HgrnReferenceIdeal.main_arg2) = m' ((c.tc : Thread Cert.HgrnReferenceIdeal.nD Cert.HgrnReferenceIdeal.τ).loc Cert.HgrnReferenceIdeal.main_arg2)
          ∧ r.2.mem ((c.tc : Thread Cert.HgrnReferenceIdeal.nD Cert.HgrnReferenceIdeal.τ).loc Cert.HgrnReferenceIdeal.main_arg3) = m' ((c.tc : Thread Cert.HgrnReferenceIdeal.nD Cert.HgrnReferenceIdeal.τ).loc Cert.HgrnReferenceIdeal.main_arg3)
          ∧ r.2.mem ((c.tc : Thread Cert.HgrnReferenceIdeal.nD Cert.HgrnReferenceIdeal.τ).loc Cert.HgrnReferenceIdeal.main_arg4) = m' ((c.tc : Thread Cert.HgrnReferenceIdeal.nD Cert.HgrnReferenceIdeal.τ).loc Cert.HgrnReferenceIdeal.main_arg4)
          ∧ r.2.mem ((c.tc : Thread Cert.HgrnReferenceIdeal.nD Cert.HgrnReferenceIdeal.τ).loc Cert.HgrnReferenceIdeal.main_arg5) = m' ((c.tc : Thread Cert.HgrnReferenceIdeal.nD Cert.HgrnReferenceIdeal.τ).loc Cert.HgrnReferenceIdeal.main_arg5)
          ∧ r.2.mem ((c.tc : Thread Cert.HgrnReferenceIdeal.nD Cert.HgrnReferenceIdeal.τ).loc Cert.HgrnReferenceIdeal.main_arg6) = m' ((c.tc : Thread Cert.HgrnReferenceIdeal.nD Cert.HgrnReferenceIdeal.τ).loc Cert.HgrnReferenceIdeal.main_arg6))

def preserves_ScoresKernel_ScoresKernelIdeal : Prop :=
  True

def algebraic_ScoresKernelIdeal_ScoresReferenceIdeal [hScoresKernelIdeal : Cert.ScoresKernelIdeal.Facts] [hScoresReferenceIdeal : Cert.ScoresReferenceIdeal.Facts] [hPre_pages_in_pool : Cert.Pre_pages_in_pool.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresKernelIdeal m →
    (∀ c : Dev Cert.ScoresKernelIdeal.nD,
      m' ((c.tc : Thread Cert.ScoresReferenceIdeal.nD Cert.ScoresReferenceIdeal.τ).loc Cert.ScoresReferenceIdeal.main_arg0) = m ((c.tc : Thread Cert.ScoresKernelIdeal.nD Cert.ScoresKernelIdeal.τ).loc Cert.ScoresKernelIdeal.main_arg0)
      ∧ m' ((c.tc : Thread Cert.ScoresReferenceIdeal.nD Cert.ScoresReferenceIdeal.τ).loc Cert.ScoresReferenceIdeal.main_arg1) = m ((c.tc : Thread Cert.ScoresKernelIdeal.nD Cert.ScoresKernelIdeal.τ).loc Cert.ScoresKernelIdeal.main_arg1)
      ∧ m' ((c.tc : Thread Cert.ScoresReferenceIdeal.nD Cert.ScoresReferenceIdeal.τ).loc Cert.ScoresReferenceIdeal.main_arg2) = m ((c.tc : Thread Cert.ScoresKernelIdeal.nD Cert.ScoresKernelIdeal.τ).loc Cert.ScoresKernelIdeal.main_arg2)
      ∧ m' ((c.tc : Thread Cert.ScoresReferenceIdeal.nD Cert.ScoresReferenceIdeal.τ).loc Cert.ScoresReferenceIdeal.main_arg3) = m ((c.tc : Thread Cert.ScoresKernelIdeal.nD Cert.ScoresKernelIdeal.τ).loc Cert.ScoresKernelIdeal.main_arg3)) →
    ∃ (v0 : (c : Dev Cert.ScoresKernelIdeal.nD) → Buf (Elt Ideal) ((c.tc : Thread Cert.ScoresKernelIdeal.nD Cert.ScoresKernelIdeal.τ).loc Cert.ScoresKernelIdeal.main_v1)),
      θ_run (Cert.ScoresKernelIdeal.defs (F := Ideal)) (onTc (τ := Cert.ScoresKernelIdeal.τ) (Cert.ScoresKernelIdeal.main (F := Ideal))) ⟨m, fun _ => 0, g⟩ (fun r => ∀ c : Dev Cert.ScoresKernelIdeal.nD,
          r.2.mem ((c.tc : Thread Cert.ScoresKernelIdeal.nD Cert.ScoresKernelIdeal.τ).loc Cert.ScoresKernelIdeal.main_v1) = v0 c
          ∧ r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0)
          ∧ r.2.mem ((c.tc : Thread Cert.ScoresKernelIdeal.nD Cert.ScoresKernelIdeal.τ).loc Cert.ScoresKernelIdeal.main_arg1) = m ((c.tc : Thread Cert.ScoresKernelIdeal.nD Cert.ScoresKernelIdeal.τ).loc Cert.ScoresKernelIdeal.main_arg1)
          ∧ r.2.mem ((c.tc : Thread Cert.ScoresKernelIdeal.nD Cert.ScoresKernelIdeal.τ).loc Cert.ScoresKernelIdeal.main_arg2) = m ((c.tc : Thread Cert.ScoresKernelIdeal.nD Cert.ScoresKernelIdeal.τ).loc Cert.ScoresKernelIdeal.main_arg2)
          ∧ r.2.mem ((c.tc : Thread Cert.ScoresKernelIdeal.nD Cert.ScoresKernelIdeal.τ).loc Cert.ScoresKernelIdeal.main_arg3) = m ((c.tc : Thread Cert.ScoresKernelIdeal.nD Cert.ScoresKernelIdeal.τ).loc Cert.ScoresKernelIdeal.main_arg3))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v19) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3))

def preserves_PhgrnKernel_PhgrnKernelIdeal : Prop :=
  True

def algebraic_PhgrnKernelIdeal_PhgrnReferenceIdeal_pre_phgrn_finite [hPhgrnKernelIdeal : Cert.PhgrnKernelIdeal.Facts] [hPhgrnReferenceIdeal : Cert.PhgrnReferenceIdeal.Facts] [hPre_phgrn_finite : Cert.Pre_phgrn_finite.Facts] : Prop :=
  ∀ (m : (ℓ : Loc Cert.PhgrnKernelIdeal.nD Cert.PhgrnKernelIdeal.τ Cert.PhgrnKernelIdeal.sig) → Buf (Elt Ideal) ℓ) (g : Dev Cert.PhgrnKernelIdeal.nD → PrngReg)
    (m' : (ℓ : Loc Cert.PhgrnReferenceIdeal.nD Cert.PhgrnReferenceIdeal.τ Cert.PhgrnReferenceIdeal.sig) → Buf (Elt Ideal) ℓ) (g' : Dev Cert.PhgrnReferenceIdeal.nD → PrngReg), Pre_PhgrnKernelIdeal_phgrn_finite m →
    (∀ c : Dev Cert.PhgrnKernelIdeal.nD,
      m' ((c.tc : Thread Cert.PhgrnReferenceIdeal.nD Cert.PhgrnReferenceIdeal.τ).loc Cert.PhgrnReferenceIdeal.main_arg0) = m ((c.tc : Thread Cert.PhgrnKernelIdeal.nD Cert.PhgrnKernelIdeal.τ).loc Cert.PhgrnKernelIdeal.main_arg0)
      ∧ m' ((c.tc : Thread Cert.PhgrnReferenceIdeal.nD Cert.PhgrnReferenceIdeal.τ).loc Cert.PhgrnReferenceIdeal.main_arg1) = m ((c.tc : Thread Cert.PhgrnKernelIdeal.nD Cert.PhgrnKernelIdeal.τ).loc Cert.PhgrnKernelIdeal.main_arg1)
      ∧ m' ((c.tc : Thread Cert.PhgrnReferenceIdeal.nD Cert.PhgrnReferenceIdeal.τ).loc Cert.PhgrnReferenceIdeal.main_arg2) = m ((c.tc : Thread Cert.PhgrnKernelIdeal.nD Cert.PhgrnKernelIdeal.τ).loc Cert.PhgrnKernelIdeal.main_arg2)) →
    ∃ (v0 : (c : Dev Cert.PhgrnKernelIdeal.nD) → Buf (Elt Ideal) ((c.tc : Thread Cert.PhgrnKernelIdeal.nD Cert.PhgrnKernelIdeal.τ).loc Cert.PhgrnKernelIdeal.main_v43)),
      θ_run (Cert.PhgrnKernelIdeal.defs (F := Ideal)) (onTc (τ := Cert.PhgrnKernelIdeal.τ) (Cert.PhgrnKernelIdeal.main (F := Ideal))) ⟨m, fun _ => 0, g⟩ (fun r => ∀ c : Dev Cert.PhgrnKernelIdeal.nD,
          r.2.mem ((c.tc : Thread Cert.PhgrnKernelIdeal.nD Cert.PhgrnKernelIdeal.τ).loc Cert.PhgrnKernelIdeal.main_v43) = v0 c
          ∧ r.2.mem ((c.tc : Thread Cert.PhgrnKernelIdeal.nD Cert.PhgrnKernelIdeal.τ).loc Cert.PhgrnKernelIdeal.main_arg0) = m ((c.tc : Thread Cert.PhgrnKernelIdeal.nD Cert.PhgrnKernelIdeal.τ).loc Cert.PhgrnKernelIdeal.main_arg0)
          ∧ r.2.mem ((c.tc : Thread Cert.PhgrnKernelIdeal.nD Cert.PhgrnKernelIdeal.τ).loc Cert.PhgrnKernelIdeal.main_arg1) = m ((c.tc : Thread Cert.PhgrnKernelIdeal.nD Cert.PhgrnKernelIdeal.τ).loc Cert.PhgrnKernelIdeal.main_arg1)
          ∧ r.2.mem ((c.tc : Thread Cert.PhgrnKernelIdeal.nD Cert.PhgrnKernelIdeal.τ).loc Cert.PhgrnKernelIdeal.main_arg2) = m ((c.tc : Thread Cert.PhgrnKernelIdeal.nD Cert.PhgrnKernelIdeal.τ).loc Cert.PhgrnKernelIdeal.main_arg2))
      ∧ θ_run (Cert.PhgrnReferenceIdeal.defs (F := Ideal)) (onTc (τ := Cert.PhgrnReferenceIdeal.τ) (Cert.PhgrnReferenceIdeal.main (F := Ideal))) ⟨m', fun _ => 0, g'⟩ (fun r => ∀ c : Dev Cert.PhgrnReferenceIdeal.nD,
          r.2.mem ((c.tc : Thread Cert.PhgrnReferenceIdeal.nD Cert.PhgrnReferenceIdeal.τ).loc Cert.PhgrnReferenceIdeal.main_v54) = v0 c
          ∧ r.2.mem ((c.tc : Thread Cert.PhgrnReferenceIdeal.nD Cert.PhgrnReferenceIdeal.τ).loc Cert.PhgrnReferenceIdeal.main_arg0) = m' ((c.tc : Thread Cert.PhgrnReferenceIdeal.nD Cert.PhgrnReferenceIdeal.τ).loc Cert.PhgrnReferenceIdeal.main_arg0)
          ∧ r.2.mem ((c.tc : Thread Cert.PhgrnReferenceIdeal.nD Cert.PhgrnReferenceIdeal.τ).loc Cert.PhgrnReferenceIdeal.main_arg1) = m' ((c.tc : Thread Cert.PhgrnReferenceIdeal.nD Cert.PhgrnReferenceIdeal.τ).loc Cert.PhgrnReferenceIdeal.main_arg1)
          ∧ r.2.mem ((c.tc : Thread Cert.PhgrnReferenceIdeal.nD Cert.PhgrnReferenceIdeal.τ).loc Cert.PhgrnReferenceIdeal.main_arg2) = m' ((c.tc : Thread Cert.PhgrnReferenceIdeal.nD Cert.PhgrnReferenceIdeal.τ).loc Cert.PhgrnReferenceIdeal.main_arg2))

def preserves_IdxprojKernel_IdxprojKernelIdeal : Prop :=
  True

def algebraic_IdxprojKernelIdeal_IdxprojReferenceIdeal [hIdxprojKernelIdeal : Cert.IdxprojKernelIdeal.Facts] [hIdxprojReferenceIdeal : Cert.IdxprojReferenceIdeal.Facts] : Prop :=
  ∀ (m : (ℓ : Loc Cert.IdxprojKernelIdeal.nD Cert.IdxprojKernelIdeal.τ Cert.IdxprojKernelIdeal.sig) → Buf (Elt Ideal) ℓ) (g : Dev Cert.IdxprojKernelIdeal.nD → PrngReg)
    (m' : (ℓ : Loc Cert.IdxprojReferenceIdeal.nD Cert.IdxprojReferenceIdeal.τ Cert.IdxprojReferenceIdeal.sig) → Buf (Elt Ideal) ℓ) (g' : Dev Cert.IdxprojReferenceIdeal.nD → PrngReg), Pre_IdxprojKernelIdeal m →
    (∀ c : Dev Cert.IdxprojKernelIdeal.nD,
      m' ((c.tc : Thread Cert.IdxprojReferenceIdeal.nD Cert.IdxprojReferenceIdeal.τ).loc Cert.IdxprojReferenceIdeal.main_arg0) = m ((c.tc : Thread Cert.IdxprojKernelIdeal.nD Cert.IdxprojKernelIdeal.τ).loc Cert.IdxprojKernelIdeal.main_arg0)
      ∧ m' ((c.tc : Thread Cert.IdxprojReferenceIdeal.nD Cert.IdxprojReferenceIdeal.τ).loc Cert.IdxprojReferenceIdeal.main_arg1) = m ((c.tc : Thread Cert.IdxprojKernelIdeal.nD Cert.IdxprojKernelIdeal.τ).loc Cert.IdxprojKernelIdeal.main_arg1)
      ∧ m' ((c.tc : Thread Cert.IdxprojReferenceIdeal.nD Cert.IdxprojReferenceIdeal.τ).loc Cert.IdxprojReferenceIdeal.main_arg2) = m ((c.tc : Thread Cert.IdxprojKernelIdeal.nD Cert.IdxprojKernelIdeal.τ).loc Cert.IdxprojKernelIdeal.main_arg2)
      ∧ m' ((c.tc : Thread Cert.IdxprojReferenceIdeal.nD Cert.IdxprojReferenceIdeal.τ).loc Cert.IdxprojReferenceIdeal.main_arg3) = m ((c.tc : Thread Cert.IdxprojKernelIdeal.nD Cert.IdxprojKernelIdeal.τ).loc Cert.IdxprojKernelIdeal.main_arg3)) →
    ∃ (v0 : (c : Dev Cert.IdxprojKernelIdeal.nD) → Buf (Elt Ideal) ((c.tc : Thread Cert.IdxprojKernelIdeal.nD Cert.IdxprojKernelIdeal.τ).loc Cert.IdxprojKernelIdeal.main_v11)) (v1 : (c : Dev Cert.IdxprojKernelIdeal.nD) → Buf (Elt Ideal) ((c.tc : Thread Cert.IdxprojKernelIdeal.nD Cert.IdxprojKernelIdeal.τ).loc Cert.IdxprojKernelIdeal.main_v13)) (v2 : (c : Dev Cert.IdxprojKernelIdeal.nD) → Buf (Elt Ideal) ((c.tc : Thread Cert.IdxprojKernelIdeal.nD Cert.IdxprojKernelIdeal.τ).loc Cert.IdxprojKernelIdeal.main_v12)),
      θ_run (Cert.IdxprojKernelIdeal.defs (F := Ideal)) (onTc (τ := Cert.IdxprojKernelIdeal.τ) (Cert.IdxprojKernelIdeal.main (F := Ideal))) ⟨m, fun _ => 0, g⟩ (fun r => ∀ c : Dev Cert.IdxprojKernelIdeal.nD,
          r.2.mem ((c.tc : Thread Cert.IdxprojKernelIdeal.nD Cert.IdxprojKernelIdeal.τ).loc Cert.IdxprojKernelIdeal.main_v11) = v0 c
          ∧ r.2.mem ((c.tc : Thread Cert.IdxprojKernelIdeal.nD Cert.IdxprojKernelIdeal.τ).loc Cert.IdxprojKernelIdeal.main_v13) = v1 c
          ∧ r.2.mem ((c.tc : Thread Cert.IdxprojKernelIdeal.nD Cert.IdxprojKernelIdeal.τ).loc Cert.IdxprojKernelIdeal.main_v12) = v2 c
          ∧ r.2.mem ((c.tc : Thread Cert.IdxprojKernelIdeal.nD Cert.IdxprojKernelIdeal.τ).loc Cert.IdxprojKernelIdeal.main_arg0) = m ((c.tc : Thread Cert.IdxprojKernelIdeal.nD Cert.IdxprojKernelIdeal.τ).loc Cert.IdxprojKernelIdeal.main_arg0)
          ∧ r.2.mem ((c.tc : Thread Cert.IdxprojKernelIdeal.nD Cert.IdxprojKernelIdeal.τ).loc Cert.IdxprojKernelIdeal.main_arg1) = m ((c.tc : Thread Cert.IdxprojKernelIdeal.nD Cert.IdxprojKernelIdeal.τ).loc Cert.IdxprojKernelIdeal.main_arg1)
          ∧ r.2.mem ((c.tc : Thread Cert.IdxprojKernelIdeal.nD Cert.IdxprojKernelIdeal.τ).loc Cert.IdxprojKernelIdeal.main_arg2) = m ((c.tc : Thread Cert.IdxprojKernelIdeal.nD Cert.IdxprojKernelIdeal.τ).loc Cert.IdxprojKernelIdeal.main_arg2)
          ∧ r.2.mem ((c.tc : Thread Cert.IdxprojKernelIdeal.nD Cert.IdxprojKernelIdeal.τ).loc Cert.IdxprojKernelIdeal.main_arg3) = m ((c.tc : Thread Cert.IdxprojKernelIdeal.nD Cert.IdxprojKernelIdeal.τ).loc Cert.IdxprojKernelIdeal.main_arg3))
      ∧ θ_run (Cert.IdxprojReferenceIdeal.defs (F := Ideal)) (onTc (τ := Cert.IdxprojReferenceIdeal.τ) (Cert.IdxprojReferenceIdeal.main (F := Ideal))) ⟨m', fun _ => 0, g'⟩ (fun r => ∀ c : Dev Cert.IdxprojReferenceIdeal.nD,
          r.2.mem ((c.tc : Thread Cert.IdxprojReferenceIdeal.nD Cert.IdxprojReferenceIdeal.τ).loc Cert.IdxprojReferenceIdeal.main_v30) = v0 c
          ∧ r.2.mem ((c.tc : Thread Cert.IdxprojReferenceIdeal.nD Cert.IdxprojReferenceIdeal.τ).loc Cert.IdxprojReferenceIdeal.main_v31) = v1 c
          ∧ r.2.mem ((c.tc : Thread Cert.IdxprojReferenceIdeal.nD Cert.IdxprojReferenceIdeal.τ).loc Cert.IdxprojReferenceIdeal.main_v32) = v2 c
          ∧ r.2.mem ((c.tc : Thread Cert.IdxprojReferenceIdeal.nD Cert.IdxprojReferenceIdeal.τ).loc Cert.IdxprojReferenceIdeal.main_arg0) = m' ((c.tc : Thread Cert.IdxprojReferenceIdeal.nD Cert.IdxprojReferenceIdeal.τ).loc Cert.IdxprojReferenceIdeal.main_arg0)
          ∧ r.2.mem ((c.tc : Thread Cert.IdxprojReferenceIdeal.nD Cert.IdxprojReferenceIdeal.τ).loc Cert.IdxprojReferenceIdeal.main_arg1) = m' ((c.tc : Thread Cert.IdxprojReferenceIdeal.nD Cert.IdxprojReferenceIdeal.τ).loc Cert.IdxprojReferenceIdeal.main_arg1)
          ∧ r.2.mem ((c.tc : Thread Cert.IdxprojReferenceIdeal.nD Cert.IdxprojReferenceIdeal.τ).loc Cert.IdxprojReferenceIdeal.main_arg2) = m' ((c.tc : Thread Cert.IdxprojReferenceIdeal.nD Cert.IdxprojReferenceIdeal.τ).loc Cert.IdxprojReferenceIdeal.main_arg2)
          ∧ r.2.mem ((c.tc : Thread Cert.IdxprojReferenceIdeal.nD Cert.IdxprojReferenceIdeal.τ).loc Cert.IdxprojReferenceIdeal.main_arg3) = m' ((c.tc : Thread Cert.IdxprojReferenceIdeal.nD Cert.IdxprojReferenceIdeal.τ).loc Cert.IdxprojReferenceIdeal.main_arg3))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)) →
    ∃ (v0 : (c : Dev Cert.InprojKernelIdeal.nD) → Buf (Elt Ideal) ((c.tc : Thread Cert.InprojKernelIdeal.nD Cert.InprojKernelIdeal.τ).loc Cert.InprojKernelIdeal.main_v31)) (v1 : (c : Dev Cert.InprojKernelIdeal.nD) → Buf (Elt Ideal) ((c.tc : Thread Cert.InprojKernelIdeal.nD Cert.InprojKernelIdeal.τ).loc Cert.InprojKernelIdeal.main_v33)) (v2 : (c : Dev Cert.InprojKernelIdeal.nD) → Buf (Elt Ideal) ((c.tc : Thread Cert.InprojKernelIdeal.nD Cert.InprojKernelIdeal.τ).loc Cert.InprojKernelIdeal.main_v35)) (v3 : (c : Dev Cert.InprojKernelIdeal.nD) → Buf (Elt Ideal) ((c.tc : Thread Cert.InprojKernelIdeal.nD Cert.InprojKernelIdeal.τ).loc Cert.InprojKernelIdeal.main_v37)) (v4 : (c : Dev Cert.InprojKernelIdeal.nD) → Buf (Elt Ideal) ((c.tc : Thread Cert.InprojKernelIdeal.nD Cert.InprojKernelIdeal.τ).loc Cert.InprojKernelIdeal.main_v39)) (v5 : (c : Dev Cert.InprojKernelIdeal.nD) → Buf (Elt Ideal) ((c.tc : Thread Cert.InprojKernelIdeal.nD Cert.InprojKernelIdeal.τ).loc Cert.InprojKernelIdeal.main_v41)) (v6 : (c : Dev Cert.InprojKernelIdeal.nD) → Buf (Elt Ideal) ((c.tc : Thread Cert.InprojKernelIdeal.nD Cert.InprojKernelIdeal.τ).loc Cert.InprojKernelIdeal.main_v42)) (v7 : (c : Dev Cert.InprojKernelIdeal.nD) → Buf (Elt Ideal) ((c.tc : Thread Cert.InprojKernelIdeal.nD Cert.InprojKernelIdeal.τ).loc Cert.InprojKernelIdeal.main_v43)) (v8 : (c : Dev Cert.InprojKernelIdeal.nD) → Buf (Elt Ideal) ((c.tc : Thread Cert.InprojKernelIdeal.nD Cert.InprojKernelIdeal.τ).loc Cert.InprojKernelIdeal.main_v44)) (v9 : (c : Dev Cert.InprojKernelIdeal.nD) → Buf (Elt Ideal) ((c.tc : Thread Cert.InprojKernelIdeal.nD Cert.InprojKernelIdeal.τ).loc Cert.InprojKernelIdeal.main_v45)) (v10 : (c : Dev Cert.InprojKernelIdeal.nD) → Buf (Elt Ideal) ((c.tc : Thread Cert.InprojKernelIdeal.nD Cert.InprojKernelIdeal.τ).loc Cert.InprojKernelIdeal.main_v46)) (v11 : (c : Dev Cert.InprojKernelIdeal.nD) → Buf (Elt Ideal) ((c.tc : Thread Cert.InprojKernelIdeal.nD Cert.InprojKernelIdeal.τ).loc Cert.InprojKernelIdeal.main_v47)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v31) = v0 c
          ∧ r.2.mem ((c.tc : Thread Cert.InprojKernelIdeal.nD Cert.InprojKernelIdeal.τ).loc Cert.InprojKernelIdeal.main_v33) = v1 c
          ∧ r.2.mem ((c.tc : Thread Cert.InprojKernelIdeal.nD Cert.InprojKernelIdeal.τ).loc Cert.InprojKernelIdeal.main_v35) = v2 c
          ∧ r.2.mem ((c.tc : Thread Cert.InprojKernelIdeal.nD Cert.InprojKernelIdeal.τ).loc Cert.InprojKernelIdeal.main_v37) = v3 c
          ∧ r.2.mem ((c.tc : Thread Cert.InprojKernelIdeal.nD Cert.InprojKernelIdeal.τ).loc Cert.InprojKernelIdeal.main_v39) = v4 c
          ∧ r.2.mem ((c.tc : Thread Cert.InprojKernelIdeal.nD Cert.InprojKernelIdeal.τ).loc Cert.InprojKernelIdeal.main_v41) = v5 c
          ∧ r.2.mem ((c.tc : Thread Cert.InprojKernelIdeal.nD Cert.InprojKernelIdeal.τ).loc Cert.InprojKernelIdeal.main_v42) = v6 c
          ∧ r.2.mem ((c.tc : Thread Cert.InprojKernelIdeal.nD Cert.InprojKernelIdeal.τ).loc Cert.InprojKernelIdeal.main_v43) = v7 c
          ∧ r.2.mem ((c.tc : Thread Cert.InprojKernelIdeal.nD Cert.InprojKernelIdeal.τ).loc Cert.InprojKernelIdeal.main_v44) = v8 c
          ∧ r.2.mem ((c.tc : Thread Cert.InprojKernelIdeal.nD Cert.InprojKernelIdeal.τ).loc Cert.InprojKernelIdeal.main_v45) = v9 c
          ∧ r.2.mem ((c.tc : Thread Cert.InprojKernelIdeal.nD Cert.InprojKernelIdeal.τ).loc Cert.InprojKernelIdeal.main_v46) = v10 c
          ∧ r.2.mem ((c.tc : Thread Cert.InprojKernelIdeal.nD Cert.InprojKernelIdeal.τ).loc Cert.InprojKernelIdeal.main_v47) = v11 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v65) = v0 c
          ∧ r.2.mem ((c.tc : Thread Cert.InprojReferenceIdeal.nD Cert.InprojReferenceIdeal.τ).loc Cert.InprojReferenceIdeal.main_v66) = v1 c
          ∧ r.2.mem ((c.tc : Thread Cert.InprojReferenceIdeal.nD Cert.InprojReferenceIdeal.τ).loc Cert.InprojReferenceIdeal.main_v67) = v2 c
          ∧ r.2.mem ((c.tc : Thread Cert.InprojReferenceIdeal.nD Cert.InprojReferenceIdeal.τ).loc Cert.InprojReferenceIdeal.main_v68) = v3 c
          ∧ r.2.mem ((c.tc : Thread Cert.InprojReferenceIdeal.nD Cert.InprojReferenceIdeal.τ).loc Cert.InprojReferenceIdeal.main_v69) = v4 c
          ∧ r.2.mem ((c.tc : Thread Cert.InprojReferenceIdeal.nD Cert.InprojReferenceIdeal.τ).loc Cert.InprojReferenceIdeal.main_v70) = v5 c
          ∧ r.2.mem ((c.tc : Thread Cert.InprojReferenceIdeal.nD Cert.InprojReferenceIdeal.τ).loc Cert.InprojReferenceIdeal.main_v71) = v6 c
          ∧ r.2.mem ((c.tc : Thread Cert.InprojReferenceIdeal.nD Cert.InprojReferenceIdeal.τ).loc Cert.InprojReferenceIdeal.main_v72) = v7 c
          ∧ r.2.mem ((c.tc : Thread Cert.InprojReferenceIdeal.nD Cert.InprojReferenceIdeal.τ).loc Cert.InprojReferenceIdeal.main_v73) = v8 c
          ∧ r.2.mem ((c.tc : Thread Cert.InprojReferenceIdeal.nD Cert.InprojReferenceIdeal.τ).loc Cert.InprojReferenceIdeal.main_v74) = v9 c
          ∧ r.2.mem ((c.tc : Thread Cert.InprojReferenceIdeal.nD Cert.InprojReferenceIdeal.τ).loc Cert.InprojReferenceIdeal.main_v76) = v10 c
          ∧ r.2.mem ((c.tc : Thread Cert.InprojReferenceIdeal.nD Cert.InprojReferenceIdeal.τ).loc Cert.InprojReferenceIdeal.main_v78) = v11 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v10)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v36) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_OutprojKernel_OutprojKernelIdeal : Prop :=
  True

def algebraic_OutprojKernelIdeal_OutprojReferenceIdeal [hOutprojKernelIdeal : Cert.OutprojKernelIdeal.Facts] [hOutprojReferenceIdeal : Cert.OutprojReferenceIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojKernelIdeal m →
    (∀ c : Dev Cert.OutprojKernelIdeal.nD,
      m' ((c.tc : Thread Cert.OutprojReferenceIdeal.nD Cert.OutprojReferenceIdeal.τ).loc Cert.OutprojReferenceIdeal.main_arg0) = m ((c.tc : Thread Cert.OutprojKernelIdeal.nD Cert.OutprojKernelIdeal.τ).loc Cert.OutprojKernelIdeal.main_arg0)
      ∧ m' ((c.tc : Thread Cert.OutprojReferenceIdeal.nD Cert.OutprojReferenceIdeal.τ).loc Cert.OutprojReferenceIdeal.main_arg1) = m ((c.tc : Thread Cert.OutprojKernelIdeal.nD Cert.OutprojKernelIdeal.τ).loc Cert.OutprojKernelIdeal.main_arg1)
      ∧ m' ((c.tc : Thread Cert.OutprojReferenceIdeal.nD Cert.OutprojReferenceIdeal.τ).loc Cert.OutprojReferenceIdeal.main_arg2) = m ((c.tc : Thread Cert.OutprojKernelIdeal.nD Cert.OutprojKernelIdeal.τ).loc Cert.OutprojKernelIdeal.main_arg2)
      ∧ m' ((c.tc : Thread Cert.OutprojReferenceIdeal.nD Cert.OutprojReferenceIdeal.τ).loc Cert.OutprojReferenceIdeal.main_arg3) = m ((c.tc : Thread Cert.OutprojKernelIdeal.nD Cert.OutprojKernelIdeal.τ).loc Cert.OutprojKernelIdeal.main_arg3)
      ∧ m' ((c.tc : Thread Cert.OutprojReferenceIdeal.nD Cert.OutprojReferenceIdeal.τ).loc Cert.OutprojReferenceIdeal.main_arg4) = m ((c.tc : Thread Cert.OutprojKernelIdeal.nD Cert.OutprojKernelIdeal.τ).loc Cert.OutprojKernelIdeal.main_arg4)
      ∧ m' ((c.tc : Thread Cert.OutprojReferenceIdeal.nD Cert.OutprojReferenceIdeal.τ).loc Cert.OutprojReferenceIdeal.main_arg5) = m ((c.tc : Thread Cert.OutprojKernelIdeal.nD Cert.OutprojKernelIdeal.τ).loc Cert.OutprojKernelIdeal.main_arg5)
      ∧ m' ((c.tc : Thread Cert.OutprojReferenceIdeal.nD Cert.OutprojReferenceIdeal.τ).loc Cert.OutprojReferenceIdeal.main_arg6) = m ((c.tc : Thread Cert.OutprojKernelIdeal.nD Cert.OutprojKernelIdeal.τ).loc Cert.OutprojKernelIdeal.main_arg6)
      ∧ m' ((c.tc : Thread Cert.OutprojReferenceIdeal.nD Cert.OutprojReferenceIdeal.τ).loc Cert.OutprojReferenceIdeal.main_arg7) = m ((c.tc : Thread Cert.OutprojKernelIdeal.nD Cert.OutprojKernelIdeal.τ).loc Cert.OutprojKernelIdeal.main_arg7)) →
    ∃ (v0 : (c : Dev Cert.OutprojKernelIdeal.nD) → Buf (Elt Ideal) ((c.tc : Thread Cert.OutprojKernelIdeal.nD Cert.OutprojKernelIdeal.τ).loc Cert.OutprojKernelIdeal.main_v10)),
      θ_run (Cert.OutprojKernelIdeal.defs (F := Ideal)) (onTc (τ := Cert.OutprojKernelIdeal.τ) (Cert.OutprojKernelIdeal.main (F := Ideal))) ⟨m, fun _ => 0, g⟩ (fun r => ∀ c : Dev Cert.OutprojKernelIdeal.nD,
          r.2.mem ((c.tc : Thread Cert.OutprojKernelIdeal.nD Cert.OutprojKernelIdeal.τ).loc Cert.OutprojKernelIdeal.main_v10) = v0 c
          ∧ r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
          ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
          ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
          ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
          ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
          ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
          ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
          ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v57) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7))

def Claim : Prop :=
  ∃ (hHgrnKernel : Cert.HgrnKernel.Facts) (hHgrnKernelIdeal : Cert.HgrnKernelIdeal.Facts) (hHgrnReferenceIdeal : Cert.HgrnReferenceIdeal.Facts) (hScoresKernel : Cert.ScoresKernel.Facts) (hScoresKernelIdeal : Cert.ScoresKernelIdeal.Facts) (hScoresReferenceIdeal : Cert.ScoresReferenceIdeal.Facts) (hPhgrnKernel : Cert.PhgrnKernel.Facts) (hPhgrnKernelIdeal : Cert.PhgrnKernelIdeal.Facts) (hPhgrnReferenceIdeal : Cert.PhgrnReferenceIdeal.Facts) (hIdxprojKernel : Cert.IdxprojKernel.Facts) (hIdxprojKernelIdeal : Cert.IdxprojKernelIdeal.Facts) (hIdxprojReferenceIdeal : Cert.IdxprojReferenceIdeal.Facts) (hInprojKernel : Cert.InprojKernel.Facts) (hInprojKernelIdeal : Cert.InprojKernelIdeal.Facts) (hInprojReferenceIdeal : Cert.InprojReferenceIdeal.Facts) (hFfnKernel : Cert.FfnKernel.Facts) (hFfnKernelIdeal : Cert.FfnKernelIdeal.Facts) (hFfnReferenceIdeal : Cert.FfnReferenceIdeal.Facts) (hOutprojKernel : Cert.OutprojKernel.Facts) (hOutprojKernelIdeal : Cert.OutprojKernelIdeal.Facts) (hOutprojReferenceIdeal : Cert.OutprojReferenceIdeal.Facts) (hPre_hgrn_finite : Cert.Pre_hgrn_finite.Facts) (hPre_pages_in_pool : Cert.Pre_pages_in_pool.Facts) (hPre_phgrn_finite : Cert.Pre_phgrn_finite.Facts),
    quiescent_HgrnKernel (hHgrnKernel := hHgrnKernel)
    ∧ quiescent_HgrnKernelIdeal (hHgrnKernelIdeal := hHgrnKernelIdeal)
    ∧ quiescent_HgrnKernelIdeal_pre_hgrn_finite (hHgrnKernelIdeal := hHgrnKernelIdeal) (hPre_hgrn_finite := hPre_hgrn_finite)
    ∧ quiescent_HgrnReferenceIdeal (hHgrnReferenceIdeal := hHgrnReferenceIdeal)
    ∧ quiescent_HgrnReferenceIdeal_pre_hgrn_finite (hHgrnReferenceIdeal := hHgrnReferenceIdeal) (hPre_hgrn_finite := hPre_hgrn_finite)
    ∧ quiescent_ScoresKernel (hScoresKernel := hScoresKernel) (hPre_pages_in_pool := hPre_pages_in_pool)
    ∧ quiescent_ScoresKernelIdeal (hScoresKernelIdeal := hScoresKernelIdeal) (hPre_pages_in_pool := hPre_pages_in_pool)
    ∧ quiescent_ScoresReferenceIdeal (hScoresReferenceIdeal := hScoresReferenceIdeal)
    ∧ quiescent_ScoresReferenceIdeal_pre_pages_in_pool (hScoresReferenceIdeal := hScoresReferenceIdeal) (hPre_pages_in_pool := hPre_pages_in_pool)
    ∧ quiescent_PhgrnKernel (hPhgrnKernel := hPhgrnKernel)
    ∧ quiescent_PhgrnKernelIdeal (hPhgrnKernelIdeal := hPhgrnKernelIdeal)
    ∧ quiescent_PhgrnKernelIdeal_pre_phgrn_finite (hPhgrnKernelIdeal := hPhgrnKernelIdeal) (hPre_phgrn_finite := hPre_phgrn_finite)
    ∧ quiescent_PhgrnReferenceIdeal (hPhgrnReferenceIdeal := hPhgrnReferenceIdeal)
    ∧ quiescent_PhgrnReferenceIdeal_pre_phgrn_finite (hPhgrnReferenceIdeal := hPhgrnReferenceIdeal) (hPre_phgrn_finite := hPre_phgrn_finite)
    ∧ quiescent_IdxprojKernel (hIdxprojKernel := hIdxprojKernel)
    ∧ quiescent_IdxprojKernelIdeal (hIdxprojKernelIdeal := hIdxprojKernelIdeal)
    ∧ quiescent_IdxprojReferenceIdeal (hIdxprojReferenceIdeal := hIdxprojReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_OutprojKernel (hOutprojKernel := hOutprojKernel)
    ∧ quiescent_OutprojKernelIdeal (hOutprojKernelIdeal := hOutprojKernelIdeal)
    ∧ quiescent_OutprojReferenceIdeal (hOutprojReferenceIdeal := hOutprojReferenceIdeal)
    ∧ preserves_HgrnKernel_HgrnKernelIdeal
    ∧ algebraic_HgrnKernelIdeal_HgrnReferenceIdeal_pre_hgrn_finite (hHgrnKernelIdeal := hHgrnKernelIdeal) (hHgrnReferenceIdeal := hHgrnReferenceIdeal) (hPre_hgrn_finite := hPre_hgrn_finite)
    ∧ preserves_ScoresKernel_ScoresKernelIdeal
    ∧ algebraic_ScoresKernelIdeal_ScoresReferenceIdeal (hScoresKernelIdeal := hScoresKernelIdeal) (hScoresReferenceIdeal := hScoresReferenceIdeal) (hPre_pages_in_pool := hPre_pages_in_pool)
    ∧ preserves_PhgrnKernel_PhgrnKernelIdeal
    ∧ algebraic_PhgrnKernelIdeal_PhgrnReferenceIdeal_pre_phgrn_finite (hPhgrnKernelIdeal := hPhgrnKernelIdeal) (hPhgrnReferenceIdeal := hPhgrnReferenceIdeal) (hPre_phgrn_finite := hPre_phgrn_finite)
    ∧ preserves_IdxprojKernel_IdxprojKernelIdeal
    ∧ algebraic_IdxprojKernelIdeal_IdxprojReferenceIdeal (hIdxprojKernelIdeal := hIdxprojKernelIdeal) (hIdxprojReferenceIdeal := hIdxprojReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_OutprojKernel_OutprojKernelIdeal
    ∧ algebraic_OutprojKernelIdeal_OutprojReferenceIdeal (hOutprojKernelIdeal := hOutprojKernelIdeal) (hOutprojReferenceIdeal := hOutprojReferenceIdeal)
-- ==== Pre_hgrn_finite.lean ====
abbrev S1x32x8x128x128 : Shape := ⟨5, ![1, 32, 8, 128, 128]⟩
abbrev S32x1024 : Shape := ⟨2, ![32, 1024]⟩
abbrev S2x1024 : Shape := ⟨2, ![2, 1024]⟩
abbrev S1x128 : Shape := ⟨2, ![1, 128]⟩
abbrev S_ : Shape := ⟨0, ![]⟩

class Facts : Prop where
  bcast_S_S1x32x8x128x128 : S_.BroadcastsInDim S1x32x8x128x128 (![] : Fin 0 → Fin S1x32x8x128x128.rank)
  bcast_S_S32x1024 : S_.BroadcastsInDim S32x1024 (![] : Fin 0 → Fin S32x1024.rank)
  bcast_S_S2x1024 : S_.BroadcastsInDim S2x1024 (![] : Fin 0 → Fin S2x1024.rank)

variable [Facts]

def fn {F : FTy → Type} [FloatOps F] (main_arg0 : FVec F S1x32x8x128x128 .f32) (main_arg1 : FVec F S32x1024 .f32) (main_arg2 : FVec F S32x1024 .f32) (main_arg3 : FVec F S32x1024 .f32) (main_arg4 : FVec F S32x1024 .f32) (main_arg5 : FVec F S2x1024 .f32) (main_arg6 : FVec F S1x128 .f32) : IVec S1x32x8x128x128 1 × IVec S32x1024 1 × IVec S32x1024 1 × IVec S32x1024 1 × IVec S2x1024 1 :=
  let main_v0 : FVec F S1x32x8x128x128 .f32 := Host.absf main_arg0
  let main_cst : FVec F S_ .f32 := constant S_ .f32 0x7F800000#32
  let main_v1 : FVec F S1x32x8x128x128 .f32 := broadcastInDim S1x32x8x128x128 ![] bcast_S_S1x32x8x128x128 main_cst
  let main_v2 : IVec S1x32x8x128x128 1 := cmpf .olt main_v0 main_v1
  let main_v3 : FVec F S32x1024 .f32 := Host.absf main_arg1
  let main_cst_0 : FVec F S_ .f32 := constant S_ .f32 0x7F800000#32
  let main_v4 : FVec F S32x1024 .f32 := broadcastInDim S32x1024 ![] bcast_S_S32x1024 main_cst_0
  let main_v5 : IVec S32x1024 1 := cmpf .olt main_v3 main_v4
  let main_v6 : FVec F S32x1024 .f32 := Host.absf main_arg2
  let main_cst_1 : FVec F S_ .f32 := constant S_ .f32 0x7F800000#32
  let main_v7 : FVec F S32x1024 .f32 := broadcastInDim S32x1024 ![] bcast_S_S32x1024 main_cst_1
  let main_v8 : IVec S32x1024 1 := cmpf .olt main_v6 main_v7
  let main_v9 : FVec F S32x1024 .f32 := Host.absf main_arg3
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_v12 : FVec F S2x1024 .f32 := Host.absf main_arg5
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  (main_v2, main_v5, main_v8, main_v11, main_v14)
-- ==== Pre_pages_in_pool.lean ====
abbrev S32x64 : Shape := ⟨2, ![32, 64]⟩
abbrev S32x8x64 : Shape := ⟨3, ![32, 8, 64]⟩
abbrev S32x8 : Shape := ⟨2, ![32, 8]⟩
abbrev S1x2560x128x64 : Shape := ⟨4, ![1, 2560, 128, 64]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S32x8x64 .f32) (main_arg2 : FVec F S32x8 .f32) (main_arg3 : FVec F S1x2560x128x64 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  let main_v4 : IVec S32x64 1 := andi main_v1 main_v3
  main_v4
-- ==== Pre_phgrn_finite.lean ====
abbrev S8640x6912 : Shape := ⟨2, ![8640, 6912]⟩
abbrev S2x1024 : Shape := ⟨2, ![2, 1024]⟩
abbrev S1x128 : Shape := ⟨2, ![1, 128]⟩
abbrev S_ : Shape := ⟨0, ![]⟩

class Facts : Prop where
  bcast_S_S8640x6912 : S_.BroadcastsInDim S8640x6912 (![] : Fin 0 → Fin S8640x6912.rank)
  bcast_S_S2x1024 : S_.BroadcastsInDim S2x1024 (![] : Fin 0 → Fin S2x1024.rank)

variable [Facts]

def fn {F : FTy → Type} [FloatOps F] (main_arg0 : FVec F S8640x6912 .f32) (main_arg1 : FVec F S2x1024 .f32) (main_arg2 : FVec F S1x128 .f32) : IVec S8640x6912 1 × IVec S2x1024 1 :=
  let main_v0 : FVec F S8640x6912 .f32 := Host.absf main_arg0
  let main_cst : FVec F S_ .f32 := constant S_ .f32 0x7F800000#32
  let main_v1 : FVec F S8640x6912 .f32 := broadcastInDim S8640x6912 ![] bcast_S_S8640x6912 main_cst
  let main_v2 : IVec S8640x6912 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  (main_v2, main_v5)
-- ==== HgrnKernel.lean ====
abbrev S1x32x8x128x128 : Shape := ⟨5, ![1, 32, 8, 128, 128]⟩
abbrev S32x1024 : Shape := ⟨2, ![32, 1024]⟩
abbrev S2x1024 : Shape := ⟨2, ![2, 1024]⟩
abbrev S1x128 : Shape := ⟨2, ![1, 128]⟩
abbrev S128 : Shape := ⟨1, ![128]⟩
abbrev S32x8x128x1 : Shape := ⟨4, ![32, 8, 128, 1]⟩
abbrev S32x8x1x128 : Shape := ⟨4, ![32, 8, 1, 128]⟩
abbrev S2x8x128x1 : Shape := ⟨4, ![2, 8, 128, 1]⟩
abbrev S32x8x128x128 : Shape := ⟨4, ![32, 8, 128, 128]⟩
abbrev S1x1x8x128x128 : Shape := ⟨5, ![1, 1, 8, 128, 128]⟩
abbrev S1x8x128x1 : Shape := ⟨4, ![1, 8, 128, 1]⟩
abbrev S1x8x1x128 : Shape := ⟨4, ![1, 8, 1, 128]⟩
abbrev S1x8x128x128 : Shape := ⟨4, ![1, 8, 128, 128]⟩
abbrev S8x128x1 : Shape := ⟨3, ![8, 128, 1]⟩
abbrev S1x1x1x128x128 : Shape := ⟨5, ![1, 1, 1, 128, 128]⟩
abbrev S128x128 : Shape := ⟨2, ![128, 128]⟩
abbrev S1x128x1 : Shape := ⟨3, ![1, 128, 1]⟩
abbrev S128x1 : Shape := ⟨2, ![128, 1]⟩
abbrev S1x1x1x128 : Shape := ⟨4, ![1, 1, 1, 128]⟩
abbrev S1x1x128x128 : Shape := ⟨4, ![1, 1, 128, 128]⟩
abbrev S1 : Shape := ⟨1, ![1]⟩
abbrev S1x1 : Shape := ⟨2, ![1, 1]⟩

abbrev nBuf : Space → Nat
  | .hbm => 16
  | .vmem => 16
  | .smem => 0
  | _ => 0

abbrev bufTy : (tb : Table) → Fin (tcTables nBuf tb) → BufTy
  | .hbm, ⟨0, _⟩ => ⟨S1x32x8x128x128, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S2x1024, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S32x8x128x1, .f32⟩
  | .hbm, ⟨10, _⟩ => ⟨S32x8x128x1, .f32⟩
  | .hbm, ⟨11, _⟩ => ⟨S32x8x1x128, .f32⟩
  | .hbm, ⟨12, _⟩ => ⟨S32x8x1x128, .f32⟩
  | .hbm, ⟨13, _⟩ => ⟨S2x8x128x1, .f32⟩
  | .hbm, ⟨14, _⟩ => ⟨S32x8x128x128, .f32⟩
  | .hbm, ⟨15, _⟩ => ⟨S32x8x1x128, .bf16⟩
  | .local _ .vmem, ⟨0, _⟩ => ⟨S1x1x8x128x128, .f32⟩
  | .local _ .vmem, ⟨1, _⟩ => ⟨S1x1x8x128x128, .f32⟩
  | .local _ .vmem, ⟨2, _⟩ => ⟨S1x8x128x1, .f32⟩
  | .local _ .vmem, ⟨3, _⟩ => ⟨S1x8x128x1, .f32⟩
  | .local _ .vmem, ⟨4, _⟩ => ⟨S1x8x128x1, .f32⟩
  | .local _ .vmem, ⟨5, _⟩ => ⟨S1x8x128x1, .f32⟩
  | .local _ .vmem, ⟨6, _⟩ => ⟨S1x8x1x128, .f32⟩
  | .local _ .vmem, ⟨7, _⟩ => ⟨S1x8x1x128, .f32⟩
  | .local _ .vmem, ⟨8, _⟩ => ⟨S1x8x1x128, .f32⟩
  | .local _ .vmem, ⟨9, _⟩ => ⟨S1x8x1x128, .f32⟩
  | .local _ .vmem, ⟨10, _⟩ => ⟨S2x8x128x1, .f32⟩
  | .local _ .vmem, ⟨11, _⟩ => ⟨S1x128, .f32⟩
  | .local _ .vmem, ⟨12, _⟩ => ⟨S1x8x128x128, .f32⟩
  | .local _ .vmem, ⟨13, _⟩ => ⟨S1x8x128x128, .f32⟩
  | .local _ .vmem, ⟨14, _⟩ => ⟨S1x8x1x128, .bf16⟩
  | .local _ .vmem, ⟨15, _⟩ => ⟨S1x8x1x128, .bf16⟩
  | _, _ => ⟨S1x32x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgrnReferenceIdeal.lean ====
abbrev S1x32x8x128x128 : Shape := ⟨5, ![1, 32, 8, 128, 128]⟩
abbrev S32x1024 : Shape := ⟨2, ![32, 1024]⟩
abbrev S2x1024 : Shape := ⟨2, ![2, 1024]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S32x1x1024 : Shape := ⟨3, ![32, 1, 1024]⟩
abbrev S1x1x1024 : Shape := ⟨3, ![1, 1, 1024]⟩
abbrev S32x1x8x128 : Shape := ⟨4, ![32, 1, 8, 128]⟩
abbrev S32x8x128x128 : Shape := ⟨4, ![32, 8, 128, 128]⟩
abbrev S1x1 : Shape := ⟨2, ![1, 1]⟩
abbrev S1x1x1x1x1 : Shape := ⟨5, ![1, 1, 1, 1, 1]⟩
abbrev S32x1x1x8x128 : Shape := ⟨5, ![32, 1, 1, 8, 128]⟩
abbrev S32x8x1x1 : Shape := ⟨4, ![32, 8, 1, 1]⟩
abbrev S32x8x128x1 : Shape := ⟨4, ![32, 8, 128, 1]⟩
abbrev S32x8x128 : Shape := ⟨3, ![32, 8, 128]⟩
abbrev S32x1x8 : Shape := ⟨3, ![32, 1, 8]⟩
abbrev S32x1x8x1 : Shape := ⟨4, ![32, 1, 8, 1]⟩
abbrev S128 : Shape := ⟨1, ![128]⟩
abbrev S1x1x1x128 : Shape := ⟨4, ![1, 1, 1, 128]⟩
abbrev S32x8x1x128 : Shape := ⟨4, ![32, 8, 1, 128]⟩

abbrev nBuf : Space → Nat
  | .hbm => 140
  | .vmem => 0
  | .smem => 0
  | _ => 0

abbrev hbmTy0_0 (i : Nat) : BufTy := match i % 128 with
  | 0 => ⟨S1x32x8x128x128, .f32⟩
  | 1 => ⟨S32x1024, .f32⟩
  | 2 => ⟨S32x1024, .f32⟩
  | 3 => ⟨S32x1024, .f32⟩
  | 4 => ⟨S32x1024, .f32⟩
  | 5 => ⟨S2x1024, .f32⟩
  | 6 => ⟨S1x128, .f32⟩
  | 7 => ⟨S_, .f32⟩
  | 8 => ⟨S1024, .f32⟩
  | 9 => ⟨S_, .f32⟩
  | 10 => ⟨S1024, .f32⟩
  | 11 => ⟨S1024, .f32⟩
  | 12 => ⟨S1x1024, .f32⟩
  | 13 => ⟨S2x1024, .f32⟩
  | 14 => ⟨S2x1024, .f32⟩
  | 15 => ⟨S2x1024, .f32⟩
  | 16 => ⟨S_, .f32⟩
  | 17 => ⟨S1024, .f32⟩
  | 18 => ⟨S1x1024, .f32⟩
  | 19 => ⟨S2x1024, .f32⟩
  | 20 => ⟨S2x1024, .f32⟩
  | 21 => ⟨S_, .f32⟩
  | 22 => ⟨S_, .f32⟩
  | 23 => ⟨S2x1024, .f32⟩
  | 24 => ⟨S1x1024, .f32⟩
  | 25 => ⟨S1024, .f32⟩
  | 26 => ⟨S_, .f32⟩
  | 27 => ⟨S1024, .f32⟩
  | 28 => ⟨S1024, .f32⟩
  | 29 => ⟨S32x1x1024, .f32⟩
  | 30 => ⟨S32x1x1024, .f32⟩
  | 31 => ⟨S32x1x1024, .f32⟩
  | 32 => ⟨S_, .f32⟩
  | 33 => ⟨S32x1x1024, .f32⟩
  | 34 => ⟨S32x1x1024, .f32⟩
  | 35 => ⟨S_, .f32⟩
  | 36 => ⟨S32x1x1024, .f32⟩
  | 37 => ⟨S32x1x1024, .f32⟩
  | 38 => ⟨S1x1x1024, .f32⟩
  | 39 => ⟨S32x1x1024, .f32⟩
  | 40 => ⟨S32x1x1024, .f32⟩
  | 41 => ⟨S1x1x1024, .f32⟩
  | 42 => ⟨S32x1x1024, .f32⟩
  | 43 => ⟨S32x1x1024, .f32⟩
  | 44 => ⟨S32x1x1024, .f32⟩
  | 45 => ⟨S32x1x8x128, .f32⟩
  | 46 => ⟨S_, .f32⟩
  | 47 => ⟨S32x1x1024, .f32⟩
  | 48 => ⟨S32x1x1024, .f32⟩
  | 49 => ⟨S32x1x8x128, .f32⟩
  | 50 => ⟨S32x1x1024, .f32⟩
  | 51 => ⟨S32x1x1024, .f32⟩
  | 52 => ⟨S32x1x1024, .f32⟩
  | 53 => ⟨S_, .f32⟩
  | 54 => ⟨S32x1x1024, .f32⟩
  | 55 => ⟨S32x1x1024, .f32⟩
  | 56 => ⟨S_, .f32⟩
  | 57 => ⟨S32x1x1024, .f32⟩
  | 58 => ⟨S32x1x1024, .f32⟩
  | 59 => ⟨S32x1x1024, .f32⟩
  | 60 => ⟨S32x1x8x128, .f32⟩
  | 61 => ⟨S32x1x8x128, .f32⟩
  | 62 => ⟨S32x8x128x128, .f32⟩
  | 63 => ⟨S_, .f32⟩
  | 64 => ⟨S_, .f32⟩
  | 65 => ⟨S32x1x8x128, .f32⟩
  | 66 => ⟨S_, .i1⟩
  | 67 => ⟨S1x1, .i1⟩
  | 68 => ⟨S1x1, .i32⟩
  | 69 => ⟨S_, .i32⟩
  | 70 => ⟨S1x1, .i32⟩
  | 71 => ⟨S1x1, .i32⟩
  | 72 => ⟨S1x1, .i32⟩
  | 73 => ⟨S1x1, .i1⟩
  | 74 => ⟨S_, .i1⟩
  | 75 => ⟨S1x1, .i1⟩
  | 76 => ⟨S1x1, .i1⟩
  | 77 => ⟨S1x1x1x1x1, .i1⟩
  | 78 => ⟨S32x1x1x8x128, .f32⟩
  | 79 => ⟨S32x1x1x8x128, .f32⟩
  | 80 => ⟨S32x1x1x8x128, .f32⟩
  | 81 => ⟨S_, .f32⟩
  | 82 => ⟨S_, .f32⟩
  | 83 => ⟨S32x1x1x8x128, .i1⟩
  | 84 => ⟨S32x1x1x8x128, .f32⟩
  | 85 => ⟨S32x1x1x8x128, .f32⟩
  | 86 => ⟨S32x1x1x8x128, .f32⟩
  | 87 => ⟨S32x1x1x8x128, .f32⟩
  | 88 => ⟨S32x1x1x8x128, .f32⟩
  | 89 => ⟨S32x8x1x1, .f32⟩
  | 90 => ⟨S32x8x1x1, .f32⟩
  | 91 => ⟨S32x8x128x1, .f32⟩
  | 92 => ⟨S32x1x8x128, .f32⟩
  | 93 => ⟨S32x1x8x128, .f32⟩
  | 94 => ⟨S32x1x8x128, .f32⟩
  | 95 => ⟨S32x8x128x1, .f32⟩
  | 96 => ⟨S32x1x8x128, .f32⟩
  | 97 => ⟨S32x1x8x128, .f32⟩
  | 98 => ⟨S32x8x128, .f32⟩
  | 99 => ⟨S32x8x128, .f32⟩
  | 100 => ⟨S32x8x128x1, .f32⟩
  | 101 => ⟨S32x8x128x128, .f32⟩
  | 102 => ⟨S32x8x128x128, .f32⟩
  | 103 => ⟨S32x1x8x128, .f32⟩
  | 104 => ⟨S32x1x8x128, .f32⟩
  | 105 => ⟨S32x1x8x128, .f32⟩
  | 106 => ⟨S32x1x8x128, .f32⟩
  | 107 => ⟨S32x8x128x128, .f32⟩
  | 108 => ⟨S32x8x128x128, .f32⟩
  | 109 => ⟨S32x1x8x128, .f32⟩
  | 110 => ⟨S_, .f32⟩
  | 111 => ⟨S32x1x8, .f32⟩
  | 112 => ⟨S32x1x8x1, .f32⟩
  | 113 => ⟨S_, .f32⟩
  | 114 => ⟨S32x1x8x1, .f32⟩
  | 115 => ⟨S32x1x8x1, .f32⟩
  | 116 => ⟨S_, .f32⟩
  | 117 => ⟨S32x1x8x1, .f32⟩
  | 118 => ⟨S32x1x8x1, .f32⟩
  | 119 => ⟨S32x1x8x1, .f32⟩
  | 120 => ⟨S32x1x8x128, .f32⟩
  | 121 => ⟨S32x1x8x128, .f32⟩
  | 122 => ⟨S128, .f32⟩
  | 123 => ⟨S1x1x1x128, .f32⟩
  | 124 => ⟨S32x1x8x128, .f32⟩
  | 125 => ⟨S32x1x8x128, .f32⟩
  | 126 => ⟨S32x1x1024, .f32⟩
  | 127 => ⟨S32x1x1024, .f32⟩
  | _ => ⟨S1x32x8x128x128, .f32⟩

abbrev hbmTy0_1 (i : Nat) : BufTy := match i % 128 with
  | 0 => ⟨S32x1x1024, .f32⟩
  | 1 => ⟨S32x1x1024, .f32⟩
  | 2 => ⟨S_, .f32⟩
  | 3 => ⟨S32x1x1024, .f32⟩
  | 4 => ⟨S32x1x1024, .f32⟩
  | 5 => ⟨S_, .f32⟩
  | 6 => ⟨S32x1x1024, .f32⟩
  | 7 => ⟨S32x1x1024, .f32⟩
  | 8 => ⟨S32x1x1024, .f32⟩
  | 9 => ⟨S32x1x1024, .f32⟩
  | 10 => ⟨S32x1x1024, .bf16⟩
  | 11 => ⟨S32x8x1x128, .bf16⟩
  | _ => ⟨S1x32x8x128x128, .f32⟩

abbrev hbmTy (i : Nat) : BufTy := match i / 128 with
  | 0 => hbmTy0_0 i
  | 1 => hbmTy0_1 i
  | _ => ⟨S1x32x8x128x128, .f32⟩

abbrev bufTy : (tb : Table) → Fin (tcTables nBuf tb) → BufTy
  | .hbm, ⟨i, _⟩ => hbmTy i
  | _, _ => ⟨S1x32x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_call0_cst : Ref sig .tc := ⟨.hbm, 63, rfl⟩
abbrev main_call2_call0_v0 : Ref sig .tc := ⟨.hbm, 64, rfl⟩
abbrev main_v39 : Ref sig .tc := ⟨.hbm, 65, rfl⟩
abbrev main_c : Ref sig .tc := ⟨.hbm, 66, rfl⟩
abbrev main_v40 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_c_0 : Ref sig .tc := ⟨.hbm, 74, rfl⟩
abbrev main_call3_v5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_7 : Ref sig .tc := ⟨.hbm, 110, rfl⟩
abbrev main_v71 : Ref sig .tc := ⟨.hbm, 111, rfl⟩
abbrev main_v72 : Ref sig .tc := ⟨.hbm, 112, rfl⟩
abbrev main_cst_8 : Ref sig .tc := ⟨.hbm, 113, rfl⟩
abbrev main_v73 : Ref sig .tc := ⟨.hbm, 114, rfl⟩
abbrev main_v74 : Ref sig .tc := ⟨.hbm, 115, rfl⟩
abbrev main_cst_9 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩

abbrev nD : Nat := 1
abbrev τ : Topo := Topo.v7x

variable {F : FTy → Type} [FloatOps F]
-- ==== ScoresKernel.lean ====
abbrev S32x64 : Shape := ⟨2, ![32, 64]⟩
abbrev S32x8x64 : Shape := ⟨3, ![32, 8, 64]⟩
abbrev S32x8 : Shape := ⟨2, ![32, 8]⟩
abbrev S1x2560x128x64 : Shape := ⟨4, ![1, 2560, 128, 64]⟩
abbrev S32x8x1 : Shape := ⟨3, ![32, 8, 1]⟩
abbrev S32x64x1x128 : Shape := ⟨4, ![32, 64, 1, 128]⟩
abbrev S1x8x64 : Shape := ⟨3, ![1, 8, 64]⟩
abbrev S1x8x1 : Shape := ⟨3, ![1, 8, 1]⟩
abbrev S1x1x128x64 : Shape := ⟨4, ![1, 1, 128, 64]⟩
abbrev S1x1 : Shape := ⟨2, ![1, 1]⟩
abbrev S1x8x1x128 : Shape := ⟨4, ![1, 8, 1, 128]⟩
abbrev S8x64 : Shape := ⟨2, ![8, 64]⟩
abbrev S8x1 : Shape := ⟨2, ![8, 1]⟩
abbrev S128x64 : Shape := ⟨2, ![128, 64]⟩
abbrev S8x128 : Shape := ⟨2, ![8, 128]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 5
  | .vmem => 22
  | .smem => 1
  | _ => 0

abbrev bufTy : (tb : Table) → Fin (tcTables nBuf tb) → BufTy
  | .hbm, ⟨0, _⟩ => ⟨S32x8x64, .f32⟩
  | .hbm, ⟨1, _⟩ => ⟨S32x8, .f32⟩
  | .hbm, ⟨2, _⟩ => ⟨S1x2560x128x64, .f32⟩
  | .hbm, ⟨3, _⟩ => ⟨S32x8x1, .f32⟩
  | .hbm, ⟨4, _⟩ => ⟨S32x64x1x128, .f32⟩
  | .local _ .vmem, ⟨0, _⟩ => ⟨S1x8x64, .f32⟩
  | .local _ .vmem, ⟨1, _⟩ => ⟨S1x8x64, .f32⟩
  | .local _ .vmem, ⟨2, _⟩ => ⟨S1x8x1, .f32⟩
  | .local _ .vmem, ⟨3, _⟩ => ⟨S1x8x1, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x64, .f32⟩
  | .local _ .vmem, ⟨7, _⟩ => ⟨S1x1x128x64, .f32⟩
  | .local _ .vmem, ⟨8, _⟩ => ⟨S1x1x128x64, .f32⟩
  | .local _ .vmem, ⟨9, _⟩ => ⟨S1x1x128x64, .f32⟩
  | .local _ .vmem, ⟨10, _⟩ => ⟨S1x1x128x64, .f32⟩
  | .local _ .vmem, ⟨11, _⟩ => ⟨S1x1x128x64, .f32⟩
  | .local _ .vmem, ⟨12, _⟩ => ⟨S1x1x128x64, .f32⟩
  | .local _ .vmem, ⟨13, _⟩ => ⟨S1x1x128x64, .f32⟩
  | .local _ .vmem, ⟨14, _⟩ => ⟨S1x1x128x64, .f32⟩
  | .local _ .vmem, ⟨15, _⟩ => ⟨S1x1x128x64, .f32⟩
  | .local _ .vmem, ⟨16, _⟩ => ⟨S1x1x128x64, .f32⟩
  | .local _ .vmem, ⟨17, _⟩ => ⟨S1x1x128x64, .f32⟩
  | .local _ .vmem, ⟨18, _⟩ => ⟨S1x1x128x64, .f32⟩
  | .local _ .vmem, ⟨19, _⟩ => ⟨S1x1x128x64, .f32⟩
  | .local _ .vmem, ⟨20, _⟩ => ⟨S1x8x1x128, .f32⟩
  | .local _ .vmem, ⟨21, _⟩ => ⟨S1x8x1x128, .f32⟩
  | .local _ .smem, ⟨0, _⟩ => ⟨S32x64, .i32⟩
  | _, _ => ⟨S32x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_3 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_4 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_5 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_6 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ScoresReferenceIdeal.lean ====
abbrev S32x64 : Shape := ⟨2, ![32, 64]⟩
abbrev S32x8x64 : Shape := ⟨3, ![32, 8, 64]⟩
abbrev S32x8 : Shape := ⟨2, ![32, 8]⟩
abbrev S1x2560x128x64 : Shape := ⟨4, ![1, 2560, 128, 64]⟩
abbrev S_ : Shape := ⟨0, ![]⟩
abbrev S32x64x1 : Shape := ⟨3, ![32, 64, 1]⟩
abbrev S32x64x2 : Shape := ⟨3, ![32, 64, 2]⟩
abbrev S32x64x128x64 : Shape := ⟨4, ![32, 64, 128, 64]⟩
abbrev S32x8192x64 : Shape := ⟨3, ![32, 8192, 64]⟩
abbrev S32x8x8192 : Shape := ⟨3, ![32, 8, 8192]⟩
abbrev S32x8192 : Shape := ⟨2, ![32, 8192]⟩
abbrev S32x64x1x128 : Shape := ⟨4, ![32, 64, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S32x8x64, .f32⟩
  | .hbm, ⟨2, _⟩ => ⟨S32x8, .f32⟩
  | .hbm, ⟨3, _⟩ => ⟨S1x2560x128x64, .f32⟩
  | .hbm, ⟨4, _⟩ => ⟨S_, .i32⟩
  | .hbm, ⟨5, _⟩ => ⟨S32x64, .i32⟩
  | .hbm, ⟨6, _⟩ => ⟨S32x64, .i1⟩
  | .hbm, ⟨7, _⟩ => ⟨S_, .i32⟩
  | .hbm, ⟨8, _⟩ => ⟨S32x64, .i32⟩
  | .hbm, ⟨9, _⟩ => ⟨S32x64, .i32⟩
  | .hbm, ⟨10, _⟩ => ⟨S32x64, .i32⟩
  | .hbm, ⟨11, _⟩ => ⟨S_, .i32⟩
  | .hbm, ⟨12, _⟩ => ⟨S32x64, .i32⟩
  | .hbm, ⟨13, _⟩ => ⟨S32x64, .i32⟩
  | .hbm, ⟨14, _⟩ => ⟨S32x64x1, .i32⟩
  | .hbm, ⟨15, _⟩ => ⟨S32x64x1, .i32⟩
  | .hbm, ⟨16, _⟩ => ⟨S32x64x2, .i32⟩
  | .hbm, ⟨17, _⟩ => ⟨S32x64x128x64, .f32⟩
  | .hbm, ⟨18, _⟩ => ⟨S32x8192x64, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S32x8x8192, .f32⟩
  | .hbm, ⟨23, _⟩ => ⟨S_, .f32⟩
  | .hbm, ⟨24, _⟩ => ⟨S32x8x8192, .f32⟩
  | .hbm, ⟨25, _⟩ => ⟨S32x8x8192, .f32⟩
  | .hbm, ⟨26, _⟩ => ⟨S_, .f32⟩
  | .hbm, ⟨27, _⟩ => ⟨S32x8x8192, .f32⟩
  | .hbm, ⟨28, _⟩ => ⟨S32x8x8192, .f32⟩
  | .hbm, ⟨29, _⟩ => ⟨S32x8192, .f32⟩
  | .hbm, ⟨30, _⟩ => ⟨S32x64x1x128, .f32⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== PhgrnKernel.lean ====
abbrev S8640x6912 : Shape := ⟨2, ![8640, 6912]⟩
abbrev S2x1024 : Shape := ⟨2, ![2, 1024]⟩
abbrev S1x128 : Shape := ⟨2, ![1, 128]⟩
abbrev S128 : Shape := ⟨1, ![128]⟩
abbrev S128x128 : Shape := ⟨2, ![128, 128]⟩
abbrev S_ : Shape := ⟨0, ![]⟩
abbrev S1024x128 : Shape := ⟨2, ![1024, 128]⟩
abbrev S8448x1024 : Shape := ⟨2, ![8448, 1024]⟩
abbrev S2x8x128x128 : Shape := ⟨4, ![2, 8, 128, 128]⟩
abbrev S128x1024 : Shape := ⟨2, ![128, 1024]⟩
abbrev S1x8x128x128 : Shape := ⟨4, ![1, 8, 128, 128]⟩
abbrev S8x128x128 : Shape := ⟨3, ![8, 128, 128]⟩
abbrev S1x1024 : Shape := ⟨2, ![1, 1024]⟩
abbrev S128x384 : Shape := ⟨2, ![128, 384]⟩
abbrev S1024x384 : Shape := ⟨2, ![1024, 384]⟩
abbrev S1x128x128 : Shape := ⟨3, ![1, 128, 128]⟩
abbrev S128x1 : Shape := ⟨2, ![128, 1]⟩
abbrev S1x1x128x128 : Shape := ⟨4, ![1, 1, 128, 128]⟩
abbrev S1x2x8x128x128 : Shape := ⟨5, ![1, 2, 8, 128, 128]⟩

abbrev nBuf : Space → Nat
  | .hbm => 62
  | .vmem => 16
  | .smem => 0
  | _ => 0

abbrev bufTy : (tb : Table) → Fin (tcTables nBuf tb) → BufTy
  | .hbm, ⟨0, _⟩ => ⟨S8640x6912, .f32⟩
  | .hbm, ⟨1, _⟩ => ⟨S2x1024, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S128x128, .i32⟩
  | .hbm, ⟨6, _⟩ => ⟨S128x128, .i32⟩
  | .hbm, ⟨7, _⟩ => ⟨S128x128, .i1⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S128x128, .i1⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S1024x128, .i1⟩
  | .hbm, ⟨58, _⟩ => ⟨S1024x128, .bf16⟩
  | .hbm, ⟨59, _⟩ => ⟨S8448x1024, .bf16⟩
  | .hbm, ⟨60, _⟩ => ⟨S2x8x128x128, .f32⟩
  | .hbm, ⟨61, _⟩ => ⟨S1x2x8x128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S2x1024, .f32⟩
  | .local _ .vmem, ⟨9, _⟩ => ⟨S1x128, .f32⟩
  | .local _ .vmem, ⟨10, _⟩ => ⟨S1024x128, .bf16⟩
  | .local _ .vmem, ⟨11, _⟩ => ⟨S128x1024, .bf16⟩
  | .local _ .vmem, ⟨12, _⟩ => ⟨S128x1024, .bf16⟩
  | .local _ .vmem, ⟨13, _⟩ => ⟨S1x8x128x128, .f32⟩
  | .local _ .vmem, ⟨14, _⟩ => ⟨S1x8x128x128, .f32⟩
  | .local _ .vmem, ⟨15, _⟩ => ⟨S8x128x128, .f32⟩
  | _, _ => ⟨S8640x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_c_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_c_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 33], ![false, false]⟩

def k0_cond2 (i : grid0.Coords) : BitVec 1 :=
  let arg1 : BitVec 32 := BitVec.ofNat 32 (i 1).val
  let c32_i32 : BitVec 32 := 32#32
  let v245 : BitVec 1 := Scalar.cmpi .eq arg1 c32_i32
  let v246 : BitVec 32 := Scalar.extui v245
  let c0_i32_67 : BitVec 32 := 0#32
  let v247 : BitVec 1 := Scalar.cmpi .ne v246 c0_i32_67
  v247

def k0_cond3 (i : grid0.Coords) : BitVec 1 :=
  let arg1 : BitVec 32 := BitVec.ofNat 32 (i 1).val
  let c32_i32_133 : BitVec 32 := 32#32
  let v468 : BitVec 1 := Scalar.cmpi .eq arg1 c32_i32_133
  let v469 : BitVec 32 := Scalar.extui v468
  let c0_i32_134 : BitVec 32 := 0#32
  let v470 : BitVec 1 := Scalar.cmpi .ne v469 c0_i32_134
  v470

def k0_cond4 (i : grid0.Coords) : BitVec 1 :=
  let arg1 : BitVec 32 := BitVec.ofNat 32 (i 1).val
  let c32_i32_199 : BitVec 32 := 32#32
  let v691 : BitVec 1 := Scalar.cmpi .eq arg1 c32_i32_199
  let v692 : BitVec 32 := Scalar.extui v691
  let c0_i32_200 : BitVec 32 := 0#32
  let v693 : BitVec 1 := Scalar.cmpi .ne v692 c0_i32_200
  v693

def k0_cond5 (i : grid0.Coords) : BitVec 1 :=
  let arg1 : BitVec 32 := BitVec.ofNat 32 (i 1).val
  let c32_i32_265 : BitVec 32 := 32#32
  let v914 : BitVec 1 := Scalar.cmpi .eq arg1 c32_i32_265
  let v915 : BitVec 32 := Scalar.extui v914
  let c0_i32_266 : BitVec 32 := 0#32
  let v916 : BitVec 1 := Scalar.cmpi .ne v915 c0_i32_266
  v916

def k0_cond6 (i : grid0.Coords) : BitVec 1 :=
  let arg1 : BitVec 32 := BitVec.ofNat 32 (i 1).val
  let c32_i32_331 : BitVec 32 := 32#32
  let v1137 : BitVec 1 := Scalar.cmpi .eq arg1 c32_i32_331
  let v1138 : BitVec 32 := Scalar.extui v1137
  let c0_i32_332 : BitVec 32 := 0#32
  let v1139 : BitVec 1 := Scalar.cmpi .ne v1138 c0_i32_332
  v1139

def k0_cond7 (i : grid0.Coords) : BitVec 1 :=
  let arg1 : BitVec 32 := BitVec.ofNat 32 (i 1).val
  let c32_i32_397 : BitVec 32 := 32#32
  let v1360 : BitVec 1 := Scalar.cmpi .eq arg1 c32_i32_397
  let v1361 : BitVec 32 := Scalar.extui v1360
  let c0_i32_398 : BitVec 32 := 0#32
  let v1362 : BitVec 1 := Scalar.cmpi .ne v1361 c0_i32_398
  v1362

def k0_cond8 (i : grid0.Coords) : BitVec 1 :=
  let arg1 : BitVec 32 := BitVec.ofNat 32 (i 1).val
  let c32_i32_463 : BitVec 32 := 32#32
  let v1583 : BitVec 1 := Scalar.cmpi .eq arg1 c32_i32_463
  let v1584 : BitVec 32 := Scalar.extui v1583
  let c0_i32_464 : BitVec 32 := 0#32
  let v1585 : BitVec 1 := Scalar.cmpi .ne v1584 c0_i32_464
  v1585

def k0_cond9 (i : grid0.Coords) : BitVec 1 :=
  let arg1 : BitVec 32 := BitVec.ofNat 32 (i 1).val
  let c32_i32_529 : BitVec 32 := 32#32
  let v1806 : BitVec 1 := Scalar.cmpi .eq arg1 c32_i32_529
  let v1807 : BitVec 32 := Scalar.extui v1806
  let c0_i32_530 : BitVec 32 := 0#32
  let v1808 : BitVec 1 := Scalar.cmpi .ne v1807 c0_i32_530
  v1808

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PhgrnReferenceIdeal.lean ====
abbrev S8640x6912 : Shape := ⟨2, ![8640, 6912]⟩
abbrev S2x1024 : Shape := ⟨2, ![2, 1024]⟩
abbrev S1x128 : Shape := ⟨2, ![1, 128]⟩
abbrev S8448x6912 : Shape := ⟨2, ![8448, 6912]⟩
abbrev S2x4224x6912 : Shape := ⟨3, ![2, 4224, 6912]⟩
abbrev S2x4112x6912 : Shape := ⟨3, ![2, 4112, 6912]⟩
abbrev S_ : Shape := ⟨0, ![]⟩
abbrev S1024 : Shape := ⟨1, ![1024]⟩
abbrev S1x1024 : Shape := ⟨2, ![1, 1024]⟩
abbrev S2x4112x1024 : Shape := ⟨3, ![2, 4112, 1024]⟩
abbrev S1x1x1024 : Shape := ⟨3, ![1, 1, 1024]⟩
abbrev S2x4112x8x128 : Shape := ⟨4, ![2, 4112, 8, 128]⟩
abbrev S2x8x128x128 : Shape := ⟨4, ![2, 8, 128, 128]⟩
abbrev S2x1x8x128 : Shape := ⟨4, ![2, 1, 8, 128]⟩
abbrev S2x8x128 : Shape := ⟨3, ![2, 8, 128]⟩
abbrev S2x8x128x1 : Shape := ⟨4, ![2, 8, 128, 1]⟩
abbrev S1x2x8x128x128 : Shape := ⟨5, ![1, 2, 8, 128, 128]⟩

abbrev nBuf : Space → Nat
  | .hbm => 70
  | .vmem => 0
  | .smem => 0
  | _ => 0

abbrev bufTy : (tb : Table) → Fin (tcTables nBuf tb) → BufTy
  | .hbm, ⟨0, _⟩ => ⟨S8640x6912, .f32⟩
  | .hbm, ⟨1, _⟩ => ⟨S2x1024, .f32⟩
  | .hbm, ⟨2, _⟩ => ⟨S1x128, .f32⟩
  | .hbm, ⟨3, _⟩ => ⟨S8448x6912, .f32⟩
  | .hbm, ⟨4, _⟩ => ⟨S2x4224x6912, .f32⟩
  | .hbm, ⟨5, _⟩ => ⟨S2x4112x6912, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S2x1024, .f32⟩
  | .hbm, ⟨19, _⟩ => ⟨S2x1024, .f32⟩
  | .hbm, ⟨20, _⟩ => ⟨S_, .f32⟩
  | .hbm, ⟨21, _⟩ => ⟨S_, .f32⟩
  | .hbm, ⟨22, _⟩ => ⟨S2x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S2x4112x1024, .f32⟩
  | .hbm, ⟨29, _⟩ => ⟨S2x4112x1024, .f32⟩
  | .hbm, ⟨30, _⟩ => ⟨S2x4112x1024, .f32⟩
  | .hbm, ⟨31, _⟩ => ⟨S_, .f32⟩
  | .hbm, ⟨32, _⟩ => ⟨S2x4112x1024, .f32⟩
  | .hbm, ⟨33, _⟩ => ⟨S2x4112x1024, .f32⟩
  | .hbm, ⟨34, _⟩ => ⟨S_, .f32⟩
  | .hbm, ⟨35, _⟩ => ⟨S2x4112x1024, .f32⟩
  | .hbm, ⟨36, _⟩ => ⟨S2x4112x1024, .f32⟩
  | .hbm, ⟨37, _⟩ => ⟨S1x1x1024, .f32⟩
  | .hbm, ⟨38, _⟩ => ⟨S2x4112x1024, .f32⟩
  | .hbm, ⟨39, _⟩ => ⟨S2x4112x1024, .f32⟩
  | .hbm, ⟨40, _⟩ => ⟨S1x1x1024, .f32⟩
  | .hbm, ⟨41, _⟩ => ⟨S2x4112x1024, .f32⟩
  | .hbm, ⟨42, _⟩ => ⟨S2x4112x1024, .f32⟩
  | .hbm, ⟨43, _⟩ => ⟨S2x4112x1024, .f32⟩
  | .hbm, ⟨44, _⟩ => ⟨S2x4112x8x128, .f32⟩
  | .hbm, ⟨45, _⟩ => ⟨S_, .f32⟩
  | .hbm, ⟨46, _⟩ => ⟨S2x4112x1024, .f32⟩
  | .hbm, ⟨47, _⟩ => ⟨S2x4112x1024, .f32⟩
  | .hbm, ⟨48, _⟩ => ⟨S2x4112x8x128, .f32⟩
  | .hbm, ⟨49, _⟩ => ⟨S2x4112x1024, .f32⟩
  | .hbm, ⟨50, _⟩ => ⟨S2x4112x8x128, .f32⟩
  | .hbm, ⟨51, _⟩ => ⟨S_, .f32⟩
  | .hbm, ⟨52, _⟩ => ⟨S2x8x128x128, .f32⟩
  | .hbm, ⟨53, _⟩ => ⟨S_, .f32⟩
  | .hbm, ⟨54, _⟩ => ⟨S_, .f32⟩
  | .hbm, ⟨55, _⟩ => ⟨S2x4112x8x128, .f32⟩
  | .hbm, ⟨56, _⟩ => ⟨S2x1x8x128, .f32⟩
  | .hbm, ⟨57, _⟩ => ⟨S2x8x128, .f32⟩
  | .hbm, ⟨58, _⟩ => ⟨S2x8x128, .f32⟩
  | .hbm, ⟨59, _⟩ => ⟨S2x8x128x1, .f32⟩
  | .hbm, ⟨60, _⟩ => ⟨S2x8x128x128, .f32⟩
  | .hbm, ⟨61, _⟩ => ⟨S2x8x128x128, .f32⟩
  | .hbm, ⟨62, _⟩ => ⟨S2x1x8x128, .f32⟩
  | .hbm, ⟨63, _⟩ => ⟨S2x4112x8x128, .f32⟩
  | .hbm, ⟨64, _⟩ => ⟨S2x4112x8x128, .f32⟩
  | .hbm, ⟨65, _⟩ => ⟨S2x4112x8x128, .f32⟩
  | .hbm, ⟨66, _⟩ => ⟨S2x4112x8x128, .f32⟩
  | .hbm, ⟨67, _⟩ => ⟨S2x8x128x128, .f32⟩
  | .hbm, ⟨68, _⟩ => ⟨S2x8x128x128, .f32⟩
  | .hbm, ⟨69, _⟩ => ⟨S1x2x8x128x128, .f32⟩
  | _, _ => ⟨S8640x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_call0_cst : Ref sig .tc := ⟨.hbm, 20, rfl⟩
abbrev main_call0_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_call1_call0_cst : Ref sig .tc := ⟨.hbm, 53, rfl⟩
abbrev main_call1_call0_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== IdxprojKernel.lean ====
abbrev S32x1x2048 : Shape := ⟨3, ![32, 1, 2048]⟩
abbrev S2048 : Shape := ⟨1, ![2048]⟩
abbrev S1x2048x6728 : Shape := ⟨3, ![1, 2048, 6728]⟩
abbrev S2048x6728 : Shape := ⟨2, ![2048, 6728]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x56 : Shape := ⟨2, ![2048, 56]⟩
abbrev S2048x640 : Shape := ⟨2, ![2048, 640]⟩
abbrev S32x2048 : Shape := ⟨2, ![32, 2048]⟩
abbrev S1x2048 : Shape := ⟨2, ![1, 2048]⟩
abbrev S32x640 : Shape := ⟨2, ![32, 640]⟩
abbrev S32 : Shape := ⟨1, ![32]⟩
abbrev S32x1 : Shape := ⟨2, ![32, 1]⟩
abbrev S32x512 : Shape := ⟨2, ![32, 512]⟩
abbrev S32x8x64 : Shape := ⟨3, ![32, 8, 64]⟩
abbrev S32x8 : Shape := ⟨2, ![32, 8]⟩
abbrev S32x64 : Shape := ⟨2, ![32, 64]⟩

abbrev nBuf : Space → Nat
  | .hbm => 19
  | .vmem => 5
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048, .f32⟩
  | .hbm, ⟨3, _⟩ => ⟨S1x2048x6728, .f32⟩
  | .hbm, ⟨4, _⟩ => ⟨S2048x6728, .f32⟩
  | .hbm, ⟨5, _⟩ => ⟨S2048x512, .f32⟩
  | .hbm, ⟨6, _⟩ => ⟨S2048x64, .f32⟩
  | .hbm, ⟨7, _⟩ => ⟨S2048x8, .f32⟩
  | .hbm, ⟨8, _⟩ => ⟨S_, .f32⟩
  | .hbm, ⟨9, _⟩ => ⟨S2048x56, .f32⟩
  | .hbm, ⟨10, _⟩ => ⟨S2048x640, .f32⟩
  | .hbm, ⟨11, _⟩ => ⟨S32x2048, .f32⟩
  | .hbm, ⟨12, _⟩ => ⟨S1x2048, .f32⟩
  | .hbm, ⟨13, _⟩ => ⟨S1x2048, .f32⟩
  | .hbm, ⟨14, _⟩ => ⟨S32x640, .f32⟩
  | .hbm, ⟨15, _⟩ => ⟨S32x512, .f32⟩
  | .hbm, ⟨16, _⟩ => ⟨S32x8x64, .f32⟩
  | .hbm, ⟨17, _⟩ => ⟨S32x8, .f32⟩
  | .hbm, ⟨18, _⟩ => ⟨S32x64, .f32⟩
  | .local _ .vmem, ⟨0, _⟩ => ⟨S32x2048, .f32⟩
  | .local _ .vmem, ⟨1, _⟩ => ⟨S1x2048, .f32⟩
  | .local _ .vmem, ⟨2, _⟩ => ⟨S1x2048, .f32⟩
  | .local _ .vmem, ⟨3, _⟩ => ⟨S2048x640, .f32⟩
  | .local _ .vmem, ⟨4, _⟩ => ⟨S32x640, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== IdxprojReferenceIdeal.lean ====
abbrev S32x1x2048 : Shape := ⟨3, ![32, 1, 2048]⟩
abbrev S2048 : Shape := ⟨1, ![2048]⟩
abbrev S1x2048x6728 : Shape := ⟨3, ![1, 2048, 6728]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x6728 : Shape := ⟨2, ![2048, 6728]⟩
abbrev S32x1x6728 : Shape := ⟨3, ![32, 1, 6728]⟩
abbrev S32x1x512 : Shape := ⟨3, ![32, 1, 512]⟩
abbrev S32x1x8x64 : Shape := ⟨4, ![32, 1, 8, 64]⟩
abbrev S32x1x8 : Shape := ⟨3, ![32, 1, 8]⟩
abbrev S32x1x64 : Shape := ⟨3, ![32, 1, 64]⟩
abbrev S32x8x64 : Shape := ⟨3, ![32, 8, 64]⟩
abbrev S32x64 : Shape := ⟨2, ![32, 64]⟩
abbrev S32x8 : Shape := ⟨2, ![32, 8]⟩

abbrev nBuf : Space → Nat
  | .hbm => 42
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S2048, .f32⟩
  | .hbm, ⟨3, _⟩ => ⟨S1x2048x6728, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S32x1x2048, .f32⟩
  | .hbm, ⟨11, _⟩ => ⟨S32x1x2048, .f32⟩
  | .hbm, ⟨12, _⟩ => ⟨S32x1x2048, .f32⟩
  | .hbm, ⟨13, _⟩ => ⟨S_, .f32⟩
  | .hbm, ⟨14, _⟩ => ⟨S32x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x2048, .f32⟩
  | .hbm, ⟨20, _⟩ => ⟨S32x1x2048, .f32⟩
  | .hbm, ⟨21, _⟩ => ⟨S_, .f32⟩
  | .hbm, ⟨22, _⟩ => ⟨S32x1x1, .f32⟩
  | .hbm, ⟨23, _⟩ => ⟨S32x1x1, .f32⟩
  | .hbm, ⟨24, _⟩ => ⟨S32x1x1, .f32⟩
  | .hbm, ⟨25, _⟩ => ⟨S32x1x2048, .f32⟩
  | .hbm, ⟨26, _⟩ => ⟨S32x1x2048, .f32⟩
  | .hbm, ⟨27, _⟩ => ⟨S1x1x2048, .f32⟩
  | .hbm, ⟨28, _⟩ => ⟨S32x1x2048, .f32⟩
  | .hbm, ⟨29, _⟩ => ⟨S32x1x2048, .f32⟩
  | .hbm, ⟨30, _⟩ => ⟨S1x1x2048, .f32⟩
  | .hbm, ⟨31, _⟩ => ⟨S32x1x2048, .f32⟩
  | .hbm, ⟨32, _⟩ => ⟨S32x1x2048, .f32⟩
  | .hbm, ⟨33, _⟩ => ⟨S2048x6728, .f32⟩
  | .hbm, ⟨34, _⟩ => ⟨S32x1x6728, .f32⟩
  | .hbm, ⟨35, _⟩ => ⟨S32x1x512, .f32⟩
  | .hbm, ⟨36, _⟩ => ⟨S32x1x8x64, .f32⟩
  | .hbm, ⟨37, _⟩ => ⟨S32x1x8, .f32⟩
  | .hbm, ⟨38, _⟩ => ⟨S32x1x64, .f32⟩
  | .hbm, ⟨39, _⟩ => ⟨S32x8x64, .f32⟩
  | .hbm, ⟨40, _⟩ => ⟨S32x64, .f32⟩
  | .hbm, ⟨41, _⟩ => ⟨S32x8, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== InprojKernel.lean ====
abbrev S2x4096x2048 : Shape := ⟨3, ![2, 4096, 2048]⟩
abbrev S32x1x2048 : Shape := ⟨3, ![32, 1, 2048]⟩
abbrev S16x2048 : Shape := ⟨2, ![16, 2048]⟩
abbrev S2048 : Shape := ⟨1, ![2048]⟩
abbrev S1x2048x6728 : Shape := ⟨3, ![1, 2048, 6728]⟩
abbrev S_ : Shape := ⟨0, ![]⟩
abbrev S112x2048 : Shape := ⟨2, ![112, 2048]⟩
abbrev S128x2048 : Shape := ⟨2, ![128, 2048]⟩
abbrev S1x128x2048 : Shape := ⟨3, ![1, 128, 2048]⟩
abbrev S2x128x2048 : Shape := ⟨3, ![2, 128, 2048]⟩
abbrev S2x4224x2048 : Shape := ⟨3, ![2, 4224, 2048]⟩
abbrev S8448x2048 : Shape := ⟨2, ![8448, 2048]⟩
abbrev S32x2048 : Shape := ⟨2, ![32, 2048]⟩
abbrev S160x2048 : Shape := ⟨2, ![160, 2048]⟩
abbrev S8640x2048 : Shape := ⟨2, ![8640, 2048]⟩
abbrev S1x2048 : Shape := ⟨2, ![1, 2048]⟩
abbrev S2048x6728 : Shape := ⟨2, ![2048, 6728]⟩
abbrev S2048x1024 : Shape := ⟨2, ![2048, 1024]⟩
abbrev S2048x512 : Shape := ⟨2, ![2048, 512]⟩
abbrev S2048x8 : Shape := ⟨2, ![2048, 8]⟩
abbrev S2048x64 : Shape := ⟨2, ![2048, 64]⟩
abbrev S2048x120 : Shape := ⟨2, ![2048, 120]⟩
abbrev S2048x6912 : Shape := ⟨2, ![2048, 6912]⟩
abbrev S8640x6912 : Shape := ⟨2, ![8640, 6912]⟩
abbrev S864x2048 : Shape := ⟨2, ![864, 2048]⟩
abbrev S2048x1152 : Shape := ⟨2, ![2048, 1152]⟩
abbrev S864x1152 : Shape := ⟨2, ![864, 1152]⟩
abbrev S864 : Shape := ⟨1, ![864]⟩
abbrev S864x1 : Shape := ⟨2, ![864, 1]⟩
abbrev S32x6912 : Shape := ⟨2, ![32, 6912]⟩
abbrev S8448x6912 : Shape := ⟨2, ![8448, 6912]⟩
abbrev S2x4224x6912 : Shape := ⟨3, ![2, 4224, 6912]⟩
abbrev S2x4112x6912 : Shape := ⟨3, ![2, 4112, 6912]⟩
abbrev S2x4112x512 : Shape := ⟨3, ![2, 4112, 512]⟩
abbrev S1x2x4112x4x128 : Shape := ⟨5, ![1, 2, 4112, 4, 128]⟩
abbrev S2x4112x64 : Shape := ⟨3, ![2, 4112, 64]⟩
abbrev S1x2x4112x64 : Shape := ⟨4, ![1, 2, 4112, 64]⟩
abbrev S32x512 : Shape := ⟨2, ![32, 512]⟩
abbrev S1x32x1x4x128 : Shape := ⟨5, ![1, 32, 1, 4, 128]⟩
abbrev S32x64 : Shape := ⟨2, ![32, 64]⟩
abbrev S1x32x1x64 : Shape := ⟨4, ![1, 32, 1, 64]⟩
abbrev S2x4112x1024 : Shape := ⟨3, ![2, 4112, 1024]⟩
abbrev S2x4112x4096 : Shape := ⟨3, ![2, 4112, 4096]⟩
abbrev S2x4112x8 : Shape := ⟨3, ![2, 4112, 8]⟩
abbrev S32x1024 : Shape := ⟨2, ![32, 1024]⟩
abbrev S32x4096 : Shape := ⟨2, ![32, 4096]⟩

abbrev nBuf : Space → Nat
  | .hbm => 58
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S32x1x2048, .f32⟩
  | .hbm, ⟨2, _⟩ => ⟨S16x2048, .f32⟩
  | .hbm, ⟨3, _⟩ => ⟨S2048, .f32⟩
  | .hbm, ⟨4, _⟩ => ⟨S2048, .f32⟩
  | .hbm, ⟨5, _⟩ => ⟨S1x2048x6728, .f32⟩
  | .hbm, ⟨6, _⟩ => ⟨S_, .f32⟩
  | .hbm, ⟨7, _⟩ => ⟨S112x2048, .f32⟩
  | .hbm, ⟨8, _⟩ => ⟨S128x2048, .f32⟩
  | .hbm, ⟨9, _⟩ => ⟨S1x128x2048, .f32⟩
  | .hbm, ⟨10, _⟩ => ⟨S2x128x2048, .f32⟩
  | .hbm, ⟨11, _⟩ => ⟨S2x4224x2048, .f32⟩
  | .hbm, ⟨12, _⟩ => ⟨S8448x2048, .f32⟩
  | .hbm, ⟨13, _⟩ => ⟨S32x2048, .f32⟩
  | .hbm, ⟨14, _⟩ => ⟨S_, .f32⟩
  | .hbm, ⟨15, _⟩ => ⟨S160x2048, .f32⟩
  | .hbm, ⟨16, _⟩ => ⟨S8640x2048, .f32⟩
  | .hbm, ⟨17, _⟩ => ⟨S1x2048, .f32⟩
  | .hbm, ⟨18, _⟩ => ⟨S1x2048, .f32⟩
  | .hbm, ⟨19, _⟩ => ⟨S2048x6728, .f32⟩
  | .hbm, ⟨20, _⟩ => ⟨S2048x1024, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x8, .f32⟩
  | .hbm, ⟨25, _⟩ => ⟨S2048x64, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x120, .f32⟩
  | .hbm, ⟨32, _⟩ => ⟨S2048x6912, .f32⟩
  | .hbm, ⟨33, _⟩ => ⟨S2048x6912, .bf16⟩
  | .hbm, ⟨34, _⟩ => ⟨S8640x6912, .f32⟩
  | .hbm, ⟨35, _⟩ => ⟨S8640x6912, .bf16⟩
  | .hbm, ⟨36, _⟩ => ⟨S32x6912, .f32⟩
  | .hbm, ⟨37, _⟩ => ⟨S8448x6912, .f32⟩
  | .hbm, ⟨38, _⟩ => ⟨S2x4224x6912, .f32⟩
  | .hbm, ⟨39, _⟩ => ⟨S2x4112x6912, .f32⟩
  | .hbm, ⟨40, _⟩ => ⟨S2x4112x512, .f32⟩
  | .hbm, ⟨41, _⟩ => ⟨S1x2x4112x4x128, .f32⟩
  | .hbm, ⟨42, _⟩ => ⟨S2x4112x512, .f32⟩
  | .hbm, ⟨43, _⟩ => ⟨S1x2x4112x4x128, .f32⟩
  | .hbm, ⟨44, _⟩ => ⟨S2x4112x64, .f32⟩
  | .hbm, ⟨45, _⟩ => ⟨S1x2x4112x64, .f32⟩
  | .hbm, ⟨46, _⟩ => ⟨S32x512, .f32⟩
  | .hbm, ⟨47, _⟩ => ⟨S1x32x1x4x128, .f32⟩
  | .hbm, ⟨48, _⟩ => ⟨S32x512, .f32⟩
  | .hbm, ⟨49, _⟩ => ⟨S1x32x1x4x128, .f32⟩
  | .hbm, ⟨50, _⟩ => ⟨S32x64, .f32⟩
  | .hbm, ⟨51, _⟩ => ⟨S1x32x1x64, .f32⟩
  | .hbm, ⟨52, _⟩ => ⟨S2x4112x1024, .f32⟩
  | .hbm, ⟨53, _⟩ => ⟨S2x4112x4096, .f32⟩
  | .hbm, ⟨54, _⟩ => ⟨S2x4112x512, .f32⟩
  | .hbm, ⟨55, _⟩ => ⟨S2x4112x8, .f32⟩
  | .hbm, ⟨56, _⟩ => ⟨S32x1024, .f32⟩
  | .hbm, ⟨57, _⟩ => ⟨S32x4096, .f32⟩
  | .local _ .vmem, ⟨0, _⟩ => ⟨S864x2048, .f32⟩
  | .local _ .vmem, ⟨1, _⟩ => ⟨S864x2048, .f32⟩
  | .local _ .vmem, ⟨2, _⟩ => ⟨S1x2048, .f32⟩
  | .local _ .vmem, ⟨3, _⟩ => ⟨S1x2048, .f32⟩
  | .local _ .vmem, ⟨4, _⟩ => ⟨S2048x1152, .bf16⟩
  | .local _ .vmem, ⟨5, _⟩ => ⟨S2048x1152, .bf16⟩
  | .local _ .vmem, ⟨6, _⟩ => ⟨S864x1152, .f32⟩
  | .local _ .vmem, ⟨7, _⟩ => ⟨S864x1152, .f32⟩
  | .local _ .vmem, ⟨8, _⟩ => ⟨S864x1152, .bf16⟩
  | .local _ .vmem, ⟨9, _⟩ => ⟨S864x1152, .bf16⟩
  | .local _ .vmem, ⟨10, _⟩ => ⟨S864x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![10, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S864x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S864x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S864x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojReferenceIdeal.lean ====
abbrev S2x4096x2048 : Shape := ⟨3, ![2, 4096, 2048]⟩
abbrev S32x1x2048 : Shape := ⟨3, ![32, 1, 2048]⟩
abbrev S16x2048 : Shape := ⟨2, ![16, 2048]⟩
abbrev S2048 : Shape := ⟨1, ![2048]⟩
abbrev S1x2048x6728 : Shape := ⟨3, ![1, 2048, 6728]⟩
abbrev S1x16x2048 : Shape := ⟨3, ![1, 16, 2048]⟩
abbrev S2x16x2048 : Shape := ⟨3, ![2, 16, 2048]⟩
abbrev S2x4112x2048 : Shape := ⟨3, ![2, 4112, 2048]⟩
abbrev S_ : Shape := ⟨0, ![]⟩
abbrev S2x4112 : Shape := ⟨2, ![2, 4112]⟩
abbrev S2x4112x1 : Shape := ⟨3, ![2, 4112, 1]⟩
abbrev S1x1x2048 : Shape := ⟨3, ![1, 1, 2048]⟩
abbrev S2048x6728 : Shape := ⟨2, ![2048, 6728]⟩
abbrev S2x4112x6728 : Shape := ⟨3, ![2, 4112, 6728]⟩
abbrev S2x4112x512 : Shape := ⟨3, ![2, 4112, 512]⟩
abbrev S2x4112x4x128 : Shape := ⟨4, ![2, 4112, 4, 128]⟩
abbrev S2x4112x64 : Shape := ⟨3, ![2, 4112, 64]⟩
abbrev S32x1 : Shape := ⟨2, ![32, 1]⟩
abbrev S32x1x1 : Shape := ⟨3, ![32, 1, 1]⟩
abbrev S32x1x6728 : Shape := ⟨3, ![32, 1, 6728]⟩
abbrev S32x1x512 : Shape := ⟨3, ![32, 1, 512]⟩
abbrev S32x1x4x128 : Shape := ⟨4, ![32, 1, 4, 128]⟩
abbrev S32x1x64 : Shape := ⟨3, ![32, 1, 64]⟩
abbrev S1x2x4112x4x128 : Shape := ⟨5, ![1, 2, 4112, 4, 128]⟩
abbrev S1x2x4112x64 : Shape := ⟨4, ![1, 2, 4112, 64]⟩
abbrev S1x32x1x4x128 : Shape := ⟨5, ![1, 32, 1, 4, 128]⟩
abbrev S1x32x1x64 : Shape := ⟨4, ![1, 32, 1, 64]⟩
abbrev S2x4112x1024 : Shape := ⟨3, ![2, 4112, 1024]⟩
abbrev S2x4112x4096 : Shape := ⟨3, ![2, 4112, 4096]⟩
abbrev S2x4112x8 : Shape := ⟨3, ![2, 4112, 8]⟩
abbrev S32x1x1024 : Shape := ⟨3, ![32, 1, 1024]⟩
abbrev S32x1024 : Shape := ⟨2, ![32, 1024]⟩
abbrev S32x1x4096 : Shape := ⟨3, ![32, 1, 4096]⟩
abbrev S32x4096 : Shape := ⟨2, ![32, 4096]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x1x2048, .f32⟩
  | .hbm, ⟨2, _⟩ => ⟨S16x2048, .f32⟩
  | .hbm, ⟨3, _⟩ => ⟨S2048, .f32⟩
  | .hbm, ⟨4, _⟩ => ⟨S2048, .f32⟩
  | .hbm, ⟨5, _⟩ => ⟨S1x2048x6728, .f32⟩
  | .hbm, ⟨6, _⟩ => ⟨S1x16x2048, .f32⟩
  | .hbm, ⟨7, _⟩ => ⟨S2x16x2048, .f32⟩
  | .hbm, ⟨8, _⟩ => ⟨S2x4112x2048, .f32⟩
  | .hbm, ⟨9, _⟩ => ⟨S_, .f32⟩
  | .hbm, ⟨10, _⟩ => ⟨S2x4112, .f32⟩
  | .hbm, ⟨11, _⟩ => ⟨S2x4112x1, .f32⟩
  | .hbm, ⟨12, _⟩ => ⟨S_, .f32⟩
  | .hbm, ⟨13, _⟩ => ⟨S2x4112x1, .f32⟩
  | .hbm, ⟨14, _⟩ => ⟨S2x4112x1, .f32⟩
  | .hbm, ⟨15, _⟩ => ⟨S2x4112x2048, .f32⟩
  | .hbm, ⟨16, _⟩ => ⟨S2x4112x2048, .f32⟩
  | .hbm, ⟨17, _⟩ => ⟨S2x4112x2048, .f32⟩
  | .hbm, ⟨18, _⟩ => ⟨S_, .f32⟩
  | .hbm, ⟨19, _⟩ => ⟨S2x4112, .f32⟩
  | .hbm, ⟨20, _⟩ => ⟨S2x4112x1, .f32⟩
  | .hbm, ⟨21, _⟩ => ⟨S_, .f32⟩
  | .hbm, ⟨22, _⟩ => ⟨S2x4112x1, .f32⟩
  | .hbm, ⟨23, _⟩ => ⟨S2x4112x1, .f32⟩
  | .hbm, ⟨24, _⟩ => ⟨S2x4112x2048, .f32⟩
  | .hbm, ⟨25, _⟩ => ⟨S2x4112x2048, .f32⟩
  | .hbm, ⟨26, _⟩ => ⟨S_, .f32⟩
  | .hbm, ⟨27, _⟩ => ⟨S2x4112x1, .f32⟩
  | .hbm, ⟨28, _⟩ => ⟨S2x4112x1, .f32⟩
  | .hbm, ⟨29, _⟩ => ⟨S2x4112x1, .f32⟩
  | .hbm, ⟨30, _⟩ => ⟨S2x4112x2048, .f32⟩
  | .hbm, ⟨31, _⟩ => ⟨S2x4112x2048, .f32⟩
  | .hbm, ⟨32, _⟩ => ⟨S1x1x2048, .f32⟩
  | .hbm, ⟨33, _⟩ => ⟨S2x4112x2048, .f32⟩
  | .hbm, ⟨34, _⟩ => ⟨S2x4112x2048, .f32⟩
  | .hbm, ⟨35, _⟩ => ⟨S1x1x2048, .f32⟩
  | .hbm, ⟨36, _⟩ => ⟨S2x4112x2048, .f32⟩
  | .hbm, ⟨37, _⟩ => ⟨S2x4112x2048, .f32⟩
  | .hbm, ⟨38, _⟩ => ⟨S2048x6728, .f32⟩
  | .hbm, ⟨39, _⟩ => ⟨S2x4112x6728, .f32⟩
  | .hbm, ⟨40, _⟩ => ⟨S2x4112x512, .f32⟩
  | .hbm, ⟨41, _⟩ => ⟨S2x4112x4x128, .f32⟩
  | .hbm, ⟨42, _⟩ => ⟨S2x4112x512, .f32⟩
  | .hbm, ⟨43, _⟩ => ⟨S2x4112x4x128, .f32⟩
  | .hbm, ⟨44, _⟩ => ⟨S2x4112x64, .f32⟩
  | .hbm, ⟨45, _⟩ => ⟨S_, .f32⟩
  | .hbm, ⟨46, _⟩ => ⟨S32x1, .f32⟩
  | .hbm, ⟨47, _⟩ => ⟨S32x1x1, .f32⟩
  | .hbm, ⟨48, _⟩ => ⟨S_, .f32⟩
  | .hbm, ⟨49, _⟩ => ⟨S32x1x1, .f32⟩
  | .hbm, ⟨50, _⟩ => ⟨S32x1x1, .f32⟩
  | .hbm, ⟨51, _⟩ => ⟨S32x1x2048, .f32⟩
  | .hbm, ⟨52, _⟩ => ⟨S32x1x2048, .f32⟩
  | .hbm, ⟨53, _⟩ => ⟨S32x1x2048, .f32⟩
  | .hbm, ⟨54, _⟩ => ⟨S_, .f32⟩
  | .hbm, ⟨55, _⟩ => ⟨S32x1, .f32⟩
  | .hbm, ⟨56, _⟩ => ⟨S32x1x1, .f32⟩
  | .hbm, ⟨57, _⟩ => ⟨S_, .f32⟩
  | .hbm, ⟨58, _⟩ => ⟨S32x1x1, .f32⟩
  | .hbm, ⟨59, _⟩ => ⟨S32x1x1, .f32⟩
  | .hbm, ⟨60, _⟩ => ⟨S32x1x2048, .f32⟩
  | .hbm, ⟨61, _⟩ => ⟨S32x1x2048, .f32⟩
  | .hbm, ⟨62, _⟩ => ⟨S_, .f32⟩
  | .hbm, ⟨63, _⟩ => ⟨S32x1x1, .f32⟩
  | .hbm, ⟨64, _⟩ => ⟨S32x1x1, .f32⟩
  | .hbm, ⟨65, _⟩ => ⟨S32x1x1, .f32⟩
  | .hbm, ⟨66, _⟩ => ⟨S32x1x2048, .f32⟩
  | .hbm, ⟨67, _⟩ => ⟨S32x1x2048, .f32⟩
  | .hbm, ⟨68, _⟩ => ⟨S1x1x2048, .f32⟩
  | .hbm, ⟨69, _⟩ => ⟨S32x1x2048, .f32⟩
  | .hbm, ⟨70, _⟩ => ⟨S32x1x2048, .f32⟩
  | .hbm, ⟨71, _⟩ => ⟨S1x1x2048, .f32⟩
  | .hbm, ⟨72, _⟩ => ⟨S32x1x2048, .f32⟩
  | .hbm, ⟨73, _⟩ => ⟨S32x1x2048, .f32⟩
  | .hbm, ⟨74, _⟩ => ⟨S2048x6728, .f32⟩
  | .hbm, ⟨75, _⟩ => ⟨S32x1x6728, .f32⟩
  | .hbm, ⟨76, _⟩ => ⟨S32x1x512, .f32⟩
  | .hbm, ⟨77, _⟩ => ⟨S32x1x4x128, .f32⟩
  | .hbm, ⟨78, _⟩ => ⟨S32x1x512, .f32⟩
  | .hbm, ⟨79, _⟩ => ⟨S32x1x4x128, .f32⟩
  | .hbm, ⟨80, _⟩ => ⟨S32x1x64, .f32⟩
  | .hbm, ⟨81, _⟩ => ⟨S1x2x4112x4x128, .f32⟩
  | .hbm, ⟨82, _⟩ => ⟨S1x2x4112x4x128, .f32⟩
  | .hbm, ⟨83, _⟩ => ⟨S1x2x4112x64, .f32⟩
  | .hbm, ⟨84, _⟩ => ⟨S1x32x1x4x128, .f32⟩
  | .hbm, ⟨85, _⟩ => ⟨S1x32x1x4x128, .f32⟩
  | .hbm, ⟨86, _⟩ => ⟨S1x32x1x64, .f32⟩
  | .hbm, ⟨87, _⟩ => ⟨S2x4112x1024, .f32⟩
  | .hbm, ⟨88, _⟩ => ⟨S2x4112x4096, .f32⟩
  | .hbm, ⟨89, _⟩ => ⟨S2x4112x512, .f32⟩
  | .hbm, ⟨90, _⟩ => ⟨S2x4112x8, .f32⟩
  | .hbm, ⟨91, _⟩ => ⟨S32x1x1024, .f32⟩
  | .hbm, ⟨92, _⟩ => ⟨S32x1024, .f32⟩
  | .hbm, ⟨93, _⟩ => ⟨S32x1x4096, .f32⟩
  | .hbm, ⟨94, _⟩ => ⟨S32x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== FfnKernel.lean ====
abbrev S8640x2048 : Shape := ⟨2, ![8640, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S864x2048 : Shape := ⟨2, ![864, 2048]⟩
abbrev S2048x256 : Shape := ⟨2, ![2048, 256]⟩
abbrev S256x2048 : Shape := ⟨2, ![256, 2048]⟩
abbrev S864x256 : Shape := ⟨2, ![864, 256]⟩
abbrev S864 : Shape := ⟨1, ![864]⟩
abbrev S864x1 : Shape := ⟨2, ![864, 1]⟩

abbrev nBuf : Space → Nat
  | .hbm => 17
  | .vmem => 13
  | .smem => 0
  | _ => 0

abbrev bufTy : (tb : Table) → Fin (tcTables nBuf tb) → BufTy
  | .hbm, ⟨0, _⟩ => ⟨S8640x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8640x2048, .f32⟩
  | .local _ .vmem, ⟨0, _⟩ => ⟨S864x2048, .f32⟩
  | .local _ .vmem, ⟨1, _⟩ => ⟨S864x2048, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S864x2048, .f32⟩
  | .local _ .vmem, ⟨11, _⟩ => ⟨S864x2048, .f32⟩
  | .local _ .vmem, ⟨12, _⟩ => ⟨S864x2048, .bf16⟩
  | _, _ => ⟨S8640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![10, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S864x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S864x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8640x2048 : Shape := ⟨2, ![8640, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S8640x5632 : Shape := ⟨2, ![8640, 5632]⟩
abbrev S_ : Shape := ⟨0, ![]⟩
abbrev S5632x2048 : Shape := ⟨2, ![5632, 2048]⟩
abbrev S2048 : Shape := ⟨1, ![2048]⟩
abbrev S8640 : Shape := ⟨1, ![8640]⟩
abbrev S8640x1 : Shape := ⟨2, ![8640, 1]⟩

abbrev nBuf : Space → Nat
  | .hbm => 57
  | .vmem => 0
  | .smem => 0
  | _ => 0

abbrev bufTy : (tb : Table) → Fin (tcTables nBuf tb) → BufTy
  | .hbm, ⟨0, _⟩ => ⟨S8640x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S8640x5632, .f32⟩
  | .hbm, ⟨8, _⟩ => ⟨S8640x5632, .f32⟩
  | .hbm, ⟨9, _⟩ => ⟨S8640x5632, .f32⟩
  | .hbm, ⟨10, _⟩ => ⟨S_, .f32⟩
  | .hbm, ⟨11, _⟩ => ⟨S8640x5632, .f32⟩
  | .hbm, ⟨12, _⟩ => ⟨S8640x5632, .f32⟩
  | .hbm, ⟨13, _⟩ => ⟨S_, .f32⟩
  | .hbm, ⟨14, _⟩ => ⟨S8640x5632, .f32⟩
  | .hbm, ⟨15, _⟩ => ⟨S8640x5632, .f32⟩
  | .hbm, ⟨16, _⟩ => ⟨S8640x5632, .f32⟩
  | .hbm, ⟨17, _⟩ => ⟨S2048x5632, .f32⟩
  | .hbm, ⟨18, _⟩ => ⟨S8640x5632, .f32⟩
  | .hbm, ⟨19, _⟩ => ⟨S8640x5632, .f32⟩
  | .hbm, ⟨20, _⟩ => ⟨S5632x2048, .f32⟩
  | .hbm, ⟨21, _⟩ => ⟨S8640x2048, .f32⟩
  | .hbm, ⟨22, _⟩ => ⟨S_, .f32⟩
  | .hbm, ⟨23, _⟩ => ⟨S8640x2048, .f32⟩
  | .hbm, ⟨24, _⟩ => ⟨S8640x2048, .f32⟩
  | .hbm, ⟨25, _⟩ => ⟨S8640x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S8640, .f32⟩
  | .hbm, ⟨30, _⟩ => ⟨S8640x1, .f32⟩
  | .hbm, ⟨31, _⟩ => ⟨S_, .f32⟩
  | .hbm, ⟨32, _⟩ => ⟨S8640x1, .f32⟩
  | .hbm, ⟨33, _⟩ => ⟨S8640x1, .f32⟩
  | .hbm, ⟨34, _⟩ => ⟨S8640x2048, .f32⟩
  | .hbm, ⟨35, _⟩ => ⟨S8640x2048, .f32⟩
  | .hbm, ⟨36, _⟩ => ⟨S8640x2048, .f32⟩
  | .hbm, ⟨37, _⟩ => ⟨S_, .f32⟩
  | .hbm, ⟨38, _⟩ => ⟨S8640, .f32⟩
  | .hbm, ⟨39, _⟩ => ⟨S8640x1, .f32⟩
  | .hbm, ⟨40, _⟩ => ⟨S_, .f32⟩
  | .hbm, ⟨41, _⟩ => ⟨S8640x1, .f32⟩
  | .hbm, ⟨42, _⟩ => ⟨S8640x1, .f32⟩
  | .hbm, ⟨43, _⟩ => ⟨S8640x2048, .f32⟩
  | .hbm, ⟨44, _⟩ => ⟨S8640x2048, .f32⟩
  | .hbm, ⟨45, _⟩ => ⟨S_, .f32⟩
  | .hbm, ⟨46, _⟩ => ⟨S8640x1, .f32⟩
  | .hbm, ⟨47, _⟩ => ⟨S8640x1, .f32⟩
  | .hbm, ⟨48, _⟩ => ⟨S8640x1, .f32⟩
  | .hbm, ⟨49, _⟩ => ⟨S8640x2048, .f32⟩
  | .hbm, ⟨50, _⟩ => ⟨S8640x2048, .f32⟩
  | .hbm, ⟨51, _⟩ => ⟨S1x2048, .f32⟩
  | .hbm, ⟨52, _⟩ => ⟨S8640x2048, .f32⟩
  | .hbm, ⟨53, _⟩ => ⟨S8640x2048, .f32⟩
  | .hbm, ⟨54, _⟩ => ⟨S1x2048, .f32⟩
  | .hbm, ⟨55, _⟩ => ⟨S8640x2048, .f32⟩
  | .hbm, ⟨56, _⟩ => ⟨S8640x2048, .f32⟩
  | _, _ => ⟨S8640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== OutprojKernel.lean ====
abbrev S8640x2048 : Shape := ⟨2, ![8640, 2048]⟩
abbrev S2048 : Shape := ⟨1, ![2048]⟩
abbrev S8640x1024 : Shape := ⟨2, ![8640, 1024]⟩
abbrev S1x2048x2048 : Shape := ⟨3, ![1, 2048, 2048]⟩
abbrev S1x2048 : Shape := ⟨2, ![1, 2048]⟩
abbrev S2048x2048 : Shape := ⟨2, ![2048, 2048]⟩
abbrev S1024x2048 : Shape := ⟨2, ![1024, 2048]⟩
abbrev S432x2048 : Shape := ⟨2, ![432, 2048]⟩
abbrev S432x1024 : Shape := ⟨2, ![432, 1024]⟩
abbrev S432 : Shape := ⟨1, ![432]⟩
abbrev S432x1 : Shape := ⟨2, ![432, 1]⟩

abbrev nBuf : Space → Nat
  | .hbm => 19
  | .vmem => 14
  | .smem => 0
  | _ => 0

abbrev bufTy : (tb : Table) → Fin (tcTables nBuf tb) → BufTy
  | .hbm, ⟨0, _⟩ => ⟨S8640x2048, .f32⟩
  | .hbm, ⟨1, _⟩ => ⟨S2048, .f32⟩
  | .hbm, ⟨2, _⟩ => ⟨S2048, .f32⟩
  | .hbm, ⟨3, _⟩ => ⟨S8640x1024, .bf16⟩
  | .hbm, ⟨4, _⟩ => ⟨S8640x1024, .bf16⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1024x2048, .bf16⟩
  | .hbm, ⟨13, _⟩ => ⟨S1024x2048, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8640x2048, .f32⟩
  | .local _ .vmem, ⟨0, _⟩ => ⟨S432x2048, .f32⟩
  | .local _ .vmem, ⟨1, _⟩ => ⟨S432x2048, .f32⟩
  | .local _ .vmem, ⟨2, _⟩ => ⟨S1x2048, .f32⟩
  | .local _ .vmem, ⟨3, _⟩ => ⟨S1x2048, .f32⟩
  | .local _ .vmem, ⟨4, _⟩ => ⟨S432x1024, .bf16⟩
  | .local _ .vmem, ⟨5, _⟩ => ⟨S432x1024, .bf16⟩
  | .local _ .vmem, ⟨6, _⟩ => ⟨S432x1024, .bf16⟩
  | .local _ .vmem, ⟨7, _⟩ => ⟨S432x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S1x2048, .f32⟩
  | .local _ .vmem, ⟨12, _⟩ => ⟨S432x2048, .f32⟩
  | .local _ .vmem, ⟨13, _⟩ => ⟨S432x2048, .f32⟩
  | _, _ => ⟨S8640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S432x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S432x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojReferenceIdeal.lean ====
abbrev S8640x2048 : Shape := ⟨2, ![8640, 2048]⟩
abbrev S2048 : Shape := ⟨1, ![2048]⟩
abbrev S8640x1024 : Shape := ⟨2, ![8640, 1024]⟩
abbrev S1x2048x2048 : Shape := ⟨3, ![1, 2048, 2048]⟩
abbrev S1x2048 : Shape := ⟨2, ![1, 2048]⟩
abbrev S_ : Shape := ⟨0, ![]⟩
abbrev S8640 : Shape := ⟨1, ![8640]⟩
abbrev S8640x1 : Shape := ⟨2, ![8640, 1]⟩
abbrev S2048x2048 : Shape := ⟨2, ![2048, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8640x2048, .f32⟩
  | .hbm, ⟨1, _⟩ => ⟨S2048, .f32⟩
  | .hbm, ⟨2, _⟩ => ⟨S2048, .f32⟩
  | .hbm, ⟨3, _⟩ => ⟨S8640x1024, .bf16⟩
  | .hbm, ⟨4, _⟩ => ⟨S8640x1024, .bf16⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S8640, .f32⟩
  | .hbm, ⟨10, _⟩ => ⟨S8640x1, .f32⟩
  | .hbm, ⟨11, _⟩ => ⟨S_, .f32⟩
  | .hbm, ⟨12, _⟩ => ⟨S8640x1, .f32⟩
  | .hbm, ⟨13, _⟩ => ⟨S8640x1, .f32⟩
  | .hbm, ⟨14, _⟩ => ⟨S8640x2048, .f32⟩
  | .hbm, ⟨15, _⟩ => ⟨S8640x2048, .f32⟩
  | .hbm, ⟨16, _⟩ => ⟨S8640x2048, .f32⟩
  | .hbm, ⟨17, _⟩ => ⟨S_, .f32⟩
  | .hbm, ⟨18, _⟩ => ⟨S8640, .f32⟩
  | .hbm, ⟨19, _⟩ => ⟨S8640x1, .f32⟩
  | .hbm, ⟨20, _⟩ => ⟨S_, .f32⟩
  | .hbm, ⟨21, _⟩ => ⟨S8640x1, .f32⟩
  | .hbm, ⟨22, _⟩ => ⟨S8640x1, .f32⟩
  | .hbm, ⟨23, _⟩ => ⟨S8640x2048, .f32⟩
  | .hbm, ⟨24, _⟩ => ⟨S8640x2048, .f32⟩
  | .hbm, ⟨25, _⟩ => ⟨S_, .f32⟩
  | .hbm, ⟨26, _⟩ => ⟨S8640x1, .f32⟩
  | .hbm, ⟨27, _⟩ => ⟨S8640x1, .f32⟩
  | .hbm, ⟨28, _⟩ => ⟨S8640x1, .f32⟩
  | .hbm, ⟨29, _⟩ => ⟨S8640x2048, .f32⟩
  | .hbm, ⟨30, _⟩ => ⟨S8640x2048, .f32⟩
  | .hbm, ⟨31, _⟩ => ⟨S1x2048, .f32⟩
  | .hbm, ⟨32, _⟩ => ⟨S8640x2048, .f32⟩
  | .hbm, ⟨33, _⟩ => ⟨S8640x2048, .f32⟩
  | .hbm, ⟨34, _⟩ => ⟨S1x2048, .f32⟩
  | .hbm, ⟨35, _⟩ => ⟨S8640x2048, .f32⟩
  | .hbm, ⟨36, _⟩ => ⟨S8640x2048, .f32⟩
  | .hbm, ⟨37, _⟩ => ⟨S8640x1024, .f32⟩
  | .hbm, ⟨38, _⟩ => ⟨S8640x1024, .f32⟩
  | .hbm, ⟨39, _⟩ => ⟨S8640x2048, .f32⟩
  | .hbm, ⟨40, _⟩ => ⟨S2048x2048, .f32⟩
  | .hbm, ⟨41, _⟩ => ⟨S8640x2048, .f32⟩
  | .hbm, ⟨42, _⟩ => ⟨S_, .f32⟩
  | .hbm, ⟨43, _⟩ => ⟨S8640x2048, .f32⟩
  | .hbm, ⟨44, _⟩ => ⟨S8640x2048, .f32⟩
  | .hbm, ⟨45, _⟩ => ⟨S8640x2048, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S8640, .f32⟩
  | .hbm, ⟨50, _⟩ => ⟨S8640x1, .f32⟩
  | .hbm, ⟨51, _⟩ => ⟨S_, .f32⟩
  | .hbm, ⟨52, _⟩ => ⟨S8640x1, .f32⟩
  | .hbm, ⟨53, _⟩ => ⟨S8640x1, .f32⟩
  | .hbm, ⟨54, _⟩ => ⟨S8640x2048, .f32⟩
  | .hbm, ⟨55, _⟩ => ⟨S8640x2048, .f32⟩
  | .hbm, ⟨56, _⟩ => ⟨S8640x2048, .f32⟩
  | .hbm, ⟨57, _⟩ => ⟨S_, .f32⟩
  | .hbm, ⟨58, _⟩ => ⟨S8640, .f32⟩
  | .hbm, ⟨59, _⟩ => ⟨S8640x1, .f32⟩
  | .hbm, ⟨60, _⟩ => ⟨S_, .f32⟩
  | .hbm, ⟨61, _⟩ => ⟨S8640x1, .f32⟩
  | .hbm, ⟨62, _⟩ => ⟨S8640x1, .f32⟩
  | .hbm, ⟨63, _⟩ => ⟨S8640x2048, .f32⟩
  | .hbm, ⟨64, _⟩ => ⟨S8640x2048, .f32⟩
  | .hbm, ⟨65, _⟩ => ⟨S_, .f32⟩
  | .hbm, ⟨66, _⟩ => ⟨S8640x1, .f32⟩
  | .hbm, ⟨67, _⟩ => ⟨S8640x1, .f32⟩
  | .hbm, ⟨68, _⟩ => ⟨S8640x1, .f32⟩
  | .hbm, ⟨69, _⟩ => ⟨S8640x2048, .f32⟩
  | .hbm, ⟨70, _⟩ => ⟨S8640x2048, .f32⟩
  | .hbm, ⟨71, _⟩ => ⟨S1x2048, .f32⟩
  | .hbm, ⟨72, _⟩ => ⟨S8640x2048, .f32⟩
  | .hbm, ⟨73, _⟩ => ⟨S8640x2048, .f32⟩
  | .hbm, ⟨74, _⟩ => ⟨S1x2048, .f32⟩
  | .hbm, ⟨75, _⟩ => ⟨S8640x2048, .f32⟩
  | .hbm, ⟨76, _⟩ => ⟨S8640x2048, .f32⟩
  | _, _ => ⟨S8640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Proof.HgrnBody.lean ====
module

public import proofs.«01_k».proof.Proof.Gen.HgrnKernelIdeal.Value
public import Idealize.ShloMosaic.Lib.Pointwise

/-! The decode step of the gated recurrence, one sequence at a time: what the kernel's body leaves in its two output
    blocks, head by head. -/

@[expose] public section

set_option maxRecDepth 16384

noncomputable section

open Idealize.ShloMosaic Idealize.ShloMosaic.TcCoe Idealize.SL.Sem

namespace Cert.Proof.Hgrn

/-- The lower bound of a forget gate: the softmax of the two logits, its first half. -/
def bound (l0 l1 : EReal) : EReal :=
  Ideal.div (Ideal.exp (l0 - max l0 l1)) (Ideal.exp (l0 - max l0 l1) + Ideal.exp (l1 - max l0 l1))

/-- The forget gate. -/
def gate (l0 l1 x : EReal) : EReal :=
  bound l0 l1 + (Ideal.ofBits .f32 0x3F800000#32 - bound l0 l1) * Ideal.logistic x

/-- The state after the step, at a row and column. -/
def next (s f i : EReal) : EReal := s * f + (Ideal.ofBits .f32 0x3F800000#32 - f) * i

/-- The normalised and gated read-out, at column `v`, of a row of read-outs. -/
def emit (o : Fin 128 → EReal) (ng hg : EReal) (v : Fin 128) : EReal :=
  o v * Ideal.rsqrt (Ideal.div (∑ k, o k * o k) (Ideal.ofBits .f32 0x43000000#32) + Ideal.ofBits .f32 0x358637BD#32) * ng * (hg * Ideal.logistic hg)

open Cert.HgrnKernelIdeal Cert.HgrnKernelIdeal.Gen

variable (x0 : Vec Ideal S1x1x8x128x128 .f32) (x1 x2 : Vec Ideal S1x8x128x1 .f32) (x3 x4 : Vec Ideal S1x8x1x128 .f32)
  (x5 : Vec Ideal S2x8x128x1 .f32) (x6 : Vec Ideal S1x128 .f32)

/-- The forget gate of a head's row. -/
def fgate (h : Fin 8) (d : Fin 128) : EReal := gate (x5 (ix4 0 h d 0)) (x5 (ix4 1 h d 0)) (x2 (ix4 0 h d 0))

def snew (h : Fin 8) (d v : Fin 128) : EReal := next (x0 (ix5 0 0 h d v)) (fgate x2 x5 h d) (x3 (ix4 0 h 0 v))

def read (h : Fin 8) (v : Fin 128) : EReal :=
  ∑ d : Fin 128, snew x0 x2 x3 x5 h d v * (x1 (ix4 0 h d 0) * Ideal.logistic (x1 (ix4 0 h d 0)))

theorem pay44 (h : Fin 8) (d : Fin 128) : k0_pay44 (F := Ideal) x0 x1 x2 x3 x4 x5 x6 (ix3 h d 0) = fgate x2 x5 h d := by
  pointwise [k0_pay44, k0_pay2, fgate, gate, bound]

theorem pay45 (h : Fin 8) (d : Fin 128) : k0_pay45 (F := Ideal) x0 x1 x2 x3 x4 x5 x6 (ix3 h d 0)
    = x1 (ix4 0 h d 0) * Ideal.logistic (x1 (ix4 0 h d 0)) := by
  pointwise [k0_pay45, k0_pay3]

theorem pay46 (v : Fin 128) : k0_pay46 (F := Ideal) x0 x1 x2 x3 x4 x5 x6 (ix2 0 v) = x6 (ix2 0 v) := by
  pointwise [k0_pay46, k0_pay4]

def G7 (i : S1x8x128x128.Idx) : EReal := snew x0 x2 x3 x5 (i 1) (i 2) (i 3)

theorem put7 (G : S1x8x128x128.Idx → EReal) (w : S1x1x128x128.Idx → EReal) (k : Fin 8) (inb)
    (hw : ∀ d v : Fin 128, w (ix4 0 0 d v) = G (ix4 0 k d v)) (x : S1x1x128x128.Idx) :
    w x = G ((Rect.unit (s := S1x8x128x128) ![0, k.val, 0, 0] S1x1x128x128.size inb).emb x) := by
  have e : x = ix4 0 0 (x 2) (x 3) := by
    refine (eq_ix4 x).trans ?_
    rw [show x 0 = (0 : Fin 1) from Subsingleton.elim (α := Fin 1) _ _, show x 1 = (0 : Fin 1) from Subsingleton.elim (α := Fin 1) _ _]
    rfl
  refine (congrArg w e).trans ((hw (x 2) (x 3)).trans (congrArg G (funext fun a => Fin.ext ?_)))
  match a with
  | ⟨0, _⟩ => have h : (x 0).val < 1 := (x 0).isLt; show 0 = 0 + 1 * (x 0).val; omega
  | ⟨1, _⟩ => have h : (x 1).val < 1 := (x 1).isLt; show k.val = k.val + 1 * (x 1).val; omega
  | ⟨2, _⟩ => show (x 2).val = 0 + 1 * (x 2).val; omega
  | ⟨3, _⟩ => show (x 3).val = 0 + 1 * (x 3).val; omega

theorem put8 (G : S1x8x1x128.Idx → EReal) (w : S1x1x1x128.Idx → EReal) (k : Fin 8) (inb)
    (hw : ∀ v : Fin 128, w (ix4 0 0 0 v) = G (ix4 0 k 0 v)) (x : S1x1x1x128.Idx) :
    w x = G ((Rect.unit (s := S1x8x1x128) ![0, k.val, 0, 0] S1x1x1x128.size inb).emb x) := by
  have e : x = ix4 0 0 0 (x 3) := by
    refine (eq_ix4 x).trans ?_
    rw [show x 0 = (0 : Fin 1) from Subsingleton.elim (α := Fin 1) _ _, show x 1 = (0 : Fin 1) from Subsingleton.elim (α := Fin 1) _ _,
      show x 2 = (0 : Fin 1) from Subsingleton.elim (α := Fin 1) _ _]
    rfl
  refine (congrArg w e).trans ((hw (x 3)).trans (congrArg G (funext fun a => Fin.ext ?_)))
  match a with
  | ⟨0, _⟩ => have h : (x 0).val < 1 := (x 0).isLt; show 0 = 0 + 1 * (x 0).val; omega
  | ⟨1, _⟩ => have h : (x 1).val < 1 := (x 1).isLt; show k.val = k.val + 1 * (x 1).val; omega
  | ⟨2, _⟩ => have h : (x 2).val < 1 := (x 2).isLt; show 0 = 0 + 1 * (x 2).val; omega
  | ⟨3, _⟩ => show (x 3).val = 0 + 1 * (x 3).val; omega

def G8 (i : S1x8x1x128.Idx) : EReal := emit (read x0 x1 x2 x3 x5 (i 1)) (x6 (ix2 0 (i 3))) (x4 (ix4 0 (i 1) 0 (i 3))) (i 3)

theorem state7 (d v : Fin 128) : (k0_pay41 (k0_pay44 x0 x1 x2 x3 x4 x5 x6) (View.ld x0 r0_25) (View.ld x3 r0_26) : FVec Ideal S1x1x128x128 .f32) (ix4 0 0 d v) = snew x0 x2 x3 x5 7 d v := by
  unfold snew next
  simp only [← pay44 x0 x1 x2 x3 x4 x5 x6]
  pointwise [k0_pay41, k0_pay40]

theorem state6 (d v : Fin 128) : (k0_pay37 (k0_pay44 x0 x1 x2 x3 x4 x5 x6) (View.ld x0 r0_22) (View.ld x3 r0_23) : FVec Ideal S1x1x128x128 .f32) (ix4 0 0 d v) = snew x0 x2 x3 x5 6 d v := by
  unfold snew next
  simp only [← pay44 x0 x1 x2 x3 x4 x5 x6]
  pointwise [k0_pay37, k0_pay36]

theorem state5 (d v : Fin 128) : (k0_pay33 (k0_pay44 x0 x1 x2 x3 x4 x5 x6) (k0_pay52 x0 x1 x2 x3 x4 x5 x6) (View.ld x3 r0_20) : FVec Ideal S1x1x128x128 .f32) (ix4 0 0 d v) = snew x0 x2 x3 x5 5 d v := by
  unfold snew next
  simp only [← pay44 x0 x1 x2 x3 x4 x5 x6]
  pointwise [k0_pay52, k0_pay31, k0_pay33, k0_pay32]

theorem state4 (d v : Fin 128) : (k0_pay29 (k0_pay49 x0 x1 x2 x3 x4 x5 x6) (k0_pay50 x0 x1 x2 x3 x4 x5 x6) (k0_pay51 x0 x1 x2 x3 x4 x5 x6) : FVec Ideal S1x1x128x128 .f32) (ix4 0 0 d v) = snew x0 x2 x3 x5 4 d v := by
  unfold snew next
  simp only [← pay44 x0 x1 x2 x3 x4 x5 x6]
  pointwise [k0_pay51, k0_pay27, k0_pay50, k0_pay26, k0_pay49, k0_pay25, k0_pay29, k0_pay28]

theorem state3 (d v : Fin 128) : (k0_pay22 (k0_pay44 x0 x1 x2 x3 x4 x5 x6) (View.ld x0 r0_13) (View.ld x3 r0_14) : FVec Ideal S1x1x128x128 .f32) (ix4 0 0 d v) = snew x0 x2 x3 x5 3 d v := by
  unfold snew next
  simp only [← pay44 x0 x1 x2 x3 x4 x5 x6]
  pointwise [k0_pay22, k0_pay21]

theorem state2 (d v : Fin 128) : (k0_pay16 (k0_pay44 x0 x1 x2 x3 x4 x5 x6) (View.ld x0 r0_10) (View.ld x3 r0_11) : FVec Ideal S1x1x128x128 .f32) (ix4 0 0 d v) = snew x0 x2 x3 x5 2 d v := by
  unfold snew next
  simp only [← pay44 x0 x1 x2 x3 x4 x5 x6]
  pointwise [k0_pay16, k0_pay15]

theorem state1 (d v : Fin 128) : (k0_pay11 (k0_pay44 x0 x1 x2 x3 x4 x5 x6) (View.ld x0 r0_7) (View.ld x3 r0_8) : FVec Ideal S1x1x128x128 .f32) (ix4 0 0 d v) = snew x0 x2 x3 x5 1 d v := by
  unfold snew next
  simp only [← pay44 x0 x1 x2 x3 x4 x5 x6]
  pointwise [k0_pay11, k0_pay10]

theorem state0 (d v : Fin 128) : (k0_pay8 (k0_pay47 x0 x1 x2 x3 x4 x5 x6) (k0_pay48 x0 x1 x2 x3 x4 x5 x6) (View.ld x3 r0_5) : FVec Ideal S1x1x128x128 .f32) (ix4 0 0 d v) = snew x0 x2 x3 x5 0 d v := by
  unfold snew next
  simp only [← pay44 x0 x1 x2 x3 x4 x5 x6]
  pointwise [k0_pay48, k0_pay6, k0_pay2, k0_pay8, k0_pay7, k0_pay47, k0_pay5, k0_pay44]

theorem out7 : out0_7 (F := Ideal) x0 x1 x2 x3 x4 x5 x6 = G7 x0 x2 x3 x5 := by
  funext y
  unfold out0_7
  refine View.canon_apply_of_pieces (Val := Elt Idealize.ShloMosaic.Ideal) (e := .f32) (G7 x0 x2 x3 x5) _ ?_ y (cover0_7 _ _ _ _ _ _ _ _ y)
  intro p hp
  simp only [List.mem_cons, List.not_mem_nil, or_false] at hp
  rcases hp with rfl | rfl | rfl | rfl | rfl | rfl | rfl | rfl
  · exact put7 (G7 x0 x2 x3 x5) _ 7 (by decide) (fun d v => state7 x0 x1 x2 x3 x4 x5 x6 d v)
  · exact put7 (G7 x0 x2 x3 x5) _ 6 (by decide) (fun d v => state6 x0 x1 x2 x3 x4 x5 x6 d v)
  · exact put7 (G7 x0 x2 x3 x5) _ 5 (by decide) (fun d v => state5 x0 x1 x2 x3 x4 x5 x6 d v)
  · exact put7 (G7 x0 x2 x3 x5) _ 4 (by decide) (fun d v => state4 x0 x1 x2 x3 x4 x5 x6 d v)
  · exact put7 (G7 x0 x2 x3 x5) _ 3 (by decide) (fun d v => state3 x0 x1 x2 x3 x4 x5 x6 d v)
  · exact put7 (G7 x0 x2 x3 x5) _ 2 (by decide) (fun d v => state2 x0 x1 x2 x3 x4 x5 x6 d v)
  · exact put7 (G7 x0 x2 x3 x5) _ 1 (by decide) (fun d v => state1 x0 x1 x2 x3 x4 x5 x6 d v)
  · exact put7 (G7 x0 x2 x3 x5) _ 0 (by decide) (fun d v => state0 x0 x1 x2 x3 x4 x5 x6 d v)

theorem emit7 (v : Fin 128) : (k0_pay1 (k0_pay46 x0 x1 x2 x3 x4 x5 x6) (k0_pay42 (k0_pay44 x0 x1 x2 x3 x4 x5 x6) (k0_pay45 x0 x1 x2 x3 x4 x5 x6) (View.ld x0 r0_25) (View.ld x3 r0_26)) (k0_pay43 (k0_pay44 x0 x1 x2 x3 x4 x5 x6) (k0_pay45 x0 x1 x2 x3 x4 x5 x6) (View.ld x0 r0_25) (View.ld x3 r0_26)) (View.ld x4 r0_26) : FVec Ideal S1x1x1x128 .bf16) (ix4 0 0 0 v)
    = emit (read x0 x1 x2 x3 x5 7) (x6 (ix2 0 v)) (x4 (ix4 0 7 0 v)) v := by
  unfold emit read snew next
  simp only [← pay44 x0 x1 x2 x3 x4 x5 x6, ← pay45 x0 x1 x2 x3 x4 x5 x6, ← pay46 x0 x1 x2 x3 x4 x5 x6]
  pointwise [k0_pay1, k0_pay43, k0_pay42, k0_pay40]

theorem emit6 (v : Fin 128) : (k0_pay39 (k0_pay38 (k0_pay44 x0 x1 x2 x3 x4 x5 x6) (k0_pay45 x0 x1 x2 x3 x4 x5 x6) (k0_pay46 x0 x1 x2 x3 x4 x5 x6) (View.ld x0 r0_22) (View.ld x3 r0_23)) (View.ld x4 r0_23) : FVec Ideal S1x1x1x128 .bf16) (ix4 0 0 0 v)
    = emit (read x0 x1 x2 x3 x5 6) (x6 (ix2 0 v)) (x4 (ix4 0 6 0 v)) v := by
  unfold emit read snew next
  simp only [← pay44 x0 x1 x2 x3 x4 x5 x6, ← pay45 x0 x1 x2 x3 x4 x5 x6, ← pay46 x0 x1 x2 x3 x4 x5 x6]
  pointwise [k0_pay39, k0_pay38, k0_pay36]

theorem emit5 (v : Fin 128) : (k0_pay35 (k0_pay34 (k0_pay44 x0 x1 x2 x3 x4 x5 x6) (k0_pay45 x0 x1 x2 x3 x4 x5 x6) (k0_pay46 x0 x1 x2 x3 x4 x5 x6) (k0_pay52 x0 x1 x2 x3 x4 x5 x6) (View.ld x3 r0_20) (View.ld x4 r0_20)) : FVec Ideal S1x1x1x128 .bf16) (ix4 0 0 0 v)
    = emit (read x0 x1 x2 x3 x5 5) (x6 (ix2 0 v)) (x4 (ix4 0 5 0 v)) v := by
  unfold emit read snew next
  simp only [← pay44 x0 x1 x2 x3 x4 x5 x6, ← pay45 x0 x1 x2 x3 x4 x5 x6, ← pay46 x0 x1 x2 x3 x4 x5 x6]
  pointwise [k0_pay52, k0_pay31, k0_pay35, k0_pay34, k0_pay32]

theorem emit4 (v : Fin 128) : (k0_pay30 (k0_pay45 x0 x1 x2 x3 x4 x5 x6) (k0_pay46 x0 x1 x2 x3 x4 x5 x6) (k0_pay49 x0 x1 x2 x3 x4 x5 x6) (k0_pay50 x0 x1 x2 x3 x4 x5 x6) (k0_pay51 x0 x1 x2 x3 x4 x5 x6) (View.ld x4 r0_17) : FVec Ideal S1x1x1x128 .bf16) (ix4 0 0 0 v)
    = emit (read x0 x1 x2 x3 x5 4) (x6 (ix2 0 v)) (x4 (ix4 0 4 0 v)) v := by
  unfold emit read snew next
  simp only [← pay44 x0 x1 x2 x3 x4 x5 x6, ← pay45 x0 x1 x2 x3 x4 x5 x6, ← pay46 x0 x1 x2 x3 x4 x5 x6]
  pointwise [k0_pay30, k0_pay28, k0_pay50, k0_pay26, k0_pay49, k0_pay25, k0_pay51, k0_pay27]

theorem emit3 (v : Fin 128) : (k0_pay24 (k0_pay46 x0 x1 x2 x3 x4 x5 x6) (k0_pay21 (k0_pay44 x0 x1 x2 x3 x4 x5 x6) (View.ld x0 r0_13) (View.ld x3 r0_14)) (k0_pay23 (k0_pay45 x0 x1 x2 x3 x4 x5 x6)) (View.ld x4 r0_14) : FVec Ideal S1x1x1x128 .bf16) (ix4 0 0 0 v)
    = emit (read x0 x1 x2 x3 x5 3) (x6 (ix2 0 v)) (x4 (ix4 0 3 0 v)) v := by
  unfold emit read snew next
  simp only [← pay44 x0 x1 x2 x3 x4 x5 x6, ← pay45 x0 x1 x2 x3 x4 x5 x6, ← pay46 x0 x1 x2 x3 x4 x5 x6]
  pointwise [k0_pay21, k0_pay24, k0_pay23]

theorem emit2 (v : Fin 128) : (k0_pay20 (k0_pay46 x0 x1 x2 x3 x4 x5 x6) (k0_pay17 (k0_pay44 x0 x1 x2 x3 x4 x5 x6) (k0_pay45 x0 x1 x2 x3 x4 x5 x6) (View.ld x0 r0_10) (View.ld x3 r0_11)) (k0_pay18 (k0_pay44 x0 x1 x2 x3 x4 x5 x6) (k0_pay45 x0 x1 x2 x3 x4 x5 x6) (View.ld x0 r0_10) (View.ld x3 r0_11)) (k0_pay19 (F := Ideal)) (View.ld x4 r0_11) : FVec Ideal S1x1x1x128 .bf16) (ix4 0 0 0 v)
    = emit (read x0 x1 x2 x3 x5 2) (x6 (ix2 0 v)) (x4 (ix4 0 2 0 v)) v := by
  unfold emit read snew next
  simp only [← pay44 x0 x1 x2 x3 x4 x5 x6, ← pay45 x0 x1 x2 x3 x4 x5 x6, ← pay46 x0 x1 x2 x3 x4 x5 x6]
  pointwise [k0_pay18, k0_pay17, k0_pay15, k0_pay19, k0_pay20]

theorem emit1 (v : Fin 128) : (k0_pay14 (k0_pay12 (k0_pay44 x0 x1 x2 x3 x4 x5 x6) (k0_pay45 x0 x1 x2 x3 x4 x5 x6) (k0_pay46 x0 x1 x2 x3 x4 x5 x6) (View.ld x0 r0_7) (View.ld x3 r0_8)) (k0_pay13 (View.ld x4 r0_8)) : FVec Ideal S1x1x1x128 .bf16) (ix4 0 0 0 v)
    = emit (read x0 x1 x2 x3 x5 1) (x6 (ix2 0 v)) (x4 (ix4 0 1 0 v)) v := by
  unfold emit read snew next
  simp only [← pay44 x0 x1 x2 x3 x4 x5 x6, ← pay45 x0 x1 x2 x3 x4 x5 x6, ← pay46 x0 x1 x2 x3 x4 x5 x6]
  pointwise [k0_pay12, k0_pay10, k0_pay14, k0_pay13]

theorem emit0 (v : Fin 128) : (k0_pay9 (k0_pay45 x0 x1 x2 x3 x4 x5 x6) (k0_pay46 x0 x1 x2 x3 x4 x5 x6) (k0_pay47 x0 x1 x2 x3 x4 x5 x6) (k0_pay48 x0 x1 x2 x3 x4 x5 x6) (View.ld x3 r0_5) (View.ld x4 r0_5) : FVec Ideal S1x1x1x128 .bf16) (ix4 0 0 0 v)
    = emit (read x0 x1 x2 x3 x5 0) (x6 (ix2 0 v)) (x4 (ix4 0 0 0 v)) v := by
  unfold emit read snew next
  simp only [← pay44 x0 x1 x2 x3 x4 x5 x6, ← pay45 x0 x1 x2 x3 x4 x5 x6, ← pay46 x0 x1 x2 x3 x4 x5 x6]
  pointwise [k0_pay48, k0_pay6, k0_pay2, k0_pay9, k0_pay7, k0_pay47, k0_pay5, k0_pay44]

theorem out8 : out0_8 (F := Ideal) x0 x1 x2 x3 x4 x5 x6 = G8 x0 x1 x2 x3 x4 x5 x6 := by
  funext y
  unfold out0_8
  refine View.canon_apply_of_pieces (Val := Elt Idealize.ShloMosaic.Ideal) (e := .bf16) (G8 x0 x1 x2 x3 x4 x5 x6) _ ?_ y (cover0_8 _ _ _ _ _ _ _ _ y)
  intro p hp
  simp only [List.mem_cons, List.not_mem_nil, or_false] at hp
  rcases hp with rfl | rfl | rfl | rfl | rfl | rfl | rfl | rfl
  · exact put8 (G8 x0 x1 x2 x3 x4 x5 x6) _ 7 (by decide) (fun v => emit7 x0 x1 x2 x3 x4 x5 x6 v)
  · exact put8 (G8 x0 x1 x2 x3 x4 x5 x6) _ 6 (by decide) (fun v => emit6 x0 x1 x2 x3 x4 x5 x6 v)
  · exact put8 (G8 x0 x1 x2 x3 x4 x5 x6) _ 5 (by decide) (fun v => emit5 x0 x1 x2 x3 x4 x5 x6 v)
  · exact put8 (G8 x0 x1 x2 x3 x4 x5 x6) _ 4 (by decide) (fun v => emit4 x0 x1 x2 x3 x4 x5 x6 v)
  · exact put8 (G8 x0 x1 x2 x3 x4 x5 x6) _ 3 (by decide) (fun v => emit3 x0 x1 x2 x3 x4 x5 x6 v)
  · exact put8 (G8 x0 x1 x2 x3 x4 x5 x6) _ 2 (by decide) (fun v => emit2 x0 x1 x2 x3 x4 x5 x6 v)
  · exact put8 (G8 x0 x1 x2 x3 x4 x5 x6) _ 1 (by decide) (fun v => emit1 x0 x1 x2 x3 x4 x5 x6 v)
  · exact put8 (G8 x0 x1 x2 x3 x4 x5 x6) _ 0 (by decide) (fun v => emit0 x0 x1 x2 x3 x4 x5 x6 v)

end Cert.Proof.Hgrn

end
-- ==== Proof.HgrnValue.lean ====
module

public import proofs.«01_k».proof.Proof.HgrnBody

/-! The decode step of the gated recurrence: what the kernel's two arrays hold after the run, as formulas over the
    arguments. -/

@[expose] public section

set_option maxRecDepth 16384

noncomputable section

open Idealize.ShloMosaic Idealize.ShloMosaic.TcCoe Idealize.SL.Sem

namespace Cert.Proof.Hgrn

/-- The column of the projections that head `h` reads at its coordinate `d`. -/
def col (h : Fin 8) (d : Fin 128) : Fin 1024 := ⟨h.val * 128 + d.val, by omega⟩

section Spec

variable (s : (⟨5, ![1, 32, 8, 128, 128]⟩ : Shape).Idx → EReal) (hq hf hi hg : (⟨2, ![32, 1024]⟩ : Shape).Idx → EReal)
  (l : (⟨2, ![2, 1024]⟩ : Shape).Idx → EReal) (ng : (⟨2, ![1, 128]⟩ : Shape).Idx → EReal)

/-- The forget gate of sequence `t`, head `h`, coordinate `d`. -/
def fg (t : Fin 32) (h : Fin 8) (d : Fin 128) : EReal := gate (l (ix2 0 (col h d))) (l (ix2 1 (col h d))) (hf (ix2 t (col h d)))

/-- The state after the step. -/
def st (t : Fin 32) (h : Fin 8) (d v : Fin 128) : EReal := next (s (ix5 0 t h d v)) (fg hf l t h d) (hi (ix2 t (col h v)))

/-- The read-out of the new state by the gated query. -/
def ro (t : Fin 32) (h : Fin 8) (v : Fin 128) : EReal :=
  ∑ d : Fin 128, st s hf hi l t h d v * (hq (ix2 t (col h d)) * Ideal.logistic (hq (ix2 t (col h d))))

/-- The step's output. -/
def em (t : Fin 32) (h : Fin 8) (v : Fin 128) : EReal :=
  emit (ro s hq hf hi l t h) (ng (ix2 0 v)) (hg (ix2 t (col h v))) v

end Spec

section Kernel

open Cert.HgrnKernelIdeal Cert.HgrnKernelIdeal.Gen

variable (m : (ℓ : Loc nD τ sig) → Buf (Elt Idealize.ShloMosaic.Ideal) ℓ) (c : Dev nD)

theorem V1 (v : Fin 128) : V m c main_v1 (ix2 0 v) = m ((c : Thread nD τ).loc main_arg6) (ix2 0 v) := by
  unfold V; after_results_simp; pointwise []

theorem V2 (t : Fin 32) (h : Fin 8) (d : Fin 128) :
    V m c main_v2 (ix4 t h d 0) = m ((c : Thread nD τ).loc main_arg1) (ix2 t (col h d)) := by
  unfold V col; after_results_simp; pointwise []

theorem V3 (t : Fin 32) (h : Fin 8) (d : Fin 128) :
    V m c main_v3 (ix4 t h d 0) = m ((c : Thread nD τ).loc main_arg2) (ix2 t (col h d)) := by
  unfold V col; after_results_simp; pointwise []

theorem V4 (t : Fin 32) (h : Fin 8) (d : Fin 128) :
    V m c main_v4 (ix4 t h 0 d) = m ((c : Thread nD τ).loc main_arg3) (ix2 t (col h d)) := by
  unfold V col; after_results_simp; pointwise []

theorem V5 (t : Fin 32) (h : Fin 8) (d : Fin 128) :
    V m c main_v5 (ix4 t h 0 d) = m ((c : Thread nD τ).loc main_arg4) (ix2 t (col h d)) := by
  unfold V col; after_results_simp; pointwise []

theorem V6 (t : Fin 2) (h : Fin 8) (d : Fin 128) :
    V m c main_v6 (ix4 t h d 0) = m ((c : Thread nD τ).loc main_arg5) (ix2 t (col h d)) := by
  unfold V col; after_results_simp; pointwise []

/-- The sequence a grid point works on. -/
def sq (t : Fin cfg0.N) : Fin 32 := ⟨t.val, by have := t.isLt; have hN : cfg0.N = 32 := N_0; omega⟩

theorem ixf0 : ∀ t : Fin cfg0.N, win0_0.index t 0 = 0 ∧ win0_0.index t 1 = t.val ∧ win0_0.index t 2 = 0 ∧ win0_0.index t 3 = 0 ∧ win0_0.index t 4 = 0 :=
  (by decide +kernel : ∀ t : Fin grid0.N, win0_0.index t 0 = 0 ∧ win0_0.index t 1 = t.val ∧ win0_0.index t 2 = 0 ∧ win0_0.index t 3 = 0 ∧ win0_0.index t 4 = 0)

theorem ixf1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

theorem ixf2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)

theorem ixf3 : ∀ t : Fin cfg0.N, win0_3.index t 0 = t.val ∧ win0_3.index t 1 = 0 ∧ win0_3.index t 2 = 0 ∧ win0_3.index t 3 = 0 :=
  (by decide +kernel : ∀ t : Fin grid0.N, win0_3.index t 0 = t.val ∧ win0_3.index t 1 = 0 ∧ win0_3.index t 2 = 0 ∧ win0_3.index t 3 = 0)

theorem ixf4 : ∀ t : Fin cfg0.N, win0_4.index t 0 = t.val ∧ win0_4.index t 1 = 0 ∧ win0_4.index t 2 = 0 ∧ win0_4.index t 3 = 0 :=
  (by decide +kernel : ∀ t : Fin grid0.N, win0_4.index t 0 = t.val ∧ win0_4.index t 1 = 0 ∧ win0_4.index t 2 = 0 ∧ win0_4.index t 3 = 0)

theorem ixf7 : ∀ t : Fin cfg0.N, win0_7.index t 0 = t.val ∧ win0_7.index t 1 = 0 ∧ win0_7.index t 2 = 0 ∧ win0_7.index t 3 = 0 :=
  (by decide +kernel : ∀ t : Fin grid0.N, win0_7.index t 0 = t.val ∧ win0_7.index t 1 = 0 ∧ win0_7.index t 2 = 0 ∧ win0_7.index t 3 = 0)

theorem ixf8 : ∀ t : Fin cfg0.N, win0_8.index t 0 = t.val ∧ win0_8.index t 1 = 0 ∧ win0_8.index t 2 = 0 ∧ win0_8.index t 3 = 0 :=
  (by decide +kernel : ∀ t : Fin grid0.N, win0_8.index t 0 = t.val ∧ win0_8.index t 1 = 0 ∧ win0_8.index t 2 = 0 ∧ win0_8.index t 3 = 0)

theorem ixf5 : ∀ t : Fin cfg0.N, win0_5.index t 0 = 0 ∧ win0_5.index t 1 = 0 ∧ win0_5.index t 2 = 0 ∧ win0_5.index t 3 = 0 :=
  (by decide +kernel : ∀ t : Fin grid0.N, win0_5.index t 0 = 0 ∧ win0_5.index t 1 = 0 ∧ win0_5.index t 2 = 0 ∧ win0_5.index t 3 = 0)

theorem ixf6 : ∀ t : Fin cfg0.N, win0_6.index t 0 = 0 ∧ win0_6.index t 1 = 0 :=
  (by decide +kernel : ∀ t : Fin grid0.N, win0_6.index t 0 = 0 ∧ win0_6.index t 1 = 0)

theorem blk0 (t : Fin cfg0.N) (h : Fin 8) (d v : Fin 128) :
    iblk m c 0 t (ix5 0 0 h d v) = m ((c : Thread nD τ).loc main_arg0) (ix5 0 (sq t) h d v) := by
  show V m c main_arg0 (((cfg0.win 0).blk t).view.emb (ix5 0 0 h d v)) = _
  refine (congrArg (V m c main_arg0) (funext fun a => Fin.ext ?_)).trans (congrFun (V_main_arg0 m c) _)
  have e := ixf0 t
  match a with
  | ⟨0, _⟩ => show win0_0.index t 0 * 1 + 1 * 0 = 0; omega
  | ⟨1, _⟩ => show win0_0.index t 1 * 1 + 1 * 0 = t.val; omega
  | ⟨2, _⟩ => show win0_0.index t 2 * 8 + 1 * h.val = h.val; omega
  | ⟨3, _⟩ => show win0_0.index t 3 * 128 + 1 * d.val = d.val; omega
  | ⟨4, _⟩ => show win0_0.index t 4 * 128 + 1 * v.val = v.val; omega

theorem blk1 (t : Fin cfg0.N) (h : Fin 8) (d : Fin 128) :
    iblk m c 1 t (ix4 0 h d 0) = m ((c : Thread nD τ).loc main_arg1) (ix2 (sq t) (col h d)) := by
  show V m c main_v2 (((cfg0.win 1).blk t).view.emb (ix4 0 h d 0)) = _
  refine (congrArg (V m c main_v2) (funext fun a => Fin.ext ?_)).trans (V2 m c (sq t) h d)
  have e := ixf1 t
  match a with
  | ⟨0, _⟩ => show win0_1.index t 0 * 1 + 1 * 0 = t.val; omega
  | ⟨1, _⟩ => show win0_1.index t 1 * 8 + 1 * h.val = h.val; omega
  | ⟨2, _⟩ => show win0_1.index t 2 * 128 + 1 * d.val = d.val; omega
  | ⟨3, _⟩ => show win0_1.index t 3 * 1 + 1 * 0 = 0; omega

theorem blk2 (t : Fin cfg0.N) (h : Fin 8) (d : Fin 128) :
    iblk m c 2 t (ix4 0 h d 0) = m ((c : Thread nD τ).loc main_arg2) (ix2 (sq t) (col h d)) := by
  show V m c main_v3 (((cfg0.win 2).blk t).view.emb (ix4 0 h d 0)) = _
  refine (congrArg (V m c main_v3) (funext fun a => Fin.ext ?_)).trans (V3 m c (sq t) h d)
  have e := ixf2 t
  match a with
  | ⟨0, _⟩ => show win0_2.index t 0 * 1 + 1 * 0 = t.val; omega
  | ⟨1, _⟩ => show win0_2.index t 1 * 8 + 1 * h.val = h.val; omega
  | ⟨2, _⟩ => show win0_2.index t 2 * 128 + 1 * d.val = d.val; omega
  | ⟨3, _⟩ => show win0_2.index t 3 * 1 + 1 * 0 = 0; omega

theorem blk3 (t : Fin cfg0.N) (h : Fin 8) (d : Fin 128) :
    iblk m c 3 t (ix4 0 h 0 d) = m ((c : Thread nD τ).loc main_arg3) (ix2 (sq t) (col h d)) := by
  show V m c main_v4 (((cfg0.win 3).blk t).view.emb (ix4 0 h 0 d)) = _
  refine (congrArg (V m c main_v4) (funext fun a => Fin.ext ?_)).trans (V4 m c (sq t) h d)
  have e := ixf3 t
  match a with
  | ⟨0, _⟩ => show win0_3.index t 0 * 1 + 1 * 0 = t.val; omega
  | ⟨1, _⟩ => show win0_3.index t 1 * 8 + 1 * h.val = h.val; omega
  | ⟨2, _⟩ => show win0_3.index t 2 * 1 + 1 * 0 = 0; omega
  | ⟨3, _⟩ => show win0_3.index t 3 * 128 + 1 * d.val = d.val; omega

theorem blk4 (t : Fin cfg0.N) (h : Fin 8) (d : Fin 128) :
    iblk m c 4 t (ix4 0 h 0 d) = m ((c : Thread nD τ).loc main_arg4) (ix2 (sq t) (col h d)) := by
  show V m c main_v5 (((cfg0.win 4).blk t).view.emb (ix4 0 h 0 d)) = _
  refine (congrArg (V m c main_v5) (funext fun a => Fin.ext ?_)).trans (V5 m c (sq t) h d)
  have e := ixf4 t
  match a with
  | ⟨0, _⟩ => show win0_4.index t 0 * 1 + 1 * 0 = t.val; omega
  | ⟨1, _⟩ => show win0_4.index t 1 * 8 + 1 * h.val = h.val; omega
  | ⟨2, _⟩ => show win0_4.index t 2 * 1 + 1 * 0 = 0; omega
  | ⟨3, _⟩ => show win0_4.index t 3 * 128 + 1 * d.val = d.val; omega

theorem blk5 (t : Fin cfg0.N) (r : Fin 2) (h : Fin 8) (d : Fin 128) :
    iblk m c 5 t (ix4 r h d 0) = m ((c : Thread nD τ).loc main_arg5) (ix2 r (col h d)) := by
  show V m c main_v6 (((cfg0.win 5).blk t).view.emb (ix4 r h d 0)) = _
  refine (congrArg (V m c main_v6) (funext fun a => Fin.ext ?_)).trans (V6 m c r h d)
  have e := ixf5 t
  match a with
  | ⟨0, _⟩ => show win0_5.index t 0 * 2 + 1 * r.val = r.val; omega
  | ⟨1, _⟩ => show win0_5.index t 1 * 8 + 1 * h.val = h.val; omega
  | ⟨2, _⟩ => show win0_5.index t 2 * 128 + 1 * d.val = d.val; omega
  | ⟨3, _⟩ => show win0_5.index t 3 * 1 + 1 * 0 = 0; omega

theorem blk6 (t : Fin cfg0.N) (v : Fin 128) :
    iblk m c 6 t (ix2 0 v) = m ((c : Thread nD τ).loc main_arg6) (ix2 0 v) := by
  show V m c main_v1 (((cfg0.win 6).blk t).view.emb (ix2 0 v)) = _
  refine (congrArg (V m c main_v1) (funext fun a => Fin.ext ?_)).trans (V1 m c v)
  have e := ixf6 t
  match a with
  | ⟨0, _⟩ => show win0_6.index t 0 * 1 + 1 * 0 = 0; omega
  | ⟨1, _⟩ => show win0_6.index t 1 * 128 + 1 * v.val = v.val; omega

/-- The new state, as a formula over the arguments. -/
def GS (i : S32x8x128x128.Idx) : EReal :=
  st (m ((c : Thread nD τ).loc main_arg0)) (m ((c : Thread nD τ).loc main_arg2)) (m ((c : Thread nD τ).loc main_arg3))
    (m ((c : Thread nD τ).loc main_arg5)) (i 0) (i 1) (i 2) (i 3)

/-- The step's output, as a formula over the arguments. -/
def GE (i : S32x8x1x128.Idx) : EReal :=
  em (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 3)

theorem snew_eq (t : Fin cfg0.N) (h : Fin 8) (d v : Fin 128) :
    snew (iblk m c 0 t) (iblk m c 2 t) (iblk m c 3 t) (iblk m c 5 t) h d v
      = st (m ((c : Thread nD τ).loc main_arg0)) (m ((c : Thread nD τ).loc main_arg2)) (m ((c : Thread nD τ).loc main_arg3))
          (m ((c : Thread nD τ).loc main_arg5)) (sq t) h d v := by
  unfold snew fgate st fg
  rw [blk0, blk2, blk3, blk5, blk5]

theorem read_eq (t : Fin cfg0.N) (h : Fin 8) (v : Fin 128) :
    read (iblk m c 0 t) (iblk m c 1 t) (iblk m c 2 t) (iblk m c 3 t) (iblk m c 5 t) h v
      = ro (m ((c : Thread nD τ).loc main_arg0)) (m ((c : Thread nD τ).loc main_arg1)) (m ((c : Thread nD τ).loc main_arg2))
          (m ((c : Thread nD τ).loc main_arg3)) (m ((c : Thread nD τ).loc main_arg5)) (sq t) h v := by
  unfold read ro
  refine Finset.sum_congr rfl fun d _ => ?_
  rw [snew_eq, blk1]

theorem tile7 (t : Fin cfg0.N) (y : S1x8x128x128.Idx) :
    G7 (iblk m c 0 t) (iblk m c 2 t) (iblk m c 3 t) (iblk m c 5 t) y = GS m c (ix4 (sq t) (y 1) (y 2) (y 3)) :=
  snew_eq m c t (y 1) (y 2) (y 3)

theorem tile8 (t : Fin cfg0.N) (y : S1x8x1x128.Idx) :
    G8 (iblk m c 0 t) (iblk m c 1 t) (iblk m c 2 t) (iblk m c 3 t) (iblk m c 4 t) (iblk m c 5 t) (iblk m c 6 t) y
      = GE m c (ix4 (sq t) (y 1) (y 2) (y 3)) := by
  have e : ∀ (h : Fin 8) (v : Fin 128),
      emit (read (iblk m c 0 t) (iblk m c 1 t) (iblk m c 2 t) (iblk m c 3 t) (iblk m c 5 t) h) (iblk m c 6 t (ix2 0 v)) (iblk m c 4 t (ix4 0 h 0 v)) v
        = em (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (sq t) h v := fun h v => by
    rw [blk4, blk6, show read (iblk m c 0 t) (iblk m c 1 t) (iblk m c 2 t) (iblk m c 3 t) (iblk m c 5 t) h = _ from
      funext fun v => read_eq m c t h v]
    rfl
  exact e (y 1) (y 3)

theorem mem_blk7 (t : Fin cfg0.N) (i : S32x8x128x128.Idx) :
    i ∈ ((cfg0.win 7).blk t).view.set ↔ ∀ a : Fin 4, win0_7.index t a * S1x8x128x128.size a ≤ (i a).val ∧ (i a).val < win0_7.index t a * S1x8x128x128.size a + S1x8x128x128.size a := by
  show i ∈ ((View.whole main_v7_0).slice (win0_7.rect t)).set ↔ _
  rw [View.set_slice_whole, Rect.mem_set_unit]
  exact Iff.rfl

/-- The array after the run is the formula. -/
theorem final7 : (dats m 0 c).arrAt 7 cfg0.N = GS m c := by
  refine (dats m 0 c).arrAt_eq_of_cover 7 (GS m c) (fun t _ => ?_) (fun i => ?_)
  · rw [Value.flushed7, out7]
    funext y
    refine (tile7 m c t y).trans (congrArg (GS m c) (funext fun a => Fin.ext ?_))
    have e := ixf7 t
    have h0 : (y 0).val < 1 := (y 0).isLt
    match a with
    | ⟨0, _⟩ => show t.val = win0_7.index t 0 * 1 + 1 * (y 0).val; omega
    | ⟨1, _⟩ => show (y 1).val = win0_7.index t 1 * 8 + 1 * (y 1).val; omega
    | ⟨2, _⟩ => show (y 2).val = win0_7.index t 2 * 128 + 1 * (y 2).val; omega
    | ⟨3, _⟩ => show (y 3).val = win0_7.index t 3 * 128 + 1 * (y 3).val; omega
  · have h0 : (i 0).val < 32 := (i 0).isLt
    have h1 : (i 1).val < 8 := (i 1).isLt
    have h2 : (i 2).val < 128 := (i 2).isLt
    have h3 : (i 3).val < 128 := (i 3).isLt
    have hN : cfg0.N = 32 := N_0
    have hlt : (i 0).val < cfg0.N := by omega
    refine ⟨⟨(i 0).val, hlt⟩, flush0_7 _, ?_⟩
    rw [mem_blk7]
    have e := ixf7 ⟨(i 0).val, hlt⟩
    dsimp only at e
    intro a
    match a with
    | ⟨0, _⟩ => show win0_7.index _ (0 : Fin 4) * 1 ≤ (i 0).val ∧ (i 0).val < win0_7.index _ (0 : Fin 4) * 1 + 1; omega
    | ⟨1, _⟩ => show win0_7.index _ (1 : Fin 4) * 8 ≤ (i 1).val ∧ (i 1).val < win0_7.index _ (1 : Fin 4) * 8 + 8; omega
    | ⟨2, _⟩ => show win0_7.index _ (2 : Fin 4) * 128 ≤ (i 2).val ∧ (i 2).val < win0_7.index _ (2 : Fin 4) * 128 + 128; omega
    | ⟨3, _⟩ => show win0_7.index _ (3 : Fin 4) * 128 ≤ (i 3).val ∧ (i 3).val < win0_7.index _ (3 : Fin 4) * 128 + 128; omega

theorem mem_blk8 (t : Fin cfg0.N) (i : S32x8x1x128.Idx) :
    i ∈ ((cfg0.win 8).blk t).view.set ↔ ∀ a : Fin 4, win0_8.index t a * S1x8x1x128.size a ≤ (i a).val ∧ (i a).val < win0_8.index t a * S1x8x1x128.size a + S1x8x1x128.size a := by
  show i ∈ ((View.whole main_v7_1).slice (win0_8.rect t)).set ↔ _
  rw [View.set_slice_whole, Rect.mem_set_unit]
  exact Iff.rfl

/-- The array after the run is the formula. -/
theorem final8 : (dats m 0 c).arrAt 8 cfg0.N = GE m c := by
  refine (dats m 0 c).arrAt_eq_of_cover 8 (GE m c) (fun t _ => ?_) (fun i => ?_)
  · rw [Value.flushed8, out8]
    funext y
    refine (tile8 m c t y).trans (congrArg (GE m c) (funext fun a => Fin.ext ?_))
    have e := ixf8 t
    have h0 : (y 0).val < 1 := (y 0).isLt
    match a with
    | ⟨0, _⟩ => show t.val = win0_8.index t 0 * 1 + 1 * (y 0).val; omega
    | ⟨1, _⟩ => show (y 1).val = win0_8.index t 1 * 8 + 1 * (y 1).val; omega
    | ⟨2, _⟩ => show (y 2).val = win0_8.index t 2 * 1 + 1 * (y 2).val; omega
    | ⟨3, _⟩ => show (y 3).val = win0_8.index t 3 * 128 + 1 * (y 3).val; omega
  · have h0 : (i 0).val < 32 := (i 0).isLt
    have h1 : (i 1).val < 8 := (i 1).isLt
    have h2 : (i 2).val < 1 := (i 2).isLt
    have h3 : (i 3).val < 128 := (i 3).isLt
    have hN : cfg0.N = 32 := N_0
    have hlt : (i 0).val < cfg0.N := by omega
    refine ⟨⟨(i 0).val, hlt⟩, flush0_8 _, ?_⟩
    rw [mem_blk8]
    have e := ixf8 ⟨(i 0).val, hlt⟩
    dsimp only at e
    intro a
    match a with
    | ⟨0, _⟩ => show win0_8.index _ (0 : Fin 4) * 1 ≤ (i 0).val ∧ (i 0).val < win0_8.index _ (0 : Fin 4) * 1 + 1; omega
    | ⟨1, _⟩ => show win0_8.index _ (1 : Fin 4) * 8 ≤ (i 1).val ∧ (i 1).val < win0_8.index _ (1 : Fin 4) * 8 + 8; omega
    | ⟨2, _⟩ => show win0_8.index _ (2 : Fin 4) * 1 ≤ (i 2).val ∧ (i 2).val < win0_8.index _ (2 : Fin 4) * 1 + 1; omega
    | ⟨3, _⟩ => show win0_8.index _ (3 : Fin 4) * 128 ≤ (i 3).val ∧ (i 3).val < win0_8.index _ (3 : Fin 4) * 128 + 128; omega

end Kernel

end Cert.Proof.Hgrn

end
-- ==== Proof.HgrnRef.lean ====
module

public import proofs.«01_k».proof.Proof.HgrnValue
public import proofs.«01_k».proof.Proof.Gen.HgrnReferenceIdeal.Run
public import proofs.«01_k».proof.Proof.Gen.HgrnReferenceIdeal.Read
public import proofs.«01_k».proof.Proof.Gen.Pre_hgrn_finite
public import proofs.«01_k».proof.Defs

/-! The decode step of the gated recurrence: what the reference computes, and that on finite inputs it is the kernel's
    formula. -/

@[expose] public section

set_option maxRecDepth 16384

noncomputable section

open Idealize.ShloMosaic Idealize.ShloMosaic.TcCoe Idealize.SL.Sem

namespace Cert.Proof.Hgrn

open Cert.HgrnReferenceIdeal Cert.HgrnReferenceIdeal.Read

/-- The first entry of a running sum over two rows is the first row's. -/
theorem cum2 (x : FVec Ideal S2x1024 .f32) (init : FVec Ideal S_ .f32) (hi : init ix0 = 0) (h) (hu) (c : Fin 1024) :
    Host.reduceWindowAdd (F := Ideal) ![2, 1] ![1, 1] ![1, 0] ![0, 0] x init h hu (ix2 (0 : Fin 2) c : S2x1024.Idx) = x (ix2 0 c) := by
  unfold Host.reduceWindowAdd
  rw [Ideal.hostReduceWindowAdd_def]
  unfold Ideal.hostReduceWindowAdd
  have hv : init (Shape.Idx.first hu) = 0 := (congrArg init (funext fun a => a.elim0)).trans hi
  rw [hv]
  unfold Host.reduceWindow
  have hl : (List.finRange (Shape.numel ⟨S2x1024.rank, ![2, 1]⟩)) = [⟨0, by decide⟩, ⟨1, by decide⟩] := by decide
  dsimp only
  rw [hl]
  simp only [List.foldl_cons, List.foldl_nil]
  have w : ∀ n : Fin (Shape.numel ⟨S2x1024.rank, ![2, 1]⟩), ((Shape.rowMajor ⟨S2x1024.rank, ![2, 1]⟩).symm n 0).val = n.val
    ∧ ((Shape.rowMajor ⟨S2x1024.rank, ![2, 1]⟩).symm n 1).val = 0 := by decide
  rw [dif_neg, dif_pos]
  · rw [add_zero, zero_add]
    refine congrArg x (funext fun a => Fin.ext ?_)
    match a with
    | ⟨0, _⟩ => show 0 * 1 + ((Shape.rowMajor ⟨S2x1024.rank, ![2, 1]⟩).symm ⟨1, _⟩ 0).val - 1 = 0; rw [(w _).1]; rfl
    | ⟨1, _⟩ => show c.val * 1 + ((Shape.rowMajor ⟨S2x1024.rank, ![2, 1]⟩).symm ⟨1, _⟩ 1).val - 0 = c.val; rw [(w _).2]; omega
  · intro a
    match a with
    | ⟨0, _⟩ => show 1 ≤ 0 * 1 + ((Shape.rowMajor ⟨S2x1024.rank, ![2, 1]⟩).symm ⟨1, _⟩ 0).val ∧ 0 * 1 + ((Shape.rowMajor ⟨S2x1024.rank, ![2, 1]⟩).symm ⟨1, _⟩ 0).val - 1 < 2; rw [(w _).1]; dsimp only; omega
    | ⟨1, _⟩ => show 0 ≤ c.val * 1 + ((Shape.rowMajor ⟨S2x1024.rank, ![2, 1]⟩).symm ⟨1, _⟩ 1).val ∧ c.val * 1 + ((Shape.rowMajor ⟨S2x1024.rank, ![2, 1]⟩).symm ⟨1, _⟩ 1).val - 0 < 1024; rw [(w _).2]; omega
  · intro hh
    have h1 : 1 ≤ 0 * 1 + ((Shape.rowMajor ⟨S2x1024.rank, ![2, 1]⟩).symm ⟨0, by decide⟩ 0).val := (hh 0).1
    rw [(w _).1] at h1
    dsimp only at h1
    omega

theorem bot : Ideal.ofBits .f32 0xFF800000#32 = ⊥ := by
  rw [Ideal.ofBits, Ideal.ieee]; simp

theorem max2 (f : Fin 2 → EReal) : Finset.fold max ⊥ f Finset.univ = max (f 0) (f 1) := by
  rw [show (Finset.univ : Finset (Fin 2)) = {0, 1} from rfl, Finset.fold_insert (by decide), Finset.fold_singleton]
  simp

theorem r10 (x : FVec Ideal S2x1024 .f32) (c : Fin 1024) :
    val_main_v10 (F := Ideal) x (ix2 0 c) = bound (x (ix2 0 c)) (x (ix2 1 c)) := by
  unfold bound
  pointwise [val_main_v10, val_main_v9, val_main_v8, val_main_v7, val_main_cst_1, val_main_v6, val_main_v5, val_main_v4, val_main_v3, val_main_v2,
    val_main_v1, val_main_v0, val_main_cst, val_main_cst_0]
  rw [show Ideal.ofBits .f32 0xFF800000#32 = ⊥ from bot, max2, Fin.sum_univ_two]
  simp

theorem r13 (x : FVec Ideal S2x1024 .f32) (c : Fin 1024) :
    val_main_v13 (F := Ideal) x (ix1 c) = bound (x (ix2 0 c)) (x (ix2 1 c)) := by
  have e : val_main_v11 (F := Ideal) x (ix2 0 c) = val_main_v10 (F := Ideal) x (ix2 0 c) := by
    unfold val_main_v11
    exact cum2 _ _ (by pointwise [val_main_call0_call0_v0, val_main_call0_call0_cst]) _ _ c
  rw [← r10, ← e]
  pointwise [val_main_v13, val_main_v12]

theorem r28 (x2 : FVec Ideal S32x1024 .f32) (x5 : FVec Ideal S2x1024 .f32) (t : Fin 32) (j : Fin 1024) :
    val_main_v28 (F := Ideal) x2 x5 (ix3 t 0 j) = gate (x5 (ix2 0 j)) (x5 (ix2 1 j)) (x2 (ix2 t j)) := by
  unfold gate
  rw [← r13]
  pointwise [val_main_v28, val_main_v27, val_main_v26, val_main_v25, val_main_v24, val_main_v23, val_main_v22, val_main_v21, val_main_v20,
    val_main_v19, val_main_v18, val_main_v17, val_main_v16, val_main_v15, val_main_v14, val_main_cst_2, val_main_cst_3, val_main_cst_4]
  rfl

theorem cum1 (x : FVec Ideal S32x1x8x128 .f32) (init : FVec Ideal S_ .f32) (hi : init ix0 = 0) (h) (hu) (i : S32x1x8x128.Idx) :
    Host.reduceWindowAdd (F := Ideal) ![1, 1, 1, 1] ![1, 1, 1, 1] ![0, 0, 0, 0] ![0, 0, 0, 0] x init h hu i = x i := by
  unfold Host.reduceWindowAdd
  rw [Ideal.hostReduceWindowAdd_def]
  unfold Ideal.hostReduceWindowAdd
  have hv : init (Shape.Idx.first hu) = 0 := (congrArg init (funext fun a => a.elim0)).trans hi
  rw [hv]
  unfold Host.reduceWindow
  have hl : (List.finRange (Shape.numel ⟨S32x1x8x128.rank, ![1, 1, 1, 1]⟩)) = [⟨0, by decide⟩] := by decide
  dsimp only
  rw [hl]
  simp only [List.foldl_cons, List.foldl_nil]
  have w : ∀ (n : Fin (Shape.numel ⟨S32x1x8x128.rank, ![1, 1, 1, 1]⟩)) (a : Fin 4),
    ((Shape.rowMajor ⟨S32x1x8x128.rank, ![1, 1, 1, 1]⟩).symm n a).val = 0 := by decide
  have one : ∀ a : Fin 4, (![1, 1, 1, 1] : Fin 4 → Nat) a = 1 := by decide
  have nil : ∀ a : Fin 4, (![0, 0, 0, 0] : Fin 4 → Nat) a = 0 := by decide
  have q : ∀ a : Fin 4, (i a).val * (![1, 1, 1, 1] : Fin 4 → Nat) a + ((Shape.rowMajor ⟨S32x1x8x128.rank, ![1, 1, 1, 1]⟩).symm ⟨0, by decide⟩ a).val
      - (![0, 0, 0, 0] : Fin 4 → Nat) a = (i a).val := fun a => by rw [w, one, nil]; omega
  rw [dif_pos]
  · rw [zero_add]
    exact congrArg x (funext fun a => Fin.ext (q a))
  · intro a
    refine ⟨?_, lt_of_eq_of_lt (q a) (i a).isLt⟩
    rw [show (![0, 0, 0, 0] : Fin 4 → Nat) a = 0 from nil a]
    exact Nat.zero_le _

theorem r39 (x2 : FVec Ideal S32x1024 .f32) (x5 : FVec Ideal S2x1024 .f32) (t : Fin 32) (h : Fin 8) (d : Fin 128) :
    val_main_v39 (F := Ideal) x2 x5 (ix4 t 0 h d) = Ideal.log (fg x2 x5 t h d) := by
  unfold val_main_v39
  rw [cum1 _ _ (by pointwise [val_main_call2_call0_v0, val_main_call2_call0_cst])]
  unfold fg
  rw [← r28]
  unfold col
  pointwise [val_main_v30, val_main_v29]

theorem r33 (x2 : FVec Ideal S32x1024 .f32) (x5 : FVec Ideal S2x1024 .f32) (t : Fin 32) (h : Fin 8) (d : Fin 128) :
    val_main_v33 (F := Ideal) x2 x5 (ix4 t 0 h d) = 1 - fg x2 x5 t h d := by
  unfold fg
  rw [← r28]
  unfold col
  pointwise [val_main_v33, val_main_v32, val_main_v31, val_main_cst_5]

theorem r47 (x2 : FVec Ideal S32x1024 .f32) (x5 : FVec Ideal S2x1024 .f32) (t : Fin 32) (h : Fin 8) (d : Fin 128) :
    val_main_v47 (F := Ideal) x2 x5 (ix5 t 0 0 h d) = Ideal.exp (Ideal.log (fg x2 x5 t h d) - Ideal.log (fg x2 x5 t h d)) := by
  rw [← r39]
  pointwise [val_main_v47, val_main_v46, val_main_v45, val_main_v44, val_main_v43, val_main_v42, val_main_v41, val_main_v40, val_main_c, val_main_call3_v0,
    val_main_call3_c, val_main_call3_v1, val_main_call3_v2, val_main_call3_v3, val_main_call3_v4, val_main_call3_c_0, val_main_call3_v5, val_main_call4_v0,
    val_main_call4_v1, val_main_call4_v2, val_main_cst_6]
  rfl

theorem r36 (x1 : FVec Ideal S32x1024 .f32) (t : Fin 32) (h : Fin 8) (d : Fin 128) :
    val_main_v36 (F := Ideal) x1 (ix4 t 0 h d) = x1 (ix2 t (col h d)) * Ideal.logistic (x1 (ix2 t (col h d))) := by
  unfold col
  pointwise [val_main_v36, val_main_v35, val_main_v34, val_main_call1_v0, val_main_call1_v1, val_main_call1_cst, val_main_call1_v2, val_main_call1_v3,
    val_main_call1_cst_0, val_main_call1_v4, val_main_call1_v5]
  rfl

theorem r69 (x0 : FVec Ideal S1x32x8x128x128 .f32) (x2 x3 : FVec Ideal S32x1024 .f32) (x5 : FVec Ideal S2x1024 .f32) (t : Fin 32) (h : Fin 8)
    (d v : Fin 128) :
    val_main_v69 (F := Ideal) x0 x2 x3 x5 (ix4 t h d v)
      = x0 (ix5 0 t h d v) * Ideal.exp (Ideal.log (fg x2 x5 t h d))
        + (1 - fg x2 x5 t h d) * Ideal.exp (Ideal.log (fg x2 x5 t h d) - Ideal.log (fg x2 x5 t h d)) * x3 (ix2 t (col h v)) := by
  rw [← r33, ← r39]
  unfold col
  pointwise [val_main_v69, val_main_v68, val_main_v67, val_main_v66, val_main_v65, val_main_v64, val_main_v63, val_main_v62, val_main_v61,
    val_main_v60, val_main_v59, val_main_v38, val_main_v37]
  rw [Fin.sum_univ_one]

theorem r58 (x0 : FVec Ideal S1x32x8x128x128 .f32) (x1 x2 x3 : FVec Ideal S32x1024 .f32) (x5 : FVec Ideal S2x1024 .f32) (t : Fin 32) (h : Fin 8)
    (v : Fin 128) :
    val_main_v58 (F := Ideal) x0 x1 x2 x3 x5 (ix4 t 0 h v)
      = x3 (ix2 t (col h v)) * (∑ d : Fin 128, (1 - fg x2 x5 t h d) * (x1 (ix2 t (col h d)) * Ideal.logistic (x1 (ix2 t (col h d)))
            * Ideal.exp (Ideal.log (fg x2 x5 t h d) - Ideal.log (fg x2 x5 t h d))))
        + ∑ d : Fin 128, x0 (ix5 0 t h d v) * (x1 (ix2 t (col h d)) * Ideal.logistic (x1 (ix2 t (col h d))) * Ideal.exp (Ideal.log (fg x2 x5 t h d))) := by
  pointwise [val_main_v58, val_main_v57, val_main_v56, val_main_v55, val_main_v54, val_main_v53, val_main_v52, val_main_v51, val_main_v50,
    val_main_v49, val_main_v48, val_main_v38, val_main_v37]
  simp only [Fin.sum_univ_one, r33, r36, r39, r47]
  rfl

theorem r89 (x0 : FVec Ideal S1x32x8x128x128 .f32) (x1 x2 x3 x4 : FVec Ideal S32x1024 .f32) (x5 : FVec Ideal S2x1024 .f32)
    (x6 : FVec Ideal S1x128 .f32) (t : Fin 32) (h : Fin 8) (v : Fin 128) :
    val_main_v89 (F := Ideal) x0 x1 x2 x3 x4 x5 x6 (ix4 t h 0 v)
      = emit (fun k => val_main_v58 (F := Ideal) x0 x1 x2 x3 x5 (ix4 t 0 h k)) (x6 (ix2 0 v)) (x4 (ix2 t (col h v))) v := by
  unfold col emit
  pointwise [val_main_v89, val_main_v88, val_main_v87, val_main_call5_v5, val_main_call5_v4, val_main_call5_cst_0, val_main_call5_v3,
    val_main_call5_v2, val_main_call5_cst, val_main_call5_v1, val_main_call5_v0, val_main_v86, val_main_v85, val_main_v84, val_main_v83,
    val_main_v82, val_main_v81, val_main_v80, val_main_v79, val_main_v78, val_main_v77, val_main_v76, val_main_v75, val_main_cst_9,
    val_main_v74, val_main_v73, val_main_cst_8, val_main_v72, val_main_v71, val_main_cst_7, val_main_v70]
  rfl

/-! ## On finite inputs the two agree -/

theorem one_bits : Ideal.ofBits .f32 0x3F800000#32 = 1 := by pointwise []

theorem bound_real (a b : ℝ) : ∃ β : ℝ, 0 < β ∧ β < 1 ∧ bound (a : EReal) (b : EReal) = β := by
  unfold bound
  rw [show max (a : EReal) (b : EReal) = ((max a b : ℝ) : EReal) from (EReal.coe_strictMono.monotone.map_max).symm,
    ← EReal.coe_sub, ← EReal.coe_sub, Ideal.exp_coe, Ideal.exp_coe, ← EReal.coe_add]
  have p := Real.exp_pos (a - max a b)
  have q := Real.exp_pos (b - max a b)
  rw [Ideal.div_coe (by positivity), ← EReal.coe_mul]
  refine ⟨_, ?_, ?_, rfl⟩
  · positivity
  · rw [mul_one_div, div_lt_one (by positivity)]; linarith

theorem gate_real (a b x : ℝ) : ∃ f : ℝ, 0 < f ∧ gate (a : EReal) (b : EReal) (x : EReal) = f := by
  obtain ⟨β, h0, h1, e⟩ := bound_real a b
  unfold gate
  rw [e, one_bits, Ideal.logistic_coe, ← EReal.coe_one, ← EReal.coe_sub, ← EReal.coe_mul, ← EReal.coe_add]
  refine ⟨_, ?_, rfl⟩
  have : 0 < (1 + Real.exp (-x))⁻¹ := inv_pos.mpr (by have := Real.exp_pos (-x); linarith)
  have : 0 < (1 - β) * (1 + Real.exp (-x))⁻¹ := mul_pos (by linarith) this
  linarith

theorem exp_log {f : ℝ} (h : 0 < f) : Ideal.exp (Ideal.log (f : EReal)) = f := by
  rw [Ideal.log_coe, if_neg (not_le.mpr h), Ideal.exp_coe, Real.exp_log h]

theorem exp_log_sub {f : ℝ} (h : 0 < f) : Ideal.exp (Ideal.log (f : EReal) - Ideal.log (f : EReal)) = 1 := by
  rw [Ideal.log_coe, if_neg (not_le.mpr h), ← EReal.coe_sub, sub_self, Ideal.exp_coe, Real.exp_zero, EReal.coe_one]

theorem coe_sum {ι : Type} [Fintype ι] (f : ι → ℝ) : (∑ i, ((f i : ℝ) : EReal)) = ((∑ i, f i : ℝ) : EReal) :=
  (map_sum (⟨⟨Real.toEReal, EReal.coe_zero⟩, EReal.coe_add⟩ : ℝ →+ EReal) f Finset.univ).symm

section Finite

variable (x0 : FVec Ideal S1x32x8x128x128 .f32) (x1 x2 x3 x4 : FVec Ideal S32x1024 .f32) (x5 : FVec Ideal S2x1024 .f32)
  (x6 : FVec Ideal S1x128 .f32) (f0 : ∀ i, ∃ r : ℝ, x0 i = r) (f1 : ∀ i, ∃ r : ℝ, x1 i = r) (f2 : ∀ i, ∃ r : ℝ, x2 i = r)
  (f3 : ∀ i, ∃ r : ℝ, x3 i = r) (f5 : ∀ i, ∃ r : ℝ, x5 i = r)

include f2 f5 in
theorem fg_real (t : Fin 32) (h : Fin 8) (d : Fin 128) : ∃ f : ℝ, 0 < f ∧ fg x2 x5 t h d = f := by
  obtain ⟨a, ea⟩ := f5 (ix2 0 (col h d))
  obtain ⟨b, eb⟩ := f5 (ix2 1 (col h d))
  obtain ⟨x, ex⟩ := f2 (ix2 t (col h d))
  unfold fg
  rw [ea, eb, ex]
  exact gate_real a b x

include f2 f5 in
theorem state_eq (t : Fin 32) (h : Fin 8) (d v : Fin 128) :
    val_main_v69 (F := Ideal) x0 x2 x3 x5 (ix4 t h d v) = st x0 x2 x3 x5 t h d v := by
  obtain ⟨f, p, e⟩ := fg_real x2 x5 f2 f5 t h d
  rw [r69]
  unfold st next
  rw [e, exp_log p, exp_log_sub p, one_bits, mul_one]

include f0 f1 f2 f3 f5 in
theorem read_out_eq (t : Fin 32) (h : Fin 8) (v : Fin 128) :
    val_main_v58 (F := Ideal) x0 x1 x2 x3 x5 (ix4 t 0 h v) = ro x0 x1 x2 x3 x5 t h v := by
  rw [r58]
  unfold ro st next
  choose f p e using fun d => fg_real x2 x5 f2 f5 t h d
  choose s es using fun d : Fin 128 => f0 (ix5 0 t h d v)
  choose q eq using fun d : Fin 128 => f1 (ix2 t (col h d))
  obtain ⟨i, ei⟩ := f3 (ix2 t (col h v))
  simp only [e, exp_log (p _), exp_log_sub (p _), es, eq, ei, one_bits, mul_one, Ideal.logistic_coe]
  simp only [← EReal.coe_one, ← EReal.coe_sub, ← EReal.coe_mul, ← EReal.coe_add, coe_sum]
  refine congrArg Real.toEReal ?_
  rw [Finset.mul_sum, ← Finset.sum_add_distrib]
  exact Finset.sum_congr rfl fun d _ => by ring

include f0 f1 f2 f3 f5 in
theorem emit_eq (t : Fin 32) (h : Fin 8) (v : Fin 128) :
    val_main_v89 (F := Ideal) x0 x1 x2 x3 x4 x5 x6 (ix4 t h 0 v) = em x0 x1 x2 x3 x4 x5 x6 t h v := by
  rw [r89]
  unfold em
  rw [show (fun k => val_main_v58 (F := Ideal) x0 x1 x2 x3 x5 (ix4 t 0 h k)) = _ from
    funext fun k => read_out_eq x0 x1 x2 x3 x5 f0 f1 f2 f3 f5 t h k]

end Finite

/-- A number whose magnitude is below infinity is a real. -/
theorem real_of_lt {x : EReal} (h : Ideal.cmp CmpFPredicate.olt (max x (-x)) (Ideal.ofBits .f32 0x7F800000#32) = 1#1) : ∃ r : ℝ, x = r := by
  rw [show Ideal.ofBits .f32 0x7F800000#32 = ⊤ from by rw [Ideal.ofBits, Ideal.ieee]; simp] at h
  have h2 : max x (-x) < ⊤ := by
    by_contra hn
    simp [Ideal.cmp, hn] at h
  induction x using EReal.rec with
  | bot => simp at h2
  | top => simp at h2
  | coe r => exact ⟨r, rfl⟩

/-- Every entry is a real number. -/
def Reals {s : Shape} (x : s.Idx → EReal) : Prop := ∀ i, ∃ r : ℝ, x i = r

section Pre

variable (m : (ℓ : Loc Cert.HgrnKernelIdeal.nD Cert.HgrnKernelIdeal.τ Cert.HgrnKernelIdeal.sig) → Buf (Elt Idealize.ShloMosaic.Ideal) ℓ)
  (h : Cert.Pre_HgrnKernelIdeal_hgrn_finite m) (c : Dev Cert.HgrnKernelIdeal.nD)
include h

theorem real0 : Reals (s := S1x32x8x128x128) (m ((c.tc : Thread Cert.HgrnKernelIdeal.nD Cert.HgrnKernelIdeal.τ).loc Cert.HgrnKernelIdeal.main_arg0)) := fun i => by
  refine real_of_lt (Eq.trans ?_ (congrFun (h c).1 i))
  pointwise [Cert.Pre_hgrn_finite.fn]
  rfl

theorem real1 : Reals (s := S32x1024) (m ((c.tc : Thread Cert.HgrnKernelIdeal.nD Cert.HgrnKernelIdeal.τ).loc Cert.HgrnKernelIdeal.main_arg1)) := fun i => by
  refine real_of_lt (Eq.trans ?_ (congrFun (h c).2.1 i))
  pointwise [Cert.Pre_hgrn_finite.fn]
  rfl

theorem real2 : Reals (s := S32x1024) (m ((c.tc : Thread Cert.HgrnKernelIdeal.nD Cert.HgrnKernelIdeal.τ).loc Cert.HgrnKernelIdeal.main_arg2)) := fun i => by
  refine real_of_lt (Eq.trans ?_ (congrFun (h c).2.2.1 i))
  pointwise [Cert.Pre_hgrn_finite.fn]
  rfl

theorem real3 : Reals (s := S32x1024) (m ((c.tc : Thread Cert.HgrnKernelIdeal.nD Cert.HgrnKernelIdeal.τ).loc Cert.HgrnKernelIdeal.main_arg3)) := fun i => by
  refine real_of_lt (Eq.trans ?_ (congrFun (h c).2.2.2.1 i))
  pointwise [Cert.Pre_hgrn_finite.fn]
  rfl

theorem real5 : Reals (s := S2x1024) (m ((c.tc : Thread Cert.HgrnKernelIdeal.nD Cert.HgrnKernelIdeal.τ).loc Cert.HgrnKernelIdeal.main_arg5)) := fun i => by
  refine real_of_lt (Eq.trans ?_ (congrFun (h c).2.2.2.2 i))
  pointwise [Cert.Pre_hgrn_finite.fn]
  rfl

end Pre

end Cert.Proof.Hgrn

namespace Cert.Proof

/-- On finite inputs the decode step's kernel leaves what its reference computes. -/
theorem hgrn_algebraic : Cert.algebraic_HgrnKernelIdeal_HgrnReferenceIdeal_pre_hgrn_finite := by
  intro m ρ m' ρ' hpre hagree
  refine ⟨fun c => Hgrn.GS m c, fun c => Hgrn.GE m c, ?_, ?_⟩
  · exact (θ_run Cert.HgrnKernelIdeal.defs _ _).mono
      (fun _ h c => ⟨(h c).1.trans (Hgrn.final7 m c), (h c).2.1.trans (Hgrn.final8 m c), (h c).2.2⟩)
      (Cert.HgrnKernelIdeal.Value.run_blocks m ρ)
  · refine (θ_run Cert.HgrnReferenceIdeal.defs _ _).mono (fun _ h c => ⟨(h c).1.trans ?_, (h c).2.1.trans ?_, (h c).2.2⟩)
      (Cert.HgrnReferenceIdeal.Value.run (F := Ideal) m' ρ')
    · rw [Cert.HgrnReferenceIdeal.Read.val_main_v69_eq]
      obtain ⟨h0, h1, h2, h3, h4, h5, h6⟩ := hagree c
      rw [h0, h2, h3, h5]
      funext i
      refine (congrArg _ (eq_ix4 i)).trans ?_
      exact Hgrn.state_eq _ _ _ _ (Hgrn.real2 m hpre c) (Hgrn.real5 m hpre c) _ _ _ _
    · rw [Cert.HgrnReferenceIdeal.Read.val_main_v89_eq]
      obtain ⟨h0, h1, h2, h3, h4, h5, h6⟩ := hagree c
      rw [h0, h1, h2, h3, h4, h5, h6]
      funext i
      have z2 : i 2 = (0 : Fin 1) := Subsingleton.elim (α := Fin 1) _ _
      refine (congrArg _ ((eq_ix4 i).trans (congrArg (fun z => ix4 (i 0) (i 1) z (i 3)) z2))).trans ?_
      exact Hgrn.emit_eq _ _ _ _ _ _ _ (Hgrn.real0 m hpre c) (Hgrn.real1 m hpre c) (Hgrn.real2 m hpre c) (Hgrn.real3 m hpre c)
        (Hgrn.real5 m hpre c) _ _ _

end Cert.Proof

end
-- ==== Proof.ScoresBody.lean ====
module

public import proofs.«01_k».proof.Proof.Gen.ScoresKernelIdeal.Frame
public import Idealize.ShloMosaic.Lib.Pointwise

/-! The scores of a decode query against the cached keys, eight pages at a time: what the kernel's body leaves in its
    output block, page by page. -/

@[expose] public section

set_option maxRecDepth 16384

noncomputable section

open Idealize.ShloMosaic Idealize.ShloMosaic.TcCoe Idealize.SL.Sem

namespace Cert.Proof.Scores

open Cert.ScoresKernelIdeal Cert.ScoresKernelIdeal.Gen

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The score of one query against the key in row `p` of a page. -/
def score (q : S1x8x64.Idx → EReal) (w : S1x8x1.Idx → EReal) (k : S1x1x128x64.Idx → EReal) (p : Fin 128) : EReal :=
  ∑ h : Fin 8, max (∑ d : Fin 64, q (ix3 0 h d) * k (ix4 0 0 p d)) 0 * (w (ix3 0 h 0) * Ideal.ofBits .f32 0x3D3504F3#32)

theorem put (G : S1x8x1x128.Idx → EReal) (w : S1x1x1x128.Idx → EReal) (k : Fin 8) (inb)
    (hw : ∀ v : Fin 128, w (ix4 0 0 0 v) = G (ix4 0 k 0 v)) (x : S1x1x1x128.Idx) :
    w x = G ((Rect.unit (s := S1x8x1x128) ![0, k.val, 0, 0] S1x1x1x128.size inb).emb x) := by
  have e : x = ix4 0 0 0 (x 3) := by
    refine (eq_ix4 x).trans ?_
    rw [show x 0 = (0 : Fin 1) from Subsingleton.elim (α := Fin 1) _ _, show x 1 = (0 : Fin 1) from Subsingleton.elim (α := Fin 1) _ _,
      show x 2 = (0 : Fin 1) from Subsingleton.elim (α := Fin 1) _ _]
    rfl
  refine (congrArg w e).trans ((hw (x 3)).trans (congrArg G (funext fun a => Fin.ext ?_)))
  match a with
  | ⟨0, _⟩ => have h : (x 0).val < 1 := (x 0).isLt; show 0 = 0 + 1 * (x 0).val; omega
  | ⟨1, _⟩ => have h : (x 1).val < 1 := (x 1).isLt; show k.val = k.val + 1 * (x 1).val; omega
  | ⟨2, _⟩ => have h : (x 2).val < 1 := (x 2).isLt; show 0 = 0 + 1 * (x 2).val; omega
  | ⟨3, _⟩ => show (x 3).val = 0 + 1 * (x 3).val; omega

section Body

variable (x0 : Vec Ideal S1x8x64 .f32) (x1 : Vec Ideal S1x8x1 .f32) (x2 x3 x4 x5 x6 x7 x8 x9 : Vec Ideal S1x1x128x64 .f32)

/-- The eight pages of a block. -/
def page (i : Fin 8) : S1x1x128x64.Idx → EReal :=
  match i with | 0 => x2 | 1 => x3 | 2 => x4 | 3 => x5 | 4 => x6 | 5 => x7 | 6 => x8 | 7 => x9

/-- The block of scores. -/
def G (y : S1x8x1x128.Idx) : EReal := score x0 x1 (page x2 x3 x4 x5 x6 x7 x8 x9 (y 1)) (y 3)

theorem row0 (p : Fin 128) : (k0_pay5 x0 x1 x2 : FVec Ideal S1x1x1x128 .f32) (ix4 0 0 0 p) = score x0 x1 x2 p := by
  unfold score
  pointwise [k0_pay5, k0_pay3, k0_pay4]

theorem row1 (p : Fin 128) : (k0_pay7 (k0_pay6 x0 x1 x3) : FVec Ideal S1x1x1x128 .f32) (ix4 0 0 0 p) = score x0 x1 x3 p := by
  unfold score
  pointwise [k0_pay7, k0_pay6, k0_pay3, k0_pay4]

theorem row2 (p : Fin 128) : (k0_pay8 (k0_pay3 x0) (k0_pay4 x1) x4 : FVec Ideal S1x1x1x128 .f32) (ix4 0 0 0 p) = score x0 x1 x4 p := by
  unfold score
  pointwise [k0_pay8, k0_pay3, k0_pay4]

theorem row3 (p : Fin 128) : (k0_pay9 (k0_pay3 x0) (k0_pay4 x1) x5 : FVec Ideal S1x1x1x128 .f32) (ix4 0 0 0 p) = score x0 x1 x5 p := by
  unfold score
  pointwise [k0_pay9, k0_pay3, k0_pay4]

theorem row4 (p : Fin 128) : (k0_pay11 (k0_pay4 x1) (k0_pay10 (k0_pay3 x0) x6) (FloatOps.ofBits FTy.f32 0#32) : FVec Ideal S1x1x1x128 .f32) (ix4 0 0 0 p) = score x0 x1 x6 p := by
  unfold score
  pointwise [k0_pay11, k0_pay10, k0_pay3, k0_pay4]

theorem row5 (p : Fin 128) : (k0_pay12 (k0_pay3 x0) (k0_pay4 x1) x7 : FVec Ideal S1x1x1x128 .f32) (ix4 0 0 0 p) = score x0 x1 x7 p := by
  unfold score
  pointwise [k0_pay12, k0_pay3, k0_pay4]

theorem row6 (p : Fin 128) : (k0_pay1 (k0_pay13 (k0_pay3 x0) (k0_pay4 x1) x8) : FVec Ideal S1x1x1x128 .f32) (ix4 0 0 0 p) = score x0 x1 x8 p := by
  unfold score
  pointwise [k0_pay1, k0_pay13, k0_pay3, k0_pay4]

theorem row7 (p : Fin 128) : (k0_pay2 (k0_pay3 x0) (k0_pay4 x1) x9 : FVec Ideal S1x1x1x128 .f32) (ix4 0 0 0 p) = score x0 x1 x9 p := by
  unfold score
  pointwise [k0_pay2, k0_pay3, k0_pay4]

theorem out_eq (c : Dev nD) (i : grid0.Coords) (arg3 : Memref sig .tc .vmem S1x8x64 .f32) (harg3 : arg3.IsWhole) (arg4 : Memref sig .tc .vmem S1x8x1 .f32) (harg4 : arg4.IsWhole)
  (arg5 : Memref sig .tc .vmem S1x1x128x64 .f32) (harg5 : arg5.IsWhole) (arg6 : Memref sig .tc .vmem S1x1x128x64 .f32) (harg6 : arg6.IsWhole)
  (arg7 : Memref sig .tc .vmem S1x1x128x64 .f32) (harg7 : arg7.IsWhole) (arg8 : Memref sig .tc .vmem S1x1x128x64 .f32) (harg8 : arg8.IsWhole)
  (arg9 : Memref sig .tc .vmem S1x1x128x64 .f32) (harg9 : arg9.IsWhole) (arg10 : Memref sig .tc .vmem S1x1x128x64 .f32) (harg10 : arg10.IsWhole)
  (arg11 : Memref sig .tc .vmem S1x1x128x64 .f32) (harg11 : arg11.IsWhole) (arg12 : Memref sig .tc .vmem S1x1x128x64 .f32) (harg12 : arg12.IsWhole)
  (arg13 : Memref sig .tc .vmem S1x8x1x128 .f32) (harg13 : arg13.IsWhole)
  (xt0 : TbBuf0 (F := Ideal) c tbM0_0) :
    out0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9 xt0 = G x0 x1 x2 x3 x4 x5 x6 x7 x8 x9 := by
  funext y
  unfold out0_A_10
  rw [View.read_writes_junk_eq_canon]
  refine View.canon_apply_of_pieces (Val := Elt Idealize.ShloMosaic.Ideal) (e := .f32) (G x0 x1 x2 x3 x4 x5 x6 x7 x8 x9) _ ?_ y
    (cover0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9 xt0 y)
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread,
    View.ld_unit_zero (S := S1x8x64) hz3, View.ld_unit_zero (S := S1x8x1) hz3, View.ld_unit_zero (S := S1x1x128x64) hz4]
  intro p hp
  simp only [List.mem_cons, List.not_mem_nil, or_false] at hp
  rcases hp with rfl | rfl | rfl | rfl | rfl | rfl | rfl | rfl
  · exact put (G x0 x1 x2 x3 x4 x5 x6 x7 x8 x9) _ 7 (by decide) (fun v => row7 x0 x1 x9 v)
  · exact put (G x0 x1 x2 x3 x4 x5 x6 x7 x8 x9) _ 6 (by decide) (fun v => row6 x0 x1 x8 v)
  · exact put (G x0 x1 x2 x3 x4 x5 x6 x7 x8 x9) _ 5 (by decide) (fun v => row5 x0 x1 x7 v)
  · exact put (G x0 x1 x2 x3 x4 x5 x6 x7 x8 x9) _ 4 (by decide) (fun v => row4 x0 x1 x6 v)
  · exact put (G x0 x1 x2 x3 x4 x5 x6 x7 x8 x9) _ 3 (by decide) (fun v => row3 x0 x1 x5 v)
  · exact put (G x0 x1 x2 x3 x4 x5 x6 x7 x8 x9) _ 2 (by decide) (fun v => row2 x0 x1 x4 v)
  · exact put (G x0 x1 x2 x3 x4 x5 x6 x7 x8 x9) _ 1 (by decide) (fun v => row1 x0 x1 x3 v)
  · exact put (G x0 x1 x2 x3 x4 x5 x6 x7 x8 x9) _ 0 (by decide) (fun v => row0 x0 x1 x2 v)

end Body

end Cert.Proof.Scores

end
-- ==== Proof.ScoresPre.lean ====
module

public import proofs.«01_k».proof.Defs
public import proofs.«01_k».proof.Proof.Gen.ScoresKernel.Frame
public import proofs.«01_k».proof.Proof.Gen.ScoresKernelIdeal.Frame
public import proofs.«01_k».proof.Proof.Gen.Pre_pages_in_pool
public import Idealize.ShloMosaic.Lib.Pointwise

/-! The page table: which of its words each fetch reads, and that the precondition keeps every fetch inside the pool. -/

@[expose] public section

set_option maxRecDepth 16384

noncomputable section

open Idealize.ShloMosaic Idealize.ShloMosaic.TcCoe Idealize.SL.Sem

namespace Cert.Proof.Scores

/-- The page slot `r` of group `g` among a sequence's pages. -/
def slot (g : Fin 8) (r : Fin 8) : Fin 64 := ⟨8 * g.val + r.val, by omega⟩

/-- The precondition at one word of the table: it names a page of the pool. -/
theorem word_lt {F : FTy → Type} [FloatOps F] (t : IVec Cert.Pre_pages_in_pool.S32x64 32) (a1 a2 a3)
    (h : Cert.Pre_pages_in_pool.fn (F := F) t a1 a2 a3 = fun _ => 1#1) (i : Cert.Pre_pages_in_pool.S32x64.Idx) :
    (t i).toNat < 2560 := by
  have andi_one (a b : BitVec 1) : IntOp.andi a b = 1#1 ↔ a = 1#1 ∧ b = 1#1 := by revert a b; decide
  have ofBool_one (b : Bool) : BitVec.ofBool b = 1#1 ↔ b = true := by cases b <;> decide
  have p := congrFun h i
  simp only [Cert.Pre_pages_in_pool.fn, constantI, broadcastInDim, cmpi, andi, andi_one] at p
  obtain ⟨p0, p1⟩ := p
  simp only [IntOp.cmpi, ofBool_one, BitVec.sle, BitVec.slt, decide_eq_true_eq] at p0 p1
  have e0 : (0#32).toInt = 0 := by decide
  have e1 : (2560#32).toInt = 2560 := by decide
  rw [e0] at p0
  rw [e1] at p1
  rw [BitVec.toInt_eq_toNat_cond] at p0 p1
  have := (t i).isLt
  split at p0 <;> omega

section ScoresKernel

open Cert.ScoresKernel Cert.ScoresKernel.Gen

/-- The table's word that page slot `r` of a grid point reads. -/
theorem at_ScoresKernel (pf : pre0.Contents (Elt Bits)) (i : grid0.Coords) (r : Fin 8) :
    pf.at 0 (Rect.unit (s := S32x64) (k0_off1 i (BitVec.ofNat 32 r.val)) S1x1.size (k0_off1_inb i r)) numel1_S1x1
      = pf 0 (ix2 (i 0) (slot (i 1) r)) := by
  have e := k0_off1_eq i r
  show pf 0 _ = pf 0 _
  refine congrArg (pf 0) (funext fun a => Fin.ext ?_)
  match a with
  | ⟨0, _⟩ =>
    show k0_off1 i (BitVec.ofNat 32 r.val) 0 + 1 * 0 = (i 0).val
    rw [e]; rfl
  | ⟨1, _⟩ =>
    show k0_off1 i (BitVec.ofNat 32 r.val) 1 + 1 * 0 = 8 * (i 1).val + r.val
    rw [e]; rfl

theorem tr0_ScoresKernel (pf : pre0.Contents (Elt Bits)) (i : grid0.Coords) :
    cc0_transform_2 k0_off1_inb numel1_S1x1 pf i = ![0, BitVec.toNat (w := 32) (pf 0 (ix2 (i 0) (slot (i 1) 0))), 0, 0] :=
  congrArg (fun w : BitVec 32 => (![0, w.toNat, 0, 0] : Fin 4 → Nat)) (at_ScoresKernel pf i 0)

theorem tr1_ScoresKernel (pf : pre0.Contents (Elt Bits)) (i : grid0.Coords) :
    cc0_transform_3 k0_off1_inb numel1_S1x1 pf i = ![0, BitVec.toNat (w := 32) (pf 0 (ix2 (i 0) (slot (i 1) 1))), 0, 0] :=
  congrArg (fun w : BitVec 32 => (![0, w.toNat, 0, 0] : Fin 4 → Nat)) (at_ScoresKernel pf i 1)

theorem tr2_ScoresKernel (pf : pre0.Contents (Elt Bits)) (i : grid0.Coords) :
    cc0_transform_4 k0_off1_inb numel1_S1x1 pf i = ![0, BitVec.toNat (w := 32) (pf 0 (ix2 (i 0) (slot (i 1) 2))), 0, 0] :=
  congrArg (fun w : BitVec 32 => (![0, w.toNat, 0, 0] : Fin 4 → Nat)) (at_ScoresKernel pf i 2)

theorem tr3_ScoresKernel (pf : pre0.Contents (Elt Bits)) (i : grid0.Coords) :
    cc0_transform_5 k0_off1_inb numel1_S1x1 pf i = ![0, BitVec.toNat (w := 32) (pf 0 (ix2 (i 0) (slot (i 1) 3))), 0, 0] :=
  congrArg (fun w : BitVec 32 => (![0, w.toNat, 0, 0] : Fin 4 → Nat)) (at_ScoresKernel pf i 3)

theorem tr4_ScoresKernel (pf : pre0.Contents (Elt Bits)) (i : grid0.Coords) :
    cc0_transform_6 k0_off1_inb numel1_S1x1 pf i = ![0, BitVec.toNat (w := 32) (pf 0 (ix2 (i 0) (slot (i 1) 4))), 0, 0] :=
  congrArg (fun w : BitVec 32 => (![0, w.toNat, 0, 0] : Fin 4 → Nat)) (at_ScoresKernel pf i 4)

theorem tr5_ScoresKernel (pf : pre0.Contents (Elt Bits)) (i : grid0.Coords) :
    cc0_transform_7 k0_off1_inb numel1_S1x1 pf i = ![0, BitVec.toNat (w := 32) (pf 0 (ix2 (i 0) (slot (i 1) 5))), 0, 0] :=
  congrArg (fun w : BitVec 32 => (![0, w.toNat, 0, 0] : Fin 4 → Nat)) (at_ScoresKernel pf i 5)

theorem tr6_ScoresKernel (pf : pre0.Contents (Elt Bits)) (i : grid0.Coords) :
    cc0_transform_8 k0_off1_inb numel1_S1x1 pf i = ![0, BitVec.toNat (w := 32) (pf 0 (ix2 (i 0) (slot (i 1) 6))), 0, 0] :=
  congrArg (fun w : BitVec 32 => (![0, w.toNat, 0, 0] : Fin 4 → Nat)) (at_ScoresKernel pf i 6)

theorem tr7_ScoresKernel (pf : pre0.Contents (Elt Bits)) (i : grid0.Coords) :
    cc0_transform_9 k0_off1_inb numel1_S1x1 pf i = ![0, BitVec.toNat (w := 32) (pf 0 (ix2 (i 0) (slot (i 1) 7))), 0, 0] :=
  congrArg (fun w : BitVec 32 => (![0, w.toNat, 0, 0] : Fin 4 → Nat)) (at_ScoresKernel pf i 7)

/-- Every page the table names lies in the pool, so every fetch of a page stays in it. -/
theorem ok_ScoresKernel (m : (ℓ : Loc nD τ sig) → Buf (Elt Bits) ℓ) (h : Cert.Pre_ScoresKernel m) : Ok m := by
  have hw : ∀ i, BitVec.toNat (w := 32) (tbl m 0 i) < 2560 := fun i => by
    have hp := word_lt _ _ _ _ (h 0) i
    have e : tbl m 0 = m (((0 : Dev nD) : Thread nD τ).loc main_arg0) := V_main_arg0 m 0
    rw [e]; exact hp
  have inb : ∀ n : Nat, n < 2560 → ∀ a, ((![0, n, 0, 0] : Fin 4 → Nat) a + 1) * S1x1x128x64.size a ≤ S1x2560x128x64.size a := fun n hn a => by
    match a with
    | ⟨0, _⟩ => show (0 + 1) * 1 ≤ 1; omega
    | ⟨1, _⟩ => show (n + 1) * 1 ≤ 2560; omega
    | ⟨2, _⟩ => show (0 + 1) * 128 ≤ 128; omega
    | ⟨3, _⟩ => show (0 + 1) * 64 ≤ 64; omega
  exact ⟨fun i => ⟨by rw [tr0_ScoresKernel]; exact inb _ (hw _), .inl rfl⟩,
    fun i => ⟨by rw [tr1_ScoresKernel]; exact inb _ (hw _), .inl rfl⟩,
    fun i => ⟨by rw [tr2_ScoresKernel]; exact inb _ (hw _), .inl rfl⟩,
    fun i => ⟨by rw [tr3_ScoresKernel]; exact inb _ (hw _), .inl rfl⟩,
    fun i => ⟨by rw [tr4_ScoresKernel]; exact inb _ (hw _), .inl rfl⟩,
    fun i => ⟨by rw [tr5_ScoresKernel]; exact inb _ (hw _), .inl rfl⟩,
    fun i => ⟨by rw [tr6_ScoresKernel]; exact inb _ (hw _), .inl rfl⟩,
    fun i => ⟨by rw [tr7_ScoresKernel]; exact inb _ (hw _), .inl rfl⟩⟩

end ScoresKernel

section ScoresKernelIdeal

open Cert.ScoresKernelIdeal Cert.ScoresKernelIdeal.Gen

/-- The table's word that page slot `r` of a grid point reads. -/
theorem at_ScoresKernelIdeal (pf : pre0.Contents (Elt Idealize.ShloMosaic.Ideal)) (i : grid0.Coords) (r : Fin 8) :
    pf.at 0 (Rect.unit (s := S32x64) (k0_off1 i (BitVec.ofNat 32 r.val)) S1x1.size (k0_off1_inb i r)) numel1_S1x1
      = pf 0 (ix2 (i 0) (slot (i 1) r)) := by
  have e := k0_off1_eq i r
  show pf 0 _ = pf 0 _
  refine congrArg (pf 0) (funext fun a => Fin.ext ?_)
  match a with
  | ⟨0, _⟩ =>
    show k0_off1 i (BitVec.ofNat 32 r.val) 0 + 1 * 0 = (i 0).val
    rw [e]; rfl
  | ⟨1, _⟩ =>
    show k0_off1 i (BitVec.ofNat 32 r.val) 1 + 1 * 0 = 8 * (i 1).val + r.val
    rw [e]; rfl

theorem tr0_ScoresKernelIdeal (pf : pre0.Contents (Elt Idealize.ShloMosaic.Ideal)) (i : grid0.Coords) :
    cc0_transform_2 k0_off1_inb numel1_S1x1 pf i = ![0, BitVec.toNat (w := 32) (pf 0 (ix2 (i 0) (slot (i 1) 0))), 0, 0] :=
  congrArg (fun w : BitVec 32 => (![0, w.toNat, 0, 0] : Fin 4 → Nat)) (at_ScoresKernelIdeal pf i 0)

theorem tr1_ScoresKernelIdeal (pf : pre0.Contents (Elt Idealize.ShloMosaic.Ideal)) (i : grid0.Coords) :
    cc0_transform_3 k0_off1_inb numel1_S1x1 pf i = ![0, BitVec.toNat (w := 32) (pf 0 (ix2 (i 0) (slot (i 1) 1))), 0, 0] :=
  congrArg (fun w : BitVec 32 => (![0, w.toNat, 0, 0] : Fin 4 → Nat)) (at_ScoresKernelIdeal pf i 1)

theorem tr2_ScoresKernelIdeal (pf : pre0.Contents (Elt Idealize.ShloMosaic.Ideal)) (i : grid0.Coords) :
    cc0_transform_4 k0_off1_inb numel1_S1x1 pf i = ![0, BitVec.toNat (w := 32) (pf 0 (ix2 (i 0) (slot (i 1) 2))), 0, 0] :=
  congrArg (fun w : BitVec 32 => (![0, w.toNat, 0, 0] : Fin 4 → Nat)) (at_ScoresKernelIdeal pf i 2)

theorem tr3_ScoresKernelIdeal (pf : pre0.Contents (Elt Idealize.ShloMosaic.Ideal)) (i : grid0.Coords) :
    cc0_transform_5 k0_off1_inb numel1_S1x1 pf i = ![0, BitVec.toNat (w := 32) (pf 0 (ix2 (i 0) (slot (i 1) 3))), 0, 0] :=
  congrArg (fun w : BitVec 32 => (![0, w.toNat, 0, 0] : Fin 4 → Nat)) (at_ScoresKernelIdeal pf i 3)

theorem tr4_ScoresKernelIdeal (pf : pre0.Contents (Elt Idealize.ShloMosaic.Ideal)) (i : grid0.Coords) :
    cc0_transform_6 k0_off1_inb numel1_S1x1 pf i = ![0, BitVec.toNat (w := 32) (pf 0 (ix2 (i 0) (slot (i 1) 4))), 0, 0] :=
  congrArg (fun w : BitVec 32 => (![0, w.toNat, 0, 0] : Fin 4 → Nat)) (at_ScoresKernelIdeal pf i 4)

theorem tr5_ScoresKernelIdeal (pf : pre0.Contents (Elt Idealize.ShloMosaic.Ideal)) (i : grid0.Coords) :
    cc0_transform_7 k0_off1_inb numel1_S1x1 pf i = ![0, BitVec.toNat (w := 32) (pf 0 (ix2 (i 0) (slot (i 1) 5))), 0, 0] :=
  congrArg (fun w : BitVec 32 => (![0, w.toNat, 0, 0] : Fin 4 → Nat)) (at_ScoresKernelIdeal pf i 5)

theorem tr6_ScoresKernelIdeal (pf : pre0.Contents (Elt Idealize.ShloMosaic.Ideal)) (i : grid0.Coords) :
    cc0_transform_8 k0_off1_inb numel1_S1x1 pf i = ![0, BitVec.toNat (w := 32) (pf 0 (ix2 (i 0) (slot (i 1) 6))), 0, 0] :=
  congrArg (fun w : BitVec 32 => (![0, w.toNat, 0, 0] : Fin 4 → Nat)) (at_ScoresKernelIdeal pf i 6)

theorem tr7_ScoresKernelIdeal (pf : pre0.Contents (Elt Idealize.ShloMosaic.Ideal)) (i : grid0.Coords) :
    cc0_transform_9 k0_off1_inb numel1_S1x1 pf i = ![0, BitVec.toNat (w := 32) (pf 0 (ix2 (i 0) (slot (i 1) 7))), 0, 0] :=
  congrArg (fun w : BitVec 32 => (![0, w.toNat, 0, 0] : Fin 4 → Nat)) (at_ScoresKernelIdeal pf i 7)

/-- Every page the table names lies in the pool, so every fetch of a page stays in it. -/
theorem ok_ScoresKernelIdeal (m : (ℓ : Loc nD τ sig) → Buf (Elt Idealize.ShloMosaic.Ideal) ℓ) (h : Cert.Pre_ScoresKernelIdeal m) : Ok m := by
  have hw : ∀ i, BitVec.toNat (w := 32) (tbl m 0 i) < 2560 := fun i => by
    have hp := word_lt _ _ _ _ (h 0) i
    have e : tbl m 0 = m (((0 : Dev nD) : Thread nD τ).loc main_arg0) := V_main_arg0 m 0
    rw [e]; exact hp
  have inb : ∀ n : Nat, n < 2560 → ∀ a, ((![0, n, 0, 0] : Fin 4 → Nat) a + 1) * S1x1x128x64.size a ≤ S1x2560x128x64.size a := fun n hn a => by
    match a with
    | ⟨0, _⟩ => show (0 + 1) * 1 ≤ 1; omega
    | ⟨1, _⟩ => show (n + 1) * 1 ≤ 2560; omega
    | ⟨2, _⟩ => show (0 + 1) * 128 ≤ 128; omega
    | ⟨3, _⟩ => show (0 + 1) * 64 ≤ 64; omega
  exact ⟨fun i => ⟨by rw [tr0_ScoresKernelIdeal]; exact inb _ (hw _), .inl rfl⟩,
    fun i => ⟨by rw [tr1_ScoresKernelIdeal]; exact inb _ (hw _), .inl rfl⟩,
    fun i => ⟨by rw [tr2_ScoresKernelIdeal]; exact inb _ (hw _), .inl rfl⟩,
    fun i => ⟨by rw [tr3_ScoresKernelIdeal]; exact inb _ (hw _), .inl rfl⟩,
    fun i => ⟨by rw [tr4_ScoresKernelIdeal]; exact inb _ (hw _), .inl rfl⟩,
    fun i => ⟨by rw [tr5_ScoresKernelIdeal]; exact inb _ (hw _), .inl rfl⟩,
    fun i => ⟨by rw [tr6_ScoresKernelIdeal]; exact inb _ (hw _), .inl rfl⟩,
    fun i => ⟨by rw [tr7_ScoresKernelIdeal]; exact inb _ (hw _), .inl rfl⟩⟩

end ScoresKernelIdeal

end Cert.Proof.Scores

end
-- ==== Proof.ScoresRef.lean ====
module

public import proofs.«01_k».proof.Proof.Gen.ScoresReferenceIdeal.Read
public import Idealize.ShloMosaic.Lib.Pointwise

/-! The reference's scores, read at one key of one page of one sequence. -/

@[expose] public section

set_option maxRecDepth 16384

noncomputable section

open Idealize.ShloMosaic Idealize.ShloMosaic.TcCoe Idealize.SL.Sem

namespace Cert.Proof.Scores

section Ref

open Cert.ScoresReferenceIdeal Cert.ScoresReferenceIdeal.Gen Cert.ScoresReferenceIdeal.Read

/-- The gather of whole pages, read at one element: the page its start index names. -/
theorem gather_at (x : S1x2560x128x64.Idx → EReal) (idx : IVec S32x64x2 32) (t : Fin 32) (g : Fin 64) (p : Fin 128) (d : Fin 64)
    (n : Fin 2560) (hn : (idx (ix3 t g 1)).toInt.toNat = n.val) :
    Host.gather gather_S1x2560x128x64_S32x64x2_S32x64x128x64_23_01_n_n_01_2_1112864 x idx (ix4 t g p d) = x (ix4 0 n p d) := by
  unfold Host.gather
  refine congrArg x (funext fun a => Fin.ext ?_)
  show GatherDims.start _ (ix4 t g p d) idx a + GatherDims.batchCoord _ (ix4 t g p d) a + GatherDims.offCoord _ (ix4 t g p d) a = _
  rw [GatherDims.batchCoord_eq_zero _ _ _ List.not_mem_nil]
  match a with
  | ⟨0, _⟩ =>
    rw [GatherDims.offCoord_eq_zero _ _ _ (fun h => ((GatherDims.mem_sKept _ _).mp h).1 (show (0 : Fin 4) ∈ ([0, 1] : List (Fin 4)) by decide))]
    have := GatherDims.start_le gather_S1x2560x128x64_S32x64x2_S32x64x128x64_23_01_n_n_01_2_1112864 (ix4 t g p d) idx 0
    have h2 : S1x2560x128x64.size 0 - gather_S1x2560x128x64_S32x64x2_S32x64x128x64_23_01_n_n_01_2_1112864.sliceSizes 0 = 0 := by decide
    show GatherDims.start _ (ix4 t g p d) idx 0 + 0 + 0 = 0
    omega
  | ⟨1, _⟩ =>
    rw [GatherDims.offCoord_eq_zero _ _ _ (fun h => ((GatherDims.mem_sKept _ _).mp h).1 (show (1 : Fin 4) ∈ ([0, 1] : List (Fin 4)) by decide))]
    show GatherDims.start _ (ix4 t g p d) idx 1 + 0 + 0 = n.val
    unfold GatherDims.start
    rw [dif_pos (by decide)]
    have hsi : gather_S1x2560x128x64_S32x64x2_S32x64x128x64_23_01_n_n_01_2_1112864.siIdx (ix4 t g p d)
        ⟨List.idxOf (1 : Fin 4) gather_S1x2560x128x64_S32x64x2_S32x64x128x64_23_01_n_n_01_2_1112864.startIndexMap, by decide⟩ = ix3 t g 1 := by
      funext b; refine Fin.ext ?_
      match b with
      | ⟨0, _⟩ => rfl
      | ⟨1, _⟩ => rfl
      | ⟨2, _⟩ => rfl
    rw [hsi, hn]
    show min n.val (2560 - 1) + 0 + 0 = n.val
    have := n.isLt
    omega
  | ⟨2, _⟩ =>
    show GatherDims.start _ (ix4 t g p d) idx 2 + 0 + GatherDims.offCoord _ (ix4 t g p d) 2 = p.val
    unfold GatherDims.start GatherDims.offCoord
    rw [dif_neg (by decide), dif_pos (by decide)]
    show 0 + 0 + p.val = p.val
    omega
  | ⟨3, _⟩ =>
    show GatherDims.start _ (ix4 t g p d) idx 3 + 0 + GatherDims.offCoord _ (ix4 t g p d) 3 = d.val
    unfold GatherDims.start GatherDims.offCoord
    rw [dif_neg (by decide), dif_pos (by decide)]
    show 0 + 0 + d.val = d.val
    omega

variable (x0 : S32x64.Idx → BitVec 32) (x1 : S32x8x64.Idx → EReal) (x2 : S32x8.Idx → EReal) (x3 : S1x2560x128x64.Idx → EReal)

/-- A page of the pool is named by its number as it is: the wrapping of negative numbers leaves it. -/
theorem start_at (t : Fin 32) (g : Fin 64) (h : (x0 (ix2 t g)).toNat < 2560) :
    (val_main_v9 (F := Idealize.ShloMosaic.Ideal) x0 (ix3 t g 1)).toInt.toNat = (x0 (ix2 t g)).toNat := by
  have e : val_main_v9 (F := Idealize.ShloMosaic.Ideal) x0 (ix3 t g 1) = val_main_v4 (F := Idealize.ShloMosaic.Ideal) x0 (ix2 t g) := by
    pointwise [val_main_v9, val_main_v8]
  have z : (x0 (ix2 t g)).toInt = ((x0 (ix2 t g)).toNat : Int) := by
    rw [BitVec.toInt_eq_toNat_cond]; split <;> omega
  have c : IntOp.cmpi .slt (x0 (ix2 t g)) 0#32 = 0#1 := by
    have e0 : (0#32).toInt = 0 := by decide
    simp only [IntOp.cmpi, BitVec.slt, z, e0]
    rw [decide_eq_false (by omega)]; rfl
  rw [e, val_main_v4_apply, val_main_v1_apply, val_main_v0_apply, val_main_c_apply, c, ValueIdx.select_zero, z]
  rfl

/-- The reference's score of key `p` of the page in slot `g` of sequence `t`. -/
theorem ref_at (t : Fin 32) (g : Fin 64) (p : Fin 128) (h : (x0 (ix2 t g)).toNat < 2560) :
    val_main_v19 (F := Idealize.ShloMosaic.Ideal) x0 x1 x2 x3 (ix4 t g 0 p)
      = ∑ j : Fin 8, max ((∑ d : Fin 64, x1 (ix3 t j d) * x3 (ix4 0 ⟨(x0 (ix2 t g)).toNat, h⟩ p d)) * Ideal.ofBits .f32 0x3E000000#32) 0
          * (x2 (ix2 t j) * Ideal.ofBits .f32 0x3EB504F3#32) := by
  have k : ∀ d, val_main_v11 (F := Idealize.ShloMosaic.Ideal) x0 x3 (ix3 t ⟨g.val * 128 + p.val, by omega⟩ d)
      = x3 (ix4 0 ⟨(x0 (ix2 t g)).toNat, h⟩ p d) := fun d => by
    rw [← gather_at x3 _ t g p d ⟨_, h⟩ (start_at x0 t g h)]
    pointwise [val_main_v11]
    rfl
  generalize hv : val_main_v11 (F := Idealize.ShloMosaic.Ideal) x0 x3 = y at k
  simp only [← k]
  unfold val_main_v19 val_main_v18 val_main_v17 val_main_v16 val_main_v14
  rw [hv]
  pointwise [val_main_v13, val_main_v12, val_main_cst, val_main_v15, val_main_cst_2, val_main_call0_v0, val_main_call0_cst]
  done

end Ref

end Cert.Proof.Scores

end
-- ==== Proof.ScoresValue.lean ====
module

public import proofs.«01_k».proof.Proof.ScoresBody
public import proofs.«01_k».proof.Proof.ScoresPre
public import proofs.«01_k».proof.Proof.ScoresRef

/-! The scores of the decode queries against the cached keys: what the kernel's array holds after the run, and that the
    reference's array is the same. -/

@[expose] public section

set_option maxRecDepth 16384

noncomputable section

open Idealize.ShloMosaic Idealize.ShloMosaic.TcCoe Idealize.SL.Sem

namespace Cert.Proof.Scores

/-- The page a word of the table names. -/
def pg (w : BitVec 32) : Fin 2560 := ⟨min w.toNat 2559, by omega⟩

theorem pg_of_lt (w : BitVec 32) (h : w.toNat < 2560) : pg w = ⟨w.toNat, h⟩ := Fin.ext (by show min w.toNat 2559 = w.toNat; omega)

/-- The score of key `p` of the page in slot `g` of sequence `t`. -/
def val (x0 : (⟨2, ![32, 64]⟩ : Shape).Idx → BitVec 32) (x1 : (⟨3, ![32, 8, 64]⟩ : Shape).Idx → EReal)
    (x2 : (⟨2, ![32, 8]⟩ : Shape).Idx → EReal) (x3 : (⟨4, ![1, 2560, 128, 64]⟩ : Shape).Idx → EReal)
    (t : Fin 32) (g : Fin 64) (p : Fin 128) : EReal :=
  ∑ h : Fin 8, max (∑ d : Fin 64, x1 (ix3 t h d) * x3 (ix4 0 (pg (x0 (ix2 t g))) p d)) 0
    * (x2 (ix2 t h) * Ideal.ofBits .f32 0x3D3504F3#32)

section Kernel

open Cert.ScoresKernelIdeal Cert.ScoresKernelIdeal.Gen

variable (m : (ℓ : Loc nD τ sig) → Buf (Elt Idealize.ShloMosaic.Ideal) ℓ) (hO : Ok m) (c : Dev nD)

/-- The whole array of scores. -/
def GS (i : S32x64x1x128.Idx) : EReal :=
  val (m ((c : Thread nD τ).loc main_arg0)) (m ((c : Thread nD τ).loc main_arg1)) (m ((c : Thread nD τ).loc main_arg2))
    (m ((c : Thread nD τ).loc main_arg3)) (i 0) (i 1) (i 3)

theorem V0 (t : Fin 32) (h : Fin 8) : V m c main_v0 (ix3 t h 0) = m ((c : Thread nD τ).loc main_arg2) (ix2 t h) := by
  unfold V; after_results_simp; pointwise []

/-- The sequence and the group of pages a grid point works on. -/
def sq (t : Fin grid0.N) : Fin 32 := grid0.coords t 0
def gr (t : Fin grid0.N) : Fin 8 := grid0.coords t 1

theorem sq_val : ∀ t : Fin grid0.N, (sq t).val = t.val / 8 := by decide +kernel
theorem gr_val : ∀ t : Fin grid0.N, (gr t).val = t.val % 8 := by decide +kernel

theorem ixf0 : ∀ t : Fin grid0.N, cc0_transform_0 (grid0.coords t) = ![(sq t).val, 0, 0] := by decide +kernel
theorem ixf1 : ∀ t : Fin grid0.N, cc0_transform_1 (grid0.coords t) = ![(sq t).val, 0, 0] := by decide +kernel
theorem ixf10 : ∀ t : Fin grid0.N, cc0_transform_10 (grid0.coords t) = ![(sq t).val, (gr t).val, 0, 0] := by decide +kernel

theorem blk0 (t : Fin grid0.N) (h : Fin 8) (d : Fin 64) :
    iblk m hO c 0 t (ix3 0 h d) = m ((c : Thread nD τ).loc main_arg1) (ix3 (sq t) h d) := by
  show V m c main_arg1 ((((cfgM m hO).win 0).blk t).view.emb (ix3 0 h d)) = _
  refine (congrArg (V m c main_arg1) (funext fun a => Fin.ext ?_)).trans (congrFun (V_main_arg1 m c) _)
  have e := ixf0 t
  match a with
  | ⟨0, _⟩ => show cc0_transform_0 (grid0.coords t) 0 * 1 + 1 * 0 = (sq t).val; rw [e]; show (sq t).val * 1 + 1 * 0 = _; omega
  | ⟨1, _⟩ => show cc0_transform_0 (grid0.coords t) 1 * 8 + 1 * h.val = h.val; rw [e]; show 0 * 8 + 1 * h.val = _; omega
  | ⟨2, _⟩ => show cc0_transform_0 (grid0.coords t) 2 * 64 + 1 * d.val = d.val; rw [e]; show 0 * 64 + 1 * d.val = _; omega

theorem blk1 (t : Fin grid0.N) (h : Fin 8) :
    iblk m hO c 1 t (ix3 0 h 0) = m ((c : Thread nD τ).loc main_arg2) (ix2 (sq t) h) := by
  show V m c main_v0 ((((cfgM m hO).win 1).blk t).view.emb (ix3 0 h 0)) = _
  refine (congrArg (V m c main_v0) (funext fun a => Fin.ext ?_)).trans (V0 m c (sq t) h)
  have e := ixf1 t
  match a with
  | ⟨0, _⟩ => show cc0_transform_1 (grid0.coords t) 0 * 1 + 1 * 0 = (sq t).val; rw [e]; show (sq t).val * 1 + 1 * 0 = _; omega
  | ⟨1, _⟩ => show cc0_transform_1 (grid0.coords t) 1 * 8 + 1 * h.val = h.val; rw [e]; show 0 * 8 + 1 * h.val = _; omega
  | ⟨2, _⟩ => show cc0_transform_1 (grid0.coords t) 2 * 1 + 1 * 0 = 0; rw [e]; rfl

/-- The word of the table as launched. -/
theorem tbl_eq (hpre : Cert.Pre_ScoresKernelIdeal m) (i : S32x64.Idx) :
    BitVec.toNat (w := 32) (tbl m 0 i) = (pg (m ((c : Thread nD τ).loc main_arg0) i)).val := by
  obtain rfl : c = 0 := Subsingleton.elim _ _
  have e : tbl m 0 = m (((0 : Dev nD) : Thread nD τ).loc main_arg0) := V_main_arg0 m 0
  have hp := word_lt _ _ _ _ (hpre 0) i
  rw [e, pg_of_lt _ hp]

theorem blk2 (hpre : Cert.Pre_ScoresKernelIdeal m) (t : Fin grid0.N) (p : Fin 128) (d : Fin 64) :
    iblk m hO c 2 t (ix4 0 0 p d)
      = m ((c : Thread nD τ).loc main_arg3) (ix4 0 (pg (m ((c : Thread nD τ).loc main_arg0) (ix2 (sq t) (slot (gr t) 0)))) p d) := by
  show V m c main_arg3 ((((cfgM m hO).win 2).blk t).view.emb (ix4 0 0 p d)) = _
  refine (congrArg (V m c main_arg3) (funext fun a => Fin.ext ?_)).trans (congrFun (V_main_arg3 m c) _)
  have e := tr0_ScoresKernelIdeal (tbl m) (grid0.coords t)
  match a with
  | ⟨0, _⟩ => show cc0_transform_2 k0_off1_inb numel1_S1x1 (tbl m) (grid0.coords t) 0 * 1 + 1 * 0 = 0; rw [e]; rfl
  | ⟨1, _⟩ =>
    show cc0_transform_2 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 0)))
  | ⟨2, _⟩ => show cc0_transform_2 k0_off1_inb numel1_S1x1 (tbl m) (grid0.coords t) 2 * 128 + 1 * p.val = p.val; rw [e]; show 0 * 128 + 1 * p.val = _; omega
  | ⟨3, _⟩ => show cc0_transform_2 k0_off1_inb numel1_S1x1 (tbl m) (grid0.coords t) 3 * 64 + 1 * d.val = d.val; rw [e]; show 0 * 64 + 1 * d.val = _; omega

theorem blk3 (hpre : Cert.Pre_ScoresKernelIdeal m) (t : Fin grid0.N) (p : Fin 128) (d : Fin 64) :
    iblk m hO c 3 t (ix4 0 0 p d)
      = m ((c : Thread nD τ).loc main_arg3) (ix4 0 (pg (m ((c : Thread nD τ).loc main_arg0) (ix2 (sq t) (slot (gr t) 1)))) p d) := by
  show V m c main_arg3 ((((cfgM m hO).win 3).blk t).view.emb (ix4 0 0 p d)) = _
  refine (congrArg (V m c main_arg3) (funext fun a => Fin.ext ?_)).trans (congrFun (V_main_arg3 m c) _)
  have e := tr1_ScoresKernelIdeal (tbl m) (grid0.coords t)
  match a with
  | ⟨0, _⟩ => show cc0_transform_3 k0_off1_inb numel1_S1x1 (tbl m) (grid0.coords t) 0 * 1 + 1 * 0 = 0; rw [e]; rfl
  | ⟨1, _⟩ =>
    show cc0_transform_3 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 1)))
  | ⟨2, _⟩ => show cc0_transform_3 k0_off1_inb numel1_S1x1 (tbl m) (grid0.coords t) 2 * 128 + 1 * p.val = p.val; rw [e]; show 0 * 128 + 1 * p.val = _; omega
  | ⟨3, _⟩ => show cc0_transform_3 k0_off1_inb numel1_S1x1 (tbl m) (grid0.coords t) 3 * 64 + 1 * d.val = d.val; rw [e]; show 0 * 64 + 1 * d.val = _; omega

theorem blk4 (hpre : Cert.Pre_ScoresKernelIdeal m) (t : Fin grid0.N) (p : Fin 128) (d : Fin 64) :
    iblk m hO c 4 t (ix4 0 0 p d)
      = m ((c : Thread nD τ).loc main_arg3) (ix4 0 (pg (m ((c : Thread nD τ).loc main_arg0) (ix2 (sq t) (slot (gr t) 2)))) p d) := by
  show V m c main_arg3 ((((cfgM m hO).win 4).blk t).view.emb (ix4 0 0 p d)) = _
  refine (congrArg (V m c main_arg3) (funext fun a => Fin.ext ?_)).trans (congrFun (V_main_arg3 m c) _)
  have e := tr2_ScoresKernelIdeal (tbl m) (grid0.coords t)
  match a with
  | ⟨0, _⟩ => show cc0_transform_4 k0_off1_inb numel1_S1x1 (tbl m) (grid0.coords t) 0 * 1 + 1 * 0 = 0; rw [e]; rfl
  | ⟨1, _⟩ =>
    show cc0_transform_4 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 2)))
  | ⟨2, _⟩ => show cc0_transform_4 k0_off1_inb numel1_S1x1 (tbl m) (grid0.coords t) 2 * 128 + 1 * p.val = p.val; rw [e]; show 0 * 128 + 1 * p.val = _; omega
  | ⟨3, _⟩ => show cc0_transform_4 k0_off1_inb numel1_S1x1 (tbl m) (grid0.coords t) 3 * 64 + 1 * d.val = d.val; rw [e]; show 0 * 64 + 1 * d.val = _; omega

theorem blk5 (hpre : Cert.Pre_ScoresKernelIdeal m) (t : Fin grid0.N) (p : Fin 128) (d : Fin 64) :
    iblk m hO c 5 t (ix4 0 0 p d)
      = m ((c : Thread nD τ).loc main_arg3) (ix4 0 (pg (m ((c : Thread nD τ).loc main_arg0) (ix2 (sq t) (slot (gr t) 3)))) p d) := by
  show V m c main_arg3 ((((cfgM m hO).win 5).blk t).view.emb (ix4 0 0 p d)) = _
  refine (congrArg (V m c main_arg3) (funext fun a => Fin.ext ?_)).trans (congrFun (V_main_arg3 m c) _)
  have e := tr3_ScoresKernelIdeal (tbl m) (grid0.coords t)
  match a with
  | ⟨0, _⟩ => show cc0_transform_5 k0_off1_inb numel1_S1x1 (tbl m) (grid0.coords t) 0 * 1 + 1 * 0 = 0; rw [e]; rfl
  | ⟨1, _⟩ =>
    show cc0_transform_5 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 3)))
  | ⟨2, _⟩ => show cc0_transform_5 k0_off1_inb numel1_S1x1 (tbl m) (grid0.coords t) 2 * 128 + 1 * p.val = p.val; rw [e]; show 0 * 128 + 1 * p.val = _; omega
  | ⟨3, _⟩ => show cc0_transform_5 k0_off1_inb numel1_S1x1 (tbl m) (grid0.coords t) 3 * 64 + 1 * d.val = d.val; rw [e]; show 0 * 64 + 1 * d.val = _; omega

theorem blk6 (hpre : Cert.Pre_ScoresKernelIdeal m) (t : Fin grid0.N) (p : Fin 128) (d : Fin 64) :
    iblk m hO c 6 t (ix4 0 0 p d)
      = m ((c : Thread nD τ).loc main_arg3) (ix4 0 (pg (m ((c : Thread nD τ).loc main_arg0) (ix2 (sq t) (slot (gr t) 4)))) p d) := by
  show V m c main_arg3 ((((cfgM m hO).win 6).blk t).view.emb (ix4 0 0 p d)) = _
  refine (congrArg (V m c main_arg3) (funext fun a => Fin.ext ?_)).trans (congrFun (V_main_arg3 m c) _)
  have e := tr4_ScoresKernelIdeal (tbl m) (grid0.coords t)
  match a with
  | ⟨0, _⟩ => show cc0_transform_6 k0_off1_inb numel1_S1x1 (tbl m) (grid0.coords t) 0 * 1 + 1 * 0 = 0; rw [e]; rfl
  | ⟨1, _⟩ =>
    show cc0_transform_6 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 4)))
  | ⟨2, _⟩ => show cc0_transform_6 k0_off1_inb numel1_S1x1 (tbl m) (grid0.coords t) 2 * 128 + 1 * p.val = p.val; rw [e]; show 0 * 128 + 1 * p.val = _; omega
  | ⟨3, _⟩ => show cc0_transform_6 k0_off1_inb numel1_S1x1 (tbl m) (grid0.coords t) 3 * 64 + 1 * d.val = d.val; rw [e]; show 0 * 64 + 1 * d.val = _; omega

theorem blk7 (hpre : Cert.Pre_ScoresKernelIdeal m) (t : Fin grid0.N) (p : Fin 128) (d : Fin 64) :
    iblk m hO c 7 t (ix4 0 0 p d)
      = m ((c : Thread nD τ).loc main_arg3) (ix4 0 (pg (m ((c : Thread nD τ).loc main_arg0) (ix2 (sq t) (slot (gr t) 5)))) p d) := by
  show V m c main_arg3 ((((cfgM m hO).win 7).blk t).view.emb (ix4 0 0 p d)) = _
  refine (congrArg (V m c main_arg3) (funext fun a => Fin.ext ?_)).trans (congrFun (V_main_arg3 m c) _)
  have e := tr5_ScoresKernelIdeal (tbl m) (grid0.coords t)
  match a with
  | ⟨0, _⟩ => show cc0_transform_7 k0_off1_inb numel1_S1x1 (tbl m) (grid0.coords t) 0 * 1 + 1 * 0 = 0; rw [e]; rfl
  | ⟨1, _⟩ =>
    show cc0_transform_7 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 5)))
  | ⟨2, _⟩ => show cc0_transform_7 k0_off1_inb numel1_S1x1 (tbl m) (grid0.coords t) 2 * 128 + 1 * p.val = p.val; rw [e]; show 0 * 128 + 1 * p.val = _; omega
  | ⟨3, _⟩ => show cc0_transform_7 k0_off1_inb numel1_S1x1 (tbl m) (grid0.coords t) 3 * 64 + 1 * d.val = d.val; rw [e]; show 0 * 64 + 1 * d.val = _; omega

theorem blk8 (hpre : Cert.Pre_ScoresKernelIdeal m) (t : Fin grid0.N) (p : Fin 128) (d : Fin 64) :
    iblk m hO c 8 t (ix4 0 0 p d)
      = m ((c : Thread nD τ).loc main_arg3) (ix4 0 (pg (m ((c : Thread nD τ).loc main_arg0) (ix2 (sq t) (slot (gr t) 6)))) p d) := by
  show V m c main_arg3 ((((cfgM m hO).win 8).blk t).view.emb (ix4 0 0 p d)) = _
  refine (congrArg (V m c main_arg3) (funext fun a => Fin.ext ?_)).trans (congrFun (V_main_arg3 m c) _)
  have e := tr6_ScoresKernelIdeal (tbl m) (grid0.coords t)
  match a with
  | ⟨0, _⟩ => show cc0_transform_8 k0_off1_inb numel1_S1x1 (tbl m) (grid0.coords t) 0 * 1 + 1 * 0 = 0; rw [e]; rfl
  | ⟨1, _⟩ =>
    show cc0_transform_8 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 6)))
  | ⟨2, _⟩ => show cc0_transform_8 k0_off1_inb numel1_S1x1 (tbl m) (grid0.coords t) 2 * 128 + 1 * p.val = p.val; rw [e]; show 0 * 128 + 1 * p.val = _; omega
  | ⟨3, _⟩ => show cc0_transform_8 k0_off1_inb numel1_S1x1 (tbl m) (grid0.coords t) 3 * 64 + 1 * d.val = d.val; rw [e]; show 0 * 64 + 1 * d.val = _; omega

theorem blk9 (hpre : Cert.Pre_ScoresKernelIdeal m) (t : Fin grid0.N) (p : Fin 128) (d : Fin 64) :
    iblk m hO c 9 t (ix4 0 0 p d)
      = m ((c : Thread nD τ).loc main_arg3) (ix4 0 (pg (m ((c : Thread nD τ).loc main_arg0) (ix2 (sq t) (slot (gr t) 7)))) p d) := by
  show V m c main_arg3 ((((cfgM m hO).win 9).blk t).view.emb (ix4 0 0 p d)) = _
  refine (congrArg (V m c main_arg3) (funext fun a => Fin.ext ?_)).trans (congrFun (V_main_arg3 m c) _)
  have e := tr7_ScoresKernelIdeal (tbl m) (grid0.coords t)
  match a with
  | ⟨0, _⟩ => show cc0_transform_9 k0_off1_inb numel1_S1x1 (tbl m) (grid0.coords t) 0 * 1 + 1 * 0 = 0; rw [e]; rfl
  | ⟨1, _⟩ =>
    show cc0_transform_9 k0_off1_inb numel1_S1x1 (tbl m) (grid0.coords t) 1 * 1 + 1 * 0 = _
    rw [e]
    exact (fun n k (q : n = k) => by omega : ∀ n k : Nat, n = k → n * 1 + 1 * 0 = k) _ _ (tbl_eq m c hpre (ix2 (sq t) (slot (gr t) 7)))
  | ⟨2, _⟩ => show cc0_transform_9 k0_off1_inb numel1_S1x1 (tbl m) (grid0.coords t) 2 * 128 + 1 * p.val = p.val; rw [e]; show 0 * 128 + 1 * p.val = _; omega
  | ⟨3, _⟩ => show cc0_transform_9 k0_off1_inb numel1_S1x1 (tbl m) (grid0.coords t) 3 * 64 + 1 * d.val = d.val; rw [e]; show 0 * 64 + 1 * d.val = _; omega

theorem tile (hpre : Cert.Pre_ScoresKernelIdeal m) (t : Fin grid0.N) (k : Fin 8) (p : Fin 128) :
    G (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (ix4 0 k 0 p) = GS m c (ix4 (sq t) (slot (gr t) k) 0 p) := by
  have e : ∀ d, page (iblk m hO c 2 t) (iblk m hO c 3 t) (iblk m hO c 4 t) (iblk m hO c 5 t) (iblk m hO c 6 t) (iblk m hO c 7 t) (iblk m hO c 8 t) (iblk m hO c 9 t) k (ix4 0 0 p d)
      = m ((c : Thread nD τ).loc main_arg3) (ix4 0 (pg (m ((c : Thread nD τ).loc main_arg0) (ix2 (sq t) (slot (gr t) k)))) p d) :=
    fun d => match k with
      | 0 => blk2 m hO c hpre t p d
      | 1 => blk3 m hO c hpre t p d
      | 2 => blk4 m hO c hpre t p d
      | 3 => blk5 m hO c hpre t p d
      | 4 => blk6 m hO c hpre t p d
      | 5 => blk7 m hO c hpre t p d
      | 6 => blk8 m hO c hpre t p d
      | 7 => blk9 m hO c hpre t p d
  show score (iblk m hO c 0 t) (iblk m hO c 1 t) (page (iblk m hO c 2 t) (iblk m hO c 3 t) (iblk m hO c 4 t) (iblk m hO c 5 t) (iblk m hO c 6 t) (iblk m hO c 7 t) (iblk m hO c 8 t) (iblk m hO c 9 t) k) p = _
  unfold score GS val
  refine Finset.sum_congr rfl fun h _ => ?_
  refine congrArg₂ (· * ·) (congrArg (max · 0) (Finset.sum_congr rfl fun d _ => congrArg₂ (· * ·) (blk0 m hO c t h d) (e d)))
    (congrArg (· * _) (blk1 m hO c t h))

theorem mem_blk10 (t : Fin grid0.N) (i : S32x64x1x128.Idx) :
    i ∈ (((cfgM m hO).win 10).blk t).view.set ↔ ∀ a : Fin 4, cc0_transform_10 (grid0.coords t) a * S1x8x1x128.size a ≤ (i a).val
      ∧ (i a).val < cc0_transform_10 (grid0.coords t) a * S1x8x1x128.size a + S1x8x1x128.size a := by
  show i ∈ ((View.whole main_v1).slice (Rect.block (s := S32x64x1x128) S1x8x1x128.size (cc0_transform_10 (grid0.coords t)) (hinb0_10 _))).set ↔ _
  rw [View.set_slice_whole, Rect.mem_set_unit]; exact Iff.rfl

/-- What a grid point leaves in its block. -/
theorem after_at (hpre : Cert.Pre_ScoresKernelIdeal m) (t : Fin grid0.N) (y : S1x8x1x128.Idx) :
    outsAt0 m hO c t y = GS m c (ix4 (sq t) (slot (gr t) (y 1)) 0 (y 3)) := by
  unfold outsAt0
  refine (congrFun (out_eq (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) c (grid0.coords t) _ _ _ _ _ _ _ _ _ _ _ _ _ _ _ _ _ _ _ _ _ _ _) y).trans ?_
  have z0 : y 0 = (0 : Fin 1) := Subsingleton.elim (α := Fin 1) _ _
  have z2 : y 2 = (0 : Fin 1) := Subsingleton.elim (α := Fin 1) _ _
  have hy : y = ix4 0 (y 1) 0 (y 3) := (eq_ix4 y).trans (by rw [z0, z2]; rfl)
  exact (congrArg _ hy).trans (tile m hO c hpre t (y 1) (y 3))

/-- Where a block's element lies in the array. -/
theorem emb10 (t : Fin grid0.N) (y : S1x8x1x128.Idx) :
    (((cfgM m hO).win 10).blk t).view.emb y = (ix4 (sq t) (slot (gr t) (y 1)) 0 (y 3) : S32x64x1x128.Idx) := by
  have e := ixf10 t
  have z0 : (y 0).val = 0 := by have : (y 0).val < 1 := (y 0).isLt; omega
  have z2 : (y 2).val = 0 := by have : (y 2).val < 1 := (y 2).isLt; omega
  refine funext fun a => Fin.ext ?_
  match a with
  | ⟨0, _⟩ => show cc0_transform_10 (grid0.coords t) 0 * 1 + 1 * (y 0).val = (sq t).val; rw [e, z0]; show (sq t).val * 1 + 1 * 0 = _; omega
  | ⟨1, _⟩ => show cc0_transform_10 (grid0.coords t) 1 * 8 + 1 * (y 1).val = 8 * (gr t).val + (y 1).val; rw [e]; show (gr t).val * 8 + 1 * (y 1).val = _; omega
  | ⟨2, _⟩ => show cc0_transform_10 (grid0.coords t) 2 * 1 + 1 * (y 2).val = 0; rw [e, z2]; rfl
  | ⟨3, _⟩ => show cc0_transform_10 (grid0.coords t) 3 * 128 + 1 * (y 3).val = (y 3).val; rw [e]; show 0 * 128 + 1 * (y 3).val = _; omega

/-- What a grid point writes back is its block of the array of scores. -/
theorem flushed10 (hpre : Cert.Pre_ScoresKernelIdeal m) (t : Fin (cfgM m hO).N) :
    (dats m hO 0 c).flushed 10 t = (((cfgM m hO).win 10).blk t).view.read (Elt Idealize.ShloMosaic.Ideal) (GS m c) := by
  show ((cfgM m hO).win 10).cut (grid0.coords t) ((dats m hO 0 c).after 10 t) = _
  rw [after0_10]
  exact funext fun (y : S1x8x1x128.Idx) => (after_at m hO c hpre t y).trans (congrArg (GS m c) (emb10 m hO t y).symm)

/-- The array of scores after the run. -/
theorem final10 (hpre : Cert.Pre_ScoresKernelIdeal m) : (dats m hO 0 c).arrAt 10 (cfgM m hO).N = GS m c :=
  (dats m hO 0 c).arrAt_eq_of_cover 10 (GS m c) (fun t _ => flushed10 m hO c hpre t) (fun (i : S32x64x1x128.Idx) => by
    have h0 : (i 0).val < 32 := (i 0).isLt
    have h1 : (i 1).val < 64 := (i 1).isLt
    have h2 : (i 2).val < 1 := (i 2).isLt
    have h3 : (i 3).val < 128 := (i 3).isLt
    have hN : grid0.N = 256 := N_0
    have hlt : (i 0).val * 8 + (i 1).val / 8 < grid0.N := by omega
    obtain ⟨t, ht⟩ : ∃ t : Fin grid0.N, t.val = (i 0).val * 8 + (i 1).val / 8 := ⟨⟨_, hlt⟩, rfl⟩
    refine ⟨t, flush0_10 _ _, (mem_blk10 m hO t i).mpr fun a => ?_⟩
    have e := ixf10 t
    have s := sq_val t
    have g := gr_val t
    rw [e]
    match a with
    | ⟨0, _⟩ => show (sq t).val * 1 ≤ (i 0).val ∧ (i 0).val < (sq t).val * 1 + 1; omega
    | ⟨1, _⟩ => show (gr t).val * 8 ≤ (i 1).val ∧ (i 1).val < (gr t).val * 8 + 8; omega
    | ⟨2, _⟩ => show 0 * 1 ≤ (i 2).val ∧ (i 2).val < 0 * 1 + 1; omega
    | ⟨3, _⟩ => show 0 * 128 ≤ (i 3).val ∧ (i 3).val < 0 * 128 + 128; omega)

/-- The run: the array of scores, and the arguments as launched. -/
theorem run (ρ : Dev nD → PrngReg) (hpre : Cert.Pre_ScoresKernelIdeal m) :
    θ_run defs (onTc (τ := τ) (main (F := Idealize.ShloMosaic.Ideal))) ⟨m, fun _ => 0, ρ⟩ fun r => ∀ c : Dev nD,
      r.2.mem ((c : Thread nD τ).loc main_v1) = GS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 10).trans (final10 m (ok_ScoresKernelIdeal m hpre) c hpre), h.2 c⟩)
    (θ_run_and (run_main m ρ (ok_ScoresKernelIdeal m hpre)) (unchanged m ρ (ok_ScoresKernelIdeal m hpre)))

end Kernel

/-! ## The two scalings -/

/-- A normal positive word's value. -/
theorem pos_bits (b : BitVec 32) (ex fr : Nat) (h0 : (b.extractLsb' 31 1 == 1#1) = false) (h1 : (b.extractLsb' 23 8).toNat = ex)
    (h2 : (b.extractLsb' 0 23).toNat = fr) (hx : ex ≠ 255) (hz : ex ≠ 0) :
    Ideal.ofBits .f32 b = ((((2 ^ 23 + fr : Nat) : ℝ) * (2 : ℝ) ^ ((ex : Int) - 127 - 23) : ℝ) : EReal) := by
  simp only [Ideal.ofBits, Ideal.ieee, Nat.reduceAdd, h0, h1, h2]
  rw [if_neg (by norm_num; exact hx), if_neg hz]
  norm_num

theorem eighth_bits : Ideal.ofBits .f32 0x3E000000#32 = ((1 / 8 : ℝ) : EReal) := by
  rw [pos_bits _ 124 0 (by decide) (by decide) (by decide) (by decide) (by decide)]
  norm_num
theorem small_bits : Ideal.ofBits .f32 0x3D3504F3#32 = ((1 / 8 : ℝ) : EReal) * Ideal.ofBits .f32 0x3EB504F3#32 := by
  rw [pos_bits 0x3D3504F3#32 122 3474675 (by decide) (by decide) (by decide) (by decide) (by decide),
    pos_bits 0x3EB504F3#32 125 3474675 (by decide) (by decide) (by decide) (by decide) (by decide), ← EReal.coe_mul]
  norm_num

/-- Scaling the dot product or scaling the weight gives the same term. -/
theorem scale (s w : EReal) :
    max (s * Ideal.ofBits .f32 0x3E000000#32) 0 * (w * Ideal.ofBits .f32 0x3EB504F3#32)
      = max s 0 * (w * Ideal.ofBits .f32 0x3D3504F3#32) := by
  rw [eighth_bits, small_bits]
  have h8 : (0 : EReal) ≤ ((1 / 8 : ℝ) : EReal) := by exact_mod_cast (by norm_num : (0 : ℝ) ≤ 1 / 8)
  have hm : max (s * ((1 / 8 : ℝ) : EReal)) 0 = max s 0 * ((1 / 8 : ℝ) : EReal) := by
    have mono : Monotone fun x : EReal => x * ((1 / 8 : ℝ) : EReal) := fun a b h => mul_le_mul_of_nonneg_right h h8
    have := mono.map_max (a := s) (b := 0)
    simpa using this.symm
  rw [hm, mul_assoc, mul_left_comm w]

end Cert.Proof.Scores

namespace Cert.Proof

theorem scores_algebraic : Cert.algebraic_ScoresKernelIdeal_ScoresReferenceIdeal := by
  intro m ρ m' ρ' hpre hagree
  refine ⟨fun c => Scores.GS m c, Scores.run m ρ hpre, ?_⟩
  refine (θ_run Cert.ScoresReferenceIdeal.defs _ _).mono (fun _ h c => ⟨(h c).1.trans ?_, (h c).2⟩)
    (Cert.ScoresReferenceIdeal.Value.run (F := Ideal) m' ρ')
  rw [Cert.ScoresReferenceIdeal.Read.val_main_v19_eq]
  obtain ⟨h0, h1, h2, h3⟩ := hagree c
  rw [h0, h1, h2, h3]
  funext i
  have z2 : i 2 = (0 : Fin 1) := Subsingleton.elim (α := Fin 1) _ _
  refine (congrArg _ ((eq_ix4 i).trans (congrArg (fun z => ix4 (i 0) (i 1) z (i 3)) z2))).trans ?_
  have hw := Scores.word_lt _ _ _ _ (hpre c) (ix2 (i 0) (i 1))
  refine (Scores.ref_at _ _ _ _ (i 0) (i 1) (i 3) hw).trans ?_
  unfold Scores.GS Scores.val
  refine Finset.sum_congr rfl fun h _ => ?_
  rw [Scores.scale, Scores.pg_of_lt _ hw]

end Cert.Proof

end
-- ==== Proof.PhgrnBody.lean ====
module

public import proofs.«01_k».proof.Proof.Gen.PhgrnKernelIdeal.Frame
public import proofs.«01_k».proof.Proof.HgrnRef
public import Idealize.ShloMosaic.Lib.Pointwise

/-! The prompt's gated recurrence, one block of 128 tokens at a time: the state that the kernel's body leaves for one
    head. -/

@[expose] public section

set_option maxRecDepth 16384

noncomputable section

open Idealize.ShloMosaic Idealize.ShloMosaic.TcCoe Idealize.SL.Sem

namespace Cert.Proof.Phgrn

open Cert.PhgrnKernelIdeal Cert.PhgrnKernelIdeal.Gen

/-- The forget gates of a block for one head. -/
def gatev (lb : FVec Ideal S1x128 .f32) (hf : Vec Ideal S128x128 .f32) : FVec Ideal S128x128 .f32 :=
  addf (broadcastTo S128x128 lb broadcasts_S1x128_S128x128)
    (mulf (broadcastTo S128x128 (subf (broadcast S1x128 (Scalar.ofBits .f32 0x3F800000#32)) lb) broadcasts_S1x128_S128x128) (logistic hf))

/-- Their logarithms, zero at the rows that hold no token. -/
def lfv (valid : IVec S128x128 1) (lb : FVec Ideal S1x128 .f32) (hf : Vec Ideal S128x128 .f32) : FVec Ideal S128x128 .f32 :=
  select valid (log (gatev lb hf)) (broadcast S128x128 (Scalar.ofBits .f32 0x00000000#32))

/-- Their complements, zero at the rows that hold no token. -/
def kfv (valid : IVec S128x128 1) (lb : FVec Ideal S1x128 .f32) (hf : Vec Ideal S128x128 .f32) : FVec Ideal S128x128 .f32 :=
  select valid (subf (broadcast S128x128 (Scalar.ofBits .f32 0x3F800000#32)) (gatev lb hf)) (broadcast S128x128 (Scalar.ofBits .f32 0x00000000#32))

/-- The running sums of the logarithms over the rows of the block, the first 128 rows of the product with the scan matrix. -/
def cumv (scan : Vec Ideal S1024x128 .bf16) (lf : FVec Ideal S128x128 .f32) : FVec Ideal S128x128 .f32 :=
  extractStridedSlice S128x128 ![0, 0] (k0_pay16 (k0_pay8 scan) lf) slices_S1024x128_o0_0_S128x128

/-- The state after the block. -/
def stepv (kf b : FVec Ideal S128x128 .f32) (hi : Vec Ideal S128x128 .f32) (st : Vec Ideal S1x128x128 .f32) : FVec Ideal S1x128x128 .f32 :=
  k0_pay27 (k0_pay26 kf b st hi)

theorem gatev_apply (lb : FVec Ideal S1x128 .f32) (hf : Vec Ideal S128x128 .f32) (r d : Fin 128) :
    gatev lb hf (ix2 r d) = lb (ix2 0 d) + (1 - lb (ix2 0 d)) * Ideal.logistic (hf (ix2 r d)) := by
  pointwise [gatev]

theorem lfv_apply (valid : IVec S128x128 1) (lb : FVec Ideal S1x128 .f32) (hf : Vec Ideal S128x128 .f32) (r d : Fin 128) :
    lfv valid lb hf (ix2 r d) = if valid (ix2 r d) = 1#1 then Ideal.log (gatev lb hf (ix2 r d)) else 0 := by
  pointwise [lfv]
  rfl

theorem kfv_apply (valid : IVec S128x128 1) (lb : FVec Ideal S1x128 .f32) (hf : Vec Ideal S128x128 .f32) (r d : Fin 128) :
    kfv valid lb hf (ix2 r d) = if valid (ix2 r d) = 1#1 then 1 - gatev lb hf (ix2 r d) else 0 := by
  pointwise [kfv]
  rfl

theorem cumv_apply (scan : Vec Ideal S1024x128 .bf16) (lf : FVec Ideal S128x128 .f32) (r d : Fin 128) :
    cumv scan lf (ix2 r d) = (∑ k : Fin 128, scan (ix2 ⟨r.val, by omega⟩ k) * lf (ix2 k d))
      + (∑ k : Fin 128, scan (ix2 ⟨r.val, by omega⟩ k) * (lf (ix2 k d) - lf (ix2 k d)))
      + ∑ k : Fin 128, scan (ix2 ⟨r.val, by omega⟩ k) * (lf (ix2 k d) - lf (ix2 k d) - (lf (ix2 k d) - lf (ix2 k d))) := by
  pointwise [cumv, k0_pay16, k0_pay8]
  refine congrArg₂ (· + ·) rfl (Finset.sum_congr rfl fun k _ => ?_)
  rw [dif_neg (by omega), dif_neg (by omega)]
  have e : ∀ h, (⟨256 + d.val - 128 - 128, h⟩ : Fin 128) = d := fun h => Fin.ext (by dsimp only; omega)
  simp only [e]

theorem stepv_apply (kf b : FVec Ideal S128x128 .f32) (hi : Vec Ideal S128x128 .f32) (st : Vec Ideal S1x128x128 .f32) (v d : Fin 128) :
    stepv kf b hi st (ix3 0 v d) = st (ix3 0 v d) * Ideal.exp (b (ix2 127 d))
      + ∑ r : Fin 128, hi (ix2 r v) * (kf (ix2 r d) * Ideal.exp (b (ix2 127 d) - b (ix2 r d))) := by
  pointwise [stepv, k0_pay26, k0_pay27, k0_pay24]

/-- The state after the block, transposed for the output. -/
def stept (kf b : FVec Ideal S128x128 .f32) (hi : Vec Ideal S128x128 .f32) (st : Vec Ideal S1x128x128 .f32) : FVec Ideal S1x1x128x128 .f32 :=
  k0_pay29 (k0_pay26 kf b st hi)

theorem stept_apply (kf b : FVec Ideal S128x128 .f32) (hi : Vec Ideal S128x128 .f32) (st : Vec Ideal S1x128x128 .f32) (v d : Fin 128) :
    stept kf b hi st (ix4 0 0 d v) = stepv kf b hi st (ix3 0 v d) := by
  pointwise [stept, stepv, k0_pay29, k0_pay27]

theorem bound_apply (l0 l1 : Vec Ideal S1x1024 .f32) (j : Fin 1024) :
    k0_pay7 (F := Ideal) l0 l1 (ix2 0 j) = Hgrn.bound (l0 (ix2 0 j)) (l1 (ix2 0 j)) := by
  unfold Hgrn.bound
  pointwise [k0_pay7]

/-- A row of the scan matrix's first part. -/
def up (r : Fin 128) : Fin 1024 := ⟨r.val, by omega⟩

section Forms

variable (ok : IVec S128x128 1) (x1 x2 : Vec Ideal S128x1024 .f32) (x4 : Vec Ideal S2x1024 .f32) (x6 : Vec Ideal S1024x128 .bf16)

/-- The forget gate of a head's row and column. -/
def gt (h : Fin 8) (r d : Fin 128) : EReal :=
  Hgrn.gate (x4 (ix2 0 (Hgrn.col h d))) (x4 (ix2 1 (Hgrn.col h d))) (x1 (ix2 r (Hgrn.col h d)))

def lf (h : Fin 8) (r d : Fin 128) : EReal := if ok (ix2 r d) = 1#1 then Ideal.log (gt x1 x4 h r d) else 0

def kf (h : Fin 8) (r d : Fin 128) : EReal := if ok (ix2 r d) = 1#1 then 1 - gt x1 x4 h r d else 0

/-- The running sum of the logarithms, as the scan matrix and the splitting in three parts write it. -/
def cm (h : Fin 8) (r d : Fin 128) : EReal :=
  (∑ k : Fin 128, x6 (ix2 (up r) k) * lf ok x1 x4 h k d)
    + (∑ k : Fin 128, x6 (ix2 (up r) k) * (lf ok x1 x4 h k d - lf ok x1 x4 h k d))
    + ∑ k : Fin 128, x6 (ix2 (up r) k) * (lf ok x1 x4 h k d - lf ok x1 x4 h k d - (lf ok x1 x4 h k d - lf ok x1 x4 h k d))

/-- The state after the block where it was `s` before. -/
def nx (h : Fin 8) (v d : Fin 128) (s : EReal) : EReal :=
  s * Ideal.exp (cm ok x1 x4 x6 h 127 d)
    + ∑ r : Fin 128, x2 (ix2 r (Hgrn.col h v)) * (kf ok x1 x4 h r d * Ideal.exp (cm ok x1 x4 x6 h 127 d - cm ok x1 x4 x6 h r d))

theorem head (k : Fin 8) (o : ℕ) (ho : o = k.val * 128) (inb : ∀ a, (![0, o] : Fin 2 → ℕ) a + S128x128.size a ≤ S128x1024.size a)
    (slc : S1x1024.Slices ![0, o] S1x128) (inb0 : ∀ a, (![0, 0] : Fin 2 → ℕ) a + S1x1024.size a ≤ S2x1024.size a)
    (inb1 : ∀ a, (![1, 0] : Fin 2 → ℕ) a + S1x1024.size a ≤ S2x1024.size a)
    (inb6 : ∀ a, (![0, 0] : Fin 2 → ℕ) a + S1024x128.size a ≤ S1024x128.size a) (S : Vec Ideal S1x128x128 .f32) (v d : Fin 128) (s : EReal)
    (hs : S (ix3 0 v d) = s) :
    stepv (kfv ok (extractStridedSlice S1x128 ![0, o] (k0_pay7 (View.ld x4 (Rect.unit ![0, 0] S1x1024.size inb0)) (View.ld x4 (Rect.unit ![1, 0] S1x1024.size inb1))) slc)
        (View.ld x1 (Rect.unit ![0, o] S128x128.size inb)))
      (cumv (View.ld x6 (Rect.unit ![0, 0] S1024x128.size inb6))
        (lfv ok (extractStridedSlice S1x128 ![0, o] (k0_pay7 (View.ld x4 (Rect.unit ![0, 0] S1x1024.size inb0)) (View.ld x4 (Rect.unit ![1, 0] S1x1024.size inb1))) slc)
          (View.ld x1 (Rect.unit ![0, o] S128x128.size inb))))
      (View.ld x2 (Rect.unit ![0, o] S128x128.size inb)) S (ix3 0 v d) = nx ok x1 x2 x4 x6 k v d s := by
  subst ho
  have e2 : ∀ (x : Vec Ideal S128x1024 .f32) (r d : Fin 128), View.ld x (Rect.unit ![0, k.val * 128] S128x128.size inb) (ix2 r d) = x (ix2 r (Hgrn.col k d)) :=
    fun x r d => congrArg x (funext fun a => Fin.ext (match a with
      | ⟨0, _⟩ => (show 0 + 1 * r.val = r.val by omega)
      | ⟨1, _⟩ => (show k.val * 128 + 1 * d.val = k.val * 128 + d.val by omega)))
  have e0 : ∀ (j : Fin 1024), View.ld x4 (Rect.unit ![0, 0] S1x1024.size inb0) (ix2 0 j) = x4 (ix2 0 j) :=
    fun j => congrArg x4 (funext fun a => Fin.ext (match a with
      | ⟨0, _⟩ => (show 0 + 1 * 0 = 0 by omega)
      | ⟨1, _⟩ => (show 0 + 1 * j.val = j.val by omega)))
  have e1 : ∀ (j : Fin 1024), View.ld x4 (Rect.unit ![1, 0] S1x1024.size inb1) (ix2 0 j) = x4 (ix2 1 j) :=
    fun j => congrArg x4 (funext fun a => Fin.ext (match a with
      | ⟨0, _⟩ => (show 1 + 1 * 0 = 1 by omega)
      | ⟨1, _⟩ => (show 0 + 1 * j.val = j.val by omega)))
  have e6 : ∀ (r : Fin 1024) (j : Fin 128), View.ld x6 (Rect.unit ![0, 0] S1024x128.size inb6) (ix2 r j) = x6 (ix2 r j) :=
    fun r j => congrArg x6 (funext fun a => Fin.ext (match a with
      | ⟨0, _⟩ => (show 0 + 1 * r.val = r.val by omega)
      | ⟨1, _⟩ => (show 0 + 1 * j.val = j.val by omega)))
  have eb : ∀ d : Fin 128, extractStridedSlice S1x128 ![0, k.val * 128] (k0_pay7 (View.ld x4 (Rect.unit ![0, 0] S1x1024.size inb0)) (View.ld x4 (Rect.unit ![1, 0] S1x1024.size inb1))) slc
      (ix2 0 d) = Hgrn.bound (x4 (ix2 0 (Hgrn.col k d))) (x4 (ix2 1 (Hgrn.col k d))) := fun d => by
    rw [← e0, ← e1, ← bound_apply]
    refine congrArg (k0_pay7 _ _) (funext fun a => Fin.ext ?_)
    match a with
    | ⟨0, _⟩ => rfl
    | ⟨1, _⟩ => show k.val * 128 + d.val = k.val * 128 + d.val; rfl
  have eg : ∀ r d : Fin 128, gatev (extractStridedSlice S1x128 ![0, k.val * 128] (k0_pay7 (View.ld x4 (Rect.unit ![0, 0] S1x1024.size inb0)) (View.ld x4 (Rect.unit ![1, 0] S1x1024.size inb1))) slc)
      (View.ld x1 (Rect.unit ![0, k.val * 128] S128x128.size inb)) (ix2 r d) = gt x1 x4 k r d := fun r d => by
    rw [gatev_apply, eb, e2]
    unfold gt Hgrn.gate
    rw [Hgrn.one_bits]
  have el : ∀ r d : Fin 128, lfv ok (extractStridedSlice S1x128 ![0, k.val * 128] (k0_pay7 (View.ld x4 (Rect.unit ![0, 0] S1x1024.size inb0)) (View.ld x4 (Rect.unit ![1, 0] S1x1024.size inb1))) slc)
      (View.ld x1 (Rect.unit ![0, k.val * 128] S128x128.size inb)) (ix2 r d) = lf ok x1 x4 k r d := fun r d => by
    rw [lfv_apply, eg]
    rfl
  have ek : ∀ r d : Fin 128, kfv ok (extractStridedSlice S1x128 ![0, k.val * 128] (k0_pay7 (View.ld x4 (Rect.unit ![0, 0] S1x1024.size inb0)) (View.ld x4 (Rect.unit ![1, 0] S1x1024.size inb1))) slc)
      (View.ld x1 (Rect.unit ![0, k.val * 128] S128x128.size inb)) (ix2 r d) = kf ok x1 x4 k r d := fun r d => by
    rw [kfv_apply, eg]
    rfl
  have ec : ∀ r d : Fin 128, cumv (View.ld x6 (Rect.unit ![0, 0] S1024x128.size inb6))
      (lfv ok (extractStridedSlice S1x128 ![0, k.val * 128] (k0_pay7 (View.ld x4 (Rect.unit ![0, 0] S1x1024.size inb0)) (View.ld x4 (Rect.unit ![1, 0] S1x1024.size inb1))) slc)
      (View.ld x1 (Rect.unit ![0, k.val * 128] S128x128.size inb))) (ix2 r d) = cm ok x1 x4 x6 k r d := fun r d => by
    rw [cumv_apply]
    unfold cm
    simp only [el, e6]
    rfl
  rw [stepv_apply, hs]
  unfold nx
  simp only [ec, ek]
  exact congrArg (s * Ideal.exp (cm ok x1 x4 x6 k 127 d) + ·) (Finset.sum_congr rfl fun r _ => congrArg (· * _) (e2 x2 r v))

end Forms

theorem ok_apply (i : grid0.Coords) (r d : Fin 128) : k0_pay4 i (ix2 r d) = 1#1 ↔ 0 < (i 1).val ∨ 112 ≤ r.val := by
  have h : ∀ (n : Fin 33) (r : Fin 128), (IntOp.ori (Scalar.cmpi .sgt (BitVec.ofNat 32 n.val) 0#32) (Scalar.cmpi .sge (BitVec.ofNat 32 r.val) 112#32) = 1#1 ↔ 0 < n.val ∨ 112 ≤ r.val) := by
    decide +kernel
  have e : k0_pay4 i (ix2 r d) = IntOp.ori (Scalar.cmpi .sgt (BitVec.ofNat 32 (i 1).val) 0#32) (Scalar.cmpi .sge (BitVec.ofNat 32 r.val) 112#32) := by
    pointwise [k0_pay4]
    rfl
  rw [e]
  exact h (i 1) r

end Cert.Proof.Phgrn

end
-- ==== Proof.PhgrnRun.lean ====
module

public import proofs.«01_k».proof.Proof.PhgrnBody
public import Idealize.ShloMosaic.Lib.Pipeline.ReadBack

/-! The prompt's recurrence: what one run of the kernel's body leaves in the carried state and in the output block. -/

@[expose] public section

set_option maxRecDepth 65536

noncomputable section

open Idealize.ShloMosaic Idealize.ShloMosaic.TcCoe Idealize.SL.Sem

namespace Cert.Proof.Phgrn

open Cert.PhgrnKernelIdeal Cert.PhgrnKernelIdeal.Gen

theorem putS (G : S8x128x128.Idx → EReal) (w : S1x128x128.Idx → EReal) (k : Fin 8) (inb)
    (hw : ∀ v d : Fin 128, w (ix3 0 v d) = G (ix3 k v d)) (x : S1x128x128.Idx) :
    w x = G ((Rect.unit (s := S8x128x128) ![k.val, 0, 0] S1x128x128.size inb).emb x) := by
  have e : x = ix3 0 (x 1) (x 2) := by
    refine (eq_ix3 x).trans ?_
    rw [show x 0 = (0 : Fin 1) from Subsingleton.elim (α := Fin 1) _ _]
    rfl
  refine (congrArg w e).trans ((hw (x 1) (x 2)).trans (congrArg G (funext fun a => Fin.ext ?_)))
  match a with
  | ⟨0, _⟩ => have h : (x 0).val < 1 := (x 0).isLt; show k.val = k.val + 1 * (x 0).val; omega
  | ⟨1, _⟩ => show (x 1).val = 0 + 1 * (x 1).val; omega
  | ⟨2, _⟩ => show (x 2).val = 0 + 1 * (x 2).val; omega

theorem putT (G : S1x8x128x128.Idx → EReal) (w : S1x1x128x128.Idx → EReal) (k : Fin 8) (inb)
    (hw : ∀ d v : Fin 128, w (ix4 0 0 d v) = G (ix4 0 k d v)) (x : S1x1x128x128.Idx) :
    w x = G ((Rect.unit (s := S1x8x128x128) ![0, k.val, 0, 0] S1x1x128x128.size inb).emb x) := by
  have e : x = ix4 0 0 (x 2) (x 3) := by
    refine (eq_ix4 x).trans ?_
    rw [show x 0 = (0 : Fin 1) from Subsingleton.elim (α := Fin 1) _ _, show x 1 = (0 : Fin 1) from Subsingleton.elim (α := Fin 1) _ _]
    rfl
  refine (congrArg w e).trans ((hw (x 2) (x 3)).trans (congrArg G (funext fun a => Fin.ext ?_)))
  match a with
  | ⟨0, _⟩ => have h : (x 0).val < 1 := (x 0).isLt; show 0 = 0 + 1 * (x 0).val; omega
  | ⟨1, _⟩ => have h : (x 1).val < 1 := (x 1).isLt; show k.val = k.val + 1 * (x 1).val; omega
  | ⟨2, _⟩ => show (x 2).val = 0 + 1 * (x 2).val; omega
  | ⟨3, _⟩ => show (x 3).val = 0 + 1 * (x 3).val; omega

theorem ld_state (X : Vec Ideal S8x128x128 .f32) (k : Fin 8) (inb : ∀ a, (![k.val, 0, 0] : Fin 3 → ℕ) a + S1x128x128.size a ≤ S8x128x128.size a) (v d : Fin 128) :
    View.ld X (Rect.unit ![k.val, 0, 0] S1x128x128.size inb) (ix3 0 v d) = X (ix3 k v d) :=
  congrArg X (funext fun a => Fin.ext (match a with
    | ⟨0, _⟩ => (show k.val + 1 * 0 = k.val by omega)
    | ⟨1, _⟩ => (show 0 + 1 * v.val = v.val by omega)
    | ⟨2, _⟩ => (show 0 + 1 * d.val = d.val by omega)))

theorem mem_state (y : S8x128x128.Idx) (k : Fin 8) (inb : ∀ a, (![k.val, 0, 0] : Fin 3 → ℕ) a + S1x128x128.size a ≤ S8x128x128.size a) (hk : y 0 = k) :
    y ∈ (Rect.unit (s := S8x128x128) ![k.val, 0, 0] S1x128x128.size inb).set := by
  rw [Rect.mem_set_unit]
  intro a
  match a with
  | ⟨0, _⟩ => exact ⟨(show k.val ≤ (y 0).val by rw [hk]), (show (y 0).val < k.val + 1 by rw [hk]; omega)⟩
  | ⟨1, _⟩ => exact ⟨Nat.zero_le _, (show (y 1).val < 0 + 128 by have h : (y 1).val < 128 := (y 1).isLt; omega)⟩
  | ⟨2, _⟩ => exact ⟨Nat.zero_le _, (show (y 2).val < 0 + 128 by have h : (y 2).val < 128 := (y 2).isLt; omega)⟩

/-- The state after a block, from the state before. -/
def nst (i : grid0.Coords) (x1 x2 : Vec Ideal S128x1024 .f32) (x4 : Vec Ideal S2x1024 .f32) (x6 : Vec Ideal S1024x128 .bf16) (s : S8x128x128.Idx → EReal)
    (y : S8x128x128.Idx) : EReal :=
  nx (k0_pay4 i) x1 x2 x4 x6 (y 0) (y 1) (y 2) (s y)

section Run

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S2x1024 .f32) (harg6 : arg6.IsWhole) (arg7 : Memref sig .tc .vmem S1x128 .f32) (harg7 : arg7.IsWhole) (arg8 : Memref sig .tc .vmem S1024x128 .bf16) (harg8 : arg8.IsWhole) (arg9 : Memref sig .tc .vmem S128x1024 .bf16) (harg9 : arg9.IsWhole) (arg10 : Memref sig .tc .vmem S1x8x128x128 .f32) (harg10 : arg10.IsWhole) (arg11 : Memref sig .tc .vmem S8x128x128 .f32) (harg11 : arg11.IsWhole)
  (x0 x1 x2 x3 : Vec Ideal S128x1024 .f32) (x4 : Vec Ideal S2x1024 .f32) (x5 : Vec Ideal S1x128 .f32) (x6 : Vec Ideal S1024x128 .bf16) (xs0 : Vec Ideal S8x128x128 .f32)

theorem sout_B (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    sout0_B_0 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 xs0 = nst i x1 x2 x4 x6 xs0 := by
  funext y
  have hcov := scover0_B_0 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 xs0 y
  unfold sout0_B_0
  rw [View.read_writes_junk_eq_canon]
  revert hcov
  unfold kernelRun0_B
  dsimp only
  sl_unfold_words
  simp only [View.readAt_eq_ld, harg2.read_unread, harg3.read_unread, harg4.read_unread, harg5.read_unread, harg6.read_unread, harg7.read_unread, harg8.read_unread, harg11.read_unread]
  intro hcov
  refine View.canon_apply_of_pieces (nst i x1 x2 x4 x6 xs0) _ ?_ y hcov
  intro p hp
  simp only [List.mem_cons, List.not_mem_nil, or_false] at hp
  rcases hp with rfl | rfl | rfl | rfl | rfl | rfl | rfl | rfl
  · exact putS (nst i x1 x2 x4 x6 xs0) _ 7 (by decide) (fun v d => head (k0_pay4 i) x1 x2 x4 x6 7 896 rfl (by decide) (by decide) (by decide) (by decide) (by decide) _ v d _ (ld_state xs0 7 (by decide) v d))
  · exact putS (nst i x1 x2 x4 x6 xs0) _ 6 (by decide) (fun v d => head (k0_pay4 i) x1 x2 x4 x6 6 768 rfl (by decide) (by decide) (by decide) (by decide) (by decide) _ v d _ (ld_state xs0 6 (by decide) v d))
  · exact putS (nst i x1 x2 x4 x6 xs0) _ 5 (by decide) (fun v d => head (k0_pay4 i) x1 x2 x4 x6 5 640 rfl (by decide) (by decide) (by decide) (by decide) (by decide) _ v d _ (ld_state xs0 5 (by decide) v d))
  · exact putS (nst i x1 x2 x4 x6 xs0) _ 4 (by decide) (fun v d => head (k0_pay4 i) x1 x2 x4 x6 4 512 rfl (by decide) (by decide) (by decide) (by decide) (by decide) _ v d _ (ld_state xs0 4 (by decide) v d))
  · exact putS (nst i x1 x2 x4 x6 xs0) _ 3 (by decide) (fun v d => head (k0_pay4 i) x1 x2 x4 x6 3 384 rfl (by decide) (by decide) (by decide) (by decide) (by decide) _ v d _ (ld_state xs0 3 (by decide) v d))
  · exact putS (nst i x1 x2 x4 x6 xs0) _ 2 (by decide) (fun v d => head (k0_pay4 i) x1 x2 x4 x6 2 256 rfl (by decide) (by decide) (by decide) (by decide) (by decide) _ v d _ (ld_state xs0 2 (by decide) v d))
  · exact putS (nst i x1 x2 x4 x6 xs0) _ 1 (by decide) (fun v d => head (k0_pay4 i) x1 x2 x4 x6 1 128 rfl (by decide) (by decide) (by decide) (by decide) (by decide) _ v d _ (ld_state xs0 1 (by decide) v d))
  · exact putS (nst i x1 x2 x4 x6 xs0) _ 0 (by decide) (fun v d => head (k0_pay4 i) x1 x2 x4 x6 0 0 rfl (by decide) (by decide) (by decide) (by decide) (by decide) _ v d _ (ld_state xs0 0 (by decide) v d))

theorem sout_C (hc0 : ¬cond0_0 i) (hc1 : cond0_1 i) (hc2 : cond0_2 i) (hc3 : cond0_3 i) (hc4 : cond0_4 i) (hc5 : cond0_5 i) (hc6 : cond0_6 i) (hc7 : cond0_7 i) (hc8 : cond0_8 i) :
    sout0_C_0 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 xs0 = nst i x1 x2 x4 x6 xs0 := by
  funext y
  have hcov := scover0_C_0 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 xs0 y
  unfold sout0_C_0
  rw [View.read_writes_junk_eq_canon]
  revert hcov
  unfold kernelRun0_C
  dsimp only
  sl_unfold_words
  simp only [View.readAt_eq_ld, harg2.read_unread, harg3.read_unread, harg4.read_unread, harg5.read_unread, harg6.read_unread, harg7.read_unread, harg8.read_unread, harg11.read_unread]
  intro hcov
  refine View.canon_apply_of_pieces (nst i x1 x2 x4 x6 xs0) _ ?_ y hcov
  intro p hp
  simp only [List.mem_cons, List.not_mem_nil, or_false] at hp
  rcases hp with rfl | rfl | rfl | rfl | rfl | rfl | rfl | rfl
  · exact putS (nst i x1 x2 x4 x6 xs0) _ 7 (by decide) (fun v d => head (k0_pay4 i) x1 x2 x4 x6 7 896 rfl (by decide) (by decide) (by decide) (by decide) (by decide) _ v d _ (ld_state xs0 7 (by decide) v d))
  · exact putS (nst i x1 x2 x4 x6 xs0) _ 6 (by decide) (fun v d => head (k0_pay4 i) x1 x2 x4 x6 6 768 rfl (by decide) (by decide) (by decide) (by decide) (by decide) _ v d _ (ld_state xs0 6 (by decide) v d))
  · exact putS (nst i x1 x2 x4 x6 xs0) _ 5 (by decide) (fun v d => head (k0_pay4 i) x1 x2 x4 x6 5 640 rfl (by decide) (by decide) (by decide) (by decide) (by decide) _ v d _ (ld_state xs0 5 (by decide) v d))
  · exact putS (nst i x1 x2 x4 x6 xs0) _ 4 (by decide) (fun v d => head (k0_pay4 i) x1 x2 x4 x6 4 512 rfl (by decide) (by decide) (by decide) (by decide) (by decide) _ v d _ (ld_state xs0 4 (by decide) v d))
  · exact putS (nst i x1 x2 x4 x6 xs0) _ 3 (by decide) (fun v d => head (k0_pay4 i) x1 x2 x4 x6 3 384 rfl (by decide) (by decide) (by decide) (by decide) (by decide) _ v d _ (ld_state xs0 3 (by decide) v d))
  · exact putS (nst i x1 x2 x4 x6 xs0) _ 2 (by decide) (fun v d => head (k0_pay4 i) x1 x2 x4 x6 2 256 rfl (by decide) (by decide) (by decide) (by decide) (by decide) _ v d _ (ld_state xs0 2 (by decide) v d))
  · exact putS (nst i x1 x2 x4 x6 xs0) _ 1 (by decide) (fun v d => head (k0_pay4 i) x1 x2 x4 x6 1 128 rfl (by decide) (by decide) (by decide) (by decide) (by decide) _ v d _ (ld_state xs0 1 (by decide) v d))
  · exact putS (nst i x1 x2 x4 x6 xs0) _ 0 (by decide) (fun v d => head (k0_pay4 i) x1 x2 x4 x6 0 0 rfl (by decide) (by decide) (by decide) (by decide) (by decide) _ v d _ (ld_state xs0 0 (by decide) v d))

theorem out_C (hc0 : ¬cond0_0 i) (hc1 : cond0_1 i) (hc2 : cond0_2 i) (hc3 : cond0_3 i) (hc4 : cond0_4 i) (hc5 : cond0_5 i) (hc6 : cond0_6 i) (hc7 : cond0_7 i) (hc8 : cond0_8 i) :
    out0_C_8 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 xs0 = fun y : S1x8x128x128.Idx => nst i x1 x2 x4 x6 xs0 (ix3 (y 1) (y 3) (y 2)) := by
  funext y
  have hcov := cover0_C_8 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 xs0 y
  unfold out0_C_8
  rw [View.read_writes_junk_eq_canon]
  revert hcov
  unfold kernelRun0_C
  dsimp only
  sl_unfold_words
  simp only [View.readAt_eq_ld, harg2.read_unread, harg3.read_unread, harg4.read_unread, harg5.read_unread, harg6.read_unread, harg7.read_unread, harg8.read_unread, harg11.read_unread]
  intro hcov
  refine View.canon_apply_of_pieces (fun y : S1x8x128x128.Idx => nst i x1 x2 x4 x6 xs0 (ix3 (y 1) (y 3) (y 2))) _ ?_ y hcov
  intro p hp
  simp only [List.mem_cons, List.not_mem_nil, or_false] at hp
  rcases hp with rfl | rfl | rfl | rfl | rfl | rfl | rfl | rfl
  · exact putT (fun y : S1x8x128x128.Idx => nst i x1 x2 x4 x6 xs0 (ix3 (y 1) (y 3) (y 2))) _ 7 (by decide) (fun d v => (stept_apply _ _ _ _ v d).trans (head (k0_pay4 i) x1 x2 x4 x6 7 896 rfl (by decide) (by decide) (by decide) (by decide) (by decide) _ v d _ (ld_state xs0 7 (by decide) v d)))
  · exact putT (fun y : S1x8x128x128.Idx => nst i x1 x2 x4 x6 xs0 (ix3 (y 1) (y 3) (y 2))) _ 6 (by decide) (fun d v => (stept_apply _ _ _ _ v d).trans (head (k0_pay4 i) x1 x2 x4 x6 6 768 rfl (by decide) (by decide) (by decide) (by decide) (by decide) _ v d _ (ld_state xs0 6 (by decide) v d)))
  · exact putT (fun y : S1x8x128x128.Idx => nst i x1 x2 x4 x6 xs0 (ix3 (y 1) (y 3) (y 2))) _ 5 (by decide) (fun d v => (stept_apply _ _ _ _ v d).trans (head (k0_pay4 i) x1 x2 x4 x6 5 640 rfl (by decide) (by decide) (by decide) (by decide) (by decide) _ v d _ (ld_state xs0 5 (by decide) v d)))
  · exact putT (fun y : S1x8x128x128.Idx => nst i x1 x2 x4 x6 xs0 (ix3 (y 1) (y 3) (y 2))) _ 4 (by decide) (fun d v => (stept_apply _ _ _ _ v d).trans (head (k0_pay4 i) x1 x2 x4 x6 4 512 rfl (by decide) (by decide) (by decide) (by decide) (by decide) _ v d _ (ld_state xs0 4 (by decide) v d)))
  · exact putT (fun y : S1x8x128x128.Idx => nst i x1 x2 x4 x6 xs0 (ix3 (y 1) (y 3) (y 2))) _ 3 (by decide) (fun d v => (stept_apply _ _ _ _ v d).trans (head (k0_pay4 i) x1 x2 x4 x6 3 384 rfl (by decide) (by decide) (by decide) (by decide) (by decide) _ v d _ (ld_state xs0 3 (by decide) v d)))
  · exact putT (fun y : S1x8x128x128.Idx => nst i x1 x2 x4 x6 xs0 (ix3 (y 1) (y 3) (y 2))) _ 2 (by decide) (fun d v => (stept_apply _ _ _ _ v d).trans (head (k0_pay4 i) x1 x2 x4 x6 2 256 rfl (by decide) (by decide) (by decide) (by decide) (by decide) _ v d _ (ld_state xs0 2 (by decide) v d)))
  · exact putT (fun y : S1x8x128x128.Idx => nst i x1 x2 x4 x6 xs0 (ix3 (y 1) (y 3) (y 2))) _ 1 (by decide) (fun d v => (stept_apply _ _ _ _ v d).trans (head (k0_pay4 i) x1 x2 x4 x6 1 128 rfl (by decide) (by decide) (by decide) (by decide) (by decide) _ v d _ (ld_state xs0 1 (by decide) v d)))
  · exact putT (fun y : S1x8x128x128.Idx => nst i x1 x2 x4 x6 xs0 (ix3 (y 1) (y 3) (y 2))) _ 0 (by decide) (fun d v => (stept_apply _ _ _ _ v d).trans (head (k0_pay4 i) x1 x2 x4 x6 0 0 rfl (by decide) (by decide) (by decide) (by decide) (by decide) _ v d _ (ld_state xs0 0 (by decide) v d)))

theorem pay3_apply (y : S8x128x128.Idx) : (k0_pay3 (F := Ideal)) y = 0 := by
  rw [eq_ix3 y]
  pointwise [k0_pay3]

theorem sout_A (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) :
    sout0_A_0 c i arg2 harg2 arg3 harg3 arg4 harg4 arg5 harg5 arg6 harg6 arg7 harg7 arg8 harg8 arg9 harg9 arg10 harg10 arg11 harg11 hc0 hc1 hc2 hc3 hc4 hc5 hc6 hc7 hc8 x0 x1 x2 x3 x4 x5 x6 = nst i x1 x2 x4 x6 (fun _ => 0) := by
  funext y
  unfold sout0_A_0
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg11.read_unread]
  refine View.canon_append_of_piecesOf (Val := Elt Idealize.ShloMosaic.Ideal) (e := .f32) (nst i x1 x2 x4 x6 (fun _ => 0)) [_] [_, _, _, _, _, _, _, _] ⟨?_, ?_, ?_, ?_, ?_, ?_, ?_, ?_, trivial⟩ y ?_
  · refine putS (nst i x1 x2 x4 x6 (fun _ => 0)) _ 7 (by decide) (fun v d => head (k0_pay4 i) x1 x2 x4 x6 7 896 rfl (by decide) (by decide) (by decide) (by decide) (by decide) _ v d _ ?_)
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact pay3_apply _
  · refine putS (nst i x1 x2 x4 x6 (fun _ => 0)) _ 6 (by decide) (fun v d => head (k0_pay4 i) x1 x2 x4 x6 6 768 rfl (by decide) (by decide) (by decide) (by decide) (by decide) _ v d _ ?_)
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact pay3_apply _
  · refine putS (nst i x1 x2 x4 x6 (fun _ => 0)) _ 5 (by decide) (fun v d => head (k0_pay4 i) x1 x2 x4 x6 5 640 rfl (by decide) (by decide) (by decide) (by decide) (by decide) _ v d _ ?_)
    rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
    exact pay3_apply _
  · refine putS (nst i x1 x2 x4 x6 (fun _ => 0)) _ 4 (by decide) (fun v d => head (k0_pay4 i) x1 x2 x4 x6 4 512 rfl (by decide) (by decide) (by decide) (by decide) (by decide) _ v d _ ?_)
    rw [View.readCov_skip _ _ _ _ _ (by decide), View.readCov_skip _ _ _ _ _ (by decide), View.readCov_skip _ _ _ _ _ (by decide), View.readCov_skip _ _ _ _ _ (by decide), View.readCov_fill _ _ _ _ _ (by decide)]
    exact pay3_apply _
  · refine putS (nst i x1 x2 x4 x6 (fun _ => 0)) _ 3 (by decide) (fun v d => head (k0_pay4 i) x1 x2 x4 x6 3 384 rfl (by decide) (by decide) (by decide) (by decide) (by decide) _ v d _ ?_)
    rw [View.readCov_skip _ _ _ _ _ (by decide), View.readCov_skip _ _ _ _ _ (by decide), View.readCov_skip _ _ _ _ _ (by decide), View.readCov_fill _ _ _ _ _ (by decide)]
    exact pay3_apply _
  · refine putS (nst i x1 x2 x4 x6 (fun _ => 0)) _ 2 (by decide) (fun v d => head (k0_pay4 i) x1 x2 x4 x6 2 256 rfl (by decide) (by decide) (by decide) (by decide) (by decide) _ v d _ ?_)
    rw [View.readCov_skip _ _ _ _ _ (by decide), View.readCov_skip _ _ _ _ _ (by decide), View.readCov_fill _ _ _ _ _ (by decide)]
    exact pay3_apply _
  · refine putS (nst i x1 x2 x4 x6 (fun _ => 0)) _ 1 (by decide) (fun v d => head (k0_pay4 i) x1 x2 x4 x6 1 128 rfl (by decide) (by decide) (by decide) (by decide) (by decide) _ v d _ ?_)
    rw [View.readCov_skip _ _ _ _ _ (by decide), View.readCov_fill _ _ _ _ _ (by decide)]
    exact pay3_apply _
  · refine putS (nst i x1 x2 x4 x6 (fun _ => 0)) _ 0 (by decide) (fun v d => head (k0_pay4 i) x1 x2 x4 x6 0 0 rfl (by decide) (by decide) (by decide) (by decide) (by decide) _ v d _ ?_)
    rw [View.readCov_fill _ _ _ _ _ (by decide)]
    exact pay3_apply _
  · have h8 : (y 0).val < 8 := (y 0).isLt
    have e : ∀ k : Fin 8, (y 0).val = k.val → y 0 = k := fun k h => Fin.ext h
    have hq : (y 0).val = 0 ∨ (y 0).val = 1 ∨ (y 0).val = 2 ∨ (y 0).val = 3 ∨ (y 0).val = 4 ∨ (y 0).val = 5 ∨ (y 0).val = 6 ∨ (y 0).val = 7 := by omega
    rcases hq with h | h | h | h | h | h | h | h
    · exact ⟨_, List.Mem.tail _ (List.Mem.tail _ (List.Mem.tail _ (List.Mem.tail _ (List.Mem.tail _ (List.Mem.tail _ (List.Mem.tail _ (List.Mem.head _))))))), mem_state y 0 (by decide) (e 0 h)⟩
    · exact ⟨_, List.Mem.tail _ (List.Mem.tail _ (List.Mem.tail _ (List.Mem.tail _ (List.Mem.tail _ (List.Mem.tail _ (List.Mem.head _)))))), mem_state y 1 (by decide) (e 1 h)⟩
    · exact ⟨_, List.Mem.tail _ (List.Mem.tail _ (List.Mem.tail _ (List.Mem.tail _ (List.Mem.tail _ (List.Mem.head _))))), mem_state y 2 (by decide) (e 2 h)⟩
    · exact ⟨_, List.Mem.tail _ (List.Mem.tail _ (List.Mem.tail _ (List.Mem.tail _ (List.Mem.head _)))), mem_state y 3 (by decide) (e 3 h)⟩
    · exact ⟨_, List.Mem.tail _ (List.Mem.tail _ (List.Mem.tail _ (List.Mem.head _))), mem_state y 4 (by decide) (e 4 h)⟩
    · exact ⟨_, List.Mem.tail _ (List.Mem.tail _ (List.Mem.head _)), mem_state y 5 (by decide) (e 5 h)⟩
    · exact ⟨_, List.Mem.tail _ (List.Mem.head _), mem_state y 6 (by decide) (e 6 h)⟩
    · exact ⟨_, List.Mem.head _, mem_state y 7 (by decide) (e 7 h)⟩

end Run

end Cert.Proof.Phgrn
-- ==== Proof.PhgrnAlg.lean ====
module

public import Idealize.ShloMosaic.PureOps.Ideal

/-! A gated recurrence taken in blocks, over the reals: the state after a block is the state before it, decayed over the
    block, and the block's own contributions. -/

@[expose] public section

noncomputable section

namespace Cert.Proof.Phgrn

/-- The sum of the logarithms before position `n`. -/
def pre (lf : ℕ → ℝ) (n : ℕ) : ℝ := ∑ i ∈ Finset.range n, lf i

/-- The state before position `n`: each earlier position's contribution, decayed by the gates after it. -/
def rec (lf kf u : ℕ → ℝ) (n : ℕ) : ℝ := ∑ i ∈ Finset.range n, kf i * Real.exp (pre lf n - pre lf (i + 1)) * u i

theorem pre_add (lf : ℕ → ℝ) (n : ℕ) (r : ℕ) : pre lf (n + r) = pre lf n + ∑ k ∈ Finset.range r, lf (n + k) :=
  Finset.sum_range_add _ _ _

theorem rec_add (lf kf u : ℕ → ℝ) (n m : ℕ) :
    rec lf kf u (n + m) = rec lf kf u n * Real.exp (∑ k ∈ Finset.range m, lf (n + k))
      + ∑ r ∈ Finset.range m, u (n + r) * (kf (n + r) * Real.exp (∑ k ∈ Finset.range m, lf (n + k) - ∑ k ∈ Finset.range (r + 1), lf (n + k))) := by
  unfold rec
  rw [Finset.sum_range_add, Finset.sum_mul]
  refine congrArg₂ (· + ·) (Finset.sum_congr rfl fun i _ => ?_) (Finset.sum_congr rfl fun r _ => ?_)
  · rw [pre_add, show pre lf n + ∑ k ∈ Finset.range m, lf (n + k) - pre lf (i + 1) = (pre lf n - pre lf (i + 1)) + ∑ k ∈ Finset.range m, lf (n + k) by ring,
      Real.exp_add]
    ring
  · rw [pre_add, show n + r + 1 = n + (r + 1) by ring, pre_add,
      show pre lf n + ∑ k ∈ Finset.range m, lf (n + k) - (pre lf n + ∑ k ∈ Finset.range (r + 1), lf (n + k))
        = ∑ k ∈ Finset.range m, lf (n + k) - ∑ k ∈ Finset.range (r + 1), lf (n + k) by ring]
    ring

/-- Positions whose gate is left open and that contribute nothing may be dropped from the front. -/
theorem rec_drop (lf kf u : ℕ → ℝ) (p n : ℕ) (hl : ∀ i < p, lf i = 0) (hk : ∀ i < p, kf i = 0) :
    rec lf kf u (p + n) = rec (fun i => lf (p + i)) (fun i => kf (p + i)) (fun i => u (p + i)) n := by
  have h0 : pre lf p = 0 := Finset.sum_eq_zero fun i hi => hl i (Finset.mem_range.mp hi)
  have hp : ∀ j, pre lf (p + j) = pre (fun i => lf (p + i)) j := fun j => by rw [pre_add, h0, zero_add]; rfl
  unfold rec
  rw [Finset.sum_range_add, Finset.sum_eq_zero (fun i hi => by rw [hk i (Finset.mem_range.mp hi)]; ring), zero_add]
  exact Finset.sum_congr rfl fun i _ => by rw [hp, show p + i + 1 = p + (i + 1) by ring, hp]

end Cert.Proof.Phgrn

end
-- ==== Proof.PhgrnReal.lean ====
module

public import proofs.«01_k».proof.Proof.PhgrnBody
public import proofs.«01_k».proof.Proof.PhgrnAlg

/-! The prompt's recurrence over the real numbers: the gates of a token, and one block of the kernel as one step of the
    recurrence over 128 tokens. -/

@[expose] public section

set_option maxRecDepth 16384

noncomputable section

open Idealize.ShloMosaic Idealize.ShloMosaic.TcCoe Idealize.SL.Sem

namespace Cert.Proof.Phgrn

open Cert.PhgrnKernelIdeal Cert.PhgrnKernelIdeal.Gen

theorem sum_le (a : ℕ → ℝ) (r : Fin 128) (s : Fin 128 → EReal) (hs : ∀ k, s k = if k.val ≤ r.val then 1 else 0) :
    ∑ k : Fin 128, s k * ((a k.val : ℝ) : EReal) = ((∑ k ∈ Finset.range (r.val + 1), a k : ℝ) : EReal) := by
  have e : ∀ k : Fin 128, s k * ((a k.val : ℝ) : EReal) = (((if k.val ≤ r.val then a k.val else 0 : ℝ)) : EReal) := fun k => by
    rw [hs]
    split_ifs
    · rw [one_mul]
    · rw [zero_mul, EReal.coe_zero]
  rw [Finset.sum_congr rfl fun k _ => e k, Hgrn.coe_sum]
  refine congrArg Real.toEReal ?_
  rw [Fin.sum_univ_eq_sum_range (fun k => if k ≤ r.val then a k else 0) 128, ← Finset.sum_filter]
  refine Finset.sum_congr (Finset.ext fun k => ?_) fun _ _ => rfl
  rw [Finset.mem_filter, Finset.mem_range, Finset.mem_range]
  have := r.isLt
  omega

section Step

variable (ok : IVec S128x128 1) (x1 x2 : Vec Ideal S128x1024 .f32) (x4 : Vec Ideal S2x1024 .f32) (x6 : Vec Ideal S1024x128 .bf16)
  (h : Fin 8) (v d : Fin 128) (lr kr ur : ℕ → ℝ) (n : ℕ)
  (hl : ∀ r : Fin 128, lf ok x1 x4 h r d = ((lr (n + r.val) : ℝ) : EReal))
  (hs : ∀ r k : Fin 128, x6 (ix2 (up r) k) = if k.val ≤ r.val then (1 : EReal) else 0)

include hl hs in
theorem cm_real (r : Fin 128) : cm ok x1 x4 x6 h r d = ((∑ k ∈ Finset.range (r.val + 1), lr (n + k) : ℝ) : EReal) := by
  unfold cm
  simp only [hl]
  have z : ∀ x : ℝ, (x : EReal) - (x : EReal) = ((0 : ℝ) : EReal) := fun x => by rw [← EReal.coe_sub, sub_self]
  simp only [z, EReal.coe_zero, mul_zero, Finset.sum_const_zero, sub_zero, add_zero]
  exact sum_le (fun k => lr (n + k)) r _ (hs r)

include hl hs in
theorem nx_real (hk : ∀ r : Fin 128, kf ok x1 x4 h r d = ((kr (n + r.val) : ℝ) : EReal))
    (hu : ∀ r : Fin 128, x2 (ix2 r (Hgrn.col h v)) = ((ur (n + r.val) : ℝ) : EReal)) :
    nx ok x1 x2 x4 x6 h v d ((rec lr kr ur n : ℝ) : EReal) = ((rec lr kr ur (n + 128) : ℝ) : EReal) := by
  have e : ∀ r : Fin 128, x2 (ix2 r (Hgrn.col h v)) * (kf ok x1 x4 h r d * Ideal.exp (cm ok x1 x4 x6 h 127 d - cm ok x1 x4 x6 h r d))
      = ((ur (n + r.val) * (kr (n + r.val) * Real.exp (∑ k ∈ Finset.range 128, lr (n + k) - ∑ k ∈ Finset.range (r.val + 1), lr (n + k))) : ℝ) : EReal) :=
    fun r => by
      rw [cm_real ok x1 x4 x6 h d lr n hl hs r, cm_real ok x1 x4 x6 h d lr n hl hs 127, hk, hu, ← EReal.coe_sub, Ideal.exp_coe, ← EReal.coe_mul, ← EReal.coe_mul]
      rfl
  unfold nx
  rw [Finset.sum_congr rfl fun r _ => e r, Hgrn.coe_sum, cm_real ok x1 x4 x6 h d lr n hl hs 127, Ideal.exp_coe, ← EReal.coe_mul, ← EReal.coe_add, rec_add]
  refine congrArg Real.toEReal (congrArg₂ (· + ·) rfl ?_)
  exact Fin.sum_univ_eq_sum_range (fun r => ur (n + r) * (kr (n + r) * Real.exp (∑ k ∈ Finset.range 128, lr (n + k) - ∑ k ∈ Finset.range (r + 1), lr (n + k)))) 128

end Step

section Tokens

variable (z : (⟨2, ![8640, 6912]⟩ : Shape).Idx → EReal) (l : (⟨2, ![2, 1024]⟩ : Shape).Idx → EReal)

/-- The row of token `n` of sequence `b`, the padding counted. -/
def tok (b : Fin 2) (n : ℕ) : Fin 8640 := ⟨(4224 * b.val + n) % 8640, Nat.mod_lt _ (by decide)⟩

/-- The column of the projections where head `h` has its forget gate's coordinate `d`. -/
def cf (h : Fin 8) (d : Fin 128) : Fin 6912 := ⟨2048 + (h.val * 128 + d.val), by omega⟩

/-- The column of the projections where head `h` has its input's coordinate `v`. -/
def ci (h : Fin 8) (v : Fin 128) : Fin 6912 := ⟨3072 + (h.val * 128 + v.val), by omega⟩

/-- The forget gate of a token. -/
def fgt (b : Fin 2) (h : Fin 8) (d : Fin 128) (n : ℕ) : EReal :=
  Hgrn.gate (l (ix2 0 (Hgrn.col h d))) (l (ix2 1 (Hgrn.col h d))) (z (ix2 (tok b n) (cf h d)))

def lfr (b : Fin 2) (h : Fin 8) (d : Fin 128) (n : ℕ) : ℝ := if n < 112 then 0 else Real.log (fgt z l b h d n).toReal

def kfr (b : Fin 2) (h : Fin 8) (d : Fin 128) (n : ℕ) : ℝ := if n < 112 then 0 else 1 - (fgt z l b h d n).toReal

def ur (b : Fin 2) (h : Fin 8) (v : Fin 128) (n : ℕ) : ℝ := (z (ix2 (tok b n) (ci h v))).toReal

variable (hz : Hgrn.Reals z) (hl : Hgrn.Reals l)

include hz hl in
theorem fgt_real (b : Fin 2) (h : Fin 8) (d : Fin 128) (n : ℕ) : ∃ f : ℝ, 0 < f ∧ fgt z l b h d n = f := by
  obtain ⟨a, ea⟩ := hl (ix2 0 (Hgrn.col h d))
  obtain ⟨a', ea'⟩ := hl (ix2 1 (Hgrn.col h d))
  obtain ⟨x, ex⟩ := hz (ix2 (tok b n) (cf h d))
  unfold fgt
  rw [ea, ea', ex]
  exact Hgrn.gate_real a a' x

include hz hl in
theorem log_fgt (b : Fin 2) (h : Fin 8) (d : Fin 128) (n : ℕ) :
    Ideal.log (fgt z l b h d n) = ((Real.log (fgt z l b h d n).toReal : ℝ) : EReal) := by
  obtain ⟨f, p, e⟩ := fgt_real z l hz hl b h d n
  rw [e, Ideal.log_coe, if_neg (not_le.mpr p), EReal.toReal_coe]

include hz hl in
theorem one_sub_fgt (b : Fin 2) (h : Fin 8) (d : Fin 128) (n : ℕ) :
    1 - fgt z l b h d n = ((1 - (fgt z l b h d n).toReal : ℝ) : EReal) := by
  obtain ⟨f, p, e⟩ := fgt_real z l hz hl b h d n
  rw [e, EReal.toReal_coe, EReal.coe_sub, EReal.coe_one]

include hz in
theorem coe_ur (b : Fin 2) (h : Fin 8) (v : Fin 128) (n : ℕ) : z (ix2 (tok b n) (ci h v)) = ((ur z b h v n : ℝ) : EReal) := by
  obtain ⟨x, ex⟩ := hz (ix2 (tok b n) (ci h v))
  unfold ur
  rw [ex, EReal.toReal_coe]

/-- The state after the prompt. -/
def GS (i : (⟨4, ![2, 8, 128, 128]⟩ : Shape).Idx) : EReal :=
  ((rec (lfr z l (i 0) (i 1) (i 2)) (kfr z l (i 0) (i 1) (i 2)) (ur z (i 0) (i 1) (i 3)) 4224 : ℝ) : EReal)

end Tokens

end Cert.Proof.Phgrn

end
-- ==== Proof.PhgrnValue.lean ====
module

public import proofs.«01_k».proof.Proof.PhgrnRun
public import proofs.«01_k».proof.Proof.PhgrnReal

/-! The prompt's recurrence: the state that the kernel's array holds after the run. -/

@[expose] public section

set_option maxRecDepth 16384

noncomputable section

open Idealize.ShloMosaic Idealize.ShloMosaic.TcCoe Idealize.SL.Sem

namespace Cert.Proof.Phgrn

open Cert.PhgrnKernelIdeal Cert.PhgrnKernelIdeal.Gen

variable (m : (ℓ : Loc nD τ sig) → Buf (Elt Idealize.ShloMosaic.Ideal) ℓ) (c : Dev nD)

abbrev za : (⟨2, ![8640, 6912]⟩ : Shape).Idx → EReal := m ((c : Thread nD τ).loc main_arg0)

abbrev la : (⟨2, ![2, 1024]⟩ : Shape).Idx → EReal := m ((c : Thread nD τ).loc main_arg1)

theorem le_bit (r k : Fin 128) :
    (FloatOps.uitofp (F := Idealize.ShloMosaic.Ideal) .bf16 (IntOp.cmpi .sle (BitVec.ofNat 32 k.val) (BitVec.ofNat 32 r.val)) : EReal) = if k.val ≤ r.val then 1 else 0 := by
  have h : ∀ r k : Fin 128, IntOp.cmpi .sle (BitVec.ofNat 32 k.val) (BitVec.ofNat 32 r.val) = if k.val ≤ r.val then 1#1 else 0#1 := by decide +kernel
  rw [h]
  split_ifs
  · show (((1#1 : BitVec 1).toNat : ℝ) : EReal) = 1
    simp
  · show (((0#1 : BitVec 1).toNat : ℝ) : EReal) = 0
    simp

/-- The contents when the parts of the scan matrix have been computed and not yet joined. -/
def parts : Valuation τ sig (Elt Idealize.ShloMosaic.Ideal) :=
  StableHlo.after ((hostOps0 (F := Idealize.ShloMosaic.Ideal)).take 54) (fun b => m (c, b))

theorem V41_eq : V m c main_v41 = StableHlo.after ((hostOps0 (F := Idealize.ShloMosaic.Ideal)).drop 54) (parts m c) (Proc.devRef .tc main_v41) := rfl

theorem V41 (r k : Fin 128) : V m c main_v41 (ix2 (up r) k) = if k.val ≤ r.val then (1 : EReal) else 0 := by
  refine Eq.trans ?_ (le_bit r k)
  have h : parts m c (Proc.devRef .tc main_v4) (ix2 r k) = IntOp.cmpi .sle (BitVec.ofNat 32 k.val) (BitVec.ofNat 32 r.val) := by
    unfold parts
    simp only [hostOps0, List.take]
    after_results_simp
    pointwise []
  rw [V41_eq, ← h]
  generalize parts m c = W
  unfold up
  simp only [hostOps0, List.drop]
  after_results_simp
  pointwise []

/-- The sequence and the block of a grid point. -/
def sq (t : Fin cfg0.N) : Fin 2 := ⟨t.val / 33, by have := t.isLt; have hN : cfg0.N = 66 := N_0; omega⟩

theorem ixf : ∀ t : Fin cfg0.N, (win0_1.index t 0 = t.val ∧ win0_1.index t 1 = 2) ∧ (win0_2.index t 0 = t.val ∧ win0_2.index t 1 = 3)
    ∧ (win0_4.index t 0 = 0 ∧ win0_4.index t 1 = 0) ∧ (win0_6.index t 0 = 0 ∧ win0_6.index t 1 = 0)
    ∧ (win0_8.index t 0 = t.val / 33 ∧ win0_8.index t 1 = 0 ∧ win0_8.index t 2 = 0 ∧ win0_8.index t 3 = 0) ∧ (grid0.coords t 1).val = t.val % 33 :=
  (by decide +kernel : ∀ t : Fin grid0.N, (win0_1.index t 0 = t.val ∧ win0_1.index t 1 = 2) ∧ (win0_2.index t 0 = t.val ∧ win0_2.index t 1 = 3)
    ∧ (win0_4.index t 0 = 0 ∧ win0_4.index t 1 = 0) ∧ (win0_6.index t 0 = 0 ∧ win0_6.index t 1 = 0)
    ∧ (win0_8.index t 0 = t.val / 33 ∧ win0_8.index t 1 = 0 ∧ win0_8.index t 2 = 0 ∧ win0_8.index t 3 = 0) ∧ (grid0.coords t 1).val = t.val % 33)

theorem blk4 (t : Fin cfg0.N) (r : Fin 2) (j : Fin 1024) : iblk m c 4 t (ix2 r j) = la m c (ix2 r j) := by
  show V m c main_arg1 (((cfg0.win 4).blk t).view.emb (ix2 r j)) = _
  refine (congrArg (V m c main_arg1) (funext fun a => Fin.ext ?_)).trans (congrFun (V_main_arg1 m c) _)
  have e := (ixf t).2.2.1
  match a with
  | ⟨0, _⟩ => show win0_4.index t 0 * 2 + 1 * r.val = r.val; omega
  | ⟨1, _⟩ => show win0_4.index t 1 * 1024 + 1 * j.val = j.val; omega

theorem blk6 (t : Fin cfg0.N) (r k : Fin 128) : iblk m c 6 t (ix2 (up r) k) = if k.val ≤ r.val then (1 : EReal) else 0 := by
  show V m c main_v41 (((cfg0.win 6).blk t).view.emb (ix2 (up r) k)) = _
  refine (congrArg (V m c main_v41) (funext fun a => Fin.ext ?_)).trans (V41 m c r k)
  have e := (ixf t).2.2.2.1
  match a with
  | ⟨0, _⟩ => show win0_6.index t 0 * 1024 + 1 * r.val = r.val; omega
  | ⟨1, _⟩ => show win0_6.index t 1 * 128 + 1 * k.val = k.val; omega

theorem blk1 (t : Fin cfg0.N) (r : Fin 128) (h : Fin 8) (d : Fin 128) :
    X0_1 m c t (ix2 r (Hgrn.col h d)) = za m c (ix2 (tok (sq t) (128 * (t.val % 33) + r.val)) (cf h d)) := by
  have hN : cfg0.N = 66 := N_0
  have hd := t.isLt
  unfold X0_1 Pipeline.Window.fill
  rw [dif_pos (moved0_1 t _)]
  show V m c main_arg0 (((cfg0.win 1).blk t).view.emb _) = _
  refine (congrArg (V m c main_arg0) (funext fun a => Fin.ext ?_)).trans (congrFun (V_main_arg0 m c) _)
  have e := (ixf t).1
  match a with
  | ⟨0, _⟩ => show win0_1.index t 0 * 128 + 1 * r.val = (4224 * (t.val / 33) + (128 * (t.val % 33) + r.val)) % 8640; omega
  | ⟨1, _⟩ => show win0_1.index t 1 * 1024 + 1 * (h.val * 128 + d.val) = 2048 + (h.val * 128 + d.val); omega

theorem blk2 (t : Fin cfg0.N) (r : Fin 128) (h : Fin 8) (d : Fin 128) :
    X0_2 m c t (ix2 r (Hgrn.col h d)) = za m c (ix2 (tok (sq t) (128 * (t.val % 33) + r.val)) (ci h d)) := by
  have hN : cfg0.N = 66 := N_0
  have hd := t.isLt
  unfold X0_2 Pipeline.Window.fill
  rw [dif_pos (moved0_2 t _)]
  show V m c main_arg0 (((cfg0.win 2).blk t).view.emb _) = _
  refine (congrArg (V m c main_arg0) (funext fun a => Fin.ext ?_)).trans (congrFun (V_main_arg0 m c) _)
  have e := (ixf t).2.1
  match a with
  | ⟨0, _⟩ => show win0_2.index t 0 * 128 + 1 * r.val = (4224 * (t.val / 33) + (128 * (t.val % 33) + r.val)) % 8640; omega
  | ⟨1, _⟩ => show win0_2.index t 1 * 1024 + 1 * (h.val * 128 + d.val) = 3072 + (h.val * 128 + d.val); omega

variable (hz : Hgrn.Reals (za m c)) (hl : Hgrn.Reals (la m c))

theorem gt_eq (t : Fin cfg0.N) (h : Fin 8) (r d : Fin 128) :
    gt (X0_1 m c t) (iblk m c 4 t) h r d = fgt (za m c) (la m c) (sq t) h d (128 * (t.val % 33) + r.val) := by
  unfold gt fgt
  rw [blk1, blk4, blk4]

theorem ok_iff (t : Fin cfg0.N) (r d : Fin 128) : k0_pay4 (grid0.coords t) (ix2 r d) = 1#1 ↔ ¬ 128 * (t.val % 33) + r.val < 112 := by
  rw [ok_apply, (ixf t).2.2.2.2.2]
  omega

include hz hl in
theorem lf_eq (t : Fin cfg0.N) (h : Fin 8) (r d : Fin 128) :
    lf (k0_pay4 (grid0.coords t)) (X0_1 m c t) (iblk m c 4 t) h r d
      = ((lfr (za m c) (la m c) (sq t) h d (128 * (t.val % 33) + r.val) : ℝ) : EReal) := by
  unfold lf lfr
  rw [gt_eq]
  by_cases g : 128 * (t.val % 33) + r.val < 112
  · rw [if_neg (fun e => (ok_iff t r d).mp e g), if_pos g, EReal.coe_zero]
  · rw [if_pos ((ok_iff t r d).mpr g), if_neg g, log_fgt _ _ hz hl]

include hz hl in
theorem kf_eq (t : Fin cfg0.N) (h : Fin 8) (r d : Fin 128) :
    kf (k0_pay4 (grid0.coords t)) (X0_1 m c t) (iblk m c 4 t) h r d
      = ((kfr (za m c) (la m c) (sq t) h d (128 * (t.val % 33) + r.val) : ℝ) : EReal) := by
  unfold kf kfr
  rw [gt_eq]
  by_cases g : 128 * (t.val % 33) + r.val < 112
  · rw [if_neg (fun e => (ok_iff t r d).mp e g), if_pos g, EReal.coe_zero]
  · rw [if_pos ((ok_iff t r d).mpr g), if_neg g, one_sub_fgt _ _ hz hl]

/-- The state of sequence `b` after `n` tokens, the padding counted. -/
def sta (b : Fin 2) (n : ℕ) (h : Fin 8) (v d : Fin 128) : EReal :=
  ((rec (lfr (za m c) (la m c) b h d) (kfr (za m c) (la m c) b h d) (ur (za m c) b h v) n : ℝ) : EReal)

include hz hl in
theorem step (t : Fin cfg0.N) (s : S8x128x128.Idx → EReal)
    (hs : ∀ h v d, s (ix3 h v d) = sta m c (sq t) (128 * (t.val % 33)) h v d) (h : Fin 8) (v d : Fin 128) :
    nst (grid0.coords t) (X0_1 m c t) (X0_2 m c t) (iblk m c 4 t) (iblk m c 6 t) s (ix3 h v d)
      = sta m c (sq t) (128 * (t.val % 33) + 128) h v d := by
  unfold nst
  show nx _ _ _ _ _ h v d (s (ix3 h v d)) = _
  rw [hs]
  unfold sta
  exact nx_real _ _ _ _ _ h v d _ _ _ _ (fun r => lf_eq m c hz hl t h r d) (fun r k => blk6 m c t r k) (fun r => kf_eq m c hz hl t h r d)
    (fun r => (blk2 m c t r h v).trans (coe_ur _ hz _ _ _ _))

include hz hl in
theorem point : ∀ (n : ℕ) (h : n < cfg0.N) (k : Fin 8) (v d : Fin 128),
    (outsAt0 m c n h).2.2 (ix3 k v d) = sta m c (sq ⟨n, h⟩) (128 * (n % 33) + 128) k v d
  | n, h => by
    by_cases h0 : n % 33 = 0
    · have h1 : ¬n % 33 = 32 := by omega
      have e := outsAt0_A m c ⟨n, h⟩ h0 h1 h1 h1 h1 h1 h1 h1 h1
      rw [sout_A] at e
      have e2 := congrArg (fun z => z.2.2) e
      dsimp only at e2
      intro k v d
      refine (congrFun e2 _).trans (step m c hz hl ⟨n, h⟩ _ (fun k v d => ?_) k v d)
      show (0 : EReal) = _
      unfold sta
      dsimp only
      rw [h0]
      unfold rec
      simp
    · obtain ih := point (n - 1) (Nat.lt_of_le_of_lt (Nat.sub_le _ _) h)
      have hs : ∀ k v d, (outsAt0 m c (n - 1) (Nat.lt_of_le_of_lt (Nat.sub_le _ _) h)).2.2 (ix3 k v d) = sta m c (sq ⟨n, h⟩) (128 * (n % 33)) k v d :=
        fun k v d => by
          rw [ih]
          have a : sq ⟨n - 1, Nat.lt_of_le_of_lt (Nat.sub_le _ _) h⟩ = sq ⟨n, h⟩ := Fin.ext (by show (n - 1) / 33 = n / 33; omega)
          rw [a, show 128 * ((n - 1) % 33) + 128 = 128 * (n % 33) by omega]
      by_cases h1 : n % 33 = 32
      · have e := outsAt0_C m c ⟨n, h⟩ h0 h1 h1 h1 h1 h1 h1 h1 h1
        rw [sout_C] at e
        have e2 := congrArg (fun z => z.2.2) e
        dsimp only at e2
        intro k v d
        exact (congrFun e2 _).trans (step m c hz hl ⟨n, h⟩ _ hs k v d)
      · have e := outsAt0_B m c ⟨n, h⟩ h0 h1 h1 h1 h1 h1 h1 h1 h1
        rw [sout_B] at e
        have e2 := congrArg (fun z => z.2.2) e
        dsimp only at e2
        intro k v d
        exact (congrFun e2 _).trans (step m c hz hl ⟨n, h⟩ _ hs k v d)
  termination_by n => n
  decreasing_by omega

include hz hl in
theorem last (t : Fin cfg0.N) (h1 : t.val % 33 = 32) (h : Fin 8) (d v : Fin 128) :
    (outsAt0 m c t.val t.isLt).2.1 (ix4 0 h d v) = sta m c (sq t) 4224 h v d := by
  have hN : cfg0.N = 66 := N_0
  have ht := t.isLt
  have h0 : ¬t.val % 33 = 0 := by omega
  have e := outsAt0_C m c t h0 h1 h1 h1 h1 h1 h1 h1 h1
  rw [out_C] at e
  have e2 := congrArg (fun z => z.2.1) e
  dsimp only at e2
  refine (congrFun e2 _).trans ((step m c hz hl t _ (fun k v d => ?_) h v d).trans ?_)
  · rw [point m c hz hl]
    have a : sq ⟨t.val - 1, Nat.lt_of_le_of_lt (Nat.sub_le _ _) t.isLt⟩ = sq t := Fin.ext (by show (t.val - 1) / 33 = t.val / 33; omega)
    rw [a, show 128 * ((t.val - 1) % 33) + 128 = 128 * (t.val % 33) by omega]
  · rw [h1]

theorem mem_blk8 (t : Fin cfg0.N) (i : S2x8x128x128.Idx) :
    i ∈ ((cfg0.win 8).blk t).view.set ↔ ∀ a : Fin 4, win0_8.index t a * S1x8x128x128.size a ≤ (i a).val ∧ (i a).val < win0_8.index t a * S1x8x128x128.size a + S1x8x128x128.size a := by
  show i ∈ ((View.whole main_v42_1).slice (win0_8.rect t)).set ↔ _
  rw [View.set_slice_whole, Rect.mem_set_unit]
  exact Iff.rfl

include hz hl in
/-- The output array after the run is the formula. -/
theorem final : (dats m 0 c).arrAt 8 cfg0.N = GS (za m c) (la m c) := by
  refine (dats m 0 c).arrAt_eq_of_cover 8 (GS (za m c) (la m c)) (fun t hf => ?_) (fun i => ?_)
  · show (cfg0.win 8).cut (grid0.coords t) ((dats m 0 c).after 8 t) = _
    rw [after0_8]
    funext y
    show (outsAt0 m c t.val t.isLt).2.1 y = GS (za m c) (la m c) (((cfg0.win 8).blk t).view.emb y)
    have y0 : y 0 = (0 : Fin 1) := Subsingleton.elim (α := Fin 1) _ _
    refine (congrArg (outsAt0 m c t.val t.isLt).2.1 ((eq_ix4 (n0 := 1) (n1 := 8) (n2 := 128) (n3 := 128) y).trans (congrArg (fun w => ix4 w (y 1) (y 2) (y 3)) y0))).trans
      ((last m c hz hl t ((flush0_8 t).mp hf) (y 1) (y 2) (y 3)).trans ?_)
    show GS (za m c) (la m c) (ix4 (sq t) (y 1) (y 2) (y 3)) = _
    refine congrArg (GS (za m c) (la m c)) (funext fun a => Fin.ext ?_)
    have h := (ixf t).2.2.2.2.1
    match a with
    | ⟨0, _⟩ => have q : (y 0).val = 0 := congrArg Fin.val y0; show t.val / 33 = win0_8.index t 0 * 1 + 1 * (y 0).val; omega
    | ⟨1, _⟩ => show (y 1).val = win0_8.index t 1 * 8 + 1 * (y 1).val; omega
    | ⟨2, _⟩ => show (y 2).val = win0_8.index t 2 * 128 + 1 * (y 2).val; omega
    | ⟨3, _⟩ => show (y 3).val = win0_8.index t 3 * 128 + 1 * (y 3).val; omega
  · have h0 : (i 0).val < 2 := (i 0).isLt
    have h1 : (i 1).val < 8 := (i 1).isLt
    have h2 : (i 2).val < 128 := (i 2).isLt
    have h3 : (i 3).val < 128 := (i 3).isLt
    have hN : cfg0.N = 66 := N_0
    have hlt : (i 0).val * 33 + 32 < cfg0.N := by omega
    refine ⟨⟨(i 0).val * 33 + 32, hlt⟩, (flush0_8 _).mpr (by show ((i 0).val * 33 + 32) % 33 = 32; omega), ?_⟩
    rw [mem_blk8]
    have h := (ixf ⟨(i 0).val * 33 + 32, hlt⟩).2.2.2.2.1
    dsimp only at h
    intro a
    match a with
    | ⟨0, _⟩ => show win0_8.index _ (0 : Fin 4) * 1 ≤ (i 0).val ∧ (i 0).val < win0_8.index _ (0 : Fin 4) * 1 + 1; omega
    | ⟨1, _⟩ => show win0_8.index _ (1 : Fin 4) * 8 ≤ (i 1).val ∧ (i 1).val < win0_8.index _ (1 : Fin 4) * 8 + 8; omega
    | ⟨2, _⟩ => show win0_8.index _ (2 : Fin 4) * 128 ≤ (i 2).val ∧ (i 2).val < win0_8.index _ (2 : Fin 4) * 128 + 128; omega
    | ⟨3, _⟩ => show win0_8.index _ (3 : Fin 4) * 128 ≤ (i 3).val ∧ (i 3).val < win0_8.index _ (3 : Fin 4) * 128 + 128; omega

end Cert.Proof.Phgrn

end
-- ==== Proof.PhgrnCum.lean ====
module

public import Idealize.ShloMosaic.PureOps
public import Idealize.ShloMosaic.Lib.Pointwise

/-! The host's running sum along the second axis of a rank-four tensor, read at an index. -/

@[expose] public section

set_option maxRecDepth 16384

noncomputable section

open Idealize.ShloMosaic

namespace Cert.Proof.Phgrn

theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- A window of `T` entries, the last at `t`, over a sequence padded in front with `T - 1` entries. -/
theorem window (f : ℕ → EReal) (T t : ℕ) (ht : t < T) :
    (∑ k : Fin T, if T - 1 ≤ t + k.val then f (t + k.val - (T - 1)) else 0) = ∑ s : Fin T, if s.val ≤ t then f s.val else 0 := by
  rw [Fin.sum_univ_eq_sum_range (fun k => if T - 1 ≤ t + k then f (t + k - (T - 1)) else 0) T,
    Fin.sum_univ_eq_sum_range (fun s => if s ≤ t then f s else 0) T]
  obtain ⟨p, rfl⟩ : ∃ p, T = p + (t + 1) := ⟨T - (t + 1), by omega⟩
  have hr : ∑ s ∈ Finset.range (p + (t + 1)), (if s ≤ t then f s else 0) = ∑ s ∈ Finset.range (t + 1), (if s ≤ t then f s else 0) := by
    rw [Nat.add_comm p (t + 1), Finset.sum_range_add (n := t + 1) (m := p)]
    rw [Finset.sum_eq_zero (s := Finset.range p) (fun k hk => if_neg (by omega)), add_zero]
  rw [hr, Finset.sum_range_add (n := p) (m := t + 1)]
  rw [Finset.sum_eq_zero (s := Finset.range p) (fun k hk => by rw [Finset.mem_range] at hk; exact if_neg (by omega)), zero_add]
  refine Finset.sum_congr rfl fun k hk => ?_
  rw [Finset.mem_range] at hk
  rw [if_pos (by omega), if_pos (by omega)]
  exact congrArg f (by omega)

/-- The running sum of `T` entries along the second axis, at `t`: the entries up to `t`. -/
theorem cum {A T H D : Nat} (x : FVec Ideal ⟨4, ![A, T, H, D]⟩ .f32) (init : FVec Ideal ⟨0, ![]⟩ .f32) (hi : init ix0 = 0)
    (h : (⟨4, ![A, T, H, D]⟩ : Shape).ReduceWindows ![1, T, 1, 1] ![1, 1, 1, 1] ![0, T - 1, 0, 0] ![0, 0, 0, 0] ⟨4, ![A, T, H, D]⟩) (hu)
    (a : Fin A) (t : Fin T) (hh : Fin H) (d : Fin D) :
    Host.reduceWindowAdd (F := Ideal) ![1, T, 1, 1] ![1, 1, 1, 1] ![0, T - 1, 0, 0] ![0, 0, 0, 0] x init h hu (ix4 a t hh d)
      = ∑ s : Fin T, if s.val ≤ t.val then x (ix4 a s hh d) else 0 := by
  unfold Host.reduceWindowAdd
  rw [Ideal.hostReduceWindowAdd_def]
  unfold Ideal.hostReduceWindowAdd
  have hv : init (Shape.Idx.first hu) = 0 := (congrArg init (funext fun a => a.elim0)).trans hi
  rw [hv]
  unfold Host.reduceWindow
  dsimp only
  rw [foldl_add, zero_add, ← List.ofFn_eq_map, List.sum_ofFn]
  rw [← Equiv.sum_comp (Shape.rowMajor ⟨4, ![1, T, 1, 1]⟩)]
  simp only [Equiv.symm_apply_apply]
  have hT : 0 < T := lt_of_le_of_lt (Nat.zero_le _) t.isLt
  -- the window's position along the axis
  rw [← Equiv.sum_comp (⟨fun k => ix4 0 k 0 0, fun w => w 1, fun k => rfl, fun w => by
    refine Eq.trans ?_ (eq_ix4 (n0 := 1) (n1 := T) (n2 := 1) (n3 := 1) w).symm
    rw [show w 0 = (0 : Fin 1) from Subsingleton.elim (α := Fin 1) _ _, show w 2 = (0 : Fin 1) from Subsingleton.elim (α := Fin 1) _ _,
      show w 3 = (0 : Fin 1) from Subsingleton.elim (α := Fin 1) _ _]⟩ : Fin T ≃ (⟨4, ![1, T, 1, 1]⟩ : Shape).Idx)]
  have ht := t.isLt
  let f : ℕ → EReal := fun s => if hs : s < T then x (ix4 a ⟨s, hs⟩ hh d) else 0
  have hf : ∀ s (hs : s < T), f s = x (ix4 a ⟨s, hs⟩ hh d) := fun s hs => dif_pos hs
  refine Eq.trans (Finset.sum_congr rfl fun k _ => ?_) ((window f T t.val ht).trans (Finset.sum_congr rfl fun s _ => by rw [hf s.val s.isLt]))
  have hk := k.isLt
  by_cases c : T - 1 ≤ t.val + k.val
  · rw [if_pos c, hf (t.val + k.val - (T - 1)) (by omega), dif_pos]
    · refine congrArg x (funext fun b => Fin.ext ?_)
      match b with
      | ⟨0, _⟩ => show a.val * 1 + 0 - 0 = a.val; omega
      | ⟨1, _⟩ => show t.val * 1 + k.val - (T - 1) = t.val + k.val - (T - 1); omega
      | ⟨2, _⟩ => show hh.val * 1 + 0 - 0 = hh.val; omega
      | ⟨3, _⟩ => show d.val * 1 + 0 - 0 = d.val; omega
    · intro b
      match b with
      | ⟨0, _⟩ => show 0 ≤ a.val * 1 + 0 ∧ a.val * 1 + 0 - 0 < A; have := a.isLt; omega
      | ⟨1, _⟩ => show T - 1 ≤ t.val * 1 + k.val ∧ t.val * 1 + k.val - (T - 1) < T; omega
      | ⟨2, _⟩ => show 0 ≤ hh.val * 1 + 0 ∧ hh.val * 1 + 0 - 0 < H; have := hh.isLt; omega
      | ⟨3, _⟩ => show 0 ≤ d.val * 1 + 0 ∧ d.val * 1 + 0 - 0 < D; have := d.isLt; omega
  · rw [if_neg c, dif_neg]
    intro q
    have q1 : T - 1 ≤ t.val * 1 + k.val := (q 1).1
    omega

/-- The same, the padding given as a number. -/
theorem cum_of {A T H D P : Nat} (hP : P = T - 1) (x : FVec Ideal ⟨4, ![A, T, H, D]⟩ .f32) (init : FVec Ideal ⟨0, ![]⟩ .f32) (hi : init ix0 = 0)
    (h : (⟨4, ![A, T, H, D]⟩ : Shape).ReduceWindows ![1, T, 1, 1] ![1, 1, 1, 1] ![0, P, 0, 0] ![0, 0, 0, 0] ⟨4, ![A, T, H, D]⟩) (hu)
    (a : Fin A) (t : Fin T) (hh : Fin H) (d : Fin D) :
    Host.reduceWindowAdd (F := Ideal) ![1, T, 1, 1] ![1, 1, 1, 1] ![0, P, 0, 0] ![0, 0, 0, 0] x init h hu (ix4 a t hh d)
      = ∑ s : Fin T, if s.val ≤ t.val then x (ix4 a s hh d) else 0 := by
  subst hP
  exact cum x init hi h hu a t hh d

end Cert.Proof.Phgrn

end
-- ==== Proof.PhgrnRef.lean ====
module

public import proofs.«01_k».proof.Proof.PhgrnValue
public import proofs.«01_k».proof.Proof.PhgrnCum
public import proofs.«01_k».proof.Proof.HgrnRef
public import proofs.«01_k».proof.Proof.Gen.PhgrnReferenceIdeal.Run
public import proofs.«01_k».proof.Proof.Gen.PhgrnReferenceIdeal.Read
public import proofs.«01_k».proof.Proof.Gen.Pre_phgrn_finite
public import proofs.«01_k».proof.Defs

/-! The prompt's recurrence: what the reference computes, and that on finite inputs it is the kernel's formula. -/

@[expose] public section

set_option maxRecDepth 16384

noncomputable section

open Idealize.ShloMosaic Idealize.ShloMosaic.TcCoe Idealize.SL.Sem

namespace Cert.Proof.Phgrn

open Cert.PhgrnReferenceIdeal Cert.PhgrnReferenceIdeal.Read

section Reference

variable (x0 : FVec Ideal S8640x6912 .f32) (x1 : FVec Ideal S2x1024 .f32)

theorem r13 (c : Fin 1024) : val_main_v13 (F := Ideal) x1 (ix2 0 c) = Hgrn.bound (x1 (ix2 0 c)) (x1 (ix2 1 c)) := by
  unfold Hgrn.bound
  pointwise [val_main_v13, val_main_v12, val_main_v11, val_main_v10, val_main_cst_1, val_main_v9, val_main_v8, val_main_v7, val_main_v6, val_main_v5,
    val_main_v4, val_main_v3, val_main_cst, val_main_cst_0]
  rw [show Ideal.ofBits .f32 0xFF800000#32 = ⊥ from Hgrn.bot, Hgrn.max2, Fin.sum_univ_two]
  simp

theorem r16 (c : Fin 1024) : val_main_v16 (F := Ideal) x1 (ix1 c) = Hgrn.bound (x1 (ix2 0 c)) (x1 (ix2 1 c)) := by
  have e : val_main_v14 (F := Ideal) x1 (ix2 0 c) = val_main_v13 (F := Ideal) x1 (ix2 0 c) := by
    unfold val_main_v14
    exact Hgrn.cum2 _ _ (by pointwise [val_main_call0_call0_v0, val_main_call0_call0_cst]) _ _ c
  rw [← r13, ← e]
  pointwise [val_main_v16, val_main_v15]

theorem r2 (b : Fin 2) (s : Fin 4112) (j : Fin 6912) : val_main_v2 (F := Ideal) x0 (ix3 b s j) = x0 (ix2 (tok b (112 + s.val)) j) := by
  have e : tok b (112 + s.val) = ⟨b.val * 4224 + (112 + s.val), by omega⟩ := Fin.ext (by
    show (4224 * b.val + (112 + s.val)) % 8640 = b.val * 4224 + (112 + s.val)
    omega)
  rw [e]
  pointwise [val_main_v2, val_main_v1, val_main_v0]

theorem r31 (b : Fin 2) (s : Fin 4112) (h : Fin 8) (d : Fin 128) :
    val_main_v31 (F := Ideal) x0 x1 (ix3 b s (Hgrn.col h d)) = fgt x0 x1 b h d (112 + s.val) := by
  unfold fgt Hgrn.gate cf
  rw [← r16, ← r2 x0 b s]
  unfold Hgrn.col
  pointwise [val_main_v31, val_main_v30, val_main_v29, val_main_v28, val_main_v27, val_main_v26, val_main_v25, val_main_v24, val_main_v23,
    val_main_v22, val_main_v21, val_main_v20, val_main_v19, val_main_v18, val_main_v17, val_main_cst_2, val_main_cst_3, val_main_cst_4]
  rfl

theorem r33 (b : Fin 2) (s : Fin 4112) (h : Fin 8) (d : Fin 128) :
    val_main_v33 (F := Ideal) x0 x1 (ix4 b s h d) = Ideal.log (fgt x0 x1 b h d (112 + s.val)) := by
  rw [← r31]
  unfold Hgrn.col
  pointwise [val_main_v33, val_main_v32]

theorem r36 (b : Fin 2) (s : Fin 4112) (h : Fin 8) (d : Fin 128) :
    val_main_v36 (F := Ideal) x0 x1 (ix4 b s h d) = 1 - fgt x0 x1 b h d (112 + s.val) := by
  rw [← r31]
  unfold Hgrn.col
  pointwise [val_main_v36, val_main_v35, val_main_v34, val_main_cst_5]

theorem r38 (b : Fin 2) (s : Fin 4112) (h : Fin 8) (v : Fin 128) :
    val_main_v38 (F := Ideal) x0 (ix4 b s h v) = x0 (ix2 (tok b (112 + s.val)) (ci h v)) := by
  unfold ci
  rw [← r2 x0 b s]
  pointwise [val_main_v38, val_main_v37]

theorem r40 (b : Fin 2) (t : Fin 4112) (h : Fin 8) (d : Fin 128) :
    val_main_v40 (F := Ideal) x0 x1 (ix4 b t h d) = ∑ s : Fin 4112, if s.val ≤ t.val then Ideal.log (fgt x0 x1 b h d (112 + s.val)) else 0 := by
  unfold val_main_v40
  refine (cum_of (A := 2) (T := 4112) (H := 8) (D := 128) (P := 4111) rfl _ _ (by pointwise [val_main_call1_call0_v0, val_main_call1_call0_cst]) _ _ b t h d).trans ?_
  simp only [r33]

/-- The last token of a sequence. -/
def fin : Fin 4112 := ⟨4111, by omega⟩

theorem r42 (b : Fin 2) (h : Fin 8) (d : Fin 128) :
    val_main_v42 (F := Ideal) x0 x1 (ix3 b h d) = val_main_v40 (F := Ideal) x0 x1 (ix4 b fin h d) := by
  rw [val_main_v42_apply, val_main_v41_apply]
  congr 1
  have hb : b.val < 2 := b.isLt
  have hh : h.val < 8 := h.isLt
  have hd : d.val < 128 := d.isLt
  funext a
  match a with
  | ⟨0, _⟩ => exact Fin.ext (by show ((b.val * 8 + h.val) * 128 + d.val) / 1024 = b.val; omega)
  | ⟨1, _⟩ => rfl
  | ⟨2, _⟩ => exact Fin.ext (by show ((b.val * 8 + h.val) * 128 + d.val) / 128 % 8 = h.val; omega)
  | ⟨3, _⟩ => exact Fin.ext (by show ((b.val * 8 + h.val) * 128 + d.val) % 128 = d.val; omega)

theorem r48 (b : Fin 2) (s : Fin 4112) (h : Fin 8) (d : Fin 128) :
    val_main_v48 (F := Ideal) x0 x1 (ix4 b s h d) = val_main_v40 (F := Ideal) x0 x1 (ix4 b fin h d) := by
  rw [val_main_v48_apply, val_main_v47_apply, ← r42]
  congr 1
  funext a
  match a with
  | ⟨0, _⟩ => rfl
  | ⟨1, _⟩ => rfl
  | ⟨2, _⟩ => rfl

theorem r51 (b : Fin 2) (s : Fin 4112) (h : Fin 8) (d : Fin 128) :
    val_main_v51 (F := Ideal) x0 x1 (ix4 b s h d) = val_main_v36 (F := Ideal) x0 x1 (ix4 b s h d)
      * Ideal.exp (val_main_v40 (F := Ideal) x0 x1 (ix4 b fin h d) - val_main_v40 (F := Ideal) x0 x1 (ix4 b s h d)) := by
  rw [val_main_v51_apply, val_main_v50_apply, val_main_v49_apply, r48]
  generalize val_main_v36 (F := Ideal) x0 x1 = A
  generalize val_main_v40 (F := Ideal) x0 x1 = B
  generalize A (ix4 b s h d) = p
  generalize B (ix4 b fin h d) = q
  generalize B (ix4 b s h d) = r
  rfl

theorem r46 (i : S2x8x128x128.Idx) : val_main_v46 (F := Ideal) x0 x1 i = (0 : EReal) := by
  rw [val_main_v46_apply]
  have e : val_main_v39 (F := Ideal) i = (0 : EReal) := by
    pointwise [val_main_v39, val_main_cst_6]
  rw [e]
  exact zero_mul _

theorem r54 (b : Fin 2) (h : Fin 8) (d v : Fin 128) :
    val_main_v54 (F := Ideal) x0 x1 (ix5 0 b h d v)
      = ∑ s : Fin 4112, val_main_v36 (F := Ideal) x0 x1 (ix4 b s h d)
          * Ideal.exp (val_main_v40 (F := Ideal) x0 x1 (ix4 b fin h d) - val_main_v40 (F := Ideal) x0 x1 (ix4 b s h d))
          * val_main_v38 (F := Ideal) x0 (ix4 b s h v) := by
  rw [val_main_v54_apply, val_main_v53_apply, r46, val_main_v52_apply]
  refine (zero_add _).trans (Finset.sum_congr rfl fun s _ => ?_)
  refine congrArg₂ (· * ·) ((congrArg _ ?_).trans (r51 x0 x1 b s h d)) (congrArg _ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

/-! ## On finite inputs the two agree -/

variable (hz : Hgrn.Reals x0) (hl : Hgrn.Reals x1)

theorem lfr_add (b : Fin 2) (h : Fin 8) (d : Fin 128) (n : ℕ) : lfr x0 x1 b h d (112 + n) = Real.log (fgt x0 x1 b h d (112 + n)).toReal := by
  unfold lfr
  rw [if_neg (by omega)]

theorem kfr_add (b : Fin 2) (h : Fin 8) (d : Fin 128) (n : ℕ) : kfr x0 x1 b h d (112 + n) = 1 - (fgt x0 x1 b h d (112 + n)).toReal := by
  unfold kfr
  rw [if_neg (by omega)]

include hz hl in
theorem cum_real (b : Fin 2) (t : Fin 4112) (h : Fin 8) (d : Fin 128) :
    val_main_v40 (F := Ideal) x0 x1 (ix4 b t h d) = ((pre (fun i => lfr x0 x1 b h d (112 + i)) (t.val + 1) : ℝ) : EReal) := by
  have e : ∀ s : Fin 4112, (if s.val ≤ t.val then Ideal.log (fgt x0 x1 b h d (112 + s.val)) else 0)
      = (((if s.val ≤ t.val then lfr x0 x1 b h d (112 + s.val) else 0 : ℝ)) : EReal) := fun s => by
    rw [log_fgt _ _ hz hl, lfr_add]
    split_ifs
    · rfl
    · rw [EReal.coe_zero]
  rw [r40, Finset.sum_congr rfl fun s _ => e s, Hgrn.coe_sum]
  refine congrArg Real.toEReal ?_
  unfold pre
  rw [Fin.sum_univ_eq_sum_range (fun s => if s ≤ t.val then lfr x0 x1 b h d (112 + s) else 0) 4112, ← Finset.sum_filter]
  refine Finset.sum_congr (Finset.ext fun k => ?_) fun _ _ => rfl
  rw [Finset.mem_filter, Finset.mem_range, Finset.mem_range]
  have := t.isLt
  omega

include hz hl in
theorem state_eq (b : Fin 2) (h : Fin 8) (d v : Fin 128) : val_main_v54 (F := Ideal) x0 x1 (ix5 0 b h d v) = GS x0 x1 (ix4 b h d v) := by
  have e : ∀ s : Fin 4112, val_main_v36 (F := Ideal) x0 x1 (ix4 b s h d)
          * Ideal.exp (val_main_v40 (F := Ideal) x0 x1 (ix4 b fin h d) - val_main_v40 (F := Ideal) x0 x1 (ix4 b s h d))
          * val_main_v38 (F := Ideal) x0 (ix4 b s h v)
      = ((kfr x0 x1 b h d (112 + s.val) * Real.exp (pre (fun i => lfr x0 x1 b h d (112 + i)) 4112 - pre (fun i => lfr x0 x1 b h d (112 + i)) (s.val + 1))
          * ur x0 b h v (112 + s.val) : ℝ) : EReal) := fun s => by
    rw [cum_real x0 x1 hz hl, cum_real x0 x1 hz hl, r36, r38, one_sub_fgt _ _ hz hl, kfr_add, coe_ur _ hz, ← EReal.coe_sub, Ideal.exp_coe, ← EReal.coe_mul,
      ← EReal.coe_mul]
    rfl
  rw [r54, Finset.sum_congr rfl fun s _ => e s, Hgrn.coe_sum]
  show _ = ((rec (lfr x0 x1 b h d) (kfr x0 x1 b h d) (ur x0 b h v) (112 + 4112) : ℝ) : EReal)
  rw [rec_drop _ _ _ _ _ (fun i hi => by unfold lfr; rw [if_pos hi]) (fun i hi => by unfold kfr; rw [if_pos hi])]
  refine congrArg Real.toEReal ?_
  unfold rec
  exact Fin.sum_univ_eq_sum_range (fun s => kfr x0 x1 b h d (112 + s) * Real.exp (pre (fun i => lfr x0 x1 b h d (112 + i)) 4112 - pre (fun i => lfr x0 x1 b h d (112 + i)) (s + 1))
          * ur x0 b h v (112 + s)) 4112

end Reference

section Pre

variable (m : (ℓ : Loc Cert.PhgrnKernelIdeal.nD Cert.PhgrnKernelIdeal.τ Cert.PhgrnKernelIdeal.sig) → Buf (Elt Idealize.ShloMosaic.Ideal) ℓ)
  (h : Cert.Pre_PhgrnKernelIdeal_phgrn_finite m) (c : Dev Cert.PhgrnKernelIdeal.nD)
include h

theorem real0 : Hgrn.Reals (za m c) := fun i => by
  refine Hgrn.real_of_lt (Eq.trans ?_ (congrFun (h c).1 i))
  pointwise [Cert.Pre_phgrn_finite.fn]
  rfl

theorem real1 : Hgrn.Reals (la m c) := fun i => by
  refine Hgrn.real_of_lt (Eq.trans ?_ (congrFun (h c).2 i))
  pointwise [Cert.Pre_phgrn_finite.fn]
  rfl

end Pre

end Cert.Proof.Phgrn

end
-- ==== Proof.PhgrnClaim.lean ====
module

public import proofs.«01_k».proof.Proof.PhgrnRef

/-! The prompt's recurrence: kernel and reference leave the same state. -/

@[expose] public section

set_option maxRecDepth 16384

noncomputable section

open Idealize.ShloMosaic Idealize.ShloMosaic.TcCoe Idealize.SL.Sem

namespace Cert.Proof.Phgrn

open Cert.PhgrnKernelIdeal Cert.PhgrnKernelIdeal.Gen

variable (m : (ℓ : Loc nD τ sig) → Buf (Elt Idealize.ShloMosaic.Ideal) ℓ) (c : Dev nD)

/-- What the whole program leaves in a buffer. -/
def left (b : Ref sig .tc) := Pipeline.afterTail₀ cfgs (dats m) 0 (V0 m) [hostOps1] c b

/-- The contents the call leaves. -/
def entry : Valuation τ sig (Elt Idealize.ShloMosaic.Ideal) :=
  Pipeline.withArrays spec0 c (V0 m c) fun w => (dats m 0 c).arrAt w cfg0.N

theorem entry_out (hz : Hgrn.Reals (za m c)) (hl : Hgrn.Reals (la m c)) :
    entry m c (Proc.devRef .tc main_v42_1) = GS (za m c) (la m c) :=
  ((dats m 0 c).withArrays_arrAt sharedIn0 (V0 m c) (A_eq m c) 8).trans (final m c hz hl)

theorem left_eq (b : Ref sig .tc) : left m c b = StableHlo.after hostOps1 (entry m c) (Proc.devRef .tc b) := by
  unfold left entry Pipeline.afterTail₀
  simp only [List.flatten_cons, List.flatten_nil, List.append_nil]

theorem tail43 (W : Valuation τ sig (Elt Idealize.ShloMosaic.Ideal)) (b : Fin 2) (h : Fin 8) (d v : Fin 128) :
    StableHlo.after hostOps1 W (Proc.devRef .tc main_v43) (ix5 0 b h d v) = W (Proc.devRef .tc main_v42_1) (ix4 b h d v) := by
  after_results_simp
  pointwise []

theorem state_left (hz : Hgrn.Reals (za m c)) (hl : Hgrn.Reals (la m c)) :
    left m c main_v43 = Cert.PhgrnReferenceIdeal.Read.val_main_v54 (F := Idealize.ShloMosaic.Ideal) (za m c) (la m c) := by
  funext i
  have z0 : i 0 = (0 : Fin 1) := Subsingleton.elim (α := Fin 1) _ _
  rw [eq_ix5 i, z0]
  rw [left_eq]
  refine (tail43 (entry m c) (i 1) (i 2) (i 3) (i 4)).trans (Eq.trans ?_ (state_eq (za m c) (la m c) hz hl (i 1) (i 2) (i 3) (i 4)).symm)
  rw [entry_out m c hz hl]

end Cert.Proof.Phgrn

namespace Cert.Proof

open Cert.Proof.Phgrn

/-- On finite inputs the prompt recurrence's kernel leaves the state its reference computes. -/
theorem phgrn_algebraic : Cert.algebraic_PhgrnKernelIdeal_PhgrnReferenceIdeal_pre_phgrn_finite := by
  intro m ρ m' ρ' hpre hagree
  refine ⟨fun c => left m c Cert.PhgrnKernelIdeal.main_v43, ?_, ?_⟩
  · exact (θ_run Cert.PhgrnKernelIdeal.defs _ _).mono (fun _ h c => ⟨(h.1 c).2 Cert.PhgrnKernelIdeal.main_v43
      (Pipeline.mem_restRefs_of Cert.PhgrnKernelIdeal.main_v43 (by decide) (by decide)), h.2 c⟩)
      (θ_run_and (Cert.PhgrnKernelIdeal.Gen.run_main m ρ) (Cert.PhgrnKernelIdeal.Gen.unchanged m ρ))
  · refine (θ_run Cert.PhgrnReferenceIdeal.defs _ _).mono (fun _ h c => ⟨(h c).1.trans ?_, (h c).2⟩)
      (Cert.PhgrnReferenceIdeal.Value.run (F := Idealize.ShloMosaic.Ideal) m' ρ')
    obtain ⟨h0, h1, h2⟩ := hagree c
    rw [Cert.PhgrnReferenceIdeal.Read.val_main_v54_eq, h0, h1]
    exact (state_left m c (real0 m hpre c) (real1 m hpre c)).symm

end Cert.Proof

end
-- ==== Proof.Norm.lean ====
/-
  The layer normalisation of one row of 2048 numbers, over the extended reals, as both the kernels and the references
  compute it: the mean is the sum divided by 2048, the variance is the mean of the squared differences, and each element
  is its difference from the mean, times the reciprocal square root of the variance plus a small constant, times a gain,
  plus a bias. The divisor and the small constant are kept as the words the programs write.
-/
module

public import Idealize.ShloMosaic.Lib.Pointwise

@[expose] public section

noncomputable section

namespace Cert.Proof.Layer

open Idealize.ShloMosaic

/-- The mean of a row. -/
def lnMean (x : Fin 2048 → EReal) : EReal := Ideal.div (∑ k : Fin 2048, x k) (Ideal.ofBits .f32 0x45000000#32)

/-- The row normalised, at column `j`, with gain `g` and bias `b`. -/
def lnRow (x : Fin 2048 → EReal) (g b : EReal) (j : Fin 2048) : EReal :=
  (x j - lnMean x) * Ideal.rsqrt (Ideal.div (∑ k : Fin 2048, (x k - lnMean x) * (x k - lnMean x)) (Ideal.ofBits .f32 0x45000000#32)
    + Ideal.ofBits .f32 0x3727C5AC#32) * g + b

end Cert.Proof.Layer

end
-- ==== Proof.IdxprojValue.lean ====
/-
  The sampled tokens' indexer projection, the kernel's side: what the arrays the kernel reads hold in terms of the
  arguments, and what its output array holds after the run.
-/
module

public import proofs.«01_k».proof.Proof.Norm
public import proofs.«01_k».proof.Proof.Gen.IdxprojKernelIdeal.Frame
public import Idealize.ShloMosaic.Lib.Pointwise

@[expose] public section

set_option maxRecDepth 16384

noncomputable section

open Idealize.ShloMosaic Idealize.ShloMosaic.TcCoe Idealize.SL.Sem

namespace Cert.Proof.Idxproj

open Cert.Proof.Layer Cert.IdxprojKernelIdeal Cert.IdxprojKernelIdeal.Gen

theorem hz : (![0, 0] : Fin 2 → Nat) = fun _ => 0 := funext fun a => by fin_cases a <;> rfl

theorem pay1_apply (x : Vec Ideal S32x2048 .f32) (g b : Vec Ideal S1x2048 .f32) (w : Vec Ideal S2048x640 .f32) (r : Fin 32) (j : Fin 640) :
    k0_pay1 (F := Ideal) x g b w (ix2 r j)
      = ∑ k : Fin 2048, lnRow (fun l => x (ix2 r l)) (g (ix2 0 k)) (b (ix2 0 k)) k * w (ix2 k j) := by
  pointwise [k0_pay1, lnRow, lnMean]

theorem out_eq (x : Vec Ideal S32x2048 .f32) (g b : Vec Ideal S1x2048 .f32) (w : Vec Ideal S2048x640 .f32) :
    out0_4 (F := Ideal) x g b w = k0_pay1 x g b w := by
  unfold out0_4
  rw [View.canon_cons_unit_zero (S := S32x640) hz]
  simp only [View.ld_unit_zero (S := S32x2048) hz, View.ld_unit_zero (S := S2048x640) hz, View.ld_unit_zero (S := S1x2048) hz]

variable (m : (ℓ : Loc nD τ sig) → Buf (Elt Idealize.ShloMosaic.Ideal) ℓ) (c : Dev nD)

/-! ## The arrays the kernel reads -/

/-- The contents when the indexer's columns have been cut from the weights and not yet joined. -/
def cuts : Valuation τ sig (Elt Idealize.ShloMosaic.Ideal) :=
  StableHlo.after ((hostOps0 (F := Idealize.ShloMosaic.Ideal)).take 6) (fun b => m (c, b))

theorem V5_eq : V m c main_v5 = StableHlo.after ((hostOps0 (F := Idealize.ShloMosaic.Ideal)).drop 6) (cuts m c) (Proc.devRef .tc main_v5) := rfl

theorem V5q (k : Fin 2048) (j : Fin 512) :
    V m c main_v5 (ix2 k ⟨0 + j.val, by omega⟩) = m ((c : Thread nD τ).loc main_arg3) (ix3 0 k ⟨2048 + j.val, by omega⟩) := by
  have h : cuts m c (Proc.devRef .tc main_v1) (ix2 k j) = m ((c : Thread nD τ).loc main_arg3) (ix3 0 k ⟨2048 + j.val, by omega⟩) := by
    simp only [cuts, hostOps0, List.take]
    after_results_simp
    pointwise []
  rw [V5_eq, ← h]
  generalize cuts m c = W
  simp only [hostOps0, List.drop]
  after_results_simp
  pointwise []

theorem V5k (k : Fin 2048) (j : Fin 64) :
    V m c main_v5 (ix2 k ⟨512 + j.val, by omega⟩) = m ((c : Thread nD τ).loc main_arg3) (ix3 0 k ⟨2568 + j.val, by omega⟩) := by
  have h : cuts m c (Proc.devRef .tc main_v2) (ix2 k j) = m ((c : Thread nD τ).loc main_arg3) (ix3 0 k ⟨2568 + j.val, by omega⟩) := by
    simp only [cuts, hostOps0, List.take]
    after_results_simp
    pointwise []
  rw [V5_eq, ← h]
  generalize cuts m c = W
  simp only [hostOps0, List.drop]
  after_results_simp
  pointwise []

theorem V5w (k : Fin 2048) (j : Fin 8) :
    V m c main_v5 (ix2 k ⟨576 + j.val, by omega⟩) = m ((c : Thread nD τ).loc main_arg3) (ix3 0 k ⟨2560 + j.val, by omega⟩) := by
  have h : cuts m c (Proc.devRef .tc main_v3) (ix2 k j) = m ((c : Thread nD τ).loc main_arg3) (ix3 0 k ⟨2560 + j.val, by omega⟩) := by
    simp only [cuts, hostOps0, List.take]
    after_results_simp
    pointwise []
  rw [V5_eq, ← h]
  generalize cuts m c = W
  simp only [hostOps0, List.drop]
  after_results_simp
  pointwise []
  rw [dif_neg (by omega), dif_neg (by omega), dif_pos (by omega)]
  refine congrArg (W (Proc.devRef .tc main_v3)) (congrArg (ix2 k) (Fin.ext ?_))
  dsimp only
  omega

theorem V6 (d : Fin 32) (k : Fin 2048) : V m c main_v6 (ix2 d k) = m ((c : Thread nD τ).loc main_arg0) (ix3 d 0 k) := by
  unfold V V0 hostOps0
  simp only [List.flatten_cons, List.flatten_nil, List.append_nil]
  after_results_simp
  pointwise []

theorem V7 (j : Fin 2048) : V m c main_v7 (ix2 0 j) = m ((c : Thread nD τ).loc main_arg1) (ix1 j) := by
  unfold V V0 hostOps0
  simp only [List.flatten_cons, List.flatten_nil, List.append_nil]
  after_results_simp
  pointwise []

theorem V8 (j : Fin 2048) : V m c main_v8 (ix2 0 j) = m ((c : Thread nD τ).loc main_arg2) (ix1 j) := by
  unfold V V0 hostOps0
  simp only [List.flatten_cons, List.flatten_nil, List.append_nil]
  after_results_simp
  pointwise []

/-! ## The output array -/

/-- The sampled row `d` normalised. -/
def nrow (d : Fin 32) (k : Fin 2048) : EReal :=
  lnRow (fun l => m ((c : Thread nD τ).loc main_arg0) (ix3 d 0 l)) (m ((c : Thread nD τ).loc main_arg1) (ix1 k))
    (m ((c : Thread nD τ).loc main_arg2) (ix1 k)) k

/-- The kernel's whole output array. -/
def G (i : S32x640.Idx) : EReal := ∑ k : Fin 2048, nrow m c (i 0) k * V m c main_v5 (ix2 k (i 1))

theorem ixf : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0) :=
  (by decide +kernel : ∀ t : Fin grid0.N, (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0))

theorem blk0 (t : Fin cfg0.N) (r : Fin 32) (k : Fin 2048) :
    iblk m c 0 t (ix2 r k) = m ((c : Thread nD τ).loc main_arg0) (ix3 r 0 k) := by
  show V m c main_v6 (((cfg0.win 0).blk t).view.emb (ix2 r k)) = _
  refine (congrArg (V m c main_v6) (funext fun a => Fin.ext ?_)).trans (V6 m c r k)
  have h := (ixf t).1
  match a with
  | ⟨0, _⟩ => show win0_0.index t 0 * 32 + 1 * r.val = r.val; omega
  | ⟨1, _⟩ => show win0_0.index t 1 * 2048 + 1 * k.val = k.val; omega

theorem blk1 (t : Fin cfg0.N) (k : Fin 2048) :
    iblk m c 1 t (ix2 0 k) = m ((c : Thread nD τ).loc main_arg1) (ix1 k) := by
  show V m c main_v7 (((cfg0.win 1).blk t).view.emb (ix2 0 k)) = _
  refine (congrArg (V m c main_v7) (funext fun a => Fin.ext ?_)).trans (V7 m c k)
  have h := (ixf t).2.1
  match a with
  | ⟨0, _⟩ => show win0_1.index t 0 * 1 + 1 * 0 = 0; omega
  | ⟨1, _⟩ => show win0_1.index t 1 * 2048 + 1 * k.val = k.val; omega

theorem blk2 (t : Fin cfg0.N) (k : Fin 2048) :
    iblk m c 2 t (ix2 0 k) = m ((c : Thread nD τ).loc main_arg2) (ix1 k) := by
  show V m c main_v8 (((cfg0.win 2).blk t).view.emb (ix2 0 k)) = _
  refine (congrArg (V m c main_v8) (funext fun a => Fin.ext ?_)).trans (V8 m c k)
  have h := (ixf t).2.2.1
  match a with
  | ⟨0, _⟩ => show win0_2.index t 0 * 1 + 1 * 0 = 0; omega
  | ⟨1, _⟩ => show win0_2.index t 1 * 2048 + 1 * k.val = k.val; omega

theorem blk3 (t : Fin cfg0.N) (r : Fin 2048) (k : Fin 640) :
    iblk m c 3 t (ix2 r k) = V m c main_v5 (ix2 r k) := by
  show V m c main_v5 (((cfg0.win 3).blk t).view.emb (ix2 r k)) = _
  refine congrArg (V m c main_v5) (funext fun a => Fin.ext ?_)
  have h := (ixf t).2.2.2.1
  match a with
  | ⟨0, _⟩ => show win0_3.index t 0 * 2048 + 1 * r.val = r.val; omega
  | ⟨1, _⟩ => show win0_3.index t 1 * 640 + 1 * k.val = k.val; omega

theorem point (t : Fin cfg0.N) (r : Fin 32) (j : Fin 640) :
    out0_4 (F := Ideal) (iblk m c 0 t) (iblk m c 1 t) (iblk m c 2 t) (iblk m c 3 t) (ix2 r j) = G m c (ix2 r j) := by
  rw [out_eq, pay1_apply]
  refine Finset.sum_congr rfl fun k _ => ?_
  rw [blk1, blk2, blk3]
  refine congrArg (fun v => lnRow v _ _ k * _) (funext fun l => ?_)
  exact blk0 m c t r l

theorem mem_out (t : Fin cfg0.N) (i : S32x640.Idx) :
    i ∈ ((cfg0.win 4).blk t).view.set ↔ ∀ a : Fin 2, win0_4.index t a * S32x640.size a ≤ (i a).val ∧ (i a).val < win0_4.index t a * S32x640.size a + S32x640.size a := by
  show i ∈ ((View.whole main_v9).slice (win0_4.rect t)).set ↔ _
  rw [View.set_slice_whole, Rect.mem_set_unit]
  exact Iff.rfl

/-- The output array after the run is the formula. -/
theorem final : (dats m 0 c).arrAt 4 cfg0.N = G m c := by
  refine (dats m 0 c).arrAt_eq_of_cover 4 (G m c) (fun t _ => ?_) (fun i => ?_)
  · show (cfg0.win 4).cut (grid0.coords t) ((dats m 0 c).after 4 t) = _
    rw [after0_4]
    funext y
    show out0_4 (F := Ideal) (iblk m c 0 t) (iblk m c 1 t) (iblk m c 2 t) (iblk m c 3 t) y = G m c (((cfg0.win 4).blk t).view.emb y)
    refine (congrArg (out0_4 (F := Ideal) (iblk m c 0 t) (iblk m c 1 t) (iblk m c 2 t) (iblk m c 3 t)) (eq_ix2 (n0 := 32) (n1 := 640) y)).trans
      ((point m c t (y 0) (y 1)).trans ?_)
    refine congrArg (G m c) (funext fun a => Fin.ext ?_)
    have h := (ixf t).2.2.2.2
    match a with
    | ⟨0, _⟩ => show (y 0).val = win0_4.index t 0 * 32 + 1 * (y 0).val; omega
    | ⟨1, _⟩ => show (y 1).val = win0_4.index t 1 * 640 + 1 * (y 1).val; omega
  · have h0 : (i 0).val < 32 := (i 0).isLt
    have h1 : (i 1).val < 640 := (i 1).isLt
    have h := (ixf t0_0).2.2.2.2
    refine ⟨t0_0, flush0_4 t0_0, (mem_out t0_0 i).mpr fun a => ?_⟩
    match a with
    | ⟨0, _⟩ => show win0_4.index t0_0 0 * 32 ≤ (i 0).val ∧ (i 0).val < win0_4.index t0_0 0 * 32 + 32; omega
    | ⟨1, _⟩ => show win0_4.index t0_0 1 * 640 ≤ (i 1).val ∧ (i 1).val < win0_4.index t0_0 1 * 640 + 640; omega

end Cert.Proof.Idxproj

end
-- ==== Proof.IdxprojClaim.lean ====
module

public import proofs.«01_k».proof.Defs
public import proofs.«01_k».proof.Proof.IdxprojValue
public import proofs.«01_k».proof.Proof.Gen.IdxprojReferenceIdeal.Run
public import proofs.«01_k».proof.Proof.Gen.IdxprojReferenceIdeal.Read

/-! The sampled tokens' indexer projection: the two programs leave the same queries, keys and weights. -/

@[expose] public section

set_option maxRecDepth 16384

noncomputable section

open Idealize.ShloMosaic Idealize.ShloMosaic.TcCoe Idealize.SL.Sem

namespace Cert.Proof.Idxproj

open Cert.Proof.Layer

/-! ## The reference -/

section Reference

open Cert.IdxprojReferenceIdeal Cert.IdxprojReferenceIdeal.Read

variable (x0 : Vec Ideal S32x1x2048 .f32) (x1 x2 : Vec Ideal S2048 .f32) (x3 : Vec Ideal S1x2048x6728 .f32)

theorem ref_norm (d : Fin 32) (j : Fin 2048) : val_main_v23 (F := Ideal) x0 x1 x2 (ix3 d 0 j)
    = lnRow (fun k => x0 (ix3 d 0 k)) (x1 (ix1 j)) (x2 (ix1 j)) j := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, lnRow, lnMean]

theorem ref_proj (d : Fin 32) (j : Fin 6728) : val_main_v25 (F := Ideal) x0 x1 x2 x3 (ix3 d 0 j)
    = ∑ k : Fin 2048, lnRow (fun l => x0 (ix3 d 0 l)) (x1 (ix1 k)) (x2 (ix1 k)) k * x3 (ix3 0 k j) := by
  simp only [← ref_norm]
  pointwise [val_main_v25, val_main_v24]

theorem ref30 (d : Fin 32) (h : Fin 8) (k : Fin 64) : val_main_v30 (F := Ideal) x0 x1 x2 x3 (ix3 d h k)
    = val_main_v25 (F := Ideal) x0 x1 x2 x3 (ix3 d 0 ⟨2048 + (h.val * 64 + k.val), by omega⟩) := by
  pointwise [val_main_v30, val_main_v27, val_main_v26]

theorem ref31 (d : Fin 32) (k : Fin 64) : val_main_v31 (F := Ideal) x0 x1 x2 x3 (ix2 d k)
    = val_main_v25 (F := Ideal) x0 x1 x2 x3 (ix3 d 0 ⟨2568 + k.val, by omega⟩) := by
  pointwise [val_main_v31, val_main_v29]

theorem ref32 (d : Fin 32) (h : Fin 8) : val_main_v32 (F := Ideal) x0 x1 x2 x3 (ix2 d h)
    = val_main_v25 (F := Ideal) x0 x1 x2 x3 (ix3 d 0 ⟨2560 + h.val, by omega⟩) := by
  pointwise [val_main_v32, val_main_v28]

end Reference

/-! ## The kernel's results -/

section Kernel

open Cert.IdxprojKernelIdeal Cert.IdxprojKernelIdeal.Gen Cert.IdxprojReferenceIdeal.Read

/-! The lines after the kernel cut its output apart. -/

theorem tail11 (W : Valuation τ sig (Elt Idealize.ShloMosaic.Ideal)) (d : Fin 32) (h : Fin 8) (k : Fin 64) :
    StableHlo.after (hostOps1 (F := Idealize.ShloMosaic.Ideal)) W (Proc.devRef .tc main_v11) (ix3 d h k)
      = W (Proc.devRef .tc main_v9) (ix2 d ⟨0 + (h.val * 64 + k.val), by omega⟩) := by
  unfold hostOps1
  after_results_simp
  pointwise []

theorem tail12 (W : Valuation τ sig (Elt Idealize.ShloMosaic.Ideal)) (d : Fin 32) (h : Fin 8) :
    StableHlo.after (hostOps1 (F := Idealize.ShloMosaic.Ideal)) W (Proc.devRef .tc main_v12) (ix2 d h)
      = W (Proc.devRef .tc main_v9) (ix2 d ⟨576 + h.val, by omega⟩) := by
  unfold hostOps1
  after_results_simp
  pointwise []

theorem tail13 (W : Valuation τ sig (Elt Idealize.ShloMosaic.Ideal)) (d : Fin 32) (k : Fin 64) :
    StableHlo.after (hostOps1 (F := Idealize.ShloMosaic.Ideal)) W (Proc.devRef .tc main_v13) (ix2 d k)
      = W (Proc.devRef .tc main_v9) (ix2 d ⟨512 + k.val, by omega⟩) := by
  unfold hostOps1
  after_results_simp
  pointwise []

variable (m : (ℓ : Loc nD τ sig) → Buf (Elt Idealize.ShloMosaic.Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)

/-- An element of the output whose weights' column is column `j` of the given ones. -/
theorem G_proj (d : Fin 32) (n : Fin 640) (j : Fin 6728)
    (h : ∀ k : Fin 2048, V m c main_v5 (ix2 k n) = a3 m c (ix3 0 k j)) :
    G m c (ix2 d n) = val_main_v25 (F := Ideal) (a0 m c) (a1 m c) (a2 m c) (a3 m c) (ix3 d 0 j) := by
  refine Eq.trans ?_ (ref_proj (a0 m c) (a1 m c) (a2 m c) (a3 m c) d j).symm
  exact Finset.sum_congr rfl fun k _ => congrArg (nrow m c d k * ·) (h k)

/-- What the lines after the kernel leave. -/
def left (b : Ref sig .tc) : Buf (Elt Idealize.ShloMosaic.Ideal) ((c : Thread nD τ).loc b) :=
  Pipeline.afterTail₀ cfgs (dats m) 0 (V0 m) [hostOps1] c b

theorem arr_inj : Function.Injective (Pipeline.arrRef spec0) := by decide

/-- Everything the lines after the kernel read. -/
def entry : Valuation τ sig (Elt Idealize.ShloMosaic.Ideal) :=
  Pipeline.withArrays spec0 c (V0 m c) fun w => (dats m 0 c).arrAt w cfg0.N

theorem entry_out : entry m c (Proc.devRef .tc main_v9) = G m c :=
  (Pipeline.withArrays_arr spec0 arr_inj c (V0 m c) (fun w => (dats m 0 c).arrAt w cfg0.N) 4).trans (final m c)

theorem left_eq (b : Ref sig .tc) : left m c b = StableHlo.after hostOps1 (entry m c) (Proc.devRef .tc b) := by
  unfold left entry Pipeline.afterTail₀
  simp only [List.flatten_cons, List.flatten_nil, List.append_nil]

theorem res11 : left m c main_v11 = val_main_v30 (F := Ideal) (a0 m c) (a1 m c) (a2 m c) (a3 m c) := by
  funext i
  rw [eq_ix3 i, left_eq]
  refine (tail11 (entry m c) (i 0) (i 1) (i 2)).trans (Eq.trans ?_ (ref30 (a0 m c) (a1 m c) (a2 m c) (a3 m c) (i 0) (i 1) (i 2)).symm)
  rw [entry_out]
  exact G_proj m c (i 0) _ _ (fun k => V5q m c k ⟨(i 1).val * 64 + (i 2).val, by
    have h1 : (i 1).val < 8 := (i 1).isLt; have h2 : (i 2).val < 64 := (i 2).isLt; omega⟩)

theorem res13 : left m c main_v13 = val_main_v31 (F := Ideal) (a0 m c) (a1 m c) (a2 m c) (a3 m c) := by
  funext i
  rw [eq_ix2 i, left_eq]
  refine (tail13 (entry m c) (i 0) (i 1)).trans (Eq.trans ?_ (ref31 (a0 m c) (a1 m c) (a2 m c) (a3 m c) (i 0) (i 1)).symm)
  rw [entry_out]
  exact G_proj m c (i 0) _ _ (fun k => V5k m c k (i 1))

theorem res12 : left m c main_v12 = val_main_v32 (F := Ideal) (a0 m c) (a1 m c) (a2 m c) (a3 m c) := by
  funext i
  rw [eq_ix2 i, left_eq]
  refine (tail12 (entry m c) (i 0) (i 1)).trans (Eq.trans ?_ (ref32 (a0 m c) (a1 m c) (a2 m c) (a3 m c) (i 0) (i 1)).symm)
  rw [entry_out]
  exact G_proj m c (i 0) _ _ (fun k => V5w m c k (i 1))

end Kernel

end Cert.Proof.Idxproj

open Cert.IdxprojKernelIdeal Cert.IdxprojKernelIdeal.Gen Cert.IdxprojReferenceIdeal.Read Cert.Proof.Idxproj in
theorem Cert.Proof.idxproj_algebraic : Cert.algebraic_IdxprojKernelIdeal_IdxprojReferenceIdeal := by
  intro m ρ m' ρ' _ hagree
  refine ⟨fun c => left m c Cert.IdxprojKernelIdeal.main_v11, fun c => left m c Cert.IdxprojKernelIdeal.main_v13,
    fun c => left m c Cert.IdxprojKernelIdeal.main_v12, ?_, ?_⟩
  · exact (θ_run Cert.IdxprojKernelIdeal.defs _ _).mono
      (fun _ h c => ⟨(h.1 c).2 main_v11 (Pipeline.mem_restRefs_of main_v11 (by decide) (by decide)),
        (h.1 c).2 main_v13 (Pipeline.mem_restRefs_of main_v13 (by decide) (by decide)),
        (h.1 c).2 main_v12 (Pipeline.mem_restRefs_of main_v12 (by decide) (by decide)), h.2 c⟩)
      (θ_run_and (Gen.run_main m ρ) (Gen.unchanged m ρ))
  · refine (θ_run Cert.IdxprojReferenceIdeal.defs _ _).mono (fun _ h c => ?_)
      (Cert.IdxprojReferenceIdeal.Value.run (F := Ideal) m' ρ')
    obtain ⟨r30, r31, r32, hargs⟩ := h c
    obtain ⟨h0, h1, h2, h3⟩ := hagree c
    refine ⟨r30.trans ?_, r31.trans ?_, r32.trans ?_, hargs⟩
    · rw [val_main_v30_eq, h0, h1, h2, h3]; exact (res11 m c).symm
    · rw [val_main_v31_eq, h0, h1, h2, h3]; exact (res13 m c).symm
    · rw [val_main_v32_eq, h0, h1, h2, h3]; exact (res12 m c).symm

end
-- ==== Proof.InprojHost.lean ====
/-
  The arrays that the input projection's kernel finds. The token rows are the padding, the memory tokens and the prompt of
  each sequence, then the decoded tokens; the weights' columns are cut apart and joined in the kernel's order. Each lemma
  reads one of these arrays at a row or column that a result depends on, in terms of the arguments.
-/
module

public import proofs.«01_k».proof.Proof.Gen.InprojKernelIdeal.Frame
public import Idealize.ShloMosaic.Lib.Pointwise

@[expose] public section

set_option maxRecDepth 16384

noncomputable section

open Idealize.ShloMosaic Idealize.ShloMosaic.TcCoe Idealize.SL.Sem

namespace Cert.Proof.Inproj

open Cert.InprojKernelIdeal Cert.InprojKernelIdeal.Gen

variable (m : (ℓ : Loc nD τ sig) → Buf (Elt Idealize.ShloMosaic.Ideal) ℓ) (c : Dev nD)

/-- The contents when the weights have lost their leading axis. -/
def flat : Valuation τ sig (Elt Idealize.ShloMosaic.Ideal) :=
  StableHlo.after ((hostOps0 (F := Idealize.ShloMosaic.Ideal)).take 14) (fun b => m (c, b))

/-- The contents when their columns have been cut apart and not yet joined in the kernel's order. -/
def cuts : Valuation τ sig (Elt Idealize.ShloMosaic.Ideal) :=
  StableHlo.after (((hostOps0 (F := Idealize.ShloMosaic.Ideal)).drop 14).take 12) (flat m c)

theorem V24_eq : V m c main_v24 = StableHlo.after ((hostOps0 (F := Idealize.ShloMosaic.Ideal)).drop 26) (cuts m c) (Proc.devRef .tc main_v24) := rfl

theorem flat_apply (k : Fin 2048) (j : Fin 6728) : flat m c (Proc.devRef .tc main_v11) (ix2 k j) = m ((c : Thread nD τ).loc main_arg5) (ix3 0 k j) := by
  simp only [flat, hostOps0, List.take]
  after_results_simp
  pointwise []

theorem V24q (k : Fin 2048) (j : Fin 1024) :
    V m c main_v24 (ix2 k ⟨0 + j.val, by omega⟩) = m ((c : Thread nD τ).loc main_arg5) (ix3 0 k ⟨0 + j.val, by omega⟩) := by
  have h : cuts m c (Proc.devRef .tc main_v12) (ix2 k j) = flat m c (Proc.devRef .tc main_v11) (ix2 k ⟨0 + j.val, by omega⟩) := by
    unfold cuts
    generalize flat m c = W
    simp only [hostOps0, List.take, List.drop]
    after_results_simp
    pointwise []
  rw [V24_eq, ← flat_apply m c k ⟨0 + j.val, by omega⟩, ← h]
  generalize cuts m c = W
  simp only [hostOps0, List.drop]
  after_results_simp
  pointwise []

theorem V24hq (k : Fin 2048) (j : Fin 1024) :
    V m c main_v24 (ix2 k ⟨1024 + j.val, by omega⟩) = m ((c : Thread nD τ).loc main_arg5) (ix3 0 k ⟨2632 + j.val, by omega⟩) := by
  have h : cuts m c (Proc.devRef .tc main_v18) (ix2 k j) = flat m c (Proc.devRef .tc main_v11) (ix2 k ⟨2632 + j.val, by omega⟩) := by
    unfold cuts
    generalize flat m c = W
    simp only [hostOps0, List.take, List.drop]
    after_results_simp
    pointwise []
  rw [V24_eq, ← flat_apply m c k ⟨2632 + j.val, by omega⟩, ← h]
  generalize cuts m c = W
  simp only [hostOps0, List.drop]
  after_results_simp
  pointwise []

theorem V24hf (k : Fin 2048) (j : Fin 1024) :
    V m c main_v24 (ix2 k ⟨2048 + j.val, by omega⟩) = m ((c : Thread nD τ).loc main_arg5) (ix3 0 k ⟨3656 + j.val, by omega⟩) := by
  have h : cuts m c (Proc.devRef .tc main_v19) (ix2 k j) = flat m c (Proc.devRef .tc main_v11) (ix2 k ⟨3656 + j.val, by omega⟩) := by
    unfold cuts
    generalize flat m c = W
    simp only [hostOps0, List.take, List.drop]
    after_results_simp
    pointwise []
  rw [V24_eq, ← flat_apply m c k ⟨3656 + j.val, by omega⟩, ← h]
  generalize cuts m c = W
  simp only [hostOps0, List.drop]
  after_results_simp
  pointwise []
  rw [dif_neg (by omega), dif_neg (by omega), dif_pos (by omega)]
  refine congrArg (W (Proc.devRef .tc main_v19)) (congrArg (ix2 k) (Fin.ext ?_))
  dsimp only
  omega

theorem V24hi (k : Fin 2048) (j : Fin 1024) :
    V m c main_v24 (ix2 k ⟨3072 + j.val, by omega⟩) = m ((c : Thread nD τ).loc main_arg5) (ix3 0 k ⟨4680 + j.val, by omega⟩) := by
  have h : cuts m c (Proc.devRef .tc main_v20) (ix2 k j) = flat m c (Proc.devRef .tc main_v11) (ix2 k ⟨4680 + j.val, by omega⟩) := by
    unfold cuts
    generalize flat m c = W
    simp only [hostOps0, List.take, List.drop]
    after_results_simp
    pointwise []
  rw [V24_eq, ← flat_apply m c k ⟨4680 + j.val, by omega⟩, ← h]
  generalize cuts m c = W
  simp only [hostOps0, List.drop]
  after_results_simp
  pointwise []
  rw [dif_neg (by omega), dif_neg (by omega), dif_neg (by omega), dif_pos (by omega)]
  refine congrArg (W (Proc.devRef .tc main_v20)) (congrArg (ix2 k) (Fin.ext ?_))
  dsimp only
  omega

theorem V24hg (k : Fin 2048) (j : Fin 1024) :
    V m c main_v24 (ix2 k ⟨4096 + j.val, by omega⟩) = m ((c : Thread nD τ).loc main_arg5) (ix3 0 k ⟨5704 + j.val, by omega⟩) := by
  have h : cuts m c (Proc.devRef .tc main_v21) (ix2 k j) = flat m c (Proc.devRef .tc main_v11) (ix2 k ⟨5704 + j.val, by omega⟩) := by
    unfold cuts
    generalize flat m c = W
    simp only [hostOps0, List.take, List.drop]
    after_results_simp
    pointwise []
  rw [V24_eq, ← flat_apply m c k ⟨5704 + j.val, by omega⟩, ← h]
  generalize cuts m c = W
  simp only [hostOps0, List.drop]
  after_results_simp
  pointwise []
  rw [dif_neg (by omega), dif_neg (by omega), dif_neg (by omega), dif_neg (by omega), dif_pos (by omega)]
  refine congrArg (W (Proc.devRef .tc main_v21)) (congrArg (ix2 k) (Fin.ext ?_))
  dsimp only
  omega

theorem V24k (k : Fin 2048) (j : Fin 512) :
    V m c main_v24 (ix2 k ⟨5120 + j.val, by omega⟩) = m ((c : Thread nD τ).loc main_arg5) (ix3 0 k ⟨1024 + j.val, by omega⟩) := by
  have h : cuts m c (Proc.devRef .tc main_v13) (ix2 k j) = flat m c (Proc.devRef .tc main_v11) (ix2 k ⟨1024 + j.val, by omega⟩) := by
    unfold cuts
    generalize flat m c = W
    simp only [hostOps0, List.take, List.drop]
    after_results_simp
    pointwise []
  rw [V24_eq, ← flat_apply m c k ⟨1024 + j.val, by omega⟩, ← h]
  generalize cuts m c = W
  simp only [hostOps0, List.drop]
  after_results_simp
  pointwise []
  rw [dif_neg (by omega), dif_neg (by omega), dif_neg (by omega), dif_neg (by omega), dif_neg (by omega), dif_pos (by omega)]
  refine congrArg (W (Proc.devRef .tc main_v13)) (congrArg (ix2 k) (Fin.ext ?_))
  dsimp only
  omega

theorem V24v (k : Fin 2048) (j : Fin 512) :
    V m c main_v24 (ix2 k ⟨5632 + j.val, by omega⟩) = m ((c : Thread nD τ).loc main_arg5) (ix3 0 k ⟨1536 + j.val, by omega⟩) := by
  have h : cuts m c (Proc.devRef .tc main_v14) (ix2 k j) = flat m c (Proc.devRef .tc main_v11) (ix2 k ⟨1536 + j.val, by omega⟩) := by
    unfold cuts
    generalize flat m c = W
    simp only [hostOps0, List.take, List.drop]
    after_results_simp
    pointwise []
  rw [V24_eq, ← flat_apply m c k ⟨1536 + j.val, by omega⟩, ← h]
  generalize cuts m c = W
  simp only [hostOps0, List.drop]
  after_results_simp
  pointwise []
  rw [dif_neg (by omega), dif_neg (by omega), dif_neg (by omega), dif_neg (by omega), dif_neg (by omega), dif_neg (by omega), dif_pos (by omega)]
  refine congrArg (W (Proc.devRef .tc main_v14)) (congrArg (ix2 k) (Fin.ext ?_))
  dsimp only
  omega

theorem V24qi (k : Fin 2048) (j : Fin 512) :
    V m c main_v24 (ix2 k ⟨6144 + j.val, by omega⟩) = m ((c : Thread nD τ).loc main_arg5) (ix3 0 k ⟨2048 + j.val, by omega⟩) := by
  have h : cuts m c (Proc.devRef .tc main_v15) (ix2 k j) = flat m c (Proc.devRef .tc main_v11) (ix2 k ⟨2048 + j.val, by omega⟩) := by
    unfold cuts
    generalize flat m c = W
    simp only [hostOps0, List.take, List.drop]
    after_results_simp
    pointwise []
  rw [V24_eq, ← flat_apply m c k ⟨2048 + j.val, by omega⟩, ← h]
  generalize cuts m c = W
  simp only [hostOps0, List.drop]
  after_results_simp
  pointwise []
  rw [dif_neg (by omega), dif_neg (by omega), dif_neg (by omega), dif_neg (by omega), dif_neg (by omega), dif_neg (by omega), dif_neg (by omega), dif_pos (by omega)]
  refine congrArg (W (Proc.devRef .tc main_v15)) (congrArg (ix2 k) (Fin.ext ?_))
  dsimp only
  omega

theorem V24ki (k : Fin 2048) (j : Fin 64) :
    V m c main_v24 (ix2 k ⟨6656 + j.val, by omega⟩) = m ((c : Thread nD τ).loc main_arg5) (ix3 0 k ⟨2568 + j.val, by omega⟩) := by
  have h : cuts m c (Proc.devRef .tc main_v17) (ix2 k j) = flat m c (Proc.devRef .tc main_v11) (ix2 k ⟨2568 + j.val, by omega⟩) := by
    unfold cuts
    generalize flat m c = W
    simp only [hostOps0, List.take, List.drop]
    after_results_simp
    pointwise []
  rw [V24_eq, ← flat_apply m c k ⟨2568 + j.val, by omega⟩, ← h]
  generalize cuts m c = W
  simp only [hostOps0, List.drop]
  after_results_simp
  pointwise []
  rw [dif_neg (by omega), dif_neg (by omega), dif_neg (by omega), dif_neg (by omega), dif_neg (by omega), dif_neg (by omega), dif_neg (by omega), dif_neg (by omega), dif_pos (by omega)]
  refine congrArg (W (Proc.devRef .tc main_v17)) (congrArg (ix2 k) (Fin.ext ?_))
  dsimp only
  omega

theorem V24wi (k : Fin 2048) (j : Fin 8) :
    V m c main_v24 (ix2 k ⟨6784 + j.val, by omega⟩) = m ((c : Thread nD τ).loc main_arg5) (ix3 0 k ⟨2560 + j.val, by omega⟩) := by
  have h : cuts m c (Proc.devRef .tc main_v16) (ix2 k j) = flat m c (Proc.devRef .tc main_v11) (ix2 k ⟨2560 + j.val, by omega⟩) := by
    unfold cuts
    generalize flat m c = W
    simp only [hostOps0, List.take, List.drop]
    after_results_simp
    pointwise []
  rw [V24_eq, ← flat_apply m c k ⟨2560 + j.val, by omega⟩, ← h]
  generalize cuts m c = W
  simp only [hostOps0, List.drop]
  after_results_simp
  pointwise []
  rw [dif_neg (by omega), dif_neg (by omega), dif_neg (by omega), dif_neg (by omega), dif_neg (by omega), dif_neg (by omega), dif_neg (by omega), dif_neg (by omega), dif_neg (by omega), dif_neg (by omega), dif_pos (by omega)]
  refine congrArg (W (Proc.devRef .tc main_v16)) (congrArg (ix2 k) (Fin.ext ?_))
  dsimp only
  omega

theorem V8m (b : Fin 2) (t : Fin 4112) (ht : t.val < 16) (k : Fin 2048) :
    V m c main_v8 (ix2 ⟨b.val * 4224 + (112 + t.val), by omega⟩ k) = m ((c : Thread nD τ).loc main_arg2) (ix2 ⟨t.val, ht⟩ k) := by
  unfold V V0 hostOps0
  simp only [List.flatten_cons, List.flatten_nil, List.append_nil]
  after_results_simp
  pointwise []
  rw [dif_pos (by omega)]
  after_results_simp
  pointwise []
  rw [dif_pos (by omega)]
  after_results_simp
  pointwise []
  rw [dif_neg (by omega)]
  after_results_simp
  refine congrArg (m ((c : Thread nD τ).loc main_arg2)) (congrArg (fun z => ix2 z k) (Fin.ext ?_))
  show (b.val * 4224 + (112 + t.val)) % 4224 - 112 = t.val
  omega

theorem V8x (b : Fin 2) (t : Fin 4112) (ht : ¬t.val < 16) (k : Fin 2048) :
    V m c main_v8 (ix2 ⟨b.val * 4224 + (112 + t.val), by omega⟩ k) = m ((c : Thread nD τ).loc main_arg0) (ix3 b ⟨t.val - 16, by omega⟩ k) := by
  unfold V V0 hostOps0
  simp only [List.flatten_cons, List.flatten_nil, List.append_nil]
  after_results_simp
  pointwise []
  rw [dif_pos (by omega)]
  after_results_simp
  pointwise []
  rw [dif_neg (by omega)]
  after_results_simp
  pointwise []
  refine congrArg (m ((c : Thread nD τ).loc main_arg0)) (congrArg (fun z => ix3 b z k) (Fin.ext ?_))
  show (b.val * 4224 + (112 + t.val)) % 4224 - 128 = t.val - 16
  omega

theorem V8s (d : Fin 32) (k : Fin 2048) : V m c main_v8 (ix2 ⟨8448 + d.val, by omega⟩ k) = m ((c : Thread nD τ).loc main_arg1) (ix3 d 0 k) := by
  unfold V V0 hostOps0
  simp only [List.flatten_cons, List.flatten_nil, List.append_nil]
  after_results_simp
  pointwise []
  after_results_simp
  pointwise []

theorem V9 (j : Fin 2048) : V m c main_v9 (ix2 0 j) = m ((c : Thread nD τ).loc main_arg3) (ix1 j) := by
  unfold V V0 hostOps0
  simp only [List.flatten_cons, List.flatten_nil, List.append_nil]
  after_results_simp
  pointwise []

theorem V10 (j : Fin 2048) : V m c main_v10 (ix2 0 j) = m ((c : Thread nD τ).loc main_arg4) (ix1 j) := by
  unfold V V0 hostOps0
  simp only [List.flatten_cons, List.flatten_nil, List.append_nil]
  after_results_simp
  pointwise []

end Cert.Proof.Inproj

end
-- ==== Proof.InprojValue.lean ====
module

public import proofs.«01_k».proof.Defs
public import proofs.«01_k».proof.Proof.Norm
public import proofs.«01_k».proof.Proof.InprojHost
public import proofs.«01_k».proof.Proof.Gen.InprojReferenceIdeal.Run
public import proofs.«01_k».proof.Proof.Gen.InprojReferenceIdeal.Read

/-! The input projection kernel: after the run its output array holds, at each row and column, the normalised row times
    the weight column. The normalised rows are computed at a row tile's first column tile and carried to the others. -/

@[expose] public section

set_option maxRecDepth 16384

noncomputable section

open Idealize.ShloMosaic Idealize.ShloMosaic.TcCoe Idealize.SL.Sem

namespace Cert.Proof.Inproj

open Cert.Proof.Layer

/-! ## The kernel -/

section Kernel

open Cert.InprojKernelIdeal Cert.InprojKernelIdeal.Gen

theorem hz : (![0, 0] : Fin 2 → Nat) = fun _ => 0 := funext fun a => by fin_cases a <;> rfl

section Cases

variable (c : Dev nD) (i : grid0.Coords) (arg2 : Memref sig .tc .vmem S864x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S2048x1152 .bf16) (harg5 : arg5.IsWhole) (arg6 : Memref sig .tc .vmem S864x1152 .f32) (harg6 : arg6.IsWhole)
  (arg7 : Memref sig .tc .vmem S864x1152 .bf16) (harg7 : arg7.IsWhole) (arg8 : Memref sig .tc .vmem S864x2048 .bf16) (harg8 : arg8.IsWhole)
  {F : FTy → Type} [FloatOps F]
  (x0 : Vec F S864x2048 .f32) (x1 x2 : Vec F S1x2048 .f32) (x3 : Vec F S2048x1152 .bf16) (xs0 : Vec F S864x2048 .bf16)

theorem out_A (hc0 : cond0_0 i) :
    out0_A_4 c i arg2 harg2 arg3 harg3 arg4 harg4 arg5 harg5 arg6 harg6 arg7 harg7 arg8 harg8 hc0 x0 x1 x2 x3
      = k0_pay2 (k0_pay1 x0 x1 x2) x3 := by
  unfold out0_A_4
  rw [View.read_writes_junk_eq_canon]
  unfold kernelRun0_A
  dsimp only
  sl_unfold_words
  rw [View.canon_cons_unit_zero (S := S864x1152) hz]
  simp only [View.readAt_eq_ld, harg2.read_unread, harg3.read_unread, harg4.read_unread, harg5.read_unread, harg8.read_unread,
    View.ld_unit_zero (S := S864x2048) hz, View.ld_unit_zero (S := S2048x1152) hz,
    View.ld_unit_zero (S := S1x2048) hz, View.readCov_unit_zero (S := S864x2048) _ hz]

theorem sout_A (hc0 : cond0_0 i) :
    sout0_A_0 c i arg2 harg2 arg3 harg3 arg4 harg4 arg5 harg5 arg6 harg6 arg7 harg7 arg8 harg8 hc0 x0 x1 x2 x3
      = k0_pay1 x0 x1 x2 := by
  unfold sout0_A_0
  rw [View.read_writes_junk_eq_canon]
  unfold kernelRun0_A
  dsimp only
  sl_unfold_words
  rw [View.canon_cons_unit_zero (S := S864x2048) hz]
  simp only [View.readAt_eq_ld, harg2.read_unread, harg3.read_unread, harg4.read_unread,
    View.ld_unit_zero (S := S864x2048) hz, View.ld_unit_zero (S := S1x2048) hz]

theorem out_B (hc0 : ¬cond0_0 i) :
    out0_B_4 c i arg2 harg2 arg3 harg3 arg4 harg4 arg5 harg5 arg6 harg6 arg7 harg7 arg8 harg8 hc0 x0 x1 x2 x3 xs0
      = k0_pay2 xs0 x3 := by
  unfold out0_B_4
  rw [View.read_writes_junk_eq_canon]
  unfold kernelRun0_B
  dsimp only
  sl_unfold_words
  rw [View.canon_cons_unit_zero (S := S864x1152) hz]
  simp only [View.readAt_eq_ld, harg5.read_unread, harg8.read_unread,
    View.ld_unit_zero (S := S864x2048) hz, View.ld_unit_zero (S := S2048x1152) hz]

end Cases

variable (m : (ℓ : Loc nD τ sig) → Buf (Elt Idealize.ShloMosaic.Ideal) ℓ) (c : Dev nD)

theorem pay1_apply (x : Vec Ideal S864x2048 .f32) (g b : Vec Ideal S1x2048 .f32) (r : Fin 864) (j : Fin 2048) :
    k0_pay1 (F := Ideal) x g b (ix2 r j) = lnRow (fun k => x (ix2 r k)) (g (ix2 0 j)) (b (ix2 0 j)) j := by
  pointwise [k0_pay1, lnRow, lnMean]

theorem pay2_apply (s : Vec Ideal S864x2048 .bf16) (w : Vec Ideal S2048x1152 .bf16) (r : Fin 864) (j : Fin 1152) :
    k0_pay2 (F := Ideal) s w (ix2 r j) = ∑ k : Fin 2048, s (ix2 r k) * w (ix2 k j) := by
  pointwise [k0_pay2]

/-! A grid point's row tile and column tile. -/

def row (t : Fin cfg0.N) (r : Fin 864) : Fin 8640 :=
  ⟨t.val / 6 * 864 + r.val, by have := t.isLt; have hN : cfg0.N = 60 := N_0; omega⟩

def col (t : Fin cfg0.N) (k : Fin 1152) : Fin 6912 := ⟨t.val % 6 * 1152 + k.val, by omega⟩

theorem ixf : ∀ t : Fin cfg0.N, (win0_0.index t 0 = t.val / 6 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = t.val % 6)
    ∧ (win0_4.index t 0 = t.val / 6 ∧ win0_4.index t 1 = t.val % 6) :=
  (by decide +kernel : ∀ t : Fin grid0.N, (win0_0.index t 0 = t.val / 6 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = t.val % 6)
    ∧ (win0_4.index t 0 = t.val / 6 ∧ win0_4.index t 1 = t.val % 6))

theorem blk0 (t : Fin cfg0.N) (r : Fin 864) (k : Fin 2048) :
    iblk m c 0 t (ix2 r k) = V m c main_v8 (ix2 (row t r) k) := by
  show V m c main_v8 (((cfg0.win 0).blk t).view.emb (ix2 r k)) = _
  refine congrArg (V m c main_v8) (funext fun a => Fin.ext ?_)
  have h := (ixf t).1
  match a with
  | ⟨0, _⟩ => show win0_0.index t 0 * 864 + 1 * r.val = t.val / 6 * 864 + r.val; omega
  | ⟨1, _⟩ => show win0_0.index t 1 * 2048 + 1 * k.val = k.val; omega

theorem blk1 (t : Fin cfg0.N) (r : Fin 1) (k : Fin 2048) :
    iblk m c 1 t (ix2 r k) = m ((c : Thread nD τ).loc main_arg3) (ix1 k) := by
  show V m c main_v9 (((cfg0.win 1).blk t).view.emb (ix2 r k)) = _
  refine (congrArg (V m c main_v9) (funext fun a => Fin.ext ?_)).trans (V9 m c k)
  have h := (ixf t).2.1
  match a with
  | ⟨0, _⟩ => show win0_1.index t 0 * 1 + 1 * r.val = 0; omega
  | ⟨1, _⟩ => show win0_1.index t 1 * 2048 + 1 * k.val = k.val; omega

theorem blk2 (t : Fin cfg0.N) (r : Fin 1) (k : Fin 2048) :
    iblk m c 2 t (ix2 r k) = m ((c : Thread nD τ).loc main_arg4) (ix1 k) := by
  show V m c main_v10 (((cfg0.win 2).blk t).view.emb (ix2 r k)) = _
  refine (congrArg (V m c main_v10) (funext fun a => Fin.ext ?_)).trans (V10 m c k)
  have h := (ixf t).2.2.1
  match a with
  | ⟨0, _⟩ => show win0_2.index t 0 * 1 + 1 * r.val = 0; omega
  | ⟨1, _⟩ => show win0_2.index t 1 * 2048 + 1 * k.val = k.val; omega

theorem blk3 (t : Fin cfg0.N) (r : Fin 2048) (k : Fin 1152) :
    iblk m c 3 t (ix2 r k) = V m c main_v24 (ix2 r (col t k)) := by
  show V m c main_v24 (((cfg0.win 3).blk t).view.emb (ix2 r k)) = _
  refine congrArg (V m c main_v24) (funext fun a => Fin.ext ?_)
  have h := (ixf t).2.2.2.1
  match a with
  | ⟨0, _⟩ => show win0_3.index t 0 * 2048 + 1 * r.val = r.val; omega
  | ⟨1, _⟩ => show win0_3.index t 1 * 1152 + 1 * k.val = t.val % 6 * 1152 + k.val; omega

/-- A row of tokens normalised, as the kernel finds it. -/
def nrow (R : Fin 8640) (k : Fin 2048) : EReal :=
  lnRow (fun k => V m c main_v8 (ix2 R k)) (m ((c : Thread nD τ).loc main_arg3) (ix1 k)) (m ((c : Thread nD τ).loc main_arg4) (ix1 k)) k

/-- The kernel's whole output array. -/
def G (i : S8640x6912.Idx) : EReal := ∑ k : Fin 2048, nrow m c (i 0) k * V m c main_v24 (ix2 k (i 1))

/-- A column tile's product, once the carried rows are the normalised ones. -/
theorem tile_apply (t : Fin cfg0.N) (s : Vec Ideal S864x2048 .bf16) (hs : ∀ r k, s (ix2 r k) = nrow m c (row t r) k)
    (r : Fin 864) (j : Fin 1152) : k0_pay2 (F := Ideal) s (iblk m c 3 t) (ix2 r j) = G m c (ix2 (row t r) (col t j)) := by
  rw [pay2_apply]
  refine Finset.sum_congr rfl fun k _ => ?_
  rw [hs, blk3]
  rfl

theorem start_apply (t : Fin cfg0.N) (r : Fin 864) (k : Fin 2048) :
    k0_pay1 (F := Ideal) (iblk m c 0 t) (iblk m c 1 t) (iblk m c 2 t) (ix2 r k) = nrow m c (row t r) k := by
  rw [pay1_apply, blk1, blk2]
  unfold nrow
  refine congrArg (fun v => lnRow v _ _ k) (funext fun l => ?_)
  exact blk0 m c t r l

theorem row_eq {t u : Fin cfg0.N} (h : t.val / 6 = u.val / 6) (r : Fin 864) : row t r = row u r := Fin.ext (by unfold row; dsimp only; rw [h])

/-- After a point, the carried rows are the point's normalised rows and its output block is the formula's. -/
theorem point : ∀ (n : ℕ) (h : n < cfg0.N),
    (∀ (r : Fin 864) (k : Fin 2048), (outsAt0 m c n h).2.2 (ix2 r k) = nrow m c (row ⟨n, h⟩ r) k)
    ∧ ∀ (r : Fin 864) (j : Fin 1152), (outsAt0 m c n h).1 (ix2 r j) = G m c (ix2 (row ⟨n, h⟩ r) (col ⟨n, h⟩ j))
  | n, h => by
    by_cases h0 : n % 6 = 0
    · have e := outsAt0_A m c ⟨n, h⟩ h0
      rw [out_A, sout_A] at e
      have e1 := congrArg Prod.fst e
      have e2 := congrArg (fun z => z.2.2) e
      dsimp only at e1 e2
      exact ⟨fun r k => (congrFun e2 _).trans (start_apply m c ⟨n, h⟩ r k),
        fun r j => (congrFun e1 _).trans (tile_apply m c ⟨n, h⟩ _ (fun r k => start_apply m c ⟨n, h⟩ r k) r j)⟩
    · have e := outsAt0_B m c ⟨n, h⟩ h0
      rw [out_B] at e
      have e1 := congrArg Prod.fst e
      have e2 := congrArg (fun z => z.2.2) e
      dsimp only [sout0_B_0] at e1 e2
      obtain ⟨i2, -⟩ := point (n - 1) (Nat.lt_of_le_of_lt (Nat.sub_le _ _) h)
      have hs : ∀ (r : Fin 864) (k : Fin 2048), (outsAt0 m c (n - 1) (Nat.lt_of_le_of_lt (Nat.sub_le _ _) h)).2.2 (ix2 r k)
          = nrow m c (row ⟨n, h⟩ r) k := fun r k => by
        rw [i2, row_eq (u := ⟨n, h⟩) (by dsimp only; omega)]
      exact ⟨fun r k => (congrFun e2 _).trans (hs r k), fun r j => (congrFun e1 _).trans (tile_apply m c ⟨n, h⟩ _ hs r j)⟩
  termination_by n => n
  decreasing_by omega

theorem mem_blk4 (t : Fin cfg0.N) (i : S8640x6912.Idx) :
    i ∈ ((cfg0.win 4).blk t).view.set ↔ ∀ a : Fin 2, win0_4.index t a * S864x1152.size a ≤ (i a).val ∧ (i a).val < win0_4.index t a * S864x1152.size a + S864x1152.size a := by
  show i ∈ ((View.whole main_v25_0).slice (win0_4.rect t)).set ↔ _
  rw [View.set_slice_whole, Rect.mem_set_unit]
  exact Iff.rfl

/-- The output array after the run is the formula. -/
theorem final : (dats m 0 c).arrAt 4 cfg0.N = G m c := by
  refine (dats m 0 c).arrAt_eq_of_cover 4 (G m c) (fun t _ => ?_) (fun i => ?_)
  · show (cfg0.win 4).cut (grid0.coords t) ((dats m 0 c).after 4 t) = _
    rw [after0_4]
    funext y
    obtain ⟨-, hp⟩ := point m c t.val t.isLt
    show (outsAt0 m c t.val t.isLt).1 y = G m c (((cfg0.win 4).blk t).view.emb y)
    refine (congrArg (outsAt0 m c t.val t.isLt).1 (eq_ix2 (n0 := 864) (n1 := 1152) y)).trans ((hp (y 0) (y 1)).trans ?_)
    refine congrArg (G m c) (funext fun a => Fin.ext ?_)
    have h := (ixf t).2.2.2.2
    match a with
    | ⟨0, _⟩ => show t.val / 6 * 864 + (y 0).val = win0_4.index t 0 * 864 + 1 * (y 0).val; omega
    | ⟨1, _⟩ => show t.val % 6 * 1152 + (y 1).val = win0_4.index t 1 * 1152 + 1 * (y 1).val; omega
  · have h0 : (i 0).val < 8640 := (i 0).isLt
    have h1 : (i 1).val < 6912 := (i 1).isLt
    have hN : cfg0.N = 60 := N_0
    have hlt : (i 0).val / 864 * 6 + (i 1).val / 1152 < cfg0.N := by omega
    refine ⟨⟨(i 0).val / 864 * 6 + (i 1).val / 1152, hlt⟩, flush0_4 _, ?_⟩
    rw [mem_blk4]
    have h := (ixf ⟨(i 0).val / 864 * 6 + (i 1).val / 1152, hlt⟩).2.2.2.2
    dsimp only at h
    intro a
    match a with
    | ⟨0, _⟩ => show win0_4.index _ (0 : Fin 2) * 864 ≤ (i 0).val ∧ (i 0).val < win0_4.index _ (0 : Fin 2) * 864 + 864; omega
    | ⟨1, _⟩ => show win0_4.index _ (1 : Fin 2) * 1152 ≤ (i 1).val ∧ (i 1).val < win0_4.index _ (1 : Fin 2) * 1152 + 1152; omega

end Kernel

end Cert.Proof.Inproj

end
-- ==== Proof.InprojTail.lean ====
module

public import proofs.«01_k».proof.Proof.Gen.InprojKernelIdeal.Frame
public import Idealize.ShloMosaic.Lib.Pointwise

/-! The arrays the input projection hands on, each read off the one output array of its kernel: the cuts and reshapes
    after the kernel, element by element. -/

@[expose] public section

set_option maxRecDepth 16384

noncomputable section

open Idealize.ShloMosaic Idealize.ShloMosaic.TcCoe Idealize.SL.Sem

namespace Cert.Proof.Inproj

open Cert.InprojKernelIdeal Cert.InprojKernelIdeal.Gen

variable (W : Valuation τ sig (Elt Idealize.ShloMosaic.Ideal))

theorem tail31 (b : Fin 2) (t : Fin 4112) (h : Fin 4) (d : Fin 128) : StableHlo.after hostOps1 W (Proc.devRef .tc main_v31) (ix5 0 b t h d)
    = W (Proc.devRef .tc main_v25_0) (ix2 ⟨b.val * 4224 + (112 + t.val), by omega⟩ ⟨5120 + (h.val * 128 + d.val), by omega⟩) := by
  after_results_simp
  pointwise []

theorem tail33 (b : Fin 2) (t : Fin 4112) (h : Fin 4) (d : Fin 128) : StableHlo.after hostOps1 W (Proc.devRef .tc main_v33) (ix5 0 b t h d)
    = W (Proc.devRef .tc main_v25_0) (ix2 ⟨b.val * 4224 + (112 + t.val), by omega⟩ ⟨5632 + (h.val * 128 + d.val), by omega⟩) := by
  after_results_simp
  pointwise []

theorem tail35 (b : Fin 2) (t : Fin 4112) (d : Fin 64) : StableHlo.after hostOps1 W (Proc.devRef .tc main_v35) (ix4 0 b t d)
    = W (Proc.devRef .tc main_v25_0) (ix2 ⟨b.val * 4224 + (112 + t.val), by omega⟩ ⟨6656 + d.val, by omega⟩) := by
  after_results_simp
  pointwise []

theorem tail42 (b : Fin 2) (t : Fin 4112) (d : Fin 1024) : StableHlo.after hostOps1 W (Proc.devRef .tc main_v42) (ix3 b t d)
    = W (Proc.devRef .tc main_v25_0) (ix2 ⟨b.val * 4224 + (112 + t.val), by omega⟩ ⟨0 + d.val, by omega⟩) := by
  after_results_simp
  pointwise []

theorem tail43 (b : Fin 2) (t : Fin 4112) (d : Fin 4096) : StableHlo.after hostOps1 W (Proc.devRef .tc main_v43) (ix3 b t d)
    = W (Proc.devRef .tc main_v25_0) (ix2 ⟨b.val * 4224 + (112 + t.val), by omega⟩ ⟨1024 + d.val, by omega⟩) := by
  after_results_simp
  pointwise []

theorem tail44 (b : Fin 2) (t : Fin 4112) (d : Fin 512) : StableHlo.after hostOps1 W (Proc.devRef .tc main_v44) (ix3 b t d)
    = W (Proc.devRef .tc main_v25_0) (ix2 ⟨b.val * 4224 + (112 + t.val), by omega⟩ ⟨6144 + d.val, by omega⟩) := by
  after_results_simp
  pointwise []

theorem tail45 (b : Fin 2) (t : Fin 4112) (d : Fin 8) : StableHlo.after hostOps1 W (Proc.devRef .tc main_v45) (ix3 b t d)
    = W (Proc.devRef .tc main_v25_0) (ix2 ⟨b.val * 4224 + (112 + t.val), by omega⟩ ⟨6784 + d.val, by omega⟩) := by
  after_results_simp
  pointwise []

theorem tail37 (b : Fin 32) (h : Fin 4) (d : Fin 128) : StableHlo.after hostOps1 W (Proc.devRef .tc main_v37) (ix5 0 b 0 h d)
    = W (Proc.devRef .tc main_v25_0) (ix2 ⟨8448 + b.val, by omega⟩ ⟨5120 + (h.val * 128 + d.val), by omega⟩) := by
  after_results_simp
  pointwise []

theorem tail39 (b : Fin 32) (h : Fin 4) (d : Fin 128) : StableHlo.after hostOps1 W (Proc.devRef .tc main_v39) (ix5 0 b 0 h d)
    = W (Proc.devRef .tc main_v25_0) (ix2 ⟨8448 + b.val, by omega⟩ ⟨5632 + (h.val * 128 + d.val), by omega⟩) := by
  after_results_simp
  pointwise []

theorem tail41 (b : Fin 32) (d : Fin 64) : StableHlo.after hostOps1 W (Proc.devRef .tc main_v41) (ix4 0 b 0 d)
    = W (Proc.devRef .tc main_v25_0) (ix2 ⟨8448 + b.val, by omega⟩ ⟨6656 + d.val, by omega⟩) := by
  after_results_simp
  pointwise []

theorem tail46 (b : Fin 32) (d : Fin 1024) : StableHlo.after hostOps1 W (Proc.devRef .tc main_v46) (ix2 b d)
    = W (Proc.devRef .tc main_v25_0) (ix2 ⟨8448 + b.val, by omega⟩ ⟨0 + d.val, by omega⟩) := by
  after_results_simp
  pointwise []

theorem tail47 (b : Fin 32) (d : Fin 4096) : StableHlo.after hostOps1 W (Proc.devRef .tc main_v47) (ix2 b d)
    = W (Proc.devRef .tc main_v25_0) (ix2 ⟨8448 + b.val, by omega⟩ ⟨1024 + d.val, by omega⟩) := by
  after_results_simp
  pointwise []

end Cert.Proof.Inproj

end
-- ==== Proof.InprojRef.lean ====
module

public import proofs.«01_k».proof.Proof.Norm
public import proofs.«01_k».proof.Proof.Gen.InprojReferenceIdeal.Run
public import proofs.«01_k».proof.Proof.Gen.InprojReferenceIdeal.Read
public import Idealize.ShloMosaic.Lib.Pointwise

/-! The input projection's reference, element by element: a token row normalised and multiplied by a column of the weights. -/

@[expose] public section

set_option maxRecDepth 16384

noncomputable section

open Idealize.ShloMosaic Idealize.ShloMosaic.TcCoe Idealize.SL.Sem

namespace Cert.Proof.Inproj

open Cert.Proof.Layer

/-- The token row of sequence `b` at position `t`: a memory token, then the prompt. -/
def promptRow (x0 : (⟨3, ![2, 4096, 2048]⟩ : Shape).Idx → EReal) (x2 : (⟨2, ![16, 2048]⟩ : Shape).Idx → EReal)
    (b : Fin 2) (t : Fin 4112) (k : Fin 2048) : EReal :=
  if h : t.val < 16 then x2 (ix2 ⟨t.val, h⟩ k) else x0 (ix3 b ⟨t.val - 16, by omega⟩ k)

/-- Column `j` of a token row's projection. -/
def proj (x : Fin 2048 → EReal) (g b : (⟨1, ![2048]⟩ : Shape).Idx → EReal) (w : (⟨3, ![1, 2048, 6728]⟩ : Shape).Idx → EReal)
    (j : Fin 6728) : EReal :=
  ∑ k : Fin 2048, lnRow x (g (ix1 k)) (b (ix1 k)) k * w (ix3 0 k j)

open Cert.InprojReferenceIdeal Cert.InprojReferenceIdeal.Read

variable (x0 : Vec Ideal S2x4096x2048 .f32) (x1 : Vec Ideal S32x1x2048 .f32) (x2 : Vec Ideal S16x2048 .f32)
  (x3 x4 : Vec Ideal S2048 .f32) (x5 : Vec Ideal S1x2048x6728 .f32)

theorem ref_rows (b : Fin 2) (t : Fin 4112) (k : Fin 2048) : val_main_v2 (F := Ideal) x0 x2 (ix3 b t k) = promptRow x0 x2 b t k := by
  unfold promptRow
  pointwise [val_main_v2, val_main_v1, val_main_v0]

theorem ref_norm (b : Fin 2) (t : Fin 4112) (j : Fin 2048) : val_main_v26 (F := Ideal) x0 x2 x3 x4 (ix3 b t j)
    = lnRow (fun k => promptRow x0 x2 b t k) (x3 (ix1 j)) (x4 (ix1 j)) j := by
  simp only [← ref_rows]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, lnRow, lnMean]

theorem ref_prompt (b : Fin 2) (t : Fin 4112) (j : Fin 6728) : val_main_v28 (F := Ideal) x0 x2 x3 x4 x5 (ix3 b t j)
    = proj (promptRow x0 x2 b t) x3 x4 x5 j := by
  unfold proj
  have h : ∀ k, lnRow (promptRow x0 x2 b t) (x3 (ix1 k)) (x4 (ix1 k)) k = val_main_v26 (F := Ideal) x0 x2 x3 x4 (ix3 b t k) :=
    fun k => (ref_norm x0 x2 x3 x4 b t k).symm
  simp only [h]
  pointwise [val_main_v28, val_main_v27]

theorem ref_norm_s (d : Fin 32) (j : Fin 2048) : val_main_v57 (F := Ideal) x1 x3 x4 (ix3 d 0 j)
    = lnRow (fun k => x1 (ix3 d 0 k)) (x3 (ix1 j)) (x4 (ix1 j)) j := by
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_4, val_main_cst_5, val_main_cst_6, val_main_cst_7, val_main_cst_8, lnRow, lnMean]

theorem ref_sample (d : Fin 32) (j : Fin 6728) : val_main_v59 (F := Ideal) x1 x3 x4 x5 (ix3 d 0 j)
    = proj (fun k => x1 (ix3 d 0 k)) x3 x4 x5 j := by
  unfold proj
  simp only [← ref_norm_s]
  pointwise [val_main_v59, val_main_v58]

theorem ref65 (b : Fin 2) (t : Fin 4112) (h : Fin 4) (d : Fin 128) : val_main_v65 (F := Ideal) x0 x2 x3 x4 x5 (ix5 0 b t h d)
    = val_main_v28 (F := Ideal) x0 x2 x3 x4 x5 (ix3 b t ⟨1024 + (h.val * 128 + d.val), by omega⟩) := by
  pointwise [val_main_v65, val_main_v30, val_main_v29]

theorem ref66 (b : Fin 2) (t : Fin 4112) (h : Fin 4) (d : Fin 128) : val_main_v66 (F := Ideal) x0 x2 x3 x4 x5 (ix5 0 b t h d)
    = val_main_v28 (F := Ideal) x0 x2 x3 x4 x5 (ix3 b t ⟨1536 + (h.val * 128 + d.val), by omega⟩) := by
  pointwise [val_main_v66, val_main_v32, val_main_v31]

theorem ref67 (b : Fin 2) (t : Fin 4112) (d : Fin 64) : val_main_v67 (F := Ideal) x0 x2 x3 x4 x5 (ix4 0 b t d)
    = val_main_v28 (F := Ideal) x0 x2 x3 x4 x5 (ix3 b t ⟨2568 + d.val, by omega⟩) := by
  pointwise [val_main_v67, val_main_v33]

theorem ref71 (b : Fin 2) (t : Fin 4112) (d : Fin 1024) : val_main_v71 (F := Ideal) x0 x2 x3 x4 x5 (ix3 b t d)
    = val_main_v28 (F := Ideal) x0 x2 x3 x4 x5 (ix3 b t ⟨0 + d.val, by omega⟩) := by
  pointwise [val_main_v71]

theorem ref72 (b : Fin 2) (t : Fin 4112) (d : Fin 4096) : val_main_v72 (F := Ideal) x0 x2 x3 x4 x5 (ix3 b t d)
    = val_main_v28 (F := Ideal) x0 x2 x3 x4 x5 (ix3 b t ⟨2632 + d.val, by omega⟩) := by
  pointwise [val_main_v72]

theorem ref73 (b : Fin 2) (t : Fin 4112) (d : Fin 512) : val_main_v73 (F := Ideal) x0 x2 x3 x4 x5 (ix3 b t d)
    = val_main_v28 (F := Ideal) x0 x2 x3 x4 x5 (ix3 b t ⟨2048 + d.val, by omega⟩) := by
  pointwise [val_main_v73]

theorem ref74 (b : Fin 2) (t : Fin 4112) (d : Fin 8) : val_main_v74 (F := Ideal) x0 x2 x3 x4 x5 (ix3 b t d)
    = val_main_v28 (F := Ideal) x0 x2 x3 x4 x5 (ix3 b t ⟨2560 + d.val, by omega⟩) := by
  pointwise [val_main_v74]

theorem ref68 (b : Fin 32) (h : Fin 4) (d : Fin 128) : val_main_v68 (F := Ideal) x1 x3 x4 x5 (ix5 0 b 0 h d)
    = val_main_v59 (F := Ideal) x1 x3 x4 x5 (ix3 b 0 ⟨1024 + (h.val * 128 + d.val), by omega⟩) := by
  pointwise [val_main_v68, val_main_v61, val_main_v60]

theorem ref69 (b : Fin 32) (h : Fin 4) (d : Fin 128) : val_main_v69 (F := Ideal) x1 x3 x4 x5 (ix5 0 b 0 h d)
    = val_main_v59 (F := Ideal) x1 x3 x4 x5 (ix3 b 0 ⟨1536 + (h.val * 128 + d.val), by omega⟩) := by
  pointwise [val_main_v69, val_main_v63, val_main_v62]

theorem ref70 (b : Fin 32) (d : Fin 64) : val_main_v70 (F := Ideal) x1 x3 x4 x5 (ix4 0 b 0 d)
    = val_main_v59 (F := Ideal) x1 x3 x4 x5 (ix3 b 0 ⟨2568 + d.val, by omega⟩) := by
  pointwise [val_main_v70, val_main_v64]

theorem ref76 (b : Fin 32) (d : Fin 1024) : val_main_v76 (F := Ideal) x1 x3 x4 x5 (ix2 b d)
    = val_main_v59 (F := Ideal) x1 x3 x4 x5 (ix3 b 0 ⟨0 + d.val, by omega⟩) := by
  pointwise [val_main_v76, val_main_v75]

theorem ref78 (b : Fin 32) (d : Fin 4096) : val_main_v78 (F := Ideal) x1 x3 x4 x5 (ix2 b d)
    = val_main_v59 (F := Ideal) x1 x3 x4 x5 (ix3 b 0 ⟨2632 + d.val, by omega⟩) := by
  pointwise [val_main_v78, val_main_v77]

end Cert.Proof.Inproj

end
-- ==== Proof.InprojAlg.lean ====
module

public import proofs.«01_k».proof.Defs
public import proofs.«01_k».proof.Proof.InprojValue
public import proofs.«01_k».proof.Proof.InprojTail
public import proofs.«01_k».proof.Proof.InprojRef

/-! The input projection's two programs leave the same twelve arrays. -/

@[expose] public section

set_option maxRecDepth 16384

noncomputable section

open Idealize.ShloMosaic Idealize.ShloMosaic.TcCoe Idealize.SL.Sem

namespace Cert.Proof.Inproj

open Cert.Proof.Layer Cert.InprojKernelIdeal Cert.InprojKernelIdeal.Gen Cert.InprojReferenceIdeal.Read

variable (m : (ℓ : Loc nD τ sig) → Buf (Elt Idealize.ShloMosaic.Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The kernel's weights in column `n` are the given ones in column `j`. -/
def Col (n : Fin 6912) (j : Fin 6728) : Prop := ∀ k : Fin 2048, V m c main_v24 (ix2 k n) = a5 m c (ix3 0 k j)

theorem V8p (b : Fin 2) (t : Fin 4112) (k : Fin 2048) :
    V m c main_v8 (ix2 ⟨b.val * 4224 + (112 + t.val), by omega⟩ k) = promptRow (a0 m c) (a2 m c) b t k := by
  unfold promptRow
  by_cases h : t.val < 16
  · rw [dif_pos h]; exact V8m m c b t h k
  · rw [dif_neg h]; exact V8x m c b t h k

theorem G_prompt (b : Fin 2) (t : Fin 4112) (n : Fin 6912) (j : Fin 6728) (h : Col m c n j) :
    G m c (ix2 ⟨b.val * 4224 + (112 + t.val), by omega⟩ n) = val_main_v28 (F := Ideal) (a0 m c) (a2 m c) (a3 m c) (a4 m c) (a5 m c) (ix3 b t j) := by
  refine Eq.trans ?_ (ref_prompt (a0 m c) (a2 m c) (a3 m c) (a4 m c) (a5 m c) b t j).symm
  refine Finset.sum_congr rfl fun k _ => ?_
  refine congrArg₂ (· * ·) ?_ (h k)
  exact congrArg (fun v => lnRow v _ _ k) (funext fun l => V8p m c b t l)

theorem G_sample (d : Fin 32) (n : Fin 6912) (j : Fin 6728) (h : Col m c n j) :
    G m c (ix2 ⟨8448 + d.val, by omega⟩ n) = val_main_v59 (F := Ideal) (a1 m c) (a3 m c) (a4 m c) (a5 m c) (ix3 d 0 j) := by
  refine Eq.trans ?_ (ref_sample (a1 m c) (a3 m c) (a4 m c) (a5 m c) d j).symm
  refine Finset.sum_congr rfl fun k _ => ?_
  refine congrArg₂ (· * ·) ?_ (h k)
  exact congrArg (fun v => lnRow v _ _ k) (funext fun l => V8s m c d l)

theorem V24h (k : Fin 2048) (j : Fin 4096) :
    V m c main_v24 (ix2 k ⟨1024 + j.val, by omega⟩) = m ((c : Thread nD τ).loc main_arg5) (ix3 0 k ⟨2632 + j.val, by omega⟩) := by
  have e : ∀ (n n' : Fin 6912) (q q' : Fin 6728), n = n' → q = q' →
      V m c main_v24 (ix2 k n') = m ((c : Thread nD τ).loc main_arg5) (ix3 0 k q') →
      V m c main_v24 (ix2 k n) = m ((c : Thread nD τ).loc main_arg5) (ix3 0 k q) := by
    intro n n' q q' h1 h2 h; rw [h1, h2]; exact h
  rcases (by omega : j.val < 1024 ∨ (1024 ≤ j.val ∧ j.val < 2048) ∨ (2048 ≤ j.val ∧ j.val < 3072) ∨ 3072 ≤ j.val) with h | h | h | h
  · exact V24hq m c k ⟨j.val, h⟩
  · exact e _ _ _ _ (Fin.ext (by dsimp only; omega)) (Fin.ext (by dsimp only; omega)) (V24hf m c k ⟨j.val - 1024, by omega⟩)
  · exact e _ _ _ _ (Fin.ext (by dsimp only; omega)) (Fin.ext (by dsimp only; omega)) (V24hi m c k ⟨j.val - 2048, by omega⟩)
  · exact e _ _ _ _ (Fin.ext (by dsimp only; omega)) (Fin.ext (by dsimp only; omega)) (V24hg m c k ⟨j.val - 3072, by omega⟩)

/-- What the lines after the kernel leave. -/
def left (b : Ref sig .tc) : Buf (Elt Idealize.ShloMosaic.Ideal) ((c : Thread nD τ).loc b) :=
  Pipeline.afterTail₀ cfgs (dats m) 0 (V0 m) [hostOps1] c b

theorem arr_inj : Function.Injective (Pipeline.arrRef spec0) := by decide

/-- Everything the lines after the kernel read. -/
def entry : Valuation τ sig (Elt Idealize.ShloMosaic.Ideal) :=
  Pipeline.withArrays spec0 c (V0 m c) fun w => (dats m 0 c).arrAt w cfg0.N

theorem entry_out : entry m c (Proc.devRef .tc main_v25_0) = G m c :=
  (Pipeline.withArrays_arr spec0 arr_inj c (V0 m c) (fun w => (dats m 0 c).arrAt w cfg0.N) 4).trans (final m c)

theorem left_eq (b : Ref sig .tc) : left m c b = StableHlo.after hostOps1 (entry m c) (Proc.devRef .tc b) := by
  unfold left entry Pipeline.afterTail₀
  simp only [List.flatten_cons, List.flatten_nil, List.append_nil]

theorem res31 : left m c main_v31 = val_main_v65 (F := Ideal) (a0 m c) (a2 m c) (a3 m c) (a4 m c) (a5 m c) := by
  funext i
  have z0 : i 0 = (0 : Fin 1) := Subsingleton.elim (α := Fin 1) _ _
  rw [eq_ix5 i, z0]
  rw [left_eq]
  refine (tail31 (entry m c) (i 1) (i 2) (i 3) (i 4)).trans (Eq.trans ?_ (ref65 (a0 m c) (a2 m c) (a3 m c) (a4 m c) (a5 m c) (i 1) (i 2) (i 3) (i 4)).symm)
  rw [entry_out]
  exact G_prompt m c (i 1) (i 2) _ _ (fun k => V24k m c k ⟨(i 3).val * 128 + (i 4).val, by have h3 : (i 3).val < 4 := (i 3).isLt; have h4 : (i 4).val < 128 := (i 4).isLt; omega⟩)

theorem res33 : left m c main_v33 = val_main_v66 (F := Ideal) (a0 m c) (a2 m c) (a3 m c) (a4 m c) (a5 m c) := by
  funext i
  have z0 : i 0 = (0 : Fin 1) := Subsingleton.elim (α := Fin 1) _ _
  rw [eq_ix5 i, z0]
  rw [left_eq]
  refine (tail33 (entry m c) (i 1) (i 2) (i 3) (i 4)).trans (Eq.trans ?_ (ref66 (a0 m c) (a2 m c) (a3 m c) (a4 m c) (a5 m c) (i 1) (i 2) (i 3) (i 4)).symm)
  rw [entry_out]
  exact G_prompt m c (i 1) (i 2) _ _ (fun k => V24v m c k ⟨(i 3).val * 128 + (i 4).val, by have h3 : (i 3).val < 4 := (i 3).isLt; have h4 : (i 4).val < 128 := (i 4).isLt; omega⟩)

theorem res35 : left m c main_v35 = val_main_v67 (F := Ideal) (a0 m c) (a2 m c) (a3 m c) (a4 m c) (a5 m c) := by
  funext i
  have z0 : i 0 = (0 : Fin 1) := Subsingleton.elim (α := Fin 1) _ _
  rw [eq_ix4 i, z0]
  rw [left_eq]
  refine (tail35 (entry m c) (i 1) (i 2) (i 3)).trans (Eq.trans ?_ (ref67 (a0 m c) (a2 m c) (a3 m c) (a4 m c) (a5 m c) (i 1) (i 2) (i 3)).symm)
  rw [entry_out]
  exact G_prompt m c (i 1) (i 2) _ _ (fun k => V24ki m c k (i 3))

theorem res42 : left m c main_v42 = val_main_v71 (F := Ideal) (a0 m c) (a2 m c) (a3 m c) (a4 m c) (a5 m c) := by
  funext i
  rw [eq_ix3 i]
  rw [left_eq]
  refine (tail42 (entry m c) (i 0) (i 1) (i 2)).trans (Eq.trans ?_ (ref71 (a0 m c) (a2 m c) (a3 m c) (a4 m c) (a5 m c) (i 0) (i 1) (i 2)).symm)
  rw [entry_out]
  exact G_prompt m c (i 0) (i 1) _ _ (fun k => V24q m c k (i 2))

theorem res43 : left m c main_v43 = val_main_v72 (F := Ideal) (a0 m c) (a2 m c) (a3 m c) (a4 m c) (a5 m c) := by
  funext i
  rw [eq_ix3 i]
  rw [left_eq]
  refine (tail43 (entry m c) (i 0) (i 1) (i 2)).trans (Eq.trans ?_ (ref72 (a0 m c) (a2 m c) (a3 m c) (a4 m c) (a5 m c) (i 0) (i 1) (i 2)).symm)
  rw [entry_out]
  exact G_prompt m c (i 0) (i 1) _ _ (fun k => V24h m c k (i 2))

theorem res44 : left m c main_v44 = val_main_v73 (F := Ideal) (a0 m c) (a2 m c) (a3 m c) (a4 m c) (a5 m c) := by
  funext i
  rw [eq_ix3 i]
  rw [left_eq]
  refine (tail44 (entry m c) (i 0) (i 1) (i 2)).trans (Eq.trans ?_ (ref73 (a0 m c) (a2 m c) (a3 m c) (a4 m c) (a5 m c) (i 0) (i 1) (i 2)).symm)
  rw [entry_out]
  exact G_prompt m c (i 0) (i 1) _ _ (fun k => V24qi m c k (i 2))

theorem res45 : left m c main_v45 = val_main_v74 (F := Ideal) (a0 m c) (a2 m c) (a3 m c) (a4 m c) (a5 m c) := by
  funext i
  rw [eq_ix3 i]
  rw [left_eq]
  refine (tail45 (entry m c) (i 0) (i 1) (i 2)).trans (Eq.trans ?_ (ref74 (a0 m c) (a2 m c) (a3 m c) (a4 m c) (a5 m c) (i 0) (i 1) (i 2)).symm)
  rw [entry_out]
  exact G_prompt m c (i 0) (i 1) _ _ (fun k => V24wi m c k (i 2))

theorem res37 : left m c main_v37 = val_main_v68 (F := Ideal) (a1 m c) (a3 m c) (a4 m c) (a5 m c) := by
  funext i
  have z0 : i 0 = (0 : Fin 1) := Subsingleton.elim (α := Fin 1) _ _
  have z2 : i 2 = (0 : Fin 1) := Subsingleton.elim (α := Fin 1) _ _
  rw [eq_ix5 i, z0, z2]
  rw [left_eq]
  refine (tail37 (entry m c) (i 1) (i 3) (i 4)).trans (Eq.trans ?_ (ref68 (a1 m c) (a3 m c) (a4 m c) (a5 m c) (i 1) (i 3) (i 4)).symm)
  rw [entry_out]
  exact G_sample m c (i 1) _ _ (fun k => V24k m c k ⟨(i 3).val * 128 + (i 4).val, by have h3 : (i 3).val < 4 := (i 3).isLt; have h4 : (i 4).val < 128 := (i 4).isLt; omega⟩)

theorem res39 : left m c main_v39 = val_main_v69 (F := Ideal) (a1 m c) (a3 m c) (a4 m c) (a5 m c) := by
  funext i
  have z0 : i 0 = (0 : Fin 1) := Subsingleton.elim (α := Fin 1) _ _
  have z2 : i 2 = (0 : Fin 1) := Subsingleton.elim (α := Fin 1) _ _
  rw [eq_ix5 i, z0, z2]
  rw [left_eq]
  refine (tail39 (entry m c) (i 1) (i 3) (i 4)).trans (Eq.trans ?_ (ref69 (a1 m c) (a3 m c) (a4 m c) (a5 m c) (i 1) (i 3) (i 4)).symm)
  rw [entry_out]
  exact G_sample m c (i 1) _ _ (fun k => V24v m c k ⟨(i 3).val * 128 + (i 4).val, by have h3 : (i 3).val < 4 := (i 3).isLt; have h4 : (i 4).val < 128 := (i 4).isLt; omega⟩)

theorem res41 : left m c main_v41 = val_main_v70 (F := Ideal) (a1 m c) (a3 m c) (a4 m c) (a5 m c) := by
  funext i
  have z0 : i 0 = (0 : Fin 1) := Subsingleton.elim (α := Fin 1) _ _
  have z2 : i 2 = (0 : Fin 1) := Subsingleton.elim (α := Fin 1) _ _
  rw [eq_ix4 i, z0, z2]
  rw [left_eq]
  refine (tail41 (entry m c) (i 1) (i 3)).trans (Eq.trans ?_ (ref70 (a1 m c) (a3 m c) (a4 m c) (a5 m c) (i 1) (i 3)).symm)
  rw [entry_out]
  exact G_sample m c (i 1) _ _ (fun k => V24ki m c k (i 3))

theorem res46 : left m c main_v46 = val_main_v76 (F := Ideal) (a1 m c) (a3 m c) (a4 m c) (a5 m c) := by
  funext i
  rw [eq_ix2 i]
  rw [left_eq]
  refine (tail46 (entry m c) (i 0) (i 1)).trans (Eq.trans ?_ (ref76 (a1 m c) (a3 m c) (a4 m c) (a5 m c) (i 0) (i 1)).symm)
  rw [entry_out]
  exact G_sample m c (i 0) _ _ (fun k => V24q m c k (i 1))

theorem res47 : left m c main_v47 = val_main_v78 (F := Ideal) (a1 m c) (a3 m c) (a4 m c) (a5 m c) := by
  funext i
  rw [eq_ix2 i]
  rw [left_eq]
  refine (tail47 (entry m c) (i 0) (i 1)).trans (Eq.trans ?_ (ref78 (a1 m c) (a3 m c) (a4 m c) (a5 m c) (i 0) (i 1)).symm)
  rw [entry_out]
  exact G_sample m c (i 0) _ _ (fun k => V24h m c k (i 1))

end Cert.Proof.Inproj

namespace Cert.Proof

open Cert.Proof.Inproj

/-- The input projection's kernel leaves what its reference computes. -/
theorem inproj_algebraic : Cert.algebraic_InprojKernelIdeal_InprojReferenceIdeal := by
  intro m ρ m' ρ' _ hagree
  refine ⟨fun c => left m c Cert.InprojKernelIdeal.main_v31, fun c => left m c Cert.InprojKernelIdeal.main_v33, fun c => left m c Cert.InprojKernelIdeal.main_v35, fun c => left m c Cert.InprojKernelIdeal.main_v37, fun c => left m c Cert.InprojKernelIdeal.main_v39, fun c => left m c Cert.InprojKernelIdeal.main_v41, fun c => left m c Cert.InprojKernelIdeal.main_v42, fun c => left m c Cert.InprojKernelIdeal.main_v43, fun c => left m c Cert.InprojKernelIdeal.main_v44, fun c => left m c Cert.InprojKernelIdeal.main_v45, fun c => left m c Cert.InprojKernelIdeal.main_v46, fun c => left m c Cert.InprojKernelIdeal.main_v47, ?_, ?_⟩
  · refine (θ_run Cert.InprojKernelIdeal.defs _ _).mono (fun _ h c => ⟨(h.1 c).2 Cert.InprojKernelIdeal.main_v31 (Pipeline.mem_restRefs_of Cert.InprojKernelIdeal.main_v31 (by decide) (by decide)),
      (h.1 c).2 Cert.InprojKernelIdeal.main_v33 (Pipeline.mem_restRefs_of Cert.InprojKernelIdeal.main_v33 (by decide) (by decide)),
      (h.1 c).2 Cert.InprojKernelIdeal.main_v35 (Pipeline.mem_restRefs_of Cert.InprojKernelIdeal.main_v35 (by decide) (by decide)),
      (h.1 c).2 Cert.InprojKernelIdeal.main_v37 (Pipeline.mem_restRefs_of Cert.InprojKernelIdeal.main_v37 (by decide) (by decide)),
      (h.1 c).2 Cert.InprojKernelIdeal.main_v39 (Pipeline.mem_restRefs_of Cert.InprojKernelIdeal.main_v39 (by decide) (by decide)),
      (h.1 c).2 Cert.InprojKernelIdeal.main_v41 (Pipeline.mem_restRefs_of Cert.InprojKernelIdeal.main_v41 (by decide) (by decide)),
      (h.1 c).2 Cert.InprojKernelIdeal.main_v42 (Pipeline.mem_restRefs_of Cert.InprojKernelIdeal.main_v42 (by decide) (by decide)),
      (h.1 c).2 Cert.InprojKernelIdeal.main_v43 (Pipeline.mem_restRefs_of Cert.InprojKernelIdeal.main_v43 (by decide) (by decide)),
      (h.1 c).2 Cert.InprojKernelIdeal.main_v44 (Pipeline.mem_restRefs_of Cert.InprojKernelIdeal.main_v44 (by decide) (by decide)),
      (h.1 c).2 Cert.InprojKernelIdeal.main_v45 (Pipeline.mem_restRefs_of Cert.InprojKernelIdeal.main_v45 (by decide) (by decide)),
      (h.1 c).2 Cert.InprojKernelIdeal.main_v46 (Pipeline.mem_restRefs_of Cert.InprojKernelIdeal.main_v46 (by decide) (by decide)),
      (h.1 c).2 Cert.InprojKernelIdeal.main_v47 (Pipeline.mem_restRefs_of Cert.InprojKernelIdeal.main_v47 (by decide) (by decide)), h.2 c⟩)
      (θ_run_and (Cert.InprojKernelIdeal.Gen.run_main m ρ) (Cert.InprojKernelIdeal.Gen.unchanged m ρ))
  · refine (θ_run Cert.InprojReferenceIdeal.defs _ _).mono (fun _ h c => ?_)
      (Cert.InprojReferenceIdeal.Value.run (F := Ideal) m' ρ')
    obtain ⟨r65, r66, r67, r68, r69, r70, r71, r72, r73, r74, r76, r78, hargs⟩ := h c
    obtain ⟨h0, h1, h2, h3, h4, h5⟩ := hagree c
    refine ⟨r65.trans ?_, r66.trans ?_, r67.trans ?_, r68.trans ?_, r69.trans ?_, r70.trans ?_, r71.trans ?_, r72.trans ?_, r73.trans ?_, r74.trans ?_, r76.trans ?_, r78.trans ?_, hargs⟩
    · rw [Cert.InprojReferenceIdeal.Read.val_main_v65_eq, h0, h2, h3, h4, h5]; exact (res31 m c).symm
    · rw [Cert.InprojReferenceIdeal.Read.val_main_v66_eq, h0, h2, h3, h4, h5]; exact (res33 m c).symm
    · rw [Cert.InprojReferenceIdeal.Read.val_main_v67_eq, h0, h2, h3, h4, h5]; exact (res35 m c).symm
    · refine (Cert.InprojReferenceIdeal.Read.val_main_v68_eq _ _ _ _).trans ?_
      rw [h1, h3, h4, h5]; exact (res37 m c).symm
    · refine (Cert.InprojReferenceIdeal.Read.val_main_v69_eq _ _ _ _).trans ?_
      rw [h1, h3, h4, h5]; exact (res39 m c).symm
    · refine (Cert.InprojReferenceIdeal.Read.val_main_v70_eq _ _ _ _).trans ?_
      rw [h1, h3, h4, h5]; exact (res41 m c).symm
    · rw [Cert.InprojReferenceIdeal.Read.val_main_v71_eq, h0, h2, h3, h4, h5]; exact (res42 m c).symm
    · rw [Cert.InprojReferenceIdeal.Read.val_main_v72_eq, h0, h2, h3, h4, h5]; exact (res43 m c).symm
    · rw [Cert.InprojReferenceIdeal.Read.val_main_v73_eq, h0, h2, h3, h4, h5]; exact (res44 m c).symm
    · rw [Cert.InprojReferenceIdeal.Read.val_main_v74_eq, h0, h2, h3, h4, h5]; exact (res45 m c).symm
    · refine (Cert.InprojReferenceIdeal.Read.val_main_v76_eq _ _ _ _).trans ?_
      rw [h1, h3, h4, h5]; exact (res46 m c).symm
    · refine (Cert.InprojReferenceIdeal.Read.val_main_v78_eq _ _ _ _).trans ?_
      rw [h1, h3, h4, h5]; exact (res47 m c).symm

end Cert.Proof

end
-- ==== Proof.FfnBody.lean ====
module

public import proofs.«01_k».proof.Proof.Gen.FfnKernelIdeal.Value
public import proofs.«01_k».proof.Proof.Norm

/-! The feed-forward kernel, one grid point at a time: what a point leaves in the running sum and in the output block. -/

@[expose] public section

set_option maxRecDepth 16384

noncomputable section

open Idealize.ShloMosaic Idealize.ShloMosaic.TcCoe Idealize.SL.Sem

namespace Cert.Proof.Ffn

open Cert.Proof.Layer Cert.FfnKernelIdeal Cert.FfnKernelIdeal.Gen

variable {F : FTy → Type} [FloatOps F]

theorem hz : (![0, 0] : Fin 2 → Nat) = fun _ => 0 := funext fun a => by fin_cases a <;> rfl

section Cases

variable (c : Dev nD) (i : grid0.Coords) (arg2 : Memref sig .tc .vmem S864x2048 .f32) (harg2 : arg2.IsWhole)
  (arg3 : Memref sig .tc .vmem S2048x256 .bf16) (harg3 : arg3.IsWhole) (arg4 : Memref sig .tc .vmem S2048x256 .bf16) (harg4 : arg4.IsWhole)
  (arg5 : Memref sig .tc .vmem S256x2048 .bf16) (harg5 : arg5.IsWhole) (arg6 : Memref sig .tc .vmem S1x2048 .f32) (harg6 : arg6.IsWhole)
  (arg7 : Memref sig .tc .vmem S1x2048 .f32) (harg7 : arg7.IsWhole) (arg8 : Memref sig .tc .vmem S864x2048 .f32) (harg8 : arg8.IsWhole)
  (arg9 : Memref sig .tc .vmem S864x2048 .bf16) (harg9 : arg9.IsWhole)
  (x0 : Vec F S864x2048 .f32) (x1 x2 : Vec F S2048x256 .bf16) (x3 : Vec F S256x2048 .bf16) (x4 x5 : Vec F S1x2048 .f32)
  (xo6 : Vec F S864x2048 .f32) (xs0 : Vec F S864x2048 .bf16)

/-- The first point of a row tile leaves one tile's addend over zero. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay1 x0) x1 x2 (k0_pay2 (F := F)) x3 := by
  unfold out0_A_6
  rw [View.read_writes_junk_eq_canon]
  unfold kernelRun0_A
  dsimp only
  sl_unfold_words
  rw [View.canon_cons_unit_zero (S := S864x2048) hz]
  simp only [View.readAt_eq_ld, harg2.read_unread, harg3.read_unread, harg4.read_unread, harg5.read_unread, harg6.read_unread, harg7.read_unread,
    harg8.read_unread, harg9.read_unread, View.ld_unit_zero (S := S864x2048) hz, View.ld_unit_zero (S := S2048x256) hz,
    View.ld_unit_zero (S := S256x2048) hz, View.ld_unit_zero (S := S1x2048) hz, View.readCov_unit_zero (S := S864x2048) _ hz]

theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay1 x0 := by
  unfold sout0_A_0
  rw [View.read_writes_junk_eq_canon]
  unfold kernelRun0_A
  dsimp only
  sl_unfold_words
  rw [View.canon_cons_unit_zero (S := S864x2048) hz]
  simp only [View.readAt_eq_ld, harg2.read_unread, View.ld_unit_zero (S := S864x2048) hz]

theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo6 xs0
      = k0_pay3 xs0 x1 x2 xo6 x3 := by
  unfold out0_B_6
  rw [View.read_writes_junk_eq_canon]
  unfold kernelRun0_B
  dsimp only
  sl_unfold_words
  rw [View.canon_cons_unit_zero (S := S864x2048) hz]
  simp only [View.readAt_eq_ld, harg2.read_unread, harg3.read_unread, harg4.read_unread, harg5.read_unread, harg6.read_unread, harg7.read_unread,
    harg8.read_unread, harg9.read_unread, View.ld_unit_zero (S := S864x2048) hz, View.ld_unit_zero (S := S2048x256) hz,
    View.ld_unit_zero (S := S256x2048) hz, View.ld_unit_zero (S := S1x2048) hz, View.readCov_unit_zero (S := S864x2048) _ hz]

theorem out_C (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo6 xs0
      = k0_pay4 x0 (k0_pay3 xs0 x1 x2 xo6 x3) x4 x5 := by
  unfold out0_C_6
  rw [View.read_writes_junk_eq_canon]
  unfold kernelRun0_C
  dsimp only
  sl_unfold_words
  rw [View.canon_cons_unit_zero (S := S864x2048) hz]
  simp only [View.readAt_eq_ld, harg2.read_unread, harg3.read_unread, harg4.read_unread, harg5.read_unread, harg6.read_unread, harg7.read_unread,
    harg8.read_unread, harg9.read_unread, View.ld_unit_zero (S := S864x2048) hz, View.ld_unit_zero (S := S2048x256) hz,
    View.ld_unit_zero (S := S256x2048) hz, View.ld_unit_zero (S := S1x2048) hz, View.readCov_unit_zero (S := S864x2048) _ hz]

end Cases

end Cert.Proof.Ffn
end
-- ==== Proof.FfnValue.lean ====
module

public import proofs.«01_k».proof.Defs
public import proofs.«01_k».proof.Proof.FfnBody
public import proofs.«01_k».proof.Proof.Gen.FfnReferenceIdeal.Run
public import proofs.«01_k».proof.Proof.Gen.FfnReferenceIdeal.Read

/-! The feed-forward part: what it computes as a formula, and that the kernel, which sums the hidden columns tile by tile,
    and the reference both leave it. -/

@[expose] public section

set_option maxRecDepth 16384

noncomputable section

open Idealize.ShloMosaic Idealize.ShloMosaic.TcCoe Idealize.SL.Sem

namespace Cert.Proof.Ffn

open Cert.Proof.Layer

/-! ## What the block computes, as a formula -/

section Spec

variable (x : (⟨2, ![8640, 2048]⟩ : Shape).Idx → EReal) (wg wu : (⟨3, ![1, 2048, 5632]⟩ : Shape).Idx → EReal)
  (wd : (⟨3, ![1, 5632, 2048]⟩ : Shape).Idx → EReal) (g b : (⟨2, ![1, 2048]⟩ : Shape).Idx → EReal)

/-- The gated activation of row `r` at hidden unit `f`. -/
def act (r : Fin 8640) (f : Fin 5632) : EReal :=
  (∑ k : Fin 2048, x (ix2 r k) * wg (ix3 0 k f)) * Ideal.logistic (∑ k : Fin 2048, x (ix2 r k) * wg (ix3 0 k f))
    * ∑ k : Fin 2048, x (ix2 r k) * wu (ix3 0 k f)

/-- Row `r`, column `j` before the normalisation. -/
def hidden (r : Fin 8640) (j : Fin 2048) : EReal :=
  Ideal.ofBits .f32 0x3F9837F0#32 * x (ix2 r j) + ∑ f : Fin 5632, act x wg wu r f * wd (ix3 0 f j)

/-- The block's output at row `r`, column `j`. -/
def out (r : Fin 8640) (j : Fin 2048) : EReal :=
  lnRow (fun k => hidden x wg wu wd r k) (g (ix2 0 j)) (b (ix2 0 j)) j

/-- The addend of one tile of 256 hidden units. -/
def tile (r : Fin 8640) (j : Fin 2048) (s : Fin 22) : EReal :=
  ∑ k : Fin 256, act x wg wu r ⟨s.val * 256 + k.val, by omega⟩ * wd (ix3 0 ⟨s.val * 256 + k.val, by omega⟩ j)

theorem sum_tiles (f : Fin 5632 → EReal) :
    (∑ s : Fin 22, ∑ k : Fin 256, f ⟨s.val * 256 + k.val, by omega⟩) = ∑ i : Fin 5632, f i := by
  rw [← Fintype.sum_prod_type']
  refine (Fintype.sum_equiv (finProdFinEquiv (m := 22) (n := 256)) _ _ fun p => ?_)
  refine congrArg f (Fin.ext ?_)
  show p.1.val * 256 + p.2.val = p.2.val + 256 * p.1.val
  omega

end Spec

/-! ## The kernel -/

section Kernel

open Cert.FfnKernelIdeal Cert.FfnKernelIdeal.Gen Cert.FfnKernelIdeal.Value

variable (m : (ℓ : Loc nD τ sig) → Buf (Elt Idealize.ShloMosaic.Ideal) ℓ) (c : Dev nD)

theorem pay1_apply (x : Vec Ideal S864x2048 .f32) (r : Fin 864) (j : Fin 2048) : k0_pay1 (F := Ideal) x (ix2 r j) = x (ix2 r j) := by
  pointwise [k0_pay1]

theorem pay2_apply (r : Fin 864) (j : Fin 2048) : k0_pay2 (F := Ideal) (ix2 r j) = 0 := by
  pointwise [k0_pay2]

theorem pay3_apply (s : Vec Ideal S864x2048 .bf16) (x1 x2 : Vec Ideal S2048x256 .bf16) (acc : Vec Ideal S864x2048 .f32)
    (x3 : Vec Ideal S256x2048 .bf16) (r : Fin 864) (j : Fin 2048) :
    k0_pay3 (F := Ideal) s x1 x2 acc x3 (ix2 r j) = acc (ix2 r j)
      + ∑ k : Fin 256, ((∑ l : Fin 2048, s (ix2 r l) * x1 (ix2 l k)) * Ideal.logistic (∑ l : Fin 2048, s (ix2 r l) * x1 (ix2 l k))
          * ∑ l : Fin 2048, s (ix2 r l) * x2 (ix2 l k)) * x3 (ix2 k j) := by
  pointwise [k0_pay3]

theorem pay4_apply (x acc : Vec Ideal S864x2048 .f32) (g b : Vec Ideal S1x2048 .f32) (r : Fin 864) (j : Fin 2048) :
    k0_pay4 (F := Ideal) x acc g b (ix2 r j)
      = lnRow (fun k => Ideal.ofBits .f32 0x3F9837F0#32 * x (ix2 r k) + acc (ix2 r k)) (g (ix2 0 j)) (b (ix2 0 j)) j := by
  pointwise [k0_pay4, lnRow, lnMean]

/-! The arrays the host operations leave for the kernel. -/

theorem V1 (k : Fin 2048) (f : Fin 5632) : V m c main_v1 (ix2 k f) = m ((c : Thread nD τ).loc main_arg1) (ix3 0 k f) := by
  unfold V; after_results_simp; pointwise []

theorem V3 (k : Fin 2048) (f : Fin 5632) : V m c main_v3 (ix2 k f) = m ((c : Thread nD τ).loc main_arg2) (ix3 0 k f) := by
  unfold V; after_results_simp; pointwise []

theorem V5 (f : Fin 5632) (j : Fin 2048) : V m c main_v5 (ix2 f j) = m ((c : Thread nD τ).loc main_arg3) (ix3 0 f j) := by
  unfold V; after_results_simp; pointwise []

theorem V7 (j : Fin 2048) : V m c main_v7 (ix2 0 j) = m ((c : Thread nD τ).loc main_arg4) (ix2 0 j) := by
  unfold V; after_results_simp; pointwise []

theorem V9 (j : Fin 2048) : V m c main_v9 (ix2 0 j) = m ((c : Thread nD τ).loc main_arg5) (ix2 0 j) := by
  unfold V; after_results_simp; pointwise []

/-! A grid point's row tile and its tile of hidden units. -/

def row (t : Fin cfg0.N) (r : Fin 864) : Fin 8640 :=
  ⟨t.val / 22 * 864 + r.val, by have := t.isLt; have hN : cfg0.N = 220 := N_0; omega⟩

def col (t : Fin cfg0.N) (k : Fin 256) : Fin 5632 := ⟨t.val % 22 * 256 + k.val, by omega⟩

theorem ixf : ∀ t : Fin cfg0.N, (win0_0.index t 0 = t.val / 22 ∧ win0_0.index t 1 = 0)
    ∧ (win0_1.index t 0 = 0 ∧ win0_1.index t 1 = t.val % 22)
    ∧ (win0_2.index t 0 = 0 ∧ win0_2.index t 1 = t.val % 22)
    ∧ (win0_3.index t 0 = t.val % 22 ∧ win0_3.index t 1 = 0)
    ∧ (win0_4.index t 0 = 0 ∧ win0_4.index t 1 = 0)
    ∧ (win0_5.index t 0 = 0 ∧ win0_5.index t 1 = 0) :=
  (by decide +kernel : ∀ t : Fin grid0.N, (win0_0.index t 0 = t.val / 22 ∧ win0_0.index t 1 = 0)
    ∧ (win0_1.index t 0 = 0 ∧ win0_1.index t 1 = t.val % 22)
    ∧ (win0_2.index t 0 = 0 ∧ win0_2.index t 1 = t.val % 22)
    ∧ (win0_3.index t 0 = t.val % 22 ∧ win0_3.index t 1 = 0)
    ∧ (win0_4.index t 0 = 0 ∧ win0_4.index t 1 = 0)
    ∧ (win0_5.index t 0 = 0 ∧ win0_5.index t 1 = 0))

theorem blk0 (t : Fin cfg0.N) (r : Fin 864) (k : Fin 2048) :
    iblk m c 0 t (ix2 r k) = m ((c : Thread nD τ).loc main_arg0) (ix2 (row t r) k) := by
  show V m c main_arg0 (((cfg0.win 0).blk t).view.emb (ix2 r k)) = _
  refine (congrArg (V m c main_arg0) (funext fun a => Fin.ext ?_)).trans (congrFun (V_main_arg0 m c) _)
  have h := (ixf t).1
  match a with
  | ⟨0, _⟩ => show win0_0.index t 0 * 864 + 1 * r.val = t.val / 22 * 864 + r.val; omega
  | ⟨1, _⟩ => show win0_0.index t 1 * 2048 + 1 * k.val = k.val; omega

theorem blk1 (t : Fin cfg0.N) (r : Fin 2048) (k : Fin 256) :
    iblk m c 1 t (ix2 r k) = m ((c : Thread nD τ).loc main_arg1) (ix3 0 r (col t k)) := by
  show V m c main_v1 (((cfg0.win 1).blk t).view.emb (ix2 r k)) = _
  refine (congrArg (V m c main_v1) (funext fun a => Fin.ext ?_)).trans (V1 m c r (col t k))
  have h := (ixf t).2.1
  match a with
  | ⟨0, _⟩ => show win0_1.index t 0 * 2048 + 1 * r.val = r.val; omega
  | ⟨1, _⟩ => show win0_1.index t 1 * 256 + 1 * k.val = t.val % 22 * 256 + k.val; omega

theorem blk2 (t : Fin cfg0.N) (r : Fin 2048) (k : Fin 256) :
    iblk m c 2 t (ix2 r k) = m ((c : Thread nD τ).loc main_arg2) (ix3 0 r (col t k)) := by
  show V m c main_v3 (((cfg0.win 2).blk t).view.emb (ix2 r k)) = _
  refine (congrArg (V m c main_v3) (funext fun a => Fin.ext ?_)).trans (V3 m c r (col t k))
  have h := (ixf t).2.2.1
  match a with
  | ⟨0, _⟩ => show win0_2.index t 0 * 2048 + 1 * r.val = r.val; omega
  | ⟨1, _⟩ => show win0_2.index t 1 * 256 + 1 * k.val = t.val % 22 * 256 + k.val; omega

theorem blk3 (t : Fin cfg0.N) (r : Fin 256) (k : Fin 2048) :
    iblk m c 3 t (ix2 r k) = m ((c : Thread nD τ).loc main_arg3) (ix3 0 (col t r) k) := by
  show V m c main_v5 (((cfg0.win 3).blk t).view.emb (ix2 r k)) = _
  refine (congrArg (V m c main_v5) (funext fun a => Fin.ext ?_)).trans (V5 m c (col t r) k)
  have h := (ixf t).2.2.2.1
  match a with
  | ⟨0, _⟩ => show win0_3.index t 0 * 256 + 1 * r.val = t.val % 22 * 256 + r.val; omega
  | ⟨1, _⟩ => show win0_3.index t 1 * 2048 + 1 * k.val = k.val; omega

theorem blk4 (t : Fin cfg0.N) (r : Fin 1) (k : Fin 2048) :
    iblk m c 4 t (ix2 r k) = m ((c : Thread nD τ).loc main_arg4) (ix2 0 k) := by
  show V m c main_v7 (((cfg0.win 4).blk t).view.emb (ix2 r k)) = _
  refine (congrArg (V m c main_v7) (funext fun a => Fin.ext ?_)).trans (V7 m c k)
  have h := (ixf t).2.2.2.2.1
  match a with
  | ⟨0, _⟩ => show win0_4.index t 0 * 1 + 1 * r.val = 0; omega
  | ⟨1, _⟩ => show win0_4.index t 1 * 2048 + 1 * k.val = k.val; omega

theorem blk5 (t : Fin cfg0.N) (r : Fin 1) (k : Fin 2048) :
    iblk m c 5 t (ix2 r k) = m ((c : Thread nD τ).loc main_arg5) (ix2 0 k) := by
  show V m c main_v9 (((cfg0.win 5).blk t).view.emb (ix2 r k)) = _
  refine (congrArg (V m c main_v9) (funext fun a => Fin.ext ?_)).trans (V9 m c k)
  have h := (ixf t).2.2.2.2.2
  match a with
  | ⟨0, _⟩ => show win0_5.index t 0 * 1 + 1 * r.val = 0; omega
  | ⟨1, _⟩ => show win0_5.index t 1 * 2048 + 1 * k.val = k.val; omega

/-- The addend of point `t`'s tile of hidden units to the point's rows. -/
def add (t : Fin cfg0.N) (r : Fin 864) (j : Fin 2048) : EReal :=
  tile (m ((c : Thread nD τ).loc main_arg0)) (m ((c : Thread nD τ).loc main_arg1)) (m ((c : Thread nD τ).loc main_arg2)) (m ((c : Thread nD τ).loc main_arg3)) (row t r) j ⟨t.val % 22, Nat.mod_lt _ (by decide)⟩

/-- A point's body adds its addend to the accumulator when the carried rows are the point's own rows. -/
theorem step_apply (t : Fin cfg0.N) (s : Vec Ideal S864x2048 .bf16) (acc : Vec Ideal S864x2048 .f32)
    (hs : ∀ (r : Fin 864) (k : Fin 2048), s (ix2 r k) = m ((c : Thread nD τ).loc main_arg0) (ix2 (row t r) k)) (r : Fin 864) (j : Fin 2048) :
    k0_pay3 (F := Ideal) s (iblk m c 1 t) (iblk m c 2 t) acc (iblk m c 3 t) (ix2 r j) = acc (ix2 r j) + add m c t r j := by
  rw [pay3_apply]
  simp only [blk1, blk2, blk3, hs]
  rfl

theorem row_eq {t t' : Fin cfg0.N} (h : t.val / 22 = t'.val / 22) (r : Fin 864) : row t r = row t' r :=
  Fin.ext (by show t.val / 22 * 864 + r.val = t'.val / 22 * 864 + r.val; rw [h])

/-- Within a row tile's sweep over the hidden units, before its last point: the carried rows are the tile's rows, and the
    accumulator holds the addends so far. -/
theorem sweep (q : Fin 10) : ∀ (j : ℕ) (hj : j < 21) (h : 22 * q.val + j < cfg0.N),
    (∀ (r : Fin 864) (k : Fin 2048), (outsAt0 m c (22 * q.val + j) h).2 (ix2 r k) = m ((c : Thread nD τ).loc main_arg0) (ix2 (row ⟨22 * q.val + j, h⟩ r) k))
    ∧ ∀ (r : Fin 864) (k : Fin 2048), (outsAt0 m c (22 * q.val + j) h).1 (ix2 r k)
        = ∑ s ∈ Finset.range (j + 1), if hs : s < 22 then
            tile (m ((c : Thread nD τ).loc main_arg0)) (m ((c : Thread nD τ).loc main_arg1)) (m ((c : Thread nD τ).loc main_arg2)) (m ((c : Thread nD τ).loc main_arg3)) (row ⟨22 * q.val + j, h⟩ r) k ⟨s, hs⟩ else 0
  | 0, _, h => by
    have h0 : (⟨22 * q.val + 0, h⟩ : Fin cfg0.N).val % 22 = 0 := by dsimp only; omega
    have h1 : ¬(⟨22 * q.val + 0, h⟩ : Fin cfg0.N).val % 22 = 21 := by dsimp only; omega
    have e := outsAt0_A m c ⟨22 * q.val + 0, h⟩ h0 h1
    rw [out_A, sout_A] at e
    have e1 := congrArg Prod.fst e
    have e2 := congrArg Prod.snd e
    dsimp only at e1 e2
    have hs : ∀ (r : Fin 864) (k : Fin 2048), k0_pay1 (F := Ideal) (iblk m c 0 ⟨22 * q.val + 0, h⟩) (ix2 r k)
        = m ((c : Thread nD τ).loc main_arg0) (ix2 (row ⟨22 * q.val + 0, h⟩ r) k) := fun r k => by rw [pay1_apply, blk0]
    refine ⟨fun r k => ?_, fun r k => ?_⟩
    · rw [e2]; exact hs r k
    · rw [e1, step_apply m c _ _ _ hs, pay2_apply, zero_add, Finset.sum_range_one, dif_pos (by decide)]
      unfold add
      congr 1
      exact Fin.ext h0
  | j + 1, hj, h => by
    obtain ⟨i2, i1⟩ := sweep q j (by omega) (Nat.lt_of_succ_lt h)
    have h0 : ¬(⟨22 * q.val + (j + 1), h⟩ : Fin cfg0.N).val % 22 = 0 := by dsimp only; omega
    have h1 : ¬(⟨22 * q.val + (j + 1), h⟩ : Fin cfg0.N).val % 22 = 21 := by dsimp only; omega
    have e := (outsAt0_succ m c (22 * q.val + j) h).trans
      (stAt0_B m c ⟨22 * q.val + (j + 1), h⟩ (outsAt0 m c (22 * q.val + j) (Nat.lt_of_succ_lt h)) h0 h1)
    rw [out_B] at e
    have e1 := congrArg Prod.fst e
    have e2 := congrArg Prod.snd e
    dsimp only [sout0_B_0] at e1 e2
    have hr : ∀ r, row ⟨22 * q.val + j, Nat.lt_of_succ_lt h⟩ r = row ⟨22 * q.val + (j + 1), h⟩ r :=
      row_eq (by dsimp only; omega)
    have hs : ∀ (r : Fin 864) (k : Fin 2048), (outsAt0 m c (22 * q.val + j) (Nat.lt_of_succ_lt h)).2 (ix2 r k)
        = m ((c : Thread nD τ).loc main_arg0) (ix2 (row ⟨22 * q.val + (j + 1), h⟩ r) k) := fun r k => by rw [i2, hr]
    refine ⟨fun r k => ?_, fun r k => ?_⟩
    · exact (congrFun e2 _).trans (hs r k)
    · refine (congrFun e1 _).trans ?_
      rw [step_apply m c _ _ _ hs, Finset.sum_range_succ, ← hr]
      refine congrArg₂ (· + ·) (i1 r k) ?_
      rw [dif_pos (show j + 1 < 22 by omega)]
      unfold add
      rw [hr]
      congr 1
      exact Fin.ext (by dsimp only; omega)

/-- The output array, as a formula over the arguments. -/
def G (i : S8640x2048.Idx) : EReal :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)

/-- A row tile's last point leaves the formula at the tile's rows. -/
theorem last_apply (q : Fin 10) (h : 22 * q.val + 21 < cfg0.N) (r : Fin 864) (j : Fin 2048) :
    (outsAt0 m c (22 * q.val + 21) h).1 (ix2 r j) = G m c (ix2 (row ⟨22 * q.val + 21, h⟩ r) j) := by
  obtain ⟨i2, i1⟩ := sweep m c q 20 (by omega) (Nat.lt_of_succ_lt h)
  have h0 : ¬(⟨22 * q.val + (20 + 1), h⟩ : Fin cfg0.N).val % 22 = 0 := by dsimp only; omega
  have h1 : (⟨22 * q.val + (20 + 1), h⟩ : Fin cfg0.N).val % 22 = 21 := by dsimp only; omega
  have e := (outsAt0_succ m c (22 * q.val + 20) h).trans
    (stAt0_C m c ⟨22 * q.val + (20 + 1), h⟩ (outsAt0 m c (22 * q.val + 20) (Nat.lt_of_succ_lt h)) h0 h1)
  rw [out_C] at e
  have e1 := congrArg Prod.fst e
  dsimp only at e1
  have hr : ∀ r, row ⟨22 * q.val + 20, Nat.lt_of_succ_lt h⟩ r = row ⟨22 * q.val + (20 + 1), h⟩ r :=
    row_eq (by dsimp only; omega)
  have hs : ∀ (r : Fin 864) (k : Fin 2048), (outsAt0 m c (22 * q.val + 20) (Nat.lt_of_succ_lt h)).2 (ix2 r k)
      = m ((c : Thread nD τ).loc main_arg0) (ix2 (row ⟨22 * q.val + (20 + 1), h⟩ r) k) := fun r k => by rw [i2, hr]
  refine (congrFun e1 _).trans ?_
  rw [pay4_apply, blk4, blk5]
  show _ = out _ _ _ _ _ _ (row ⟨22 * q.val + (20 + 1), h⟩ r) j
  unfold out
  refine congrArg (fun v => lnRow v _ _ j) (funext fun k => ?_)
  rw [step_apply m c _ _ _ hs, blk0]
  unfold hidden
  refine congrArg₂ (· + ·) rfl ?_
  rw [← sum_tiles, Finset.sum_fin_eq_sum_range, Finset.sum_range_succ]
  refine congrArg₂ (· + ·) ?_ ?_
  · refine (i1 r k).trans ?_
    rw [hr]
    rfl
  · rw [dif_pos (by decide)]
    unfold add tile
    have e21 : (⟨(⟨22 * q.val + (20 + 1), h⟩ : Fin cfg0.N).val % 22, Nat.mod_lt _ (by decide)⟩ : Fin 22) = ⟨21, by decide⟩ := Fin.ext h1
    rw [e21]

/-- The output array after the run is the formula. -/
theorem final : G6 m c = G m c := by
  funext i
  have h0 : (i 0).val < 8640 := (i 0).isLt
  have h1 : (i 1).val < 2048 := (i 1).isLt
  have hN : cfg0.N = 220 := N_0
  have hq : (i 0).val / 864 < 10 := by omega
  have hp : pt6Of i = 22 * (⟨(i 0).val / 864, hq⟩ : Fin 10).val + 21 := by
    show 22 * (1 * ((i 0).val / 864 - 0) + 1 * ((i 1).val / 2048 - 0)) + 21 = 22 * ((i 0).val / 864) + 21
    omega
  have hlt : 22 * (⟨(i 0).val / 864, hq⟩ : Fin 10).val + 21 < cfg0.N := by dsimp only; omega
  have hlt' : pt6Of i < cfg0.N := by rw [hp]; exact hlt
  unfold G6
  rw [dif_pos hlt', ← outsAt0_sweep m c (pt6Of i) hlt']
  have same : ∀ (n : ℕ) (hn : n < cfg0.N), n = 22 * (⟨(i 0).val / 864, hq⟩ : Fin 10).val + 21 →
      outsAt0 m c n hn = outsAt0 m c _ hlt := fun n hn e => by subst e; rfl
  rw [same _ hlt' hp, eq_ix2 (loc6Of i)]
  refine (last_apply m c _ hlt _ _).trans (congrArg _ (funext fun a => Fin.ext ?_))
  match a with
  | ⟨0, _⟩ => show (22 * ((i 0).val / 864) + 21) / 22 * 864 + (i 0).val % 864 = (i 0).val; omega
  | ⟨1, _⟩ => show (i 1).val % 2048 = (i 1).val; omega

end Kernel

section Reference

open Cert.FfnReferenceIdeal Cert.FfnReferenceIdeal.Read

theorem lit_one : Ideal.ofBits .f32 0x3F800000#32 = 1 := by
  simp [Ideal.ofBits, Ideal.ieee]
  rw [← EReal.coe_mul, ← EReal.coe_one]
  norm_num

theorem ref_act (x : Vec Ideal S8640x2048 .f32) (wg wu : Vec Ideal S1x2048x5632 .f32) (r : Fin 8640) (f : Fin 5632) :
    val_main_v5 (F := Ideal) x wg wu (ix2 r f) = act x wg wu r f := by
  pointwise [val_main_v5, val_main_v4, val_main_v3, val_main_v2, val_main_v1, val_main_v0, val_main_call0_v0, val_main_call0_v1,
    val_main_call0_v2, val_main_call0_v3, val_main_call0_v4, val_main_call0_v5, val_main_call0_cst, val_main_call0_cst_0, act, Ideal.logistic, lit_one]

theorem ref_hidden (x : Vec Ideal S8640x2048 .f32) (wg wu : Vec Ideal S1x2048x5632 .f32) (wd : Vec Ideal S1x5632x2048 .f32)
    (r : Fin 8640) (j : Fin 2048) : val_main_v10 (F := Ideal) x wg wu wd (ix2 r j) = hidden x wg wu wd r j := by
  simp only [hidden, ← ref_act]
  pointwise [val_main_v10, val_main_v9, val_main_v8, val_main_cst, val_main_v7, val_main_v6]

theorem ref_out (x : Vec Ideal S8640x2048 .f32) (wg wu : Vec Ideal S1x2048x5632 .f32) (wd : Vec Ideal S1x5632x2048 .f32)
    (g b : Vec Ideal S1x2048 .f32) (r : Fin 8640) (j : Fin 2048) :
    val_main_v36 (F := Ideal) x wg wu wd g b (ix2 r j) = out x wg wu wd g b r j := by
  simp only [out, ← ref_hidden]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_0, val_main_cst_1, val_main_cst_2, val_main_cst_3,
    val_main_cst_4, lnRow, lnMean]

end Reference

end Cert.Proof.Ffn

namespace Cert.Proof

/-- The feed-forward block's kernel leaves what its reference computes. -/
theorem ffn_algebraic : Cert.algebraic_FfnKernelIdeal_FfnReferenceIdeal := by
  intro m ρ m' ρ' _ hagree
  refine ⟨fun c => Ffn.G m c, ?_, ?_⟩
  · exact (θ_run Cert.FfnKernelIdeal.defs _ _).mono (fun _ h c => ⟨(h c).1.trans (Ffn.final m c), (h c).2⟩)
      (Cert.FfnKernelIdeal.Value.run m ρ)
  · refine (θ_run Cert.FfnReferenceIdeal.defs _ _).mono (fun _ h c => ⟨(h c).1.trans ?_, (h c).2⟩)
      (Cert.FfnReferenceIdeal.Value.run (F := Ideal) m' ρ')
    rw [Cert.FfnReferenceIdeal.Read.val_main_v36_eq]
    obtain ⟨h0, h1, h2, h3, h4, h5⟩ := hagree c
    rw [h0, h1, h2, h3, h4, h5]
    funext i
    rw [eq_ix2 i]
    exact Ffn.ref_out _ _ _ _ _ _ _ _

end Cert.Proof

end
-- ==== Proof.OutprojValue.lean ====
module

public import proofs.«01_k».proof.Proof.Gen.OutprojKernelIdeal.Value
public import proofs.«01_k».proof.Proof.Gen.OutprojReferenceIdeal.Run
public import proofs.«01_k».proof.Proof.Gen.OutprojReferenceIdeal.Read
public import proofs.«01_k».proof.Defs
public import proofs.«01_k».proof.Proof.Norm

/-! The output projection: what its block computes as a formula, and that the kernel and the reference both leave it. -/

@[expose] public section

set_option maxRecDepth 16384

noncomputable section

open Idealize.ShloMosaic Idealize.ShloMosaic.TcCoe Idealize.SL.Sem

namespace Cert.Proof.Outproj

open Cert.Proof.Layer

/-! ## What the block computes, as a formula -/

section Spec

variable (x : (⟨2, ![8640, 2048]⟩ : Shape).Idx → EReal) (g b : (⟨1, ![2048]⟩ : Shape).Idx → EReal)
  (a h : (⟨2, ![8640, 1024]⟩ : Shape).Idx → EReal) (w : (⟨3, ![1, 2048, 2048]⟩ : Shape).Idx → EReal)
  (g1 b1 : (⟨2, ![1, 2048]⟩ : Shape).Idx → EReal)

/-- Row `r`, column `j` before the second normalisation: the scaled normalised input plus the attention output through the
    upper half of the weight and the recurrence output through its lower half. -/
def hidden (r : Fin 8640) (j : Fin 2048) : EReal :=
  Ideal.ofBits .f32 0x3F9837F0#32 * lnRow (fun k => x (ix2 r k)) (g (ix1 j)) (b (ix1 j)) j
    + ((∑ k : Fin 1024, a (ix2 r k) * w (ix3 0 ⟨k.val, by omega⟩ j))
      + ∑ k : Fin 1024, h (ix2 r k) * w (ix3 0 ⟨1024 + k.val, by omega⟩ j))

/-- The block's output at row `r`, column `j`. -/
def out (r : Fin 8640) (j : Fin 2048) : EReal :=
  lnRow (fun k => hidden x g b a h w r k) (g1 (ix2 0 j)) (b1 (ix2 0 j)) j

end Spec

/-! ## The kernel -/

section Kernel

open Cert.OutprojKernelIdeal Cert.OutprojKernelIdeal.Gen

variable (m : (ℓ : Loc nD τ sig) → Buf (Elt Idealize.ShloMosaic.Ideal) ℓ) (c : Dev nD)

theorem pay1_apply (v : FVec Ideal S432x2048 .f32) (g b : Vec Ideal S1x2048 .f32) (r : Fin 432) (j : Fin 2048) :
    k0_pay1 (F := Ideal) v g b (ix2 r j) = lnRow (fun k => v (ix2 r k)) (g (ix2 0 j)) (b (ix2 0 j)) j := by
  pointwise [k0_pay1, lnRow, lnMean]

theorem pay2_apply (x : Vec Ideal S432x2048 .f32) (g b : Vec Ideal S1x2048 .f32) (a : Vec Ideal S432x1024 .bf16)
    (wa : Vec Ideal S1024x2048 .bf16) (h : Vec Ideal S432x1024 .bf16) (wh : Vec Ideal S1024x2048 .bf16) (r : Fin 432) (j : Fin 2048) :
    k0_pay2 (F := Ideal) x g b a wa h wh (ix2 r j) =
      Ideal.ofBits .f32 0x3F9837F0#32 * lnRow (fun k => x (ix2 r k)) (g (ix2 0 j)) (b (ix2 0 j)) j
        + ((∑ k : Fin 1024, a (ix2 r k) * wa (ix2 k j)) + ∑ k : Fin 1024, h (ix2 r k) * wh (ix2 k j)) := by
  pointwise [k0_pay2, lnRow, lnMean]

/-! The arrays the host operations leave for the kernel. -/

theorem V2 (j : Fin 2048) : V m c main_v2 (ix2 0 j) = m ((c : Thread nD τ).loc main_arg1) (ix1 j) := by
  have e : V m c main_v2 = (shapeCast S1x2048 (m ((c : Thread nD τ).loc main_arg1) : Vec Ideal S2048 .f32) rfl : Vec Ideal S1x2048 .f32) := by
    unfold V; after_results_simp <;> rfl
  rw [e]; pointwise []

theorem V3 (j : Fin 2048) : V m c main_v3 (ix2 0 j) = m ((c : Thread nD τ).loc main_arg2) (ix1 j) := by
  unfold V; after_results_simp; pointwise []

theorem V4 (k : Fin 1024) (j : Fin 2048) :
    V m c main_v4 (ix2 k j) = m ((c : Thread nD τ).loc main_arg5) (ix3 0 ⟨k.val, by omega⟩ j) := by
  unfold V; after_results_simp; pointwise []

theorem V5 (k : Fin 1024) (j : Fin 2048) :
    V m c main_v5 (ix2 k j) = m ((c : Thread nD τ).loc main_arg5) (ix3 0 ⟨1024 + k.val, by omega⟩ j) := by
  unfold V; after_results_simp; pointwise []

theorem V7 (j : Fin 2048) : V m c main_v7 (ix2 0 j) = m ((c : Thread nD τ).loc main_arg6) (ix2 0 j) := by
  unfold V; after_results_simp; pointwise []

theorem V9 (j : Fin 2048) : V m c main_v9 (ix2 0 j) = m ((c : Thread nD τ).loc main_arg7) (ix2 0 j) := by
  unfold V; after_results_simp; pointwise []

/-- The grid point's tile of rows. -/
def row (t : Fin cfg0.N) (r : Fin 432) : Fin 8640 := ⟨t.val * 432 + r.val, by have := t.isLt; have hN : cfg0.N = 20 := N_0; omega⟩

theorem ixf : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0))

theorem blk0 (t : Fin cfg0.N) (r : Fin 432) (k : Fin 2048) :
    iblk m c 0 t (ix2 r k) = m ((c : Thread nD τ).loc main_arg0) (ix2 (row t r) k) := by
  show V m c main_arg0 (((cfg0.win 0).blk t).view.emb (ix2 r k)) = _
  refine (congrArg (V m c main_arg0) (funext fun a => Fin.ext ?_)).trans (congrFun (V_main_arg0 m c) _)
  have h := (ixf t).1
  match a with
  | ⟨0, _⟩ => show win0_0.index t 0 * 432 + 1 * r.val = t.val * 432 + r.val; omega
  | ⟨1, _⟩ => show win0_0.index t 1 * 2048 + 1 * k.val = k.val; omega

theorem blk1 (t : Fin cfg0.N) (r : Fin 1) (k : Fin 2048) :
    iblk m c 1 t (ix2 r k) = V m c main_v2 (ix2 r k) := by
  show V m c main_v2 (((cfg0.win 1).blk t).view.emb (ix2 r k)) = _
  refine congrArg _ (funext fun a => Fin.ext ?_)
  have h := (ixf t).2.1
  match a with
  | ⟨0, _⟩ => show win0_1.index t 0 * 1 + 1 * r.val = r.val; omega
  | ⟨1, _⟩ => show win0_1.index t 1 * 2048 + 1 * k.val = k.val; omega

theorem blk2 (t : Fin cfg0.N) (r : Fin 1) (k : Fin 2048) :
    iblk m c 2 t (ix2 r k) = V m c main_v3 (ix2 r k) := by
  show V m c main_v3 (((cfg0.win 2).blk t).view.emb (ix2 r k)) = _
  refine congrArg _ (funext fun a => Fin.ext ?_)
  have h := (ixf t).2.2.1
  match a with
  | ⟨0, _⟩ => show win0_2.index t 0 * 1 + 1 * r.val = r.val; omega
  | ⟨1, _⟩ => show win0_2.index t 1 * 2048 + 1 * k.val = k.val; omega

theorem blk3 (t : Fin cfg0.N) (r : Fin 432) (k : Fin 1024) :
    iblk m c 3 t (ix2 r k) = m ((c : Thread nD τ).loc main_arg3) (ix2 (row t r) k) := by
  show V m c main_arg3 (((cfg0.win 3).blk t).view.emb (ix2 r k)) = _
  refine (congrArg (V m c main_arg3) (funext fun a => Fin.ext ?_)).trans (congrFun (V_main_arg3 m c) _)
  have h := (ixf t).2.2.2.1
  match a with
  | ⟨0, _⟩ => show win0_3.index t 0 * 432 + 1 * r.val = t.val * 432 + r.val; omega
  | ⟨1, _⟩ => show win0_3.index t 1 * 1024 + 1 * k.val = k.val; omega

theorem blk4 (t : Fin cfg0.N) (r : Fin 432) (k : Fin 1024) :
    iblk m c 4 t (ix2 r k) = m ((c : Thread nD τ).loc main_arg4) (ix2 (row t r) k) := by
  show V m c main_arg4 (((cfg0.win 4).blk t).view.emb (ix2 r k)) = _
  refine (congrArg (V m c main_arg4) (funext fun a => Fin.ext ?_)).trans (congrFun (V_main_arg4 m c) _)
  have h := (ixf t).2.2.2.2.1
  match a with
  | ⟨0, _⟩ => show win0_4.index t 0 * 432 + 1 * r.val = t.val * 432 + r.val; omega
  | ⟨1, _⟩ => show win0_4.index t 1 * 1024 + 1 * k.val = k.val; omega

theorem blk5 (t : Fin cfg0.N) (r : Fin 1024) (k : Fin 2048) :
    iblk m c 5 t (ix2 r k) = m ((c : Thread nD τ).loc main_arg5) (ix3 0 ⟨r.val, by omega⟩ k) := by
  show V m c main_v4 (((cfg0.win 5).blk t).view.emb (ix2 r k)) = _
  refine (congrArg (V m c main_v4) (funext fun a => Fin.ext ?_)).trans (V4 m c r k)
  have h := (ixf t).2.2.2.2.2.1
  match a with
  | ⟨0, _⟩ => show win0_5.index t 0 * 1024 + 1 * r.val = r.val; omega
  | ⟨1, _⟩ => show win0_5.index t 1 * 2048 + 1 * k.val = k.val; omega

theorem blk6 (t : Fin cfg0.N) (r : Fin 1024) (k : Fin 2048) :
    iblk m c 6 t (ix2 r k) = m ((c : Thread nD τ).loc main_arg5) (ix3 0 ⟨1024 + r.val, by omega⟩ k) := by
  show V m c main_v5 (((cfg0.win 6).blk t).view.emb (ix2 r k)) = _
  refine (congrArg (V m c main_v5) (funext fun a => Fin.ext ?_)).trans (V5 m c r k)
  have h := (ixf t).2.2.2.2.2.2.1
  match a with
  | ⟨0, _⟩ => show win0_6.index t 0 * 1024 + 1 * r.val = r.val; omega
  | ⟨1, _⟩ => show win0_6.index t 1 * 2048 + 1 * k.val = k.val; omega

theorem blk7 (t : Fin cfg0.N) (r : Fin 1) (k : Fin 2048) :
    iblk m c 7 t (ix2 r k) = V m c main_v7 (ix2 r k) := by
  show V m c main_v7 (((cfg0.win 7).blk t).view.emb (ix2 r k)) = _
  refine congrArg _ (funext fun a => Fin.ext ?_)
  have h := (ixf t).2.2.2.2.2.2.2.1
  match a with
  | ⟨0, _⟩ => show win0_7.index t 0 * 1 + 1 * r.val = r.val; omega
  | ⟨1, _⟩ => show win0_7.index t 1 * 2048 + 1 * k.val = k.val; omega

theorem blk8 (t : Fin cfg0.N) (r : Fin 1) (k : Fin 2048) :
    iblk m c 8 t (ix2 r k) = V m c main_v9 (ix2 r k) := by
  show V m c main_v9 (((cfg0.win 8).blk t).view.emb (ix2 r k)) = _
  refine congrArg _ (funext fun a => Fin.ext ?_)
  have h := (ixf t).2.2.2.2.2.2.2.2.1
  match a with
  | ⟨0, _⟩ => show win0_8.index t 0 * 1 + 1 * r.val = r.val; omega
  | ⟨1, _⟩ => show win0_8.index t 1 * 2048 + 1 * k.val = k.val; omega

/-- The output array, as a formula over the arguments. -/
def G (i : S8640x2048.Idx) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

theorem hz : (![0, 0] : Fin 2 → Nat) = fun _ => 0 := funext fun a => by fin_cases a <;> rfl

/-- A tile's payload is the formula at the tile's rows. -/
theorem tile_apply (t : Fin cfg0.N) (r : Fin 432) (j : Fin 2048) :
    out0_9 (iblk m c 0 t) (iblk m c 1 t) (iblk m c 2 t) (iblk m c 3 t) (iblk m c 4 t) (iblk m c 5 t) (iblk m c 6 t) (iblk m c 7 t)
      (iblk m c 8 t) (ix2 r j) = G m c (ix2 (row t r) j) := by
  unfold out0_9
  rw [View.canon_unit_zero hz]
  repeat rw [View.ld_unit_zero hz]
  rw [pay1_apply, blk7, blk8, V7, V9]
  show _ = out _ _ _ _ _ _ _ _ (row t r) j
  unfold out
  refine congrArg (fun v => lnRow v _ _ j) (funext fun k => ?_)
  rw [pay2_apply, blk1, blk2, V2, V3]
  simp only [blk0, blk3, blk4, blk5, blk6]
  rfl

theorem flushed_eq (t : Fin cfg0.N) : (dats m 0 c).flushed 9 t = (win0_9.blk t).view.read (Elt Ideal) (G m c) := by
  rw [Value.flushed9]
  have key : ∀ y : S432x2048.Idx, out0_9 (iblk m c 0 t) (iblk m c 1 t) (iblk m c 2 t) (iblk m c 3 t) (iblk m c 4 t) (iblk m c 5 t)
      (iblk m c 6 t) (iblk m c 7 t) (iblk m c 8 t) y = G m c (((cfg0.win 9).blk t).view.emb y) := by
    intro y
    rw [eq_ix2 y]
    refine (tile_apply m c t (y 0) (y 1)).trans (congrArg _ (funext fun a => Fin.ext ?_))
    have h := (ixf t).2.2.2.2.2.2.2.2.2
    match a with
    | ⟨0, _⟩ => show t.val * 432 + (y 0).val = win0_9.index t 0 * 432 + 1 * (y 0).val; omega
    | ⟨1, _⟩ => show (y 1).val = win0_9.index t 1 * 2048 + 1 * (y 1).val; omega
  exact funext key

theorem mem_blk (t : Fin cfg0.N) (i : S8640x2048.Idx) :
    i ∈ ((cfg0.win 9).blk t).view.set ↔ t.val * 432 ≤ (i 0 : Nat) ∧ (i 0 : Nat) < t.val * 432 + 432 := by
  show i ∈ ((View.whole main_v10).slice (win0_9.rect t)).set ↔ _
  rw [View.set_slice_whole, Rect.mem_set_unit]
  have h1 : (i 1 : Nat) < 2048 := (i 1).isLt
  have e := (ixf t).2.2.2.2.2.2.2.2.2
  refine ⟨fun h => ?_, fun h a => ?_⟩
  · have : win0_9.index t 0 * 432 ≤ (i 0 : Nat) ∧ (i 0 : Nat) < win0_9.index t 0 * 432 + 432 := h 0
    omega
  · match a with
    | ⟨0, _⟩ => show win0_9.index t 0 * 432 ≤ (i 0 : Nat) ∧ (i 0 : Nat) < win0_9.index t 0 * 432 + 432; omega
    | ⟨1, _⟩ => show win0_9.index t 1 * 2048 ≤ (i 1 : Nat) ∧ (i 1 : Nat) < win0_9.index t 1 * 2048 + 2048; omega

theorem cover (i : S8640x2048.Idx) : ∃ t : Fin cfg0.N, (cfg0.win 9).flush t = true ∧ i ∈ ((cfg0.win 9).blk t).view.set := by
  have h0 : (i 0 : Nat) < 8640 := (i 0).isLt
  have hN : cfg0.N = 20 := N_0
  refine ⟨⟨(i 0 : Nat) / 432, by omega⟩, flush0_9 _, ?_⟩
  rw [mem_blk]
  dsimp only
  omega

/-- The output array after the run is the formula. -/
theorem final : (dats m 0 c).arrAt 9 cfg0.N = G m c :=
  (dats m 0 c).arrAt_eq_of_cover 9 (G m c) (fun t _ => flushed_eq m c t) cover

end Kernel

section Reference

open Cert.OutprojReferenceIdeal Cert.OutprojReferenceIdeal.Read

theorem ref_norm (x : Vec Ideal S8640x2048 .f32) (g b : Vec Ideal S2048 .f32) (r : Fin 8640) (j : Fin 2048) :
    val_main_v23 (F := Ideal) x g b (ix2 r j) = lnRow (fun k => x (ix2 r k)) (g (ix1 j)) (b (ix1 j)) j := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, lnRow, lnMean]

theorem ref_hidden (x : Vec Ideal S8640x2048 .f32) (g b : Vec Ideal S2048 .f32) (a h : Vec Ideal S8640x1024 .bf16)
    (w : Vec Ideal S1x2048x2048 .f32) (r : Fin 8640) (j : Fin 2048) :
    val_main_v31 (F := Ideal) x g b a h w (ix2 r j) = hidden x g b a h w r j := by
  rw [hidden, ← ref_norm]
  pointwise [val_main_v31, val_main_v30, val_main_v29, val_main_cst_4, val_main_v28, val_main_v27, val_main_v26, val_main_v25, val_main_v24]

theorem ref_out (x : Vec Ideal S8640x2048 .f32) (g b : Vec Ideal S2048 .f32) (a h : Vec Ideal S8640x1024 .bf16)
    (w : Vec Ideal S1x2048x2048 .f32) (g1 b1 : Vec Ideal S1x2048 .f32) (r : Fin 8640) (j : Fin 2048) :
    val_main_v57 (F := Ideal) x g b a h w g1 b1 (ix2 r j) = out x g b a h w g1 b1 r j := by
  simp only [out, ← ref_hidden]
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_cst_5, val_main_cst_6, val_main_cst_7, val_main_cst_8, val_main_cst_9, lnRow, lnMean]

end Reference

end Cert.Proof.Outproj

namespace Cert.Proof

/-- The output projection's kernel leaves what its reference computes. -/
theorem outproj_algebraic : Cert.algebraic_OutprojKernelIdeal_OutprojReferenceIdeal := by
  intro m ρ m' ρ' _ hagree
  refine ⟨fun c => Outproj.G m c, ?_, ?_⟩
  · exact (θ_run Cert.OutprojKernelIdeal.defs _ _).mono (fun _ h c => ⟨(h c).1.trans (Outproj.final m c), (h c).2⟩)
      (Cert.OutprojKernelIdeal.Value.run_blocks m ρ)
  · refine (θ_run Cert.OutprojReferenceIdeal.defs _ _).mono (fun _ h c => ⟨(h c).1.trans ?_, (h c).2⟩)
      (Cert.OutprojReferenceIdeal.Value.run (F := Ideal) m' ρ')
    rw [Cert.OutprojReferenceIdeal.Read.val_main_v57_eq]
    obtain ⟨h0, h1, h2, h3, h4, h5, h6, h7⟩ := hagree c
    rw [h0, h1, h2, h3, h4, h5, h6, h7]
    funext i
    rw [eq_ix2 i]
    exact Outproj.ref_out _ _ _ _ _ _ _ _ _ _

end Cert.Proof
end
-- ==== Proof.lean ====
module

public import proofs.«01_k».proof.Defs
public import proofs.«01_k».proof.Proof.Gen.HgrnKernel.Frame
public import proofs.«01_k».proof.Proof.Gen.HgrnKernelIdeal.Frame
public import proofs.«01_k».proof.Proof.Gen.HgrnReferenceIdeal.Run
public import proofs.«01_k».proof.Proof.HgrnRef
public import proofs.«01_k».proof.Proof.Gen.ScoresKernel.Frame
public import proofs.«01_k».proof.Proof.Gen.ScoresKernelIdeal.Frame
public import proofs.«01_k».proof.Proof.Gen.ScoresReferenceIdeal.Run
public import proofs.«01_k».proof.Proof.ScoresValue
public import proofs.«01_k».proof.Proof.Gen.PhgrnKernel.Frame
public import proofs.«01_k».proof.Proof.Gen.PhgrnKernelIdeal.Frame
public import proofs.«01_k».proof.Proof.Gen.PhgrnReferenceIdeal.Run
public import proofs.«01_k».proof.Proof.PhgrnClaim
public import proofs.«01_k».proof.Proof.Gen.IdxprojKernel.Frame
public import proofs.«01_k».proof.Proof.Gen.IdxprojKernelIdeal.Frame
public import proofs.«01_k».proof.Proof.Gen.IdxprojReferenceIdeal.Run
public import proofs.«01_k».proof.Proof.IdxprojClaim
public import proofs.«01_k».proof.Proof.Gen.InprojKernel.Frame
public import proofs.«01_k».proof.Proof.Gen.InprojKernelIdeal.Frame
public import proofs.«01_k».proof.Proof.Gen.InprojReferenceIdeal.Run
public import proofs.«01_k».proof.Proof.InprojAlg
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.FfnValue
public import proofs.«01_k».proof.Proof.Gen.OutprojKernel.Frame
public import proofs.«01_k».proof.Proof.Gen.OutprojKernelIdeal.Frame
public import proofs.«01_k».proof.Proof.Gen.OutprojReferenceIdeal.Run
public import proofs.«01_k».proof.Proof.OutprojValue
public import proofs.«01_k».proof.Proof.Gen.Pre_hgrn_finite
public import proofs.«01_k».proof.Proof.Gen.Pre_pages_in_pool
public import proofs.«01_k».proof.Proof.Gen.Pre_phgrn_finite
public import Idealize.ShloMosaic.Adequacy
public import Idealize.ShloMosaic.Init
public import Idealize.ShloMosaic.Lib.Quiescent

/-! The whole claim, assembled: for each call its frames, its idealisation and its equality with the reference. -/

@[expose] public section

noncomputable section

namespace Cert.Proof

open Idealize.ShloMosaic Idealize.SL.Sem

theorem claim : Cert.Claim :=
  ⟨Cert.HgrnKernel.Gen.facts,
    Cert.HgrnKernelIdeal.Gen.facts,
    Cert.HgrnReferenceIdeal.Gen.facts,
    Cert.ScoresKernel.Gen.facts,
    Cert.ScoresKernelIdeal.Gen.facts,
    Cert.ScoresReferenceIdeal.Gen.facts,
    Cert.PhgrnKernel.Gen.facts,
    Cert.PhgrnKernelIdeal.Gen.facts,
    Cert.PhgrnReferenceIdeal.Gen.facts,
    Cert.IdxprojKernel.Gen.facts,
    Cert.IdxprojKernelIdeal.Gen.facts,
    Cert.IdxprojReferenceIdeal.Gen.facts,
    Cert.InprojKernel.Gen.facts,
    Cert.InprojKernelIdeal.Gen.facts,
    Cert.InprojReferenceIdeal.Gen.facts,
    Cert.FfnKernel.Gen.facts,
    Cert.FfnKernelIdeal.Gen.facts,
    Cert.FfnReferenceIdeal.Gen.facts,
    Cert.OutprojKernel.Gen.facts,
    Cert.OutprojKernelIdeal.Gen.facts,
    Cert.OutprojReferenceIdeal.Gen.facts,
    Cert.Pre_hgrn_finite.Gen.facts,
    Cert.Pre_pages_in_pool.Gen.facts,
    Cert.Pre_phgrn_finite.Gen.facts,
    fun m ρ _ => Cert.HgrnKernel.Gen.frame m ρ,
    fun m ρ _ => Cert.HgrnKernelIdeal.Gen.frame m ρ,
    fun m ρ _ => Cert.HgrnKernelIdeal.Gen.frame m ρ,
    fun m ρ _ => (θ_run Cert.HgrnReferenceIdeal.defs _ _).mono (fun r h => ⟨fun c => (h c).2.2, Idealize.ShloMosaic.sem_eq_zero_of_no_sems (by decide) r.2⟩)
      (Cert.HgrnReferenceIdeal.Value.run (F := Ideal) m ρ),
    fun m ρ _ => (θ_run Cert.HgrnReferenceIdeal.defs _ _).mono (fun r h => ⟨fun c => (h c).2.2, Idealize.ShloMosaic.sem_eq_zero_of_no_sems (by decide) r.2⟩)
      (Cert.HgrnReferenceIdeal.Value.run (F := Ideal) m ρ),
    fun m ρ h => Cert.ScoresKernel.Gen.frame m ρ (Scores.ok_ScoresKernel m h),
    fun m ρ h => Cert.ScoresKernelIdeal.Gen.frame m ρ (Scores.ok_ScoresKernelIdeal m h),
    fun m ρ _ => (θ_run Cert.ScoresReferenceIdeal.defs _ _).mono (fun r h => ⟨fun c => (h c).2, Idealize.ShloMosaic.sem_eq_zero_of_no_sems (by decide) r.2⟩)
      (Cert.ScoresReferenceIdeal.Value.run (F := Ideal) m ρ),
    fun m ρ _ => (θ_run Cert.ScoresReferenceIdeal.defs _ _).mono (fun r h => ⟨fun c => (h c).2, Idealize.ShloMosaic.sem_eq_zero_of_no_sems (by decide) r.2⟩)
      (Cert.ScoresReferenceIdeal.Value.run (F := Ideal) m ρ),
    fun m ρ _ => Cert.PhgrnKernel.Gen.frame m ρ,
    fun m ρ _ => Cert.PhgrnKernelIdeal.Gen.frame m ρ,
    fun m ρ _ => Cert.PhgrnKernelIdeal.Gen.frame m ρ,
    fun m ρ _ => (θ_run Cert.PhgrnReferenceIdeal.defs _ _).mono (fun r h => ⟨fun c => (h c).2, Idealize.ShloMosaic.sem_eq_zero_of_no_sems (by decide) r.2⟩)
      (Cert.PhgrnReferenceIdeal.Value.run (F := Ideal) m ρ),
    fun m ρ _ => (θ_run Cert.PhgrnReferenceIdeal.defs _ _).mono (fun r h => ⟨fun c => (h c).2, Idealize.ShloMosaic.sem_eq_zero_of_no_sems (by decide) r.2⟩)
      (Cert.PhgrnReferenceIdeal.Value.run (F := Ideal) m ρ),
    fun m ρ _ => Cert.IdxprojKernel.Gen.frame m ρ,
    fun m ρ _ => Cert.IdxprojKernelIdeal.Gen.frame m ρ,
    fun m ρ _ => (θ_run Cert.IdxprojReferenceIdeal.defs _ _).mono (fun r h => ⟨fun c => (h c).2.2.2, Idealize.ShloMosaic.sem_eq_zero_of_no_sems (by decide) r.2⟩)
      (Cert.IdxprojReferenceIdeal.Value.run (F := Ideal) m ρ),
    fun m ρ _ => Cert.InprojKernel.Gen.frame m ρ,
    fun m ρ _ => Cert.InprojKernelIdeal.Gen.frame m ρ,
    fun m ρ _ => (θ_run Cert.InprojReferenceIdeal.defs _ _).mono (fun r h => ⟨fun c => (h c).2.2.2.2.2.2.2.2.2.2.2.2, Idealize.ShloMosaic.sem_eq_zero_of_no_sems (by decide) r.2⟩)
      (Cert.InprojReferenceIdeal.Value.run (F := Ideal) m ρ),
    fun m ρ _ => Cert.FfnKernel.Gen.frame m ρ,
    fun m ρ _ => Cert.FfnKernelIdeal.Gen.frame m ρ,
    fun m ρ _ => (θ_run Cert.FfnReferenceIdeal.defs _ _).mono (fun r h => ⟨fun c => (h c).2, Idealize.ShloMosaic.sem_eq_zero_of_no_sems (by decide) r.2⟩)
      (Cert.FfnReferenceIdeal.Value.run (F := Ideal) m ρ),
    fun m ρ _ => Cert.OutprojKernel.Gen.frame m ρ,
    fun m ρ _ => Cert.OutprojKernelIdeal.Gen.frame m ρ,
    fun m ρ _ => (θ_run Cert.OutprojReferenceIdeal.defs _ _).mono (fun r h => ⟨fun c => (h c).2, Idealize.ShloMosaic.sem_eq_zero_of_no_sems (by decide) r.2⟩)
      (Cert.OutprojReferenceIdeal.Value.run (F := Ideal) m ρ),
    trivial,
    hgrn_algebraic,
    trivial,
    scores_algebraic,
    trivial,
    phgrn_algebraic,
    trivial,
    idxproj_algebraic,
    trivial,
    inproj_algebraic,
    trivial,
    ffn_algebraic,
    trivial,
    outproj_algebraic⟩

end Cert.Proof

end
